-- ==== Defs.lean ====
def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptRefIdeal (m : (ℓ : Loc Cert.PromptRefIdeal.nD Cert.PromptRefIdeal.τ Cert.PromptRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsRefIdeal (m : (ℓ : Loc Cert.RowsRefIdeal.nD Cert.RowsRefIdeal.τ Cert.RowsRefIdeal.sig) → Buf (Elt Ideal) ℓ) : Prop :=
  True

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3)
      ∧ r.2.mem ((c.tc : Thread Cert.PromptRefIdeal.nD Cert.PromptRefIdeal.τ).loc Cert.PromptRefIdeal.main_arg4) = m ((c.tc : Thread Cert.PromptRefIdeal.nD Cert.PromptRefIdeal.τ).loc Cert.PromptRefIdeal.main_arg4))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1)
      ∧ r.2.mem ((c.tc : Thread Cert.Rows.nD Cert.Rows.τ).loc Cert.Rows.main_arg2) = m ((c.tc : Thread Cert.Rows.nD Cert.Rows.τ).loc Cert.Rows.main_arg2)
      ∧ r.2.mem ((c.tc : Thread Cert.Rows.nD Cert.Rows.τ).loc Cert.Rows.main_arg3) = m ((c.tc : Thread Cert.Rows.nD Cert.Rows.τ).loc Cert.Rows.main_arg3)
      ∧ r.2.mem ((c.tc : Thread Cert.Rows.nD Cert.Rows.τ).loc Cert.Rows.main_arg4) = m ((c.tc : Thread Cert.Rows.nD Cert.Rows.τ).loc Cert.Rows.main_arg4))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
      ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
      ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4))
      ∧ r.2.sem = fun _ => 0)

def quiescent_RowsRefIdeal [hRowsRefIdeal : Cert.RowsRefIdeal.Facts] : Prop :=
  ∀ (m : (ℓ : Loc Cert.RowsRefIdeal.nD Cert.RowsRefIdeal.τ Cert.RowsRefIdeal.sig) → Buf (Elt Ideal) ℓ) (g : Dev Cert.RowsRefIdeal.nD → PrngReg), Pre_RowsRefIdeal m →
    θ_run (Cert.RowsRefIdeal.defs (F := Ideal)) (onTc (τ := Cert.RowsRefIdeal.τ) (Cert.RowsRefIdeal.main (F := Ideal))) ⟨m, fun _ => 0, g⟩ (fun r => (∀ c : Dev Cert.RowsRefIdeal.nD,
      r.2.mem ((c.tc : Thread Cert.RowsRefIdeal.nD Cert.RowsRefIdeal.τ).loc Cert.RowsRefIdeal.main_arg0) = m ((c.tc : Thread Cert.RowsRefIdeal.nD Cert.RowsRefIdeal.τ).loc Cert.RowsRefIdeal.main_arg0)
      ∧ r.2.mem ((c.tc : Thread Cert.RowsRefIdeal.nD Cert.RowsRefIdeal.τ).loc Cert.RowsRefIdeal.main_arg1) = m ((c.tc : Thread Cert.RowsRefIdeal.nD Cert.RowsRefIdeal.τ).loc Cert.RowsRefIdeal.main_arg1)
      ∧ r.2.mem ((c.tc : Thread Cert.RowsRefIdeal.nD Cert.RowsRefIdeal.τ).loc Cert.RowsRefIdeal.main_arg2) = m ((c.tc : Thread Cert.RowsRefIdeal.nD Cert.RowsRefIdeal.τ).loc Cert.RowsRefIdeal.main_arg2)
      ∧ r.2.mem ((c.tc : Thread Cert.RowsRefIdeal.nD Cert.RowsRefIdeal.τ).loc Cert.RowsRefIdeal.main_arg3) = m ((c.tc : Thread Cert.RowsRefIdeal.nD Cert.RowsRefIdeal.τ).loc Cert.RowsRefIdeal.main_arg3)
      ∧ r.2.mem ((c.tc : Thread Cert.RowsRefIdeal.nD Cert.RowsRefIdeal.τ).loc Cert.RowsRefIdeal.main_arg4) = m ((c.tc : Thread Cert.RowsRefIdeal.nD Cert.RowsRefIdeal.τ).loc Cert.RowsRefIdeal.main_arg4))
      ∧ r.2.sem = fun _ => 0)

def preserves_Prompt_PromptIdeal : Prop :=
  True

def algebraic_PromptIdeal_PromptRefIdeal [hPromptIdeal : Cert.PromptIdeal.Facts] [hPromptRefIdeal : Cert.PromptRefIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)
      ∧ m' ((c.tc : Thread Cert.PromptRefIdeal.nD Cert.PromptRefIdeal.τ).loc Cert.PromptRefIdeal.main_arg1) = m ((c.tc : Thread Cert.PromptIdeal.nD Cert.PromptIdeal.τ).loc Cert.PromptIdeal.main_arg1)
      ∧ m' ((c.tc : Thread Cert.PromptRefIdeal.nD Cert.PromptRefIdeal.τ).loc Cert.PromptRefIdeal.main_arg2) = m ((c.tc : Thread Cert.PromptIdeal.nD Cert.PromptIdeal.τ).loc Cert.PromptIdeal.main_arg2)
      ∧ m' ((c.tc : Thread Cert.PromptRefIdeal.nD Cert.PromptRefIdeal.τ).loc Cert.PromptRefIdeal.main_arg3) = m ((c.tc : Thread Cert.PromptIdeal.nD Cert.PromptIdeal.τ).loc Cert.PromptIdeal.main_arg3)
      ∧ m' ((c.tc : Thread Cert.PromptRefIdeal.nD Cert.PromptRefIdeal.τ).loc Cert.PromptRefIdeal.main_arg4) = m ((c.tc : Thread Cert.PromptIdeal.nD Cert.PromptIdeal.τ).loc Cert.PromptIdeal.main_arg4)) →
    ∃ (v0 : (c : Dev Cert.PromptIdeal.nD) → Buf (Elt Ideal) ((c.tc : Thread Cert.PromptIdeal.nD Cert.PromptIdeal.τ).loc Cert.PromptIdeal.main_v31_0)) (v1 : (c : Dev Cert.PromptIdeal.nD) → Buf (Elt Ideal) ((c.tc : Thread Cert.PromptIdeal.nD Cert.PromptIdeal.τ).loc Cert.PromptIdeal.main_v31_1)) (v2 : (c : Dev Cert.PromptIdeal.nD) → Buf (Elt Ideal) ((c.tc : Thread Cert.PromptIdeal.nD Cert.PromptIdeal.τ).loc Cert.PromptIdeal.main_v31_2)) (v3 : (c : Dev Cert.PromptIdeal.nD) → Buf (Elt Ideal) ((c.tc : Thread Cert.PromptIdeal.nD Cert.PromptIdeal.τ).loc Cert.PromptIdeal.main_v31_3)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v31_0) = v0 c
          ∧ r.2.mem ((c.tc : Thread Cert.PromptIdeal.nD Cert.PromptIdeal.τ).loc Cert.PromptIdeal.main_v31_1) = v1 c
          ∧ r.2.mem ((c.tc : Thread Cert.PromptIdeal.nD Cert.PromptIdeal.τ).loc Cert.PromptIdeal.main_v31_2) = v2 c
          ∧ r.2.mem ((c.tc : Thread Cert.PromptIdeal.nD Cert.PromptIdeal.τ).loc Cert.PromptIdeal.main_v31_3) = v3 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          r.2.mem ((c.tc : Thread Cert.PromptRefIdeal.nD Cert.PromptRefIdeal.τ).loc Cert.PromptRefIdeal.main_v109) = v0 c
          ∧ r.2.mem ((c.tc : Thread Cert.PromptRefIdeal.nD Cert.PromptRefIdeal.τ).loc Cert.PromptRefIdeal.main_v110) = v1 c
          ∧ r.2.mem ((c.tc : Thread Cert.PromptRefIdeal.nD Cert.PromptRefIdeal.τ).loc Cert.PromptRefIdeal.main_v111) = v2 c
          ∧ r.2.mem ((c.tc : Thread Cert.PromptRefIdeal.nD Cert.PromptRefIdeal.τ).loc Cert.PromptRefIdeal.main_v113) = v3 c
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0)
          ∧ r.2.mem ((c.tc : Thread Cert.PromptRefIdeal.nD Cert.PromptRefIdeal.τ).loc Cert.PromptRefIdeal.main_arg1) = m' ((c.tc : Thread Cert.PromptRefIdeal.nD Cert.PromptRefIdeal.τ).loc Cert.PromptRefIdeal.main_arg1)
          ∧ r.2.mem ((c.tc : Thread Cert.PromptRefIdeal.nD Cert.PromptRefIdeal.τ).loc Cert.PromptRefIdeal.main_arg2) = m' ((c.tc : Thread Cert.PromptRefIdeal.nD Cert.PromptRefIdeal.τ).loc Cert.PromptRefIdeal.main_arg2)
          ∧ r.2.mem ((c.tc : Thread Cert.PromptRefIdeal.nD Cert.PromptRefIdeal.τ).loc Cert.PromptRefIdeal.main_arg3) = m' ((c.tc : Thread Cert.PromptRefIdeal.nD Cert.PromptRefIdeal.τ).loc Cert.PromptRefIdeal.main_arg3)
          ∧ r.2.mem ((c.tc : Thread Cert.PromptRefIdeal.nD Cert.PromptRefIdeal.τ).loc Cert.PromptRefIdeal.main_arg4) = m' ((c.tc : Thread Cert.PromptRefIdeal.nD Cert.PromptRefIdeal.τ).loc Cert.PromptRefIdeal.main_arg4))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)
      ∧ m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7)
      ∧ m' ((c.tc : Thread Cert.SampleRefIdeal.nD Cert.SampleRefIdeal.τ).loc Cert.SampleRefIdeal.main_arg8) = m ((c.tc : Thread Cert.SampleIdeal.nD Cert.SampleIdeal.τ).loc Cert.SampleIdeal.main_arg8)) →
    ∃ (v0 : (c : Dev Cert.SampleIdeal.nD) → Buf (Elt Ideal) ((c.tc : Thread Cert.SampleIdeal.nD Cert.SampleIdeal.τ).loc Cert.SampleIdeal.main_v27_0)) (v1 : (c : Dev Cert.SampleIdeal.nD) → Buf (Elt Ideal) ((c.tc : Thread Cert.SampleIdeal.nD Cert.SampleIdeal.τ).loc Cert.SampleIdeal.main_v27_1)) (v2 : (c : Dev Cert.SampleIdeal.nD) → Buf (Elt Ideal) ((c.tc : Thread Cert.SampleIdeal.nD Cert.SampleIdeal.τ).loc Cert.SampleIdeal.main_v27_2)) (v3 : (c : Dev Cert.SampleIdeal.nD) → Buf (Elt Ideal) ((c.tc : Thread Cert.SampleIdeal.nD Cert.SampleIdeal.τ).loc Cert.SampleIdeal.main_v27_3)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v27_0) = v0 c
          ∧ r.2.mem ((c.tc : Thread Cert.SampleIdeal.nD Cert.SampleIdeal.τ).loc Cert.SampleIdeal.main_v27_1) = v1 c
          ∧ r.2.mem ((c.tc : Thread Cert.SampleIdeal.nD Cert.SampleIdeal.τ).loc Cert.SampleIdeal.main_v27_2) = v2 c
          ∧ r.2.mem ((c.tc : Thread Cert.SampleIdeal.nD Cert.SampleIdeal.τ).loc Cert.SampleIdeal.main_v27_3) = v3 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v105) = v0 c
          ∧ r.2.mem ((c.tc : Thread Cert.SampleRefIdeal.nD Cert.SampleRefIdeal.τ).loc Cert.SampleRefIdeal.main_v106) = v1 c
          ∧ r.2.mem ((c.tc : Thread Cert.SampleRefIdeal.nD Cert.SampleRefIdeal.τ).loc Cert.SampleRefIdeal.main_v107) = v2 c
          ∧ r.2.mem ((c.tc : Thread Cert.SampleRefIdeal.nD Cert.SampleRefIdeal.τ).loc Cert.SampleRefIdeal.main_v109) = v3 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6)
          ∧ r.2.mem ((c.tc : Thread Cert.SampleRefIdeal.nD Cert.SampleRefIdeal.τ).loc Cert.SampleRefIdeal.main_arg7) = m' ((c.tc : Thread Cert.SampleRefIdeal.nD Cert.SampleRefIdeal.τ).loc Cert.SampleRefIdeal.main_arg7)
          ∧ r.2.mem ((c.tc : Thread Cert.SampleRefIdeal.nD Cert.SampleRefIdeal.τ).loc Cert.SampleRefIdeal.main_arg8) = m' ((c.tc : Thread Cert.SampleRefIdeal.nD Cert.SampleRefIdeal.τ).loc Cert.SampleRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v25) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v45)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v45) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v131) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)) →
    ∃ (v0 : (c : Dev Cert.OutprojIdeal.nD) → Buf (Elt Ideal) ((c.tc : Thread Cert.OutprojIdeal.nD Cert.OutprojIdeal.τ).loc Cert.OutprojIdeal.main_v1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v1) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v4) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4))

def preserves_Rows_RowsIdeal : Prop :=
  True

def algebraic_RowsIdeal_RowsRefIdeal [hRowsIdeal : Cert.RowsIdeal.Facts] [hRowsRefIdeal : Cert.RowsRefIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsRefIdeal.nD Cert.RowsRefIdeal.τ Cert.RowsRefIdeal.sig) → Buf (Elt Ideal) ℓ) (g' : Dev Cert.RowsRefIdeal.nD → PrngReg), Pre_RowsIdeal m →
    (∀ c : Dev Cert.RowsIdeal.nD,
      m' ((c.tc : Thread Cert.RowsRefIdeal.nD Cert.RowsRefIdeal.τ).loc Cert.RowsRefIdeal.main_arg0) = m ((c.tc : Thread Cert.RowsIdeal.nD Cert.RowsIdeal.τ).loc Cert.RowsIdeal.main_arg0)
      ∧ m' ((c.tc : Thread Cert.RowsRefIdeal.nD Cert.RowsRefIdeal.τ).loc Cert.RowsRefIdeal.main_arg1) = m ((c.tc : Thread Cert.RowsIdeal.nD Cert.RowsIdeal.τ).loc Cert.RowsIdeal.main_arg1)
      ∧ m' ((c.tc : Thread Cert.RowsRefIdeal.nD Cert.RowsRefIdeal.τ).loc Cert.RowsRefIdeal.main_arg2) = m ((c.tc : Thread Cert.RowsIdeal.nD Cert.RowsIdeal.τ).loc Cert.RowsIdeal.main_arg2)
      ∧ m' ((c.tc : Thread Cert.RowsRefIdeal.nD Cert.RowsRefIdeal.τ).loc Cert.RowsRefIdeal.main_arg3) = m ((c.tc : Thread Cert.RowsIdeal.nD Cert.RowsIdeal.τ).loc Cert.RowsIdeal.main_arg3)
      ∧ m' ((c.tc : Thread Cert.RowsRefIdeal.nD Cert.RowsRefIdeal.τ).loc Cert.RowsRefIdeal.main_arg4) = m ((c.tc : Thread Cert.RowsIdeal.nD Cert.RowsIdeal.τ).loc Cert.RowsIdeal.main_arg4)) →
    ∃ (v0 : (c : Dev Cert.RowsIdeal.nD) → Buf (Elt Ideal) ((c.tc : Thread Cert.RowsIdeal.nD Cert.RowsIdeal.τ).loc Cert.RowsIdeal.main_v0_0)) (v1 : (c : Dev Cert.RowsIdeal.nD) → Buf (Elt Ideal) ((c.tc : Thread Cert.RowsIdeal.nD Cert.RowsIdeal.τ).loc Cert.RowsIdeal.main_v0_1)) (v2 : (c : Dev Cert.RowsIdeal.nD) → Buf (Elt Ideal) ((c.tc : Thread Cert.RowsIdeal.nD Cert.RowsIdeal.τ).loc Cert.RowsIdeal.main_v8)) (v3 : (c : Dev Cert.RowsIdeal.nD) → Buf (Elt Ideal) ((c.tc : Thread Cert.RowsIdeal.nD Cert.RowsIdeal.τ).loc Cert.RowsIdeal.main_v11)) (v4 : (c : Dev Cert.RowsIdeal.nD) → Buf (Elt Ideal) ((c.tc : Thread Cert.RowsIdeal.nD Cert.RowsIdeal.τ).loc Cert.RowsIdeal.main_v14)) (v5 : (c : Dev Cert.RowsIdeal.nD) → Buf (Elt Ideal) ((c.tc : Thread Cert.RowsIdeal.nD Cert.RowsIdeal.τ).loc Cert.RowsIdeal.main_v17)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v0_0) = v0 c
          ∧ r.2.mem ((c.tc : Thread Cert.RowsIdeal.nD Cert.RowsIdeal.τ).loc Cert.RowsIdeal.main_v0_1) = v1 c
          ∧ r.2.mem ((c.tc : Thread Cert.RowsIdeal.nD Cert.RowsIdeal.τ).loc Cert.RowsIdeal.main_v8) = v2 c
          ∧ r.2.mem ((c.tc : Thread Cert.RowsIdeal.nD Cert.RowsIdeal.τ).loc Cert.RowsIdeal.main_v11) = v3 c
          ∧ r.2.mem ((c.tc : Thread Cert.RowsIdeal.nD Cert.RowsIdeal.τ).loc Cert.RowsIdeal.main_v14) = v4 c
          ∧ r.2.mem ((c.tc : Thread Cert.RowsIdeal.nD Cert.RowsIdeal.τ).loc Cert.RowsIdeal.main_v17) = v5 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
          ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
          ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
          ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4))
      ∧ θ_run (Cert.RowsRefIdeal.defs (F := Ideal)) (onTc (τ := Cert.RowsRefIdeal.τ) (Cert.RowsRefIdeal.main (F := Ideal))) ⟨m', fun _ => 0, g'⟩ (fun r => ∀ c : Dev Cert.RowsRefIdeal.nD,
          r.2.mem ((c.tc : Thread Cert.RowsRefIdeal.nD Cert.RowsRefIdeal.τ).loc Cert.RowsRefIdeal.main_v5) = v0 c
          ∧ r.2.mem ((c.tc : Thread Cert.RowsRefIdeal.nD Cert.RowsRefIdeal.τ).loc Cert.RowsRefIdeal.main_v9) = v1 c
          ∧ r.2.mem ((c.tc : Thread Cert.RowsRefIdeal.nD Cert.RowsRefIdeal.τ).loc Cert.RowsRefIdeal.main_v13) = v2 c
          ∧ r.2.mem ((c.tc : Thread Cert.RowsRefIdeal.nD Cert.RowsRefIdeal.τ).loc Cert.RowsRefIdeal.main_v17) = v3 c
          ∧ r.2.mem ((c.tc : Thread Cert.RowsRefIdeal.nD Cert.RowsRefIdeal.τ).loc Cert.RowsRefIdeal.main_v21) = v4 c
          ∧ r.2.mem ((c.tc : Thread Cert.RowsRefIdeal.nD Cert.RowsRefIdeal.τ).loc Cert.RowsRefIdeal.main_v25) = v5 c
          ∧ r.2.mem ((c.tc : Thread Cert.RowsRefIdeal.nD Cert.RowsRefIdeal.τ).loc Cert.RowsRefIdeal.main_arg0) = m' ((c.tc : Thread Cert.RowsRefIdeal.nD Cert.RowsRefIdeal.τ).loc Cert.RowsRefIdeal.main_arg0)
          ∧ r.2.mem ((c.tc : Thread Cert.RowsRefIdeal.nD Cert.RowsRefIdeal.τ).loc Cert.RowsRefIdeal.main_arg1) = m' ((c.tc : Thread Cert.RowsRefIdeal.nD Cert.RowsRefIdeal.τ).loc Cert.RowsRefIdeal.main_arg1)
          ∧ r.2.mem ((c.tc : Thread Cert.RowsRefIdeal.nD Cert.RowsRefIdeal.τ).loc Cert.RowsRefIdeal.main_arg2) = m' ((c.tc : Thread Cert.RowsRefIdeal.nD Cert.RowsRefIdeal.τ).loc Cert.RowsRefIdeal.main_arg2)
          ∧ r.2.mem ((c.tc : Thread Cert.RowsRefIdeal.nD Cert.RowsRefIdeal.τ).loc Cert.RowsRefIdeal.main_arg3) = m' ((c.tc : Thread Cert.RowsRefIdeal.nD Cert.RowsRefIdeal.τ).loc Cert.RowsRefIdeal.main_arg3)
          ∧ r.2.mem ((c.tc : Thread Cert.RowsRefIdeal.nD Cert.RowsRefIdeal.τ).loc Cert.RowsRefIdeal.main_arg4) = m' ((c.tc : Thread Cert.RowsRefIdeal.nD Cert.RowsRefIdeal.τ).loc Cert.RowsRefIdeal.main_arg4))

def Claim : Prop :=
  ∃ (hPrompt : Cert.Prompt.Facts) (hPromptIdeal : Cert.PromptIdeal.Facts) (hPromptRefIdeal : Cert.PromptRefIdeal.Facts) (hSample : Cert.Sample.Facts) (hSampleIdeal : Cert.SampleIdeal.Facts) (hSampleRefIdeal : Cert.SampleRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hRows : Cert.Rows.Facts) (hRowsIdeal : Cert.RowsIdeal.Facts) (hRowsRefIdeal : Cert.RowsRefIdeal.Facts),
    quiescent_Prompt (hPrompt := hPrompt)
    ∧ quiescent_PromptIdeal (hPromptIdeal := hPromptIdeal)
    ∧ quiescent_PromptRefIdeal (hPromptRefIdeal := hPromptRefIdeal)
    ∧ quiescent_Sample (hSample := hSample)
    ∧ quiescent_SampleIdeal (hSampleIdeal := hSampleIdeal)
    ∧ quiescent_SampleRefIdeal (hSampleRefIdeal := hSampleRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Rows (hRows := hRows)
    ∧ quiescent_RowsIdeal (hRowsIdeal := hRowsIdeal)
    ∧ quiescent_RowsRefIdeal (hRowsRefIdeal := hRowsRefIdeal)
    ∧ preserves_Prompt_PromptIdeal
    ∧ algebraic_PromptIdeal_PromptRefIdeal (hPromptIdeal := hPromptIdeal) (hPromptRefIdeal := hPromptRefIdeal)
    ∧ preserves_Sample_SampleIdeal
    ∧ algebraic_SampleIdeal_SampleRefIdeal (hSampleIdeal := hSampleIdeal) (hSampleRefIdeal := hSampleRefIdeal)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_Outproj_OutprojIdeal
    ∧ algebraic_OutprojIdeal_OutprojRefIdeal (hOutprojIdeal := hOutprojIdeal) (hOutprojRefIdeal := hOutprojRefIdeal)
    ∧ preserves_Rows_RowsIdeal
    ∧ algebraic_RowsIdeal_RowsRefIdeal (hRowsIdeal := hRowsIdeal) (hRowsRefIdeal := hRowsRefIdeal)
-- ==== Prompt.lean ====
abbrev S8448x6400 : Shape := ⟨2, ![8448, 6400]⟩
abbrev S2x4 : Shape := ⟨2, ![2, 4]⟩
abbrev S4x1024 : Shape := ⟨2, ![4, 1024]⟩
abbrev S1024 : Shape := ⟨1, ![1024]⟩
abbrev S128 : Shape := ⟨1, ![128]⟩
abbrev S_ : Shape := ⟨0, ![]⟩
abbrev S2x4x128x128 : Shape := ⟨4, ![2, 4, 128, 128]⟩
abbrev S2x4x128 : Shape := ⟨3, ![2, 4, 128]⟩
abbrev S2x3x1024 : Shape := ⟨3, ![2, 3, 1024]⟩
abbrev S8192x256 : Shape := ⟨2, ![8192, 256]⟩
abbrev S2x4096x256 : Shape := ⟨3, ![2, 4096, 256]⟩
abbrev S2x4096x4 : Shape := ⟨3, ![2, 4096, 4]⟩
abbrev S1x4 : Shape := ⟨2, ![1, 4]⟩
abbrev S4 : Shape := ⟨1, ![4]⟩
abbrev S1x1x4 : Shape := ⟨3, ![1, 1, 4]⟩
abbrev S2x4x4096 : Shape := ⟨3, ![2, 4, 4096]⟩
abbrev S8x64x64 : Shape := ⟨3, ![8, 64, 64]⟩
abbrev S2x8x1024 : Shape := ⟨3, ![2, 8, 1024]⟩
abbrev S8x1024 : Shape := ⟨2, ![8, 1024]⟩
abbrev S1x1024 : Shape := ⟨2, ![1, 1024]⟩
abbrev S8x128x128 : Shape := ⟨3, ![8, 128, 128]⟩
abbrev S8x1x128 : Shape := ⟨3, ![8, 1, 128]⟩
abbrev S8x1x1 : Shape := ⟨3, ![8, 1, 1]⟩
abbrev S1x128 : Shape := ⟨2, ![1, 128]⟩
abbrev S8192x512 : Shape := ⟨2, ![8192, 512]⟩
abbrev S4096x128 : Shape := ⟨2, ![4096, 128]⟩
abbrev S1x8x128 : Shape := ⟨3, ![1, 8, 128]⟩
abbrev S8x128 : Shape := ⟨2, ![8, 128]⟩
abbrev S1x64x64 : Shape := ⟨3, ![1, 64, 64]⟩
abbrev S1x128x128 : Shape := ⟨3, ![1, 128, 128]⟩
abbrev S1x1x128 : Shape := ⟨3, ![1, 1, 128]⟩
abbrev S64x64 : Shape := ⟨2, ![64, 64]⟩
abbrev S4104x128 : Shape := ⟨2, ![4104, 128]⟩
abbrev S128x128 : Shape := ⟨2, ![128, 128]⟩
abbrev S1x1 : Shape := ⟨2, ![1, 1]⟩
abbrev S64x128 : Shape := ⟨2, ![64, 128]⟩
abbrev S1x1x64 : Shape := ⟨3, ![1, 1, 64]⟩
abbrev S1x64 : Shape := ⟨2, ![1, 64]⟩
abbrev S64 : Shape := ⟨1, ![64]⟩
abbrev S64x1 : Shape := ⟨2, ![64, 1]⟩
abbrev S1 : Shape := ⟨1, ![1]⟩

abbrev nBuf : Space → Nat
  | .hbm => 63
  | .vmem => 41
  | .smem => 0
  | _ => 0

abbrev bufTy : (tb : Table) → Fin (tcTables nBuf tb) → BufTy
  | .hbm, ⟨0, _⟩ => ⟨S8448x6400, .f32⟩
  | .hbm, ⟨1, _⟩ => ⟨S2x4, .f32⟩
  | .hbm, ⟨2, _⟩ => ⟨S4x1024, .f32⟩
  | .hbm, ⟨3, _⟩ => ⟨S1024, .f32⟩
  | .hbm, ⟨4, _⟩ => ⟨S128, .f32⟩
  | .hbm, ⟨5, _⟩ => ⟨S_, .f32⟩
  | .hbm, ⟨6, _⟩ => ⟨S2x4x128x128, .f32⟩
  | .hbm, ⟨7, _⟩ => ⟨S_, .f32⟩
  | .hbm, ⟨8, _⟩ => ⟨S2x4x128, .f32⟩
  | .hbm, ⟨9, _⟩ => ⟨S_, .f32⟩
  | .hbm, ⟨10, _⟩ => ⟨S2x4, .f32⟩
  | .hbm, ⟨11, _⟩ => ⟨S_, .f32⟩
  | .hbm, ⟨12, _⟩ => ⟨S2x3x1024, .f32⟩
  | .hbm, ⟨13, _⟩ => ⟨S8192x256, .f32⟩
  | .hbm, ⟨14, _⟩ => ⟨S2x4096x256, .f32⟩
  | .hbm, ⟨15, _⟩ => ⟨S2x4096x4, .f32⟩
  | .hbm, ⟨16, _⟩ => ⟨S1x4, .f32⟩
  | .hbm, ⟨17, _⟩ => ⟨S4, .f32⟩
  | .hbm, ⟨18, _⟩ => ⟨S1x1x4, .f32⟩
  | .hbm, ⟨19, _⟩ => ⟨S2x4096x4, .f32⟩
  | .hbm, ⟨20, _⟩ => ⟨S2x4096x4, .f32⟩
  | .hbm, ⟨21, _⟩ => ⟨S2x4096x4, .f32⟩
  | .hbm, ⟨22, _⟩ => ⟨S1x4, .f32⟩
  | .hbm, ⟨23, _⟩ => ⟨S4, .f32⟩
  | .hbm, ⟨24, _⟩ => ⟨S1x1x4, .f32⟩
  | .hbm, ⟨25, _⟩ => ⟨S2x4096x4, .f32⟩
  | .hbm, ⟨26, _⟩ => ⟨S2x4096x4, .f32⟩
  | .hbm, ⟨27, _⟩ => ⟨S2x4096x4, .f32⟩
  | .hbm, ⟨28, _⟩ => ⟨S_, .f32⟩
  | .hbm, ⟨29, _⟩ => ⟨S2x4096x4, .f32⟩
  | .hbm, ⟨30, _⟩ => ⟨S2x4096x4, .f32⟩
  | .hbm, ⟨31, _⟩ => ⟨S2x4096x4, .f32⟩
  | .hbm, ⟨32, _⟩ => ⟨S2x4096x4, .f32⟩
  | .hbm, ⟨33, _⟩ => ⟨S2x4096x4, .i1⟩
  | .hbm, ⟨34, _⟩ => ⟨S2x4096x4, .f32⟩
  | .hbm, ⟨35, _⟩ => ⟨S2x4096x4, .f32⟩
  | .hbm, ⟨36, _⟩ => ⟨S2x4096x4, .f32⟩
  | .hbm, ⟨37, _⟩ => ⟨S2x4096x4, .f32⟩
  | .hbm, ⟨38, _⟩ => ⟨S2x4096x4, .f32⟩
  | .hbm, ⟨39, _⟩ => ⟨S2x4096x4, .f32⟩
  | .hbm, ⟨40, _⟩ => ⟨S2x4096x4, .f32⟩
  | .hbm, ⟨41, _⟩ => ⟨S2x4096x4, .f32⟩
  | .hbm, ⟨42, _⟩ => ⟨S2x4096x4, .f32⟩
  | .hbm, ⟨43, _⟩ => ⟨S2x4x4096, .f32⟩
  | .hbm, ⟨44, _⟩ => ⟨S8x64x64, .f32⟩
  | .hbm, ⟨45, _⟩ => ⟨S2x4x4096, .f32⟩
  | .hbm, ⟨46, _⟩ => ⟨S8x64x64, .f32⟩
  | .hbm, ⟨47, _⟩ => ⟨S_, .i32⟩
  | .hbm, ⟨48, _⟩ => ⟨S_, .f32⟩
  | .hbm, ⟨49, _⟩ => ⟨S2x8x1024, .f32⟩
  | .hbm, ⟨50, _⟩ => ⟨S_, .i32⟩
  | .hbm, ⟨51, _⟩ => ⟨S_, .f32⟩
  | .hbm, ⟨52, _⟩ => ⟨S8x1024, .f32⟩
  | .hbm, ⟨53, _⟩ => ⟨S1x1024, .f32⟩
  | .hbm, ⟨54, _⟩ => ⟨S8x128x128, .f32⟩
  | .hbm, ⟨55, _⟩ => ⟨S8x1x128, .f32⟩
  | .hbm, ⟨56, _⟩ => ⟨S8x1x1, .f32⟩
  | .hbm, ⟨57, _⟩ => ⟨S8x1x128, .f32⟩
  | .hbm, ⟨58, _⟩ => ⟨S1x128, .f32⟩
  | .hbm, ⟨59, _⟩ => ⟨S8192x512, .f32⟩
  | .hbm, ⟨60, _⟩ => ⟨S8x128x128, .f32⟩
  | .hbm, ⟨61, _⟩ => ⟨S8x1x128, .f32⟩
  | .hbm, ⟨62, _⟩ => ⟨S8x1x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x64x64, .f32⟩
  | .local _ .vmem, ⟨21, _⟩ => ⟨S1x64x64, .f32⟩
  | .local _ .vmem, ⟨22, _⟩ => ⟨S1x64x64, .f32⟩
  | .local _ .vmem, ⟨23, _⟩ => ⟨S1x64x64, .f32⟩
  | .local _ .vmem, ⟨24, _⟩ => ⟨S1x128x128, .f32⟩
  | .local _ .vmem, ⟨25, _⟩ => ⟨S1x128x128, .f32⟩
  | .local _ .vmem, ⟨26, _⟩ => ⟨S1x1x128, .f32⟩
  | .local _ .vmem, ⟨27, _⟩ => ⟨S1x1x128, .f32⟩
  | .local _ .vmem, ⟨28, _⟩ => ⟨S1x1x128, .f32⟩
  | .local _ .vmem, ⟨29, _⟩ => ⟨S1x1x128, .f32⟩
  | .local _ .vmem, ⟨30, _⟩ => ⟨S1x128, .f32⟩
  | .local _ .vmem, ⟨31, _⟩ => ⟨S4096x128, .f32⟩
  | .local _ .vmem, ⟨32, _⟩ => ⟨S4096x128, .f32⟩
  | .local _ .vmem, ⟨33, _⟩ => ⟨S1x128x128, .f32⟩
  | .local _ .vmem, ⟨34, _⟩ => ⟨S1x128x128, .f32⟩
  | .local _ .vmem, ⟨35, _⟩ => ⟨S1x1x128, .f32⟩
  | .local _ .vmem, ⟨36, _⟩ => ⟨S1x1x128, .f32⟩
  | .local _ .vmem, ⟨37, _⟩ => ⟨S1x1x128, .f32⟩
  | .local _ .vmem, ⟨38, _⟩ => ⟨S1x1x128, .f32⟩
  | .local _ .vmem, ⟨39, _⟩ => ⟨S4096x128, .f32⟩
  | .local _ .vmem, ⟨40, _⟩ => ⟨S4096x128, .f32⟩
  | _, _ => ⟨S8448x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c : Ref sig .tc := ⟨.hbm, 47, rfl⟩
abbrev main_call1_v0 : Ref sig .tc := ⟨.hbm, 48, rfl⟩
abbrev main_v23 : Ref sig .tc := ⟨.hbm, 49, rfl⟩
abbrev main_c_3 : Ref sig .tc := ⟨.hbm, 50, rfl⟩
abbrev main_call2_v0 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31_0 : Ref sig .tc := ⟨.hbm, 59, rfl⟩
abbrev main_v31_1 : Ref sig .tc := ⟨.hbm, 60, rfl⟩
abbrev main_v31_2 : Ref sig .tc := ⟨.hbm, 61, rfl⟩
abbrev main_v31_3 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_scratch0 : Ref sig .tc := ⟨.vmem, 39, rfl⟩
abbrev cc0_scratch1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c64_i32 : BitVec 32 := 64#32
  let v94 : BitVec 32 := Scalar.addi c0_i32 c64_i32
  let c1_i32_44 : BitVec 32 := 1#32
  ⟨c0_i32, v94, c1_i32_44⟩
def k0_mult1 (k0_t1 : Fin k0_t1_loop.trips) : BitVec 32 :=
  let c0_i32 : BitVec 32 := 0#32
  let c1_i32_44 : BitVec 32 := 1#32
  let arg24 : BitVec 32 := Scf.iv c0_i32 c1_i32_44 k0_t1
  let c64_i32_55 : BitVec 32 := 64#32
  let v107 : BitVec 32 := Scalar.muli arg24 c64_i32_55
  v107
def k0_off1 (k0_t1 : Fin k0_t1_loop.trips) : Fin 2 → Nat :=
  let c0_i32 : BitVec 32 := 0#32
  let c1_i32_44 : BitVec 32 := 1#32
  let arg24 : BitVec 32 := Scf.iv c0_i32 c1_i32_44 k0_t1
  let c64_i32_55 : BitVec 32 := 64#32
  let v107 : BitVec 32 := Scalar.muli arg24 c64_i32_55
  let v108 : BitVec 32 := v107
  let v109 : Index := Scalar.indexCast v108
  let c0_56 : Index := 0#32
  ![v109.toNat, 0]
def k0_off2 (k0_t1 : Fin k0_t1_loop.trips) : Fin 3 → Nat :=
  let c0_59 : Index := 0#32
  let c0_i32 : BitVec 32 := 0#32
  let c1_i32_44 : BitVec 32 := 1#32
  let arg24 : BitVec 32 := Scf.iv c0_i32 c1_i32_44 k0_t1
  let v115 : Index := Scalar.indexCast arg24
  let c0_60 : Index := 0#32
  ![0, v115.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c32_i32 : BitVec 32 := 32#32
  let v1 : BitVec 32 := Scalar.addi c32_i32 arg1
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c36_i32 : BitVec 32 := 36#32
  let v1 : BitVec 32 := Scalar.addi c36_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c40_i32 : BitVec 32 := 40#32
  let v1 : BitVec 32 := Scalar.addi c40_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c44_i32 : BitVec 32 := 44#32
  let v1 : BitVec 32 := Scalar.addi c44_i32 arg1
  let c0_i32_0 : BitVec 32 := 0#32
  ![v0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_17 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S4096x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== PromptRefIdeal.lean ====
abbrev S8448x6400 : Shape := ⟨2, ![8448, 6400]⟩
abbrev S2x4 : Shape := ⟨2, ![2, 4]⟩
abbrev S4x1024 : Shape := ⟨2, ![4, 1024]⟩
abbrev S1024 : Shape := ⟨1, ![1024]⟩
abbrev S128 : Shape := ⟨1, ![128]⟩
abbrev S_ : Shape := ⟨0, ![]⟩
abbrev S2x4x128x128 : Shape := ⟨4, ![2, 4, 128, 128]⟩
abbrev S2x4x128 : Shape := ⟨3, ![2, 4, 128]⟩
abbrev S2x3x1024 : Shape := ⟨3, ![2, 3, 1024]⟩
abbrev S8192x6400 : Shape := ⟨2, ![8192, 6400]⟩
abbrev S2x4096x6400 : Shape := ⟨3, ![2, 4096, 6400]⟩
abbrev S2x4096x512 : Shape := ⟨3, ![2, 4096, 512]⟩
abbrev S2x4096x4 : Shape := ⟨3, ![2, 4096, 4]⟩
abbrev S2x4096x1024 : Shape := ⟨3, ![2, 4096, 1024]⟩
abbrev S2x4099x1024 : Shape := ⟨3, ![2, 4099, 1024]⟩
abbrev S1x1024 : Shape := ⟨2, ![1, 1024]⟩
abbrev S1x1x1024 : Shape := ⟨3, ![1, 1, 1024]⟩
abbrev S2x4096x4x128 : Shape := ⟨4, ![2, 4096, 4, 128]⟩
abbrev S1x4 : Shape := ⟨2, ![1, 4]⟩
abbrev S4 : Shape := ⟨1, ![4]⟩
abbrev S1x1x4 : Shape := ⟨3, ![1, 1, 4]⟩
abbrev S64x64 : Shape := ⟨2, ![64, 64]⟩
abbrev S2x64x64x4x128 : Shape := ⟨5, ![2, 64, 64, 4, 128]⟩
abbrev S64x2x64x4x128 : Shape := ⟨5, ![64, 2, 64, 4, 128]⟩
abbrev S64x2x4x64x128 : Shape := ⟨5, ![64, 2, 4, 64, 128]⟩
abbrev S2x64x64x4 : Shape := ⟨4, ![2, 64, 64, 4]⟩
abbrev S64x2x64x4 : Shape := ⟨4, ![64, 2, 64, 4]⟩
abbrev S64x2x4x64 : Shape := ⟨4, ![64, 2, 4, 64]⟩
abbrev S1x2x4x64x128 : Shape := ⟨5, ![1, 2, 4, 64, 128]⟩
abbrev S2x4x64x128 : Shape := ⟨4, ![2, 4, 64, 128]⟩
abbrev S1x2x4x64 : Shape := ⟨4, ![1, 2, 4, 64]⟩
abbrev S2x4x64 : Shape := ⟨3, ![2, 4, 64]⟩
abbrev S2x4x64x1 : Shape := ⟨4, ![2, 4, 64, 1]⟩
abbrev S2x4x1x64 : Shape := ⟨4, ![2, 4, 1, 64]⟩
abbrev S2x4x64x64 : Shape := ⟨4, ![2, 4, 64, 64]⟩
abbrev S2x4x1 : Shape := ⟨3, ![2, 4, 1]⟩
abbrev S2x4x1x1 : Shape := ⟨4, ![2, 4, 1, 1]⟩
abbrev S2x64x4x64x128 : Shape := ⟨5, ![2, 64, 4, 64, 128]⟩
abbrev S8192x512 : Shape := ⟨2, ![8192, 512]⟩
abbrev S2x4096x4x1 : Shape := ⟨4, ![2, 4096, 4, 1]⟩
abbrev S1x1x1x128 : Shape := ⟨4, ![1, 1, 1, 128]⟩
abbrev S8x128x128 : Shape := ⟨3, ![8, 128, 128]⟩
abbrev S8x1x128 : Shape := ⟨3, ![8, 1, 128]⟩
abbrev S8x1x1 : Shape := ⟨3, ![8, 1, 1]⟩

abbrev nBuf : Space → Nat
  | .hbm => 287
  | .vmem => 0
  | .smem => 0
  | _ => 0

abbrev hbmTy0_0 (i : Nat) : BufTy := match i % 128 with
  | 0 => ⟨S8448x6400, .f32⟩
  | 1 => ⟨S2x4, .f32⟩
  | 2 => ⟨S4x1024, .f32⟩
  | 3 => ⟨S1024, .f32⟩
  | 4 => ⟨S128, .f32⟩
  | 5 => ⟨S_, .f32⟩
  | 6 => ⟨S2x4x128x128, .f32⟩
  | 7 => ⟨S_, .f32⟩
  | 8 => ⟨S2x4x128, .f32⟩
  | 9 => ⟨S_, .f32⟩
  | 10 => ⟨S2x4, .f32⟩
  | 11 => ⟨S_, .f32⟩
  | 12 => ⟨S2x3x1024, .f32⟩
  | 13 => ⟨S8192x6400, .f32⟩
  | 14 => ⟨S2x4096x6400, .f32⟩
  | 15 => ⟨S2x4096x512, .f32⟩
  | 16 => ⟨S2x4096x512, .f32⟩
  | 17 => ⟨S2x4096x512, .f32⟩
  | 18 => ⟨S2x4096x4, .f32⟩
  | 19 => ⟨S2x4096x4, .f32⟩
  | 20 => ⟨S2x4096x1024, .f32⟩
  | 21 => ⟨S2x4099x1024, .f32⟩
  | 22 => ⟨S2x4096x1024, .f32⟩
  | 23 => ⟨S1x1024, .f32⟩
  | 24 => ⟨S1024, .f32⟩
  | 25 => ⟨S1x1x1024, .f32⟩
  | 26 => ⟨S2x4096x1024, .f32⟩
  | 27 => ⟨S2x4096x1024, .f32⟩
  | 28 => ⟨S1x1x1024, .f32⟩
  | 29 => ⟨S2x4096x1024, .f32⟩
  | 30 => ⟨S2x4096x1024, .f32⟩
  | 31 => ⟨S2x4096x1024, .f32⟩
  | 32 => ⟨S1x1024, .f32⟩
  | 33 => ⟨S1024, .f32⟩
  | 34 => ⟨S1x1x1024, .f32⟩
  | 35 => ⟨S2x4096x1024, .f32⟩
  | 36 => ⟨S2x4096x1024, .f32⟩
  | 37 => ⟨S2x4096x1024, .f32⟩
  | 38 => ⟨S2x4096x1024, .f32⟩
  | 39 => ⟨S1x1024, .f32⟩
  | 40 => ⟨S1024, .f32⟩
  | 41 => ⟨S1x1x1024, .f32⟩
  | 42 => ⟨S2x4096x1024, .f32⟩
  | 43 => ⟨S2x4096x1024, .f32⟩
  | 44 => ⟨S2x4096x1024, .f32⟩
  | 45 => ⟨S2x4096x1024, .f32⟩
  | 46 => ⟨S1x1024, .f32⟩
  | 47 => ⟨S1024, .f32⟩
  | 48 => ⟨S1x1x1024, .f32⟩
  | 49 => ⟨S2x4096x1024, .f32⟩
  | 50 => ⟨S2x4096x1024, .f32⟩
  | 51 => ⟨S2x4096x1024, .f32⟩
  | 52 => ⟨S2x4096x1024, .f32⟩
  | 53 => ⟨S2x4096x1024, .f32⟩
  | 54 => ⟨S_, .f32⟩
  | 55 => ⟨S2x4096x1024, .f32⟩
  | 56 => ⟨S2x4096x1024, .f32⟩
  | 57 => ⟨S_, .f32⟩
  | 58 => ⟨S2x4096x1024, .f32⟩
  | 59 => ⟨S2x4096x1024, .f32⟩
  | 60 => ⟨S2x4096x1024, .f32⟩
  | 61 => ⟨S2x4096x512, .f32⟩
  | 62 => ⟨S2x4096x512, .f32⟩
  | 63 => ⟨S2x4096x4x128, .f32⟩
  | 64 => ⟨S_, .f32⟩
  | 65 => ⟨S2x4096x4x128, .f32⟩
  | 66 => ⟨S2x4096x4x128, .f32⟩
  | 67 => ⟨S2x4096x4x128, .f32⟩
  | 68 => ⟨S2x4096x4x128, .f32⟩
  | 69 => ⟨S1x4, .f32⟩
  | 70 => ⟨S4, .f32⟩
  | 71 => ⟨S1x1x4, .f32⟩
  | 72 => ⟨S2x4096x4, .f32⟩
  | 73 => ⟨S2x4096x4, .f32⟩
  | 74 => ⟨S1x4, .f32⟩
  | 75 => ⟨S4, .f32⟩
  | 76 => ⟨S1x1x4, .f32⟩
  | 77 => ⟨S2x4096x4, .f32⟩
  | 78 => ⟨S2x4096x4, .f32⟩
  | 79 => ⟨S2x4096x4, .f32⟩
  | 80 => ⟨S_, .f32⟩
  | 81 => ⟨S2x4096x4, .f32⟩
  | 82 => ⟨S2x4096x4, .f32⟩
  | 83 => ⟨S2x4096x4, .f32⟩
  | 84 => ⟨S2x4096x4, .f32⟩
  | 85 => ⟨S2x4096x4, .i1⟩
  | 86 => ⟨S2x4096x4, .f32⟩
  | 87 => ⟨S2x4096x4, .f32⟩
  | 88 => ⟨S2x4096x4, .f32⟩
  | 89 => ⟨S2x4096x4, .f32⟩
  | 90 => ⟨S2x4096x4, .f32⟩
  | 91 => ⟨S2x4096x4, .f32⟩
  | 92 => ⟨S2x4096x4, .f32⟩
  | 93 => ⟨S2x4096x4, .f32⟩
  | 94 => ⟨S2x4096x4, .f32⟩
  | 95 => ⟨S_, .i1⟩
  | 96 => ⟨S64x64, .i1⟩
  | 97 => ⟨S64x64, .i32⟩
  | 98 => ⟨S_, .i32⟩
  | 99 => ⟨S64x64, .i32⟩
  | 100 => ⟨S64x64, .i32⟩
  | 101 => ⟨S64x64, .i32⟩
  | 102 => ⟨S64x64, .i1⟩
  | 103 => ⟨S_, .i1⟩
  | 104 => ⟨S64x64, .i1⟩
  | 105 => ⟨S64x64, .i1⟩
  | 106 => ⟨S2x64x64x4x128, .f32⟩
  | 107 => ⟨S64x2x64x4x128, .f32⟩
  | 108 => ⟨S64x2x4x64x128, .f32⟩
  | 109 => ⟨S2x64x64x4x128, .f32⟩
  | 110 => ⟨S64x2x64x4x128, .f32⟩
  | 111 => ⟨S64x2x4x64x128, .f32⟩
  | 112 => ⟨S2x64x64x4x128, .f32⟩
  | 113 => ⟨S64x2x64x4x128, .f32⟩
  | 114 => ⟨S64x2x4x64x128, .f32⟩
  | 115 => ⟨S2x64x64x4, .f32⟩
  | 116 => ⟨S64x2x64x4, .f32⟩
  | 117 => ⟨S64x2x4x64, .f32⟩
  | 118 => ⟨S2x64x64x4, .f32⟩
  | 119 => ⟨S64x2x64x4, .f32⟩
  | 120 => ⟨S64x2x4x64, .f32⟩
  | 121 => ⟨S_, .f32⟩
  | 122 => ⟨S64x2x4x64x128, .f32⟩
  | 123 => ⟨S_, .i32⟩
  | 124 => ⟨S64x2x4x64x128, .f32⟩
  | 125 => ⟨S64x2x4x64x128, .f32⟩
  | 126 => ⟨S64x2x4x64x128, .f32⟩
  | 127 => ⟨S64x2x4x64, .f32⟩
  | _ => ⟨S8448x6400, .f32⟩

abbrev hbmTy0_1 (i : Nat) : BufTy := match i % 128 with
  | 0 => ⟨S64x2x4x64, .f32⟩
  | 1 => ⟨S64x64, .i1⟩
  | 2 => ⟨S_, .i32⟩
  | 3 => ⟨S2x4x128x128, .f32⟩
  | 4 => ⟨S2x4x128, .f32⟩
  | 5 => ⟨S2x4, .f32⟩
  | 6 => ⟨S64x2x4x64x128, .f32⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S1x2x4x64x128, .f32⟩
  | 14 => ⟨S2x4x64x128, .f32⟩
  | 15 => ⟨S_, .i32⟩
  | 16 => ⟨S_, .i32⟩
  | 17 => ⟨S_, .i32⟩
  | 18 => ⟨S_, .i32⟩
  | 19 => ⟨S1x2x4x64x128, .f32⟩
  | 20 => ⟨S2x4x64x128, .f32⟩
  | 21 => ⟨S_, .i32⟩
  | 22 => ⟨S_, .i32⟩
  | 23 => ⟨S_, .i32⟩
  | 24 => ⟨S_, .i32⟩
  | 25 => ⟨S1x2x4x64x128, .f32⟩
  | 26 => ⟨S2x4x64x128, .f32⟩
  | 27 => ⟨S_, .i32⟩
  | 28 => ⟨S_, .i32⟩
  | 29 => ⟨S_, .i32⟩
  | 30 => ⟨S1x2x4x64, .f32⟩
  | 31 => ⟨S2x4x64, .f32⟩
  | 32 => ⟨S_, .i32⟩
  | 33 => ⟨S_, .i32⟩
  | 34 => ⟨S_, .i32⟩
  | 35 => ⟨S1x2x4x64, .f32⟩
  | 36 => ⟨S2x4x64, .f32⟩
  | 37 => ⟨S_, .f32⟩
  | 38 => ⟨S_, .f32⟩
  | 39 => ⟨S2x4x64, .f32⟩
  | 40 => ⟨S2x4x64x1, .f32⟩
  | 41 => ⟨S2x4x1x64, .f32⟩
  | 42 => ⟨S2x4x64x64, .f32⟩
  | 43 => ⟨S2x4x64x64, .f32⟩
  | 44 => ⟨S2x4x64x64, .f32⟩
  | 45 => ⟨S2x4x1x64, .f32⟩
  | 46 => ⟨S2x4x64x64, .f32⟩
  | 47 => ⟨S2x4x64x64, .f32⟩
  | 48 => ⟨S_, .f32⟩
  | 49 => ⟨S_, .f32⟩
  | 50 => ⟨S2x4x64x64, .i1⟩
  | 51 => ⟨S2x4x64x64, .f32⟩
  | 52 => ⟨S2x4x64x64, .f32⟩
  | 53 => ⟨S2x4x1, .f32⟩
  | 54 => ⟨S2x4x64, .f32⟩
  | 55 => ⟨S2x4x64, .f32⟩
  | 56 => ⟨S_, .f32⟩
  | 57 => ⟨S2x4x64, .f32⟩
  | 58 => ⟨S2x4x64, .f32⟩
  | 59 => ⟨S2x4x64x1, .f32⟩
  | 60 => ⟨S2x4x64x64, .f32⟩
  | 61 => ⟨S2x4x64x64, .f32⟩
  | 62 => ⟨S2x4x64x64, .f32⟩
  | 63 => ⟨S2x4x64, .f32⟩
  | 64 => ⟨S2x4x64, .f32⟩
  | 65 => ⟨S2x4x64x64, .f32⟩
  | 66 => ⟨S2x4x64x64, .f32⟩
  | 67 => ⟨S2x4x64x1, .f32⟩
  | 68 => ⟨S2x4x64x128, .f32⟩
  | 69 => ⟨S2x4x64x128, .f32⟩
  | 70 => ⟨S2x4x64x128, .f32⟩
  | 71 => ⟨S2x4x64x128, .f32⟩
  | 72 => ⟨S2x4x64x128, .f32⟩
  | 73 => ⟨S2x4x64, .f32⟩
  | 74 => ⟨S2x4x64, .f32⟩
  | 75 => ⟨S_, .f32⟩
  | 76 => ⟨S2x4x64, .f32⟩
  | 77 => ⟨S2x4x64, .f32⟩
  | 78 => ⟨S2x4x64, .f32⟩
  | 79 => ⟨S2x4x64, .f32⟩
  | 80 => ⟨S2x4x64, .f32⟩
  | 81 => ⟨S2x4x64, .f32⟩
  | 82 => ⟨S2x4x64x1, .f32⟩
  | 83 => ⟨S2x4x64x128, .f32⟩
  | 84 => ⟨S2x4x64x128, .f32⟩
  | 85 => ⟨S2x4x1, .f32⟩
  | 86 => ⟨S2x4, .f32⟩
  | 87 => ⟨S2x4x1, .f32⟩
  | 88 => ⟨S2x4x64, .f32⟩
  | 89 => ⟨S2x4x64, .f32⟩
  | 90 => ⟨S2x4x64, .f32⟩
  | 91 => ⟨S2x4, .f32⟩
  | 92 => ⟨S_, .f32⟩
  | 93 => ⟨S2x4, .f32⟩
  | 94 => ⟨S2x4, .f32⟩
  | 95 => ⟨S2x4, .f32⟩
  | 96 => ⟨S2x4, .f32⟩
  | 97 => ⟨S2x4, .f32⟩
  | 98 => ⟨S2x4x1, .f32⟩
  | 99 => ⟨S2x4x64, .f32⟩
  | 100 => ⟨S2x4x64, .f32⟩
  | 101 => ⟨S2x4x64, .f32⟩
  | 102 => ⟨S2x4x1x1, .f32⟩
  | 103 => ⟨S2x4x128x128, .f32⟩
  | 104 => ⟨S2x4x128x128, .f32⟩
  | 105 => ⟨S2x4x64x1, .f32⟩
  | 106 => ⟨S2x4x64x128, .f32⟩
  | 107 => ⟨S2x4x64x128, .f32⟩
  | 108 => ⟨S2x4x128x128, .f32⟩
  | 109 => ⟨S2x4x128x128, .f32⟩
  | 110 => ⟨S2x4x1, .f32⟩
  | 111 => ⟨S2x4x128, .f32⟩
  | 112 => ⟨S2x4x128, .f32⟩
  | 113 => ⟨S2x4x128, .f32⟩
  | 114 => ⟨S2x4x128, .f32⟩
  | 115 => ⟨S1x2x4x64x128, .f32⟩
  | 116 => ⟨S_, .i32⟩
  | 117 => ⟨S_, .i32⟩
  | 118 => ⟨S_, .i32⟩
  | 119 => ⟨S_, .i32⟩
  | 120 => ⟨S64x2x4x64x128, .f32⟩
  | 121 => ⟨S_, .i32⟩
  | 122 => ⟨S_, .i32⟩
  | 123 => ⟨S2x64x4x64x128, .f32⟩
  | 124 => ⟨S2x64x64x4x128, .f32⟩
  | 125 => ⟨S2x4096x4x128, .f32⟩
  | 126 => ⟨S8192x512, .f32⟩
  | 127 => ⟨S2x4096x512, .f32⟩
  | _ => ⟨S8448x6400, .f32⟩

abbrev hbmTy0_2 (i : Nat) : BufTy := match i % 128 with
  | 0 => ⟨S2x4096x4x128, .f32⟩
  | 1 => ⟨S_, .f32⟩
  | 2 => ⟨S2x4096x4, .f32⟩
  | 3 => ⟨S2x4096x4x1, .f32⟩
  | 4 => ⟨S_, .f32⟩
  | 5 => ⟨S2x4096x4x1, .f32⟩
  | 6 => ⟨S2x4096x4x1, .f32⟩
  | 7 => ⟨S_, .f32⟩
  | 8 => ⟨S2x4096x4x1, .f32⟩
  | 9 => ⟨S2x4096x4x1, .f32⟩
  | 10 => ⟨S2x4096x4x1, .f32⟩
  | 11 => ⟨S2x4096x4x128, .f32⟩
  | 12 => ⟨S2x4096x4x128, .f32⟩
  | 13 => ⟨S1x1x1x128, .f32⟩
  | 14 => ⟨S2x4096x4x128, .f32⟩
  | 15 => ⟨S2x4096x4x128, .f32⟩
  | 16 => ⟨S2x4096x512, .f32⟩
  | 17 => ⟨S2x4096x512, .f32⟩
  | 18 => ⟨S_, .f32⟩
  | 19 => ⟨S2x4096x512, .f32⟩
  | 20 => ⟨S2x4096x512, .f32⟩
  | 21 => ⟨S_, .f32⟩
  | 22 => ⟨S2x4096x512, .f32⟩
  | 23 => ⟨S2x4096x512, .f32⟩
  | 24 => ⟨S2x4096x4x128, .f32⟩
  | 25 => ⟨S2x4096x4x128, .f32⟩
  | 26 => ⟨S8192x512, .f32⟩
  | 27 => ⟨S8x128x128, .f32⟩
  | 28 => ⟨S8x1x128, .f32⟩
  | 29 => ⟨S8x1x1, .f32⟩
  | 30 => ⟨S8x1x128, .f32⟩
  | _ => ⟨S8448x6400, .f32⟩

abbrev hbmTy (i : Nat) : BufTy := match i / 128 with
  | 0 => hbmTy0_0 i
  | 1 => hbmTy0_1 i
  | 2 => hbmTy0_2 i
  | _ => ⟨S8448x6400, .f32⟩

abbrev bufTy : (tb : Table) → Fin (tcTables nBuf tb) → BufTy
  | .hbm, ⟨i, _⟩ => hbmTy i
  | _, _ => ⟨S8448x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_3 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_v62 : Ref sig .tc := ⟨.hbm, 93, rfl⟩
abbrev main_v63 : Ref sig .tc := ⟨.hbm, 94, rfl⟩
abbrev main_c : Ref sig .tc := ⟨.hbm, 95, rfl⟩
abbrev main_v64 : Ref sig .tc := ⟨.hbm, 96, rfl⟩
abbrev main_call2_v0 : Ref sig .tc := ⟨.hbm, 97, rfl⟩
abbrev main_call2_c : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_c_0 : Ref sig .tc := ⟨.hbm, 103, rfl⟩
abbrev main_call2_v5 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_4 : Ref sig .tc := ⟨.hbm, 121, rfl⟩
abbrev main_v81 : Ref sig .tc := ⟨.hbm, 122, rfl⟩
abbrev main_c_5 : Ref sig .tc := ⟨.hbm, 123, rfl⟩
abbrev main_v82_0 : Ref sig .tc := ⟨.hbm, 124, rfl⟩
abbrev main_v82_1 : Ref sig .tc := ⟨.hbm, 125, rfl⟩
abbrev main_v82_2 : Ref sig .tc := ⟨.hbm, 126, rfl⟩
abbrev main_v82_3 : Ref sig .tc := ⟨.hbm, 127, rfl⟩
abbrev main_v82_4 : Ref sig .tc := ⟨.hbm, 128, rfl⟩
abbrev main_v82_5 : Ref sig .tc := ⟨.hbm, 129, rfl⟩
abbrev main_v82_6 : Ref sig .tc := ⟨.hbm, 130, rfl⟩
abbrev main_v82_7 : Ref sig .tc := ⟨.hbm, 131, rfl⟩
abbrev main_v82_8 : Ref sig .tc := ⟨.hbm, 132, rfl⟩
abbrev main_v82_9 : Ref sig .tc := ⟨.hbm, 133, rfl⟩
abbrev main_v82_10 : Ref sig .tc := ⟨.hbm, 134, rfl⟩
abbrev main_while0c_c_21 : Ref sig .tc := ⟨.hbm, 135, rfl⟩
abbrev main_while0c_v114 : Ref sig .tc := ⟨.hbm, 136, rfl⟩
abbrev main_while0b_call3_c : Ref sig .tc := ⟨.hbm, 137, rfl⟩
abbrev main_while0b_call3_c_0 : Ref sig .tc := ⟨.hbm, 138, rfl⟩
abbrev main_while0b_call3_c_1 : Ref sig .tc := ⟨.hbm, 139, rfl⟩
abbrev main_while0b_call3_c_2 : Ref sig .tc := ⟨.hbm, 140, rfl⟩
abbrev main_while0b_call3_v0 : Ref sig .tc := ⟨.hbm, 141, rfl⟩
abbrev main_while0b_v114 : Ref sig .tc := ⟨.hbm, 142, rfl⟩
abbrev main_while0b_call4_c : Ref sig .tc := ⟨.hbm, 143, rfl⟩
abbrev main_while0b_call4_c_0 : Ref sig .tc := ⟨.hbm, 144, rfl⟩
abbrev main_while0b_call4_c_1 : Ref sig .tc := ⟨.hbm, 145, rfl⟩
abbrev main_while0b_call4_c_2 : Ref sig .tc := ⟨.hbm, 146, rfl⟩
abbrev main_while0b_call4_v0 : Ref sig .tc := ⟨.hbm, 147, rfl⟩
abbrev main_while0b_v115 : Ref sig .tc := ⟨.hbm, 148, rfl⟩
abbrev main_while0b_call5_c : Ref sig .tc := ⟨.hbm, 149, rfl⟩
abbrev main_while0b_call5_c_0 : Ref sig .tc := ⟨.hbm, 150, rfl⟩
abbrev main_while0b_call5_c_1 : Ref sig .tc := ⟨.hbm, 151, rfl⟩
abbrev main_while0b_call5_c_2 : Ref sig .tc := ⟨.hbm, 152, rfl⟩
abbrev main_while0b_call5_v0 : Ref sig .tc := ⟨.hbm, 153, rfl⟩
abbrev main_while0b_v116 : Ref sig .tc := ⟨.hbm, 154, rfl⟩
abbrev main_while0b_call6_c : Ref sig .tc := ⟨.hbm, 155, rfl⟩
abbrev main_while0b_call6_c_0 : Ref sig .tc := ⟨.hbm, 156, rfl⟩
abbrev main_while0b_call6_c_1 : Ref sig .tc := ⟨.hbm, 157, rfl⟩
abbrev main_while0b_call6_v0 : Ref sig .tc := ⟨.hbm, 158, rfl⟩
abbrev main_while0b_v117 : Ref sig .tc := ⟨.hbm, 159, rfl⟩
abbrev main_while0b_call7_c : Ref sig .tc := ⟨.hbm, 160, rfl⟩
abbrev main_while0b_call7_c_0 : Ref sig .tc := ⟨.hbm, 161, rfl⟩
abbrev main_while0b_call7_c_1 : Ref sig .tc := ⟨.hbm, 162, rfl⟩
abbrev main_while0b_call7_v0 : Ref sig .tc := ⟨.hbm, 163, rfl⟩
abbrev main_while0b_v118 : Ref sig .tc := ⟨.hbm, 164, rfl⟩
abbrev main_while0b_call8_call0_cst : Ref sig .tc := ⟨.hbm, 165, rfl⟩
abbrev main_while0b_call8_call0_v0 : Ref sig .tc := ⟨.hbm, 166, rfl⟩
abbrev main_while0b_v119 : Ref sig .tc := ⟨.hbm, 167, rfl⟩
abbrev main_while0b_v120 : Ref sig .tc := ⟨.hbm, 168, rfl⟩
abbrev main_while0b_v121 : Ref sig .tc := ⟨.hbm, 169, rfl⟩
abbrev main_while0b_v122 : Ref sig .tc := ⟨.hbm, 170, rfl⟩
abbrev main_while0b_v123 : Ref sig .tc := ⟨.hbm, 171, rfl⟩
abbrev main_while0b_v124 : Ref sig .tc := ⟨.hbm, 172, rfl⟩
abbrev main_while0b_v125 : Ref sig .tc := ⟨.hbm, 173, rfl⟩
abbrev main_while0b_v126 : Ref sig .tc := ⟨.hbm, 174, rfl⟩
abbrev main_while0b_v127 : Ref sig .tc := ⟨.hbm, 175, rfl⟩
abbrev main_while0b_cst_21 : Ref sig .tc := ⟨.hbm, 176, rfl⟩
abbrev main_while0b_call9_v0 : Ref sig .tc := ⟨.hbm, 177, rfl⟩
abbrev main_while0b_call9_v1 : Ref sig .tc := ⟨.hbm, 178, rfl⟩
abbrev main_while0b_call9_v2 : Ref sig .tc := ⟨.hbm, 179, rfl⟩
abbrev main_while0b_v128 : Ref sig .tc := ⟨.hbm, 180, rfl⟩
abbrev main_while0b_v129 : Ref sig .tc := ⟨.hbm, 181, rfl⟩
abbrev main_while0b_v130 : Ref sig .tc := ⟨.hbm, 182, rfl⟩
abbrev main_while0b_v131 : Ref sig .tc := ⟨.hbm, 183, rfl⟩
abbrev main_while0b_cst_22 : Ref sig .tc := ⟨.hbm, 184, rfl⟩
abbrev main_while0b_v132 : Ref sig .tc := ⟨.hbm, 185, rfl⟩
abbrev main_while0b_v133 : Ref sig .tc := ⟨.hbm, 186, rfl⟩
abbrev main_while0b_v134 : Ref sig .tc := ⟨.hbm, 187, rfl⟩
abbrev main_while0b_v135 : Ref sig .tc := ⟨.hbm, 188, rfl⟩
abbrev main_while0b_v136 : Ref sig .tc := ⟨.hbm, 189, rfl⟩
abbrev main_while0b_v137 : Ref sig .tc := ⟨.hbm, 190, rfl⟩
abbrev main_while0b_v138 : Ref sig .tc := ⟨.hbm, 191, rfl⟩
abbrev main_while0b_v139 : Ref sig .tc := ⟨.hbm, 192, rfl⟩
abbrev main_while0b_v140 : Ref sig .tc := ⟨.hbm, 193, rfl⟩
abbrev main_while0b_v141 : Ref sig .tc := ⟨.hbm, 194, rfl⟩
abbrev main_while0b_v142 : Ref sig .tc := ⟨.hbm, 195, rfl⟩
abbrev main_while0b_v143 : Ref sig .tc := ⟨.hbm, 196, rfl⟩
abbrev main_while0b_v144 : Ref sig .tc := ⟨.hbm, 197, rfl⟩
abbrev main_while0b_v145 : Ref sig .tc := ⟨.hbm, 198, rfl⟩
abbrev main_while0b_v146 : Ref sig .tc := ⟨.hbm, 199, rfl⟩
abbrev main_while0b_v147 : Ref sig .tc := ⟨.hbm, 200, rfl⟩
abbrev main_while0b_v148 : Ref sig .tc := ⟨.hbm, 201, rfl⟩
abbrev main_while0b_v149 : Ref sig .tc := ⟨.hbm, 202, rfl⟩
abbrev main_while0b_cst_23 : Ref sig .tc := ⟨.hbm, 203, rfl⟩
abbrev main_while0b_v150 : Ref sig .tc := ⟨.hbm, 204, rfl⟩
abbrev main_while0b_v151 : Ref sig .tc := ⟨.hbm, 205, rfl⟩
abbrev main_while0b_v152 : Ref sig .tc := ⟨.hbm, 206, rfl⟩
abbrev main_while0b_v153 : Ref sig .tc := ⟨.hbm, 207, rfl⟩
abbrev main_while0b_v154 : Ref sig .tc := ⟨.hbm, 208, rfl⟩
abbrev main_while0b_v155 : Ref sig .tc := ⟨.hbm, 209, rfl⟩
abbrev main_while0b_v156 : Ref sig .tc := ⟨.hbm, 210, rfl⟩
abbrev main_while0b_v157 : Ref sig .tc := ⟨.hbm, 211, rfl⟩
abbrev main_while0b_v158 : Ref sig .tc := ⟨.hbm, 212, rfl⟩
abbrev main_while0b_v159 : Ref sig .tc := ⟨.hbm, 213, rfl⟩
abbrev main_while0b_v160 : Ref sig .tc := ⟨.hbm, 214, rfl⟩
abbrev main_while0b_v161 : Ref sig .tc := ⟨.hbm, 215, rfl⟩
abbrev main_while0b_v162 : Ref sig .tc := ⟨.hbm, 216, rfl⟩
abbrev main_while0b_v163 : Ref sig .tc := ⟨.hbm, 217, rfl⟩
abbrev main_while0b_v164 : Ref sig .tc := ⟨.hbm, 218, rfl⟩
abbrev main_while0b_v165 : Ref sig .tc := ⟨.hbm, 219, rfl⟩
abbrev main_while0b_cst_24 : Ref sig .tc := ⟨.hbm, 220, rfl⟩
abbrev main_while0b_v166 : Ref sig .tc := ⟨.hbm, 221, rfl⟩
abbrev main_while0b_v167 : Ref sig .tc := ⟨.hbm, 222, rfl⟩
abbrev main_while0b_v168 : Ref sig .tc := ⟨.hbm, 223, rfl⟩
abbrev main_while0b_v169 : Ref sig .tc := ⟨.hbm, 224, rfl⟩
abbrev main_while0b_v170 : Ref sig .tc := ⟨.hbm, 225, rfl⟩
abbrev main_while0b_v171 : Ref sig .tc := ⟨.hbm, 226, rfl⟩
abbrev main_while0b_v172 : Ref sig .tc := ⟨.hbm, 227, rfl⟩
abbrev main_while0b_v173 : Ref sig .tc := ⟨.hbm, 228, rfl⟩
abbrev main_while0b_v174 : Ref sig .tc := ⟨.hbm, 229, rfl⟩
abbrev main_while0b_v175 : Ref sig .tc := ⟨.hbm, 230, rfl⟩
abbrev main_while0b_v176 : Ref sig .tc := ⟨.hbm, 231, rfl⟩
abbrev main_while0b_v177 : Ref sig .tc := ⟨.hbm, 232, rfl⟩
abbrev main_while0b_v178 : Ref sig .tc := ⟨.hbm, 233, rfl⟩
abbrev main_while0b_v179 : Ref sig .tc := ⟨.hbm, 234, rfl⟩
abbrev main_while0b_v180 : Ref sig .tc := ⟨.hbm, 235, rfl⟩
abbrev main_while0b_v181 : Ref sig .tc := ⟨.hbm, 236, rfl⟩
abbrev main_while0b_v182 : Ref sig .tc := ⟨.hbm, 237, rfl⟩
abbrev main_while0b_v183 : Ref sig .tc := ⟨.hbm, 238, rfl⟩
abbrev main_while0b_v184 : Ref sig .tc := ⟨.hbm, 239, rfl⟩
abbrev main_while0b_v185 : Ref sig .tc := ⟨.hbm, 240, rfl⟩
abbrev main_while0b_v186 : Ref sig .tc := ⟨.hbm, 241, rfl⟩
abbrev main_while0b_v187 : Ref sig .tc := ⟨.hbm, 242, rfl⟩
abbrev main_while0b_call10_v0 : Ref sig .tc := ⟨.hbm, 243, rfl⟩
abbrev main_while0b_call10_c : Ref sig .tc := ⟨.hbm, 244, rfl⟩
abbrev main_while0b_call10_c_0 : Ref sig .tc := ⟨.hbm, 245, rfl⟩
abbrev main_while0b_call10_c_1 : Ref sig .tc := ⟨.hbm, 246, rfl⟩
abbrev main_while0b_call10_c_2 : Ref sig .tc := ⟨.hbm, 247, rfl⟩
abbrev main_while0b_v188 : Ref sig .tc := ⟨.hbm, 248, rfl⟩
abbrev main_while0b_c_25 : Ref sig .tc := ⟨.hbm, 249, rfl⟩
abbrev main_while0b_v189 : Ref sig .tc := ⟨.hbm, 250, rfl⟩
abbrev main_v83 : Ref sig .tc := ⟨.hbm, 251, rfl⟩
abbrev main_v84 : Ref sig .tc := ⟨.hbm, 252, rfl⟩
abbrev main_v85 : Ref sig .tc := ⟨.hbm, 253, rfl⟩
abbrev main_v86 : Ref sig .tc := ⟨.hbm, 254, rfl⟩
abbrev main_v87 : Ref sig .tc := ⟨.hbm, 255, rfl⟩
abbrev main_v88 : Ref sig .tc := ⟨.hbm, 256, rfl⟩
abbrev main_cst_6 : Ref sig .tc := ⟨.hbm, 257, rfl⟩
abbrev main_v89 : Ref sig .tc := ⟨.hbm, 258, rfl⟩
abbrev main_v90 : Ref sig .tc := ⟨.hbm, 259, rfl⟩
abbrev main_cst_7 : Ref sig .tc := ⟨.hbm, 260, rfl⟩
abbrev main_v91 : Ref sig .tc := ⟨.hbm, 261, rfl⟩
abbrev main_v92 : Ref sig .tc := ⟨.hbm, 262, rfl⟩
abbrev main_cst_8 : Ref sig .tc := ⟨.hbm, 263, rfl⟩
abbrev main_v93 : Ref sig .tc := ⟨.hbm, 264, rfl⟩
abbrev main_v94 : Ref sig .tc := ⟨.hbm, 265, rfl⟩
abbrev main_v95 : Ref sig .tc := ⟨.hbm, 266, rfl⟩
abbrev main_v96 : Ref sig .tc := ⟨.hbm, 267, rfl⟩
abbrev main_v97 : Ref sig .tc := ⟨.hbm, 268, rfl⟩
abbrev main_v98 : Ref sig .tc := ⟨.hbm, 269, rfl⟩
abbrev main_v99 : Ref sig .tc := ⟨.hbm, 270, rfl⟩
abbrev main_v100 : Ref sig .tc := ⟨.hbm, 271, rfl⟩
abbrev main_v101 : Ref sig .tc := ⟨.hbm, 272, rfl⟩
abbrev main_v102 : Ref sig .tc := ⟨.hbm, 273, rfl⟩
abbrev main_cst_9 : Ref sig .tc := ⟨.hbm, 274, rfl⟩
abbrev main_v103 : Ref sig .tc := ⟨.hbm, 275, rfl⟩
abbrev main_v104 : Ref sig .tc := ⟨.hbm, 276, rfl⟩
abbrev main_cst_10 : Ref sig .tc := ⟨.hbm, 277, rfl⟩
abbrev main_v105 : Ref sig .tc := ⟨.hbm, 278, rfl⟩
abbrev main_v106 : Ref sig .tc := ⟨.hbm, 279, rfl⟩
abbrev main_v107 : Ref sig .tc := ⟨.hbm, 280, rfl⟩
abbrev main_v108 : Ref sig .tc := ⟨.hbm, 281, rfl⟩
abbrev main_v109 : Ref sig .tc := ⟨.hbm, 282, rfl⟩
abbrev main_v110 : Ref sig .tc := ⟨.hbm, 283, rfl⟩
abbrev main_v111 : Ref sig .tc := ⟨.hbm, 284, rfl⟩
abbrev main_v112 : Ref sig .tc := ⟨.hbm, 285, rfl⟩
abbrev main_v113 : Ref sig .tc := ⟨.hbm, 286, rfl⟩

abbrev nD : Nat := 1
abbrev τ : Topo := Topo.v7x

variable {F : FTy → Type} [FloatOps F]

abbrev main_while0_count : Scf.Loop 32 := ⟨0#32, 64#32, 1#32⟩
-- ==== Sample.lean ====
abbrev S8448x6400 : Shape := ⟨2, ![8448, 6400]⟩
abbrev S2x4 : Shape := ⟨2, ![2, 4]⟩
abbrev S4x1024 : Shape := ⟨2, ![4, 1024]⟩
abbrev S1024 : Shape := ⟨1, ![1024]⟩
abbrev S128 : Shape := ⟨1, ![128]⟩
abbrev S32x4x128x128 : Shape := ⟨4, ![32, 4, 128, 128]⟩
abbrev S32x4x128 : Shape := ⟨3, ![32, 4, 128]⟩
abbrev S32x4 : Shape := ⟨2, ![32, 4]⟩
abbrev S32x3x1024 : Shape := ⟨3, ![32, 3, 1024]⟩
abbrev S256x256 : Shape := ⟨2, ![256, 256]⟩
abbrev S32x8x256 : Shape := ⟨3, ![32, 8, 256]⟩
abbrev S32x8x4 : Shape := ⟨3, ![32, 8, 4]⟩
abbrev S1x4 : Shape := ⟨2, ![1, 4]⟩
abbrev S4 : Shape := ⟨1, ![4]⟩
abbrev S1x1x4 : Shape := ⟨3, ![1, 1, 4]⟩
abbrev S_ : Shape := ⟨0, ![]⟩
abbrev S32x4x8 : Shape := ⟨3, ![32, 4, 8]⟩
abbrev S128x1x8 : Shape := ⟨3, ![128, 1, 8]⟩
abbrev S32x8x1024 : Shape := ⟨3, ![32, 8, 1024]⟩
abbrev S8x1024 : Shape := ⟨2, ![8, 1024]⟩
abbrev S1x1024 : Shape := ⟨2, ![1, 1024]⟩
abbrev S128x128x128 : Shape := ⟨3, ![128, 128, 128]⟩
abbrev S128x1x128 : Shape := ⟨3, ![128, 1, 128]⟩
abbrev S128x1x1 : Shape := ⟨3, ![128, 1, 1]⟩
abbrev S1x128 : Shape := ⟨2, ![1, 128]⟩
abbrev S256x512 : Shape := ⟨2, ![256, 512]⟩
abbrev S8x128 : Shape := ⟨2, ![8, 128]⟩
abbrev S1x8x128 : Shape := ⟨3, ![1, 8, 128]⟩
abbrev S1x1x8 : Shape := ⟨3, ![1, 1, 8]⟩
abbrev S1x128x128 : Shape := ⟨3, ![1, 128, 128]⟩
abbrev S1x1x128 : Shape := ⟨3, ![1, 1, 128]⟩
abbrev S8x8 : Shape := ⟨2, ![8, 8]⟩
abbrev S16x128 : Shape := ⟨2, ![16, 128]⟩
abbrev S128x128 : Shape := ⟨2, ![128, 128]⟩
abbrev S1x1 : Shape := ⟨2, ![1, 1]⟩
abbrev S1x8 : Shape := ⟨2, ![1, 8]⟩
abbrev S8 : Shape := ⟨1, ![8]⟩
abbrev S8x1 : Shape := ⟨2, ![8, 1]⟩
abbrev S1 : Shape := ⟨1, ![1]⟩

abbrev nBuf : Space → Nat
  | .hbm => 59
  | .vmem => 41
  | .smem => 0
  | _ => 0

abbrev bufTy : (tb : Table) → Fin (tcTables nBuf tb) → BufTy
  | .hbm, ⟨0, _⟩ => ⟨S8448x6400, .f32⟩
  | .hbm, ⟨1, _⟩ => ⟨S2x4, .f32⟩
  | .hbm, ⟨2, _⟩ => ⟨S4x1024, .f32⟩
  | .hbm, ⟨3, _⟩ => ⟨S1024, .f32⟩
  | .hbm, ⟨4, _⟩ => ⟨S128, .f32⟩
  | .hbm, ⟨5, _⟩ => ⟨S32x4x128x128, .f32⟩
  | .hbm, ⟨6, _⟩ => ⟨S32x4x128, .f32⟩
  | .hbm, ⟨7, _⟩ => ⟨S32x4, .f32⟩
  | .hbm, ⟨8, _⟩ => ⟨S32x3x1024, .f32⟩
  | .hbm, ⟨9, _⟩ => ⟨S256x256, .f32⟩
  | .hbm, ⟨10, _⟩ => ⟨S32x8x256, .f32⟩
  | .hbm, ⟨11, _⟩ => ⟨S32x8x4, .f32⟩
  | .hbm, ⟨12, _⟩ => ⟨S1x4, .f32⟩
  | .hbm, ⟨13, _⟩ => ⟨S4, .f32⟩
  | .hbm, ⟨14, _⟩ => ⟨S1x1x4, .f32⟩
  | .hbm, ⟨15, _⟩ => ⟨S32x8x4, .f32⟩
  | .hbm, ⟨16, _⟩ => ⟨S32x8x4, .f32⟩
  | .hbm, ⟨17, _⟩ => ⟨S32x8x4, .f32⟩
  | .hbm, ⟨18, _⟩ => ⟨S1x4, .f32⟩
  | .hbm, ⟨19, _⟩ => ⟨S4, .f32⟩
  | .hbm, ⟨20, _⟩ => ⟨S1x1x4, .f32⟩
  | .hbm, ⟨21, _⟩ => ⟨S32x8x4, .f32⟩
  | .hbm, ⟨22, _⟩ => ⟨S32x8x4, .f32⟩
  | .hbm, ⟨23, _⟩ => ⟨S32x8x4, .f32⟩
  | .hbm, ⟨24, _⟩ => ⟨S_, .f32⟩
  | .hbm, ⟨25, _⟩ => ⟨S32x8x4, .f32⟩
  | .hbm, ⟨26, _⟩ => ⟨S32x8x4, .f32⟩
  | .hbm, ⟨27, _⟩ => ⟨S32x8x4, .f32⟩
  | .hbm, ⟨28, _⟩ => ⟨S32x8x4, .f32⟩
  | .hbm, ⟨29, _⟩ => ⟨S32x8x4, .i1⟩
  | .hbm, ⟨30, _⟩ => ⟨S32x8x4, .f32⟩
  | .hbm, ⟨31, _⟩ => ⟨S32x8x4, .f32⟩
  | .hbm, ⟨32, _⟩ => ⟨S32x8x4, .f32⟩
  | .hbm, ⟨33, _⟩ => ⟨S32x8x4, .f32⟩
  | .hbm, ⟨34, _⟩ => ⟨S32x8x4, .f32⟩
  | .hbm, ⟨35, _⟩ => ⟨S32x8x4, .f32⟩
  | .hbm, ⟨36, _⟩ => ⟨S32x8x4, .f32⟩
  | .hbm, ⟨37, _⟩ => ⟨S32x8x4, .f32⟩
  | .hbm, ⟨38, _⟩ => ⟨S32x8x4, .f32⟩
  | .hbm, ⟨39, _⟩ => ⟨S32x4x8, .f32⟩
  | .hbm, ⟨40, _⟩ => ⟨S128x1x8, .f32⟩
  | .hbm, ⟨41, _⟩ => ⟨S32x4x8, .f32⟩
  | .hbm, ⟨42, _⟩ => ⟨S128x1x8, .f32⟩
  | .hbm, ⟨43, _⟩ => ⟨S_, .i32⟩
  | .hbm, ⟨44, _⟩ => ⟨S_, .f32⟩
  | .hbm, ⟨45, _⟩ => ⟨S32x8x1024, .f32⟩
  | .hbm, ⟨46, _⟩ => ⟨S_, .i32⟩
  | .hbm, ⟨47, _⟩ => ⟨S_, .f32⟩
  | .hbm, ⟨48, _⟩ => ⟨S8x1024, .f32⟩
  | .hbm, ⟨49, _⟩ => ⟨S1x1024, .f32⟩
  | .hbm, ⟨50, _⟩ => ⟨S128x128x128, .f32⟩
  | .hbm, ⟨51, _⟩ => ⟨S128x1x128, .f32⟩
  | .hbm, ⟨52, _⟩ => ⟨S128x1x1, .f32⟩
  | .hbm, ⟨53, _⟩ => ⟨S128x1x128, .f32⟩
  | .hbm, ⟨54, _⟩ => ⟨S1x128, .f32⟩
  | .hbm, ⟨55, _⟩ => ⟨S256x512, .f32⟩
  | .hbm, ⟨56, _⟩ => ⟨S128x128x128, .f32⟩
  | .hbm, ⟨57, _⟩ => ⟨S128x1x128, .f32⟩
  | .hbm, ⟨58, _⟩ => ⟨S128x1x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x1x8, .f32⟩
  | .local _ .vmem, ⟨21, _⟩ => ⟨S1x1x8, .f32⟩
  | .local _ .vmem, ⟨22, _⟩ => ⟨S1x1x8, .f32⟩
  | .local _ .vmem, ⟨23, _⟩ => ⟨S1x1x8, .f32⟩
  | .local _ .vmem, ⟨24, _⟩ => ⟨S1x128x128, .f32⟩
  | .local _ .vmem, ⟨25, _⟩ => ⟨S1x128x128, .f32⟩
  | .local _ .vmem, ⟨26, _⟩ => ⟨S1x1x128, .f32⟩
  | .local _ .vmem, ⟨27, _⟩ => ⟨S1x1x128, .f32⟩
  | .local _ .vmem, ⟨28, _⟩ => ⟨S1x1x128, .f32⟩
  | .local _ .vmem, ⟨29, _⟩ => ⟨S1x1x128, .f32⟩
  | .local _ .vmem, ⟨30, _⟩ => ⟨S1x128, .f32⟩
  | .local _ .vmem, ⟨31, _⟩ => ⟨S8x128, .f32⟩
  | .local _ .vmem, ⟨32, _⟩ => ⟨S8x128, .f32⟩
  | .local _ .vmem, ⟨33, _⟩ => ⟨S1x128x128, .f32⟩
  | .local _ .vmem, ⟨34, _⟩ => ⟨S1x128x128, .f32⟩
  | .local _ .vmem, ⟨35, _⟩ => ⟨S1x1x128, .f32⟩
  | .local _ .vmem, ⟨36, _⟩ => ⟨S1x1x128, .f32⟩
  | .local _ .vmem, ⟨37, _⟩ => ⟨S1x1x128, .f32⟩
  | .local _ .vmem, ⟨38, _⟩ => ⟨S1x1x128, .f32⟩
  | .local _ .vmem, ⟨39, _⟩ => ⟨S8x128, .f32⟩
  | .local _ .vmem, ⟨40, _⟩ => ⟨S8x128, .f32⟩
  | _, _ => ⟨S8448x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c : Ref sig .tc := ⟨.hbm, 43, rfl⟩
abbrev main_call1_v0 : Ref sig .tc := ⟨.hbm, 44, rfl⟩
abbrev main_v19 : Ref sig .tc := ⟨.hbm, 45, rfl⟩
abbrev main_c_0 : Ref sig .tc := ⟨.hbm, 46, rfl⟩
abbrev main_call2_v0 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27_0 : Ref sig .tc := ⟨.hbm, 55, rfl⟩
abbrev main_v27_1 : Ref sig .tc := ⟨.hbm, 56, rfl⟩
abbrev main_v27_2 : Ref sig .tc := ⟨.hbm, 57, rfl⟩
abbrev main_v27_3 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_scratch0 : Ref sig .tc := ⟨.vmem, 39, rfl⟩
abbrev cc0_scratch1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.addi c1024_i32 arg0
  let c32_i32 : BitVec 32 := 32#32
  let v1 : BitVec 32 := Scalar.addi c32_i32 arg1
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.addi c1024_i32 arg0
  let c36_i32 : BitVec 32 := 36#32
  let v1 : BitVec 32 := Scalar.addi c36_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.addi c1024_i32 arg0
  let c40_i32 : BitVec 32 := 40#32
  let v1 : BitVec 32 := Scalar.addi c40_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.addi c1024_i32 arg0
  let c44_i32 : BitVec 32 := 44#32
  let v1 : BitVec 32 := Scalar.addi c44_i32 arg1
  let c0_i32 : BitVec 32 := 0#32
  ![v0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_17 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== SampleRefIdeal.lean ====
abbrev S8448x6400 : Shape := ⟨2, ![8448, 6400]⟩
abbrev S2x4 : Shape := ⟨2, ![2, 4]⟩
abbrev S4x1024 : Shape := ⟨2, ![4, 1024]⟩
abbrev S1024 : Shape := ⟨1, ![1024]⟩
abbrev S128 : Shape := ⟨1, ![128]⟩
abbrev S32x4x128x128 : Shape := ⟨4, ![32, 4, 128, 128]⟩
abbrev S32x4x128 : Shape := ⟨3, ![32, 4, 128]⟩
abbrev S32x4 : Shape := ⟨2, ![32, 4]⟩
abbrev S32x3x1024 : Shape := ⟨3, ![32, 3, 1024]⟩
abbrev S256x6400 : Shape := ⟨2, ![256, 6400]⟩
abbrev S32x8x6400 : Shape := ⟨3, ![32, 8, 6400]⟩
abbrev S32x8x512 : Shape := ⟨3, ![32, 8, 512]⟩
abbrev S32x8x4 : Shape := ⟨3, ![32, 8, 4]⟩
abbrev S32x8x1024 : Shape := ⟨3, ![32, 8, 1024]⟩
abbrev S32x11x1024 : Shape := ⟨3, ![32, 11, 1024]⟩
abbrev S1x1024 : Shape := ⟨2, ![1, 1024]⟩
abbrev S1x1x1024 : Shape := ⟨3, ![1, 1, 1024]⟩
abbrev S_ : Shape := ⟨0, ![]⟩
abbrev S32x8x4x128 : Shape := ⟨4, ![32, 8, 4, 128]⟩
abbrev S1x4 : Shape := ⟨2, ![1, 4]⟩
abbrev S4 : Shape := ⟨1, ![4]⟩
abbrev S1x1x4 : Shape := ⟨3, ![1, 1, 4]⟩
abbrev S8x8 : Shape := ⟨2, ![8, 8]⟩
abbrev S32x1x8x4x128 : Shape := ⟨5, ![32, 1, 8, 4, 128]⟩
abbrev S1x32x8x4x128 : Shape := ⟨5, ![1, 32, 8, 4, 128]⟩
abbrev S1x32x4x8x128 : Shape := ⟨5, ![1, 32, 4, 8, 128]⟩
abbrev S32x1x8x4 : Shape := ⟨4, ![32, 1, 8, 4]⟩
abbrev S1x32x8x4 : Shape := ⟨4, ![1, 32, 8, 4]⟩
abbrev S1x32x4x8 : Shape := ⟨4, ![1, 32, 4, 8]⟩
abbrev S32x4x8x128 : Shape := ⟨4, ![32, 4, 8, 128]⟩
abbrev S32x4x8 : Shape := ⟨3, ![32, 4, 8]⟩
abbrev S32x4x8x1 : Shape := ⟨4, ![32, 4, 8, 1]⟩
abbrev S32x4x1x8 : Shape := ⟨4, ![32, 4, 1, 8]⟩
abbrev S32x4x8x8 : Shape := ⟨4, ![32, 4, 8, 8]⟩
abbrev S32x4x1 : Shape := ⟨3, ![32, 4, 1]⟩
abbrev S32x4x1x1 : Shape := ⟨4, ![32, 4, 1, 1]⟩
abbrev S32x1x4x8x128 : Shape := ⟨5, ![32, 1, 4, 8, 128]⟩
abbrev S256x512 : Shape := ⟨2, ![256, 512]⟩
abbrev S32x8x4x1 : Shape := ⟨4, ![32, 8, 4, 1]⟩
abbrev S1x1x1x128 : Shape := ⟨4, ![1, 1, 1, 128]⟩
abbrev S128x128x128 : Shape := ⟨3, ![128, 128, 128]⟩
abbrev S128x1x128 : Shape := ⟨3, ![128, 1, 128]⟩
abbrev S128x1x1 : Shape := ⟨3, ![128, 1, 1]⟩

abbrev nBuf : Space → Nat
  | .hbm => 283
  | .vmem => 0
  | .smem => 0
  | _ => 0

abbrev hbmTy0_0 (i : Nat) : BufTy := match i % 128 with
  | 0 => ⟨S8448x6400, .f32⟩
  | 1 => ⟨S2x4, .f32⟩
  | 2 => ⟨S4x1024, .f32⟩
  | 3 => ⟨S1024, .f32⟩
  | 4 => ⟨S128, .f32⟩
  | 5 => ⟨S32x4x128x128, .f32⟩
  | 6 => ⟨S32x4x128, .f32⟩
  | 7 => ⟨S32x4, .f32⟩
  | 8 => ⟨S32x3x1024, .f32⟩
  | 9 => ⟨S256x6400, .f32⟩
  | 10 => ⟨S32x8x6400, .f32⟩
  | 11 => ⟨S32x8x512, .f32⟩
  | 12 => ⟨S32x8x512, .f32⟩
  | 13 => ⟨S32x8x512, .f32⟩
  | 14 => ⟨S32x8x4, .f32⟩
  | 15 => ⟨S32x8x4, .f32⟩
  | 16 => ⟨S32x8x1024, .f32⟩
  | 17 => ⟨S32x11x1024, .f32⟩
  | 18 => ⟨S32x8x1024, .f32⟩
  | 19 => ⟨S1x1024, .f32⟩
  | 20 => ⟨S1024, .f32⟩
  | 21 => ⟨S1x1x1024, .f32⟩
  | 22 => ⟨S32x8x1024, .f32⟩
  | 23 => ⟨S32x8x1024, .f32⟩
  | 24 => ⟨S1x1x1024, .f32⟩
  | 25 => ⟨S32x8x1024, .f32⟩
  | 26 => ⟨S32x8x1024, .f32⟩
  | 27 => ⟨S32x8x1024, .f32⟩
  | 28 => ⟨S1x1024, .f32⟩
  | 29 => ⟨S1024, .f32⟩
  | 30 => ⟨S1x1x1024, .f32⟩
  | 31 => ⟨S32x8x1024, .f32⟩
  | 32 => ⟨S32x8x1024, .f32⟩
  | 33 => ⟨S32x8x1024, .f32⟩
  | 34 => ⟨S32x8x1024, .f32⟩
  | 35 => ⟨S1x1024, .f32⟩
  | 36 => ⟨S1024, .f32⟩
  | 37 => ⟨S1x1x1024, .f32⟩
  | 38 => ⟨S32x8x1024, .f32⟩
  | 39 => ⟨S32x8x1024, .f32⟩
  | 40 => ⟨S32x8x1024, .f32⟩
  | 41 => ⟨S32x8x1024, .f32⟩
  | 42 => ⟨S1x1024, .f32⟩
  | 43 => ⟨S1024, .f32⟩
  | 44 => ⟨S1x1x1024, .f32⟩
  | 45 => ⟨S32x8x1024, .f32⟩
  | 46 => ⟨S32x8x1024, .f32⟩
  | 47 => ⟨S32x8x1024, .f32⟩
  | 48 => ⟨S32x8x1024, .f32⟩
  | 49 => ⟨S32x8x1024, .f32⟩
  | 50 => ⟨S_, .f32⟩
  | 51 => ⟨S32x8x1024, .f32⟩
  | 52 => ⟨S32x8x1024, .f32⟩
  | 53 => ⟨S_, .f32⟩
  | 54 => ⟨S32x8x1024, .f32⟩
  | 55 => ⟨S32x8x1024, .f32⟩
  | 56 => ⟨S32x8x1024, .f32⟩
  | 57 => ⟨S32x8x512, .f32⟩
  | 58 => ⟨S32x8x512, .f32⟩
  | 59 => ⟨S32x8x4x128, .f32⟩
  | 60 => ⟨S_, .f32⟩
  | 61 => ⟨S32x8x4x128, .f32⟩
  | 62 => ⟨S32x8x4x128, .f32⟩
  | 63 => ⟨S32x8x4x128, .f32⟩
  | 64 => ⟨S32x8x4x128, .f32⟩
  | 65 => ⟨S1x4, .f32⟩
  | 66 => ⟨S4, .f32⟩
  | 67 => ⟨S1x1x4, .f32⟩
  | 68 => ⟨S32x8x4, .f32⟩
  | 69 => ⟨S32x8x4, .f32⟩
  | 70 => ⟨S1x4, .f32⟩
  | 71 => ⟨S4, .f32⟩
  | 72 => ⟨S1x1x4, .f32⟩
  | 73 => ⟨S32x8x4, .f32⟩
  | 74 => ⟨S32x8x4, .f32⟩
  | 75 => ⟨S32x8x4, .f32⟩
  | 76 => ⟨S_, .f32⟩
  | 77 => ⟨S32x8x4, .f32⟩
  | 78 => ⟨S32x8x4, .f32⟩
  | 79 => ⟨S32x8x4, .f32⟩
  | 80 => ⟨S32x8x4, .f32⟩
  | 81 => ⟨S32x8x4, .i1⟩
  | 82 => ⟨S32x8x4, .f32⟩
  | 83 => ⟨S32x8x4, .f32⟩
  | 84 => ⟨S32x8x4, .f32⟩
  | 85 => ⟨S32x8x4, .f32⟩
  | 86 => ⟨S32x8x4, .f32⟩
  | 87 => ⟨S32x8x4, .f32⟩
  | 88 => ⟨S32x8x4, .f32⟩
  | 89 => ⟨S32x8x4, .f32⟩
  | 90 => ⟨S32x8x4, .f32⟩
  | 91 => ⟨S_, .i1⟩
  | 92 => ⟨S8x8, .i1⟩
  | 93 => ⟨S8x8, .i32⟩
  | 94 => ⟨S_, .i32⟩
  | 95 => ⟨S8x8, .i32⟩
  | 96 => ⟨S8x8, .i32⟩
  | 97 => ⟨S8x8, .i32⟩
  | 98 => ⟨S8x8, .i1⟩
  | 99 => ⟨S_, .i1⟩
  | 100 => ⟨S8x8, .i1⟩
  | 101 => ⟨S8x8, .i1⟩
  | 102 => ⟨S32x1x8x4x128, .f32⟩
  | 103 => ⟨S1x32x8x4x128, .f32⟩
  | 104 => ⟨S1x32x4x8x128, .f32⟩
  | 105 => ⟨S32x1x8x4x128, .f32⟩
  | 106 => ⟨S1x32x8x4x128, .f32⟩
  | 107 => ⟨S1x32x4x8x128, .f32⟩
  | 108 => ⟨S32x1x8x4x128, .f32⟩
  | 109 => ⟨S1x32x8x4x128, .f32⟩
  | 110 => ⟨S1x32x4x8x128, .f32⟩
  | 111 => ⟨S32x1x8x4, .f32⟩
  | 112 => ⟨S1x32x8x4, .f32⟩
  | 113 => ⟨S1x32x4x8, .f32⟩
  | 114 => ⟨S32x1x8x4, .f32⟩
  | 115 => ⟨S1x32x8x4, .f32⟩
  | 116 => ⟨S1x32x4x8, .f32⟩
  | 117 => ⟨S_, .f32⟩
  | 118 => ⟨S1x32x4x8x128, .f32⟩
  | 119 => ⟨S_, .i32⟩
  | 120 => ⟨S1x32x4x8x128, .f32⟩
  | 121 => ⟨S1x32x4x8x128, .f32⟩
  | 122 => ⟨S1x32x4x8x128, .f32⟩
  | 123 => ⟨S1x32x4x8, .f32⟩
  | 124 => ⟨S1x32x4x8, .f32⟩
  | 125 => ⟨S8x8, .i1⟩
  | 126 => ⟨S_, .i32⟩
  | 127 => ⟨S32x4x128x128, .f32⟩
  | _ => ⟨S8448x6400, .f32⟩

abbrev hbmTy0_1 (i : Nat) : BufTy := match i % 128 with
  | 0 => ⟨S32x4x128, .f32⟩
  | 1 => ⟨S32x4, .f32⟩
  | 2 => ⟨S1x32x4x8x128, .f32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S1x32x4x8x128, .f32⟩
  | 10 => ⟨S32x4x8x128, .f32⟩
  | 11 => ⟨S_, .i32⟩
  | 12 => ⟨S_, .i32⟩
  | 13 => ⟨S_, .i32⟩
  | 14 => ⟨S_, .i32⟩
  | 15 => ⟨S1x32x4x8x128, .f32⟩
  | 16 => ⟨S32x4x8x128, .f32⟩
  | 17 => ⟨S_, .i32⟩
  | 18 => ⟨S_, .i32⟩
  | 19 => ⟨S_, .i32⟩
  | 20 => ⟨S_, .i32⟩
  | 21 => ⟨S1x32x4x8x128, .f32⟩
  | 22 => ⟨S32x4x8x128, .f32⟩
  | 23 => ⟨S_, .i32⟩
  | 24 => ⟨S_, .i32⟩
  | 25 => ⟨S_, .i32⟩
  | 26 => ⟨S1x32x4x8, .f32⟩
  | 27 => ⟨S32x4x8, .f32⟩
  | 28 => ⟨S_, .i32⟩
  | 29 => ⟨S_, .i32⟩
  | 30 => ⟨S_, .i32⟩
  | 31 => ⟨S1x32x4x8, .f32⟩
  | 32 => ⟨S32x4x8, .f32⟩
  | 33 => ⟨S_, .f32⟩
  | 34 => ⟨S_, .f32⟩
  | 35 => ⟨S32x4x8, .f32⟩
  | 36 => ⟨S32x4x8x1, .f32⟩
  | 37 => ⟨S32x4x1x8, .f32⟩
  | 38 => ⟨S32x4x8x8, .f32⟩
  | 39 => ⟨S32x4x8x8, .f32⟩
  | 40 => ⟨S32x4x8x8, .f32⟩
  | 41 => ⟨S32x4x1x8, .f32⟩
  | 42 => ⟨S32x4x8x8, .f32⟩
  | 43 => ⟨S32x4x8x8, .f32⟩
  | 44 => ⟨S_, .f32⟩
  | 45 => ⟨S_, .f32⟩
  | 46 => ⟨S32x4x8x8, .i1⟩
  | 47 => ⟨S32x4x8x8, .f32⟩
  | 48 => ⟨S32x4x8x8, .f32⟩
  | 49 => ⟨S32x4x1, .f32⟩
  | 50 => ⟨S32x4x8, .f32⟩
  | 51 => ⟨S32x4x8, .f32⟩
  | 52 => ⟨S_, .f32⟩
  | 53 => ⟨S32x4x8, .f32⟩
  | 54 => ⟨S32x4x8, .f32⟩
  | 55 => ⟨S32x4x8x1, .f32⟩
  | 56 => ⟨S32x4x8x8, .f32⟩
  | 57 => ⟨S32x4x8x8, .f32⟩
  | 58 => ⟨S32x4x8x8, .f32⟩
  | 59 => ⟨S32x4x8, .f32⟩
  | 60 => ⟨S32x4x8, .f32⟩
  | 61 => ⟨S32x4x8x8, .f32⟩
  | 62 => ⟨S32x4x8x8, .f32⟩
  | 63 => ⟨S32x4x8x1, .f32⟩
  | 64 => ⟨S32x4x8x128, .f32⟩
  | 65 => ⟨S32x4x8x128, .f32⟩
  | 66 => ⟨S32x4x8x128, .f32⟩
  | 67 => ⟨S32x4x8x128, .f32⟩
  | 68 => ⟨S32x4x8x128, .f32⟩
  | 69 => ⟨S32x4x8, .f32⟩
  | 70 => ⟨S32x4x8, .f32⟩
  | 71 => ⟨S_, .f32⟩
  | 72 => ⟨S32x4x8, .f32⟩
  | 73 => ⟨S32x4x8, .f32⟩
  | 74 => ⟨S32x4x8, .f32⟩
  | 75 => ⟨S32x4x8, .f32⟩
  | 76 => ⟨S32x4x8, .f32⟩
  | 77 => ⟨S32x4x8, .f32⟩
  | 78 => ⟨S32x4x8x1, .f32⟩
  | 79 => ⟨S32x4x8x128, .f32⟩
  | 80 => ⟨S32x4x8x128, .f32⟩
  | 81 => ⟨S32x4x1, .f32⟩
  | 82 => ⟨S32x4, .f32⟩
  | 83 => ⟨S32x4x1, .f32⟩
  | 84 => ⟨S32x4x8, .f32⟩
  | 85 => ⟨S32x4x8, .f32⟩
  | 86 => ⟨S32x4x8, .f32⟩
  | 87 => ⟨S32x4, .f32⟩
  | 88 => ⟨S_, .f32⟩
  | 89 => ⟨S32x4, .f32⟩
  | 90 => ⟨S32x4, .f32⟩
  | 91 => ⟨S32x4, .f32⟩
  | 92 => ⟨S32x4, .f32⟩
  | 93 => ⟨S32x4, .f32⟩
  | 94 => ⟨S32x4x1, .f32⟩
  | 95 => ⟨S32x4x8, .f32⟩
  | 96 => ⟨S32x4x8, .f32⟩
  | 97 => ⟨S32x4x8, .f32⟩
  | 98 => ⟨S32x4x1x1, .f32⟩
  | 99 => ⟨S32x4x128x128, .f32⟩
  | 100 => ⟨S32x4x128x128, .f32⟩
  | 101 => ⟨S32x4x8x1, .f32⟩
  | 102 => ⟨S32x4x8x128, .f32⟩
  | 103 => ⟨S32x4x8x128, .f32⟩
  | 104 => ⟨S32x4x128x128, .f32⟩
  | 105 => ⟨S32x4x128x128, .f32⟩
  | 106 => ⟨S32x4x1, .f32⟩
  | 107 => ⟨S32x4x128, .f32⟩
  | 108 => ⟨S32x4x128, .f32⟩
  | 109 => ⟨S32x4x128, .f32⟩
  | 110 => ⟨S32x4x128, .f32⟩
  | 111 => ⟨S1x32x4x8x128, .f32⟩
  | 112 => ⟨S_, .i32⟩
  | 113 => ⟨S_, .i32⟩
  | 114 => ⟨S_, .i32⟩
  | 115 => ⟨S_, .i32⟩
  | 116 => ⟨S1x32x4x8x128, .f32⟩
  | 117 => ⟨S_, .i32⟩
  | 118 => ⟨S_, .i32⟩
  | 119 => ⟨S32x1x4x8x128, .f32⟩
  | 120 => ⟨S32x1x8x4x128, .f32⟩
  | 121 => ⟨S32x8x4x128, .f32⟩
  | 122 => ⟨S256x512, .f32⟩
  | 123 => ⟨S32x8x512, .f32⟩
  | 124 => ⟨S32x8x4x128, .f32⟩
  | 125 => ⟨S_, .f32⟩
  | 126 => ⟨S32x8x4, .f32⟩
  | 127 => ⟨S32x8x4x1, .f32⟩
  | _ => ⟨S8448x6400, .f32⟩

abbrev hbmTy0_2 (i : Nat) : BufTy := match i % 128 with
  | 0 => ⟨S_, .f32⟩
  | 1 => ⟨S32x8x4x1, .f32⟩
  | 2 => ⟨S32x8x4x1, .f32⟩
  | 3 => ⟨S_, .f32⟩
  | 4 => ⟨S32x8x4x1, .f32⟩
  | 5 => ⟨S32x8x4x1, .f32⟩
  | 6 => ⟨S32x8x4x1, .f32⟩
  | 7 => ⟨S32x8x4x128, .f32⟩
  | 8 => ⟨S32x8x4x128, .f32⟩
  | 9 => ⟨S1x1x1x128, .f32⟩
  | 10 => ⟨S32x8x4x128, .f32⟩
  | 11 => ⟨S32x8x4x128, .f32⟩
  | 12 => ⟨S32x8x512, .f32⟩
  | 13 => ⟨S32x8x512, .f32⟩
  | 14 => ⟨S_, .f32⟩
  | 15 => ⟨S32x8x512, .f32⟩
  | 16 => ⟨S32x8x512, .f32⟩
  | 17 => ⟨S_, .f32⟩
  | 18 => ⟨S32x8x512, .f32⟩
  | 19 => ⟨S32x8x512, .f32⟩
  | 20 => ⟨S32x8x4x128, .f32⟩
  | 21 => ⟨S32x8x4x128, .f32⟩
  | 22 => ⟨S256x512, .f32⟩
  | 23 => ⟨S128x128x128, .f32⟩
  | 24 => ⟨S128x1x128, .f32⟩
  | 25 => ⟨S128x1x1, .f32⟩
  | 26 => ⟨S128x1x128, .f32⟩
  | _ => ⟨S8448x6400, .f32⟩

abbrev hbmTy (i : Nat) : BufTy := match i / 128 with
  | 0 => hbmTy0_0 i
  | 1 => hbmTy0_1 i
  | 2 => hbmTy0_2 i
  | _ => ⟨S8448x6400, .f32⟩

abbrev bufTy : (tb : Table) → Fin (tcTables nBuf tb) → BufTy
  | .hbm, ⟨i, _⟩ => hbmTy i
  | _, _ => ⟨S8448x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_v58 : Ref sig .tc := ⟨.hbm, 89, rfl⟩
abbrev main_v59 : Ref sig .tc := ⟨.hbm, 90, rfl⟩
abbrev main_c : Ref sig .tc := ⟨.hbm, 91, rfl⟩
abbrev main_v60 : Ref sig .tc := ⟨.hbm, 92, rfl⟩
abbrev main_call2_v0 : Ref sig .tc := ⟨.hbm, 93, rfl⟩
abbrev main_call2_c : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_c_0 : Ref sig .tc := ⟨.hbm, 99, rfl⟩
abbrev main_call2_v5 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_0 : Ref sig .tc := ⟨.hbm, 117, rfl⟩
abbrev main_v77 : Ref sig .tc := ⟨.hbm, 118, rfl⟩
abbrev main_c_1 : Ref sig .tc := ⟨.hbm, 119, rfl⟩
abbrev main_v78_0 : Ref sig .tc := ⟨.hbm, 120, rfl⟩
abbrev main_v78_1 : Ref sig .tc := ⟨.hbm, 121, rfl⟩
abbrev main_v78_2 : Ref sig .tc := ⟨.hbm, 122, rfl⟩
abbrev main_v78_3 : Ref sig .tc := ⟨.hbm, 123, rfl⟩
abbrev main_v78_4 : Ref sig .tc := ⟨.hbm, 124, rfl⟩
abbrev main_v78_5 : Ref sig .tc := ⟨.hbm, 125, rfl⟩
abbrev main_v78_6 : Ref sig .tc := ⟨.hbm, 126, rfl⟩
abbrev main_v78_7 : Ref sig .tc := ⟨.hbm, 127, rfl⟩
abbrev main_v78_8 : Ref sig .tc := ⟨.hbm, 128, rfl⟩
abbrev main_v78_9 : Ref sig .tc := ⟨.hbm, 129, rfl⟩
abbrev main_v78_10 : Ref sig .tc := ⟨.hbm, 130, rfl⟩
abbrev main_while0c_c_17 : Ref sig .tc := ⟨.hbm, 131, rfl⟩
abbrev main_while0c_v110 : Ref sig .tc := ⟨.hbm, 132, rfl⟩
abbrev main_while0b_call3_c : Ref sig .tc := ⟨.hbm, 133, rfl⟩
abbrev main_while0b_call3_c_0 : Ref sig .tc := ⟨.hbm, 134, rfl⟩
abbrev main_while0b_call3_c_1 : Ref sig .tc := ⟨.hbm, 135, rfl⟩
abbrev main_while0b_call3_c_2 : Ref sig .tc := ⟨.hbm, 136, rfl⟩
abbrev main_while0b_call3_v0 : Ref sig .tc := ⟨.hbm, 137, rfl⟩
abbrev main_while0b_v110 : Ref sig .tc := ⟨.hbm, 138, rfl⟩
abbrev main_while0b_call4_c : Ref sig .tc := ⟨.hbm, 139, rfl⟩
abbrev main_while0b_call4_c_0 : Ref sig .tc := ⟨.hbm, 140, rfl⟩
abbrev main_while0b_call4_c_1 : Ref sig .tc := ⟨.hbm, 141, rfl⟩
abbrev main_while0b_call4_c_2 : Ref sig .tc := ⟨.hbm, 142, rfl⟩
abbrev main_while0b_call4_v0 : Ref sig .tc := ⟨.hbm, 143, rfl⟩
abbrev main_while0b_v111 : Ref sig .tc := ⟨.hbm, 144, rfl⟩
abbrev main_while0b_call5_c : Ref sig .tc := ⟨.hbm, 145, rfl⟩
abbrev main_while0b_call5_c_0 : Ref sig .tc := ⟨.hbm, 146, rfl⟩
abbrev main_while0b_call5_c_1 : Ref sig .tc := ⟨.hbm, 147, rfl⟩
abbrev main_while0b_call5_c_2 : Ref sig .tc := ⟨.hbm, 148, rfl⟩
abbrev main_while0b_call5_v0 : Ref sig .tc := ⟨.hbm, 149, rfl⟩
abbrev main_while0b_v112 : Ref sig .tc := ⟨.hbm, 150, rfl⟩
abbrev main_while0b_call6_c : Ref sig .tc := ⟨.hbm, 151, rfl⟩
abbrev main_while0b_call6_c_0 : Ref sig .tc := ⟨.hbm, 152, rfl⟩
abbrev main_while0b_call6_c_1 : Ref sig .tc := ⟨.hbm, 153, rfl⟩
abbrev main_while0b_call6_v0 : Ref sig .tc := ⟨.hbm, 154, rfl⟩
abbrev main_while0b_v113 : Ref sig .tc := ⟨.hbm, 155, rfl⟩
abbrev main_while0b_call7_c : Ref sig .tc := ⟨.hbm, 156, rfl⟩
abbrev main_while0b_call7_c_0 : Ref sig .tc := ⟨.hbm, 157, rfl⟩
abbrev main_while0b_call7_c_1 : Ref sig .tc := ⟨.hbm, 158, rfl⟩
abbrev main_while0b_call7_v0 : Ref sig .tc := ⟨.hbm, 159, rfl⟩
abbrev main_while0b_v114 : Ref sig .tc := ⟨.hbm, 160, rfl⟩
abbrev main_while0b_call8_call0_cst : Ref sig .tc := ⟨.hbm, 161, rfl⟩
abbrev main_while0b_call8_call0_v0 : Ref sig .tc := ⟨.hbm, 162, rfl⟩
abbrev main_while0b_v115 : Ref sig .tc := ⟨.hbm, 163, rfl⟩
abbrev main_while0b_v116 : Ref sig .tc := ⟨.hbm, 164, rfl⟩
abbrev main_while0b_v117 : Ref sig .tc := ⟨.hbm, 165, rfl⟩
abbrev main_while0b_v118 : Ref sig .tc := ⟨.hbm, 166, rfl⟩
abbrev main_while0b_v119 : Ref sig .tc := ⟨.hbm, 167, rfl⟩
abbrev main_while0b_v120 : Ref sig .tc := ⟨.hbm, 168, rfl⟩
abbrev main_while0b_v121 : Ref sig .tc := ⟨.hbm, 169, rfl⟩
abbrev main_while0b_v122 : Ref sig .tc := ⟨.hbm, 170, rfl⟩
abbrev main_while0b_v123 : Ref sig .tc := ⟨.hbm, 171, rfl⟩
abbrev main_while0b_cst_17 : Ref sig .tc := ⟨.hbm, 172, rfl⟩
abbrev main_while0b_call9_v0 : Ref sig .tc := ⟨.hbm, 173, rfl⟩
abbrev main_while0b_call9_v1 : Ref sig .tc := ⟨.hbm, 174, rfl⟩
abbrev main_while0b_call9_v2 : Ref sig .tc := ⟨.hbm, 175, rfl⟩
abbrev main_while0b_v124 : Ref sig .tc := ⟨.hbm, 176, rfl⟩
abbrev main_while0b_v125 : Ref sig .tc := ⟨.hbm, 177, rfl⟩
abbrev main_while0b_v126 : Ref sig .tc := ⟨.hbm, 178, rfl⟩
abbrev main_while0b_v127 : Ref sig .tc := ⟨.hbm, 179, rfl⟩
abbrev main_while0b_cst_18 : Ref sig .tc := ⟨.hbm, 180, rfl⟩
abbrev main_while0b_v128 : Ref sig .tc := ⟨.hbm, 181, rfl⟩
abbrev main_while0b_v129 : Ref sig .tc := ⟨.hbm, 182, rfl⟩
abbrev main_while0b_v130 : Ref sig .tc := ⟨.hbm, 183, rfl⟩
abbrev main_while0b_v131 : Ref sig .tc := ⟨.hbm, 184, rfl⟩
abbrev main_while0b_v132 : Ref sig .tc := ⟨.hbm, 185, rfl⟩
abbrev main_while0b_v133 : Ref sig .tc := ⟨.hbm, 186, rfl⟩
abbrev main_while0b_v134 : Ref sig .tc := ⟨.hbm, 187, rfl⟩
abbrev main_while0b_v135 : Ref sig .tc := ⟨.hbm, 188, rfl⟩
abbrev main_while0b_v136 : Ref sig .tc := ⟨.hbm, 189, rfl⟩
abbrev main_while0b_v137 : Ref sig .tc := ⟨.hbm, 190, rfl⟩
abbrev main_while0b_v138 : Ref sig .tc := ⟨.hbm, 191, rfl⟩
abbrev main_while0b_v139 : Ref sig .tc := ⟨.hbm, 192, rfl⟩
abbrev main_while0b_v140 : Ref sig .tc := ⟨.hbm, 193, rfl⟩
abbrev main_while0b_v141 : Ref sig .tc := ⟨.hbm, 194, rfl⟩
abbrev main_while0b_v142 : Ref sig .tc := ⟨.hbm, 195, rfl⟩
abbrev main_while0b_v143 : Ref sig .tc := ⟨.hbm, 196, rfl⟩
abbrev main_while0b_v144 : Ref sig .tc := ⟨.hbm, 197, rfl⟩
abbrev main_while0b_v145 : Ref sig .tc := ⟨.hbm, 198, rfl⟩
abbrev main_while0b_cst_19 : Ref sig .tc := ⟨.hbm, 199, rfl⟩
abbrev main_while0b_v146 : Ref sig .tc := ⟨.hbm, 200, rfl⟩
abbrev main_while0b_v147 : Ref sig .tc := ⟨.hbm, 201, rfl⟩
abbrev main_while0b_v148 : Ref sig .tc := ⟨.hbm, 202, rfl⟩
abbrev main_while0b_v149 : Ref sig .tc := ⟨.hbm, 203, rfl⟩
abbrev main_while0b_v150 : Ref sig .tc := ⟨.hbm, 204, rfl⟩
abbrev main_while0b_v151 : Ref sig .tc := ⟨.hbm, 205, rfl⟩
abbrev main_while0b_v152 : Ref sig .tc := ⟨.hbm, 206, rfl⟩
abbrev main_while0b_v153 : Ref sig .tc := ⟨.hbm, 207, rfl⟩
abbrev main_while0b_v154 : Ref sig .tc := ⟨.hbm, 208, rfl⟩
abbrev main_while0b_v155 : Ref sig .tc := ⟨.hbm, 209, rfl⟩
abbrev main_while0b_v156 : Ref sig .tc := ⟨.hbm, 210, rfl⟩
abbrev main_while0b_v157 : Ref sig .tc := ⟨.hbm, 211, rfl⟩
abbrev main_while0b_v158 : Ref sig .tc := ⟨.hbm, 212, rfl⟩
abbrev main_while0b_v159 : Ref sig .tc := ⟨.hbm, 213, rfl⟩
abbrev main_while0b_v160 : Ref sig .tc := ⟨.hbm, 214, rfl⟩
abbrev main_while0b_v161 : Ref sig .tc := ⟨.hbm, 215, rfl⟩
abbrev main_while0b_cst_20 : Ref sig .tc := ⟨.hbm, 216, rfl⟩
abbrev main_while0b_v162 : Ref sig .tc := ⟨.hbm, 217, rfl⟩
abbrev main_while0b_v163 : Ref sig .tc := ⟨.hbm, 218, rfl⟩
abbrev main_while0b_v164 : Ref sig .tc := ⟨.hbm, 219, rfl⟩
abbrev main_while0b_v165 : Ref sig .tc := ⟨.hbm, 220, rfl⟩
abbrev main_while0b_v166 : Ref sig .tc := ⟨.hbm, 221, rfl⟩
abbrev main_while0b_v167 : Ref sig .tc := ⟨.hbm, 222, rfl⟩
abbrev main_while0b_v168 : Ref sig .tc := ⟨.hbm, 223, rfl⟩
abbrev main_while0b_v169 : Ref sig .tc := ⟨.hbm, 224, rfl⟩
abbrev main_while0b_v170 : Ref sig .tc := ⟨.hbm, 225, rfl⟩
abbrev main_while0b_v171 : Ref sig .tc := ⟨.hbm, 226, rfl⟩
abbrev main_while0b_v172 : Ref sig .tc := ⟨.hbm, 227, rfl⟩
abbrev main_while0b_v173 : Ref sig .tc := ⟨.hbm, 228, rfl⟩
abbrev main_while0b_v174 : Ref sig .tc := ⟨.hbm, 229, rfl⟩
abbrev main_while0b_v175 : Ref sig .tc := ⟨.hbm, 230, rfl⟩
abbrev main_while0b_v176 : Ref sig .tc := ⟨.hbm, 231, rfl⟩
abbrev main_while0b_v177 : Ref sig .tc := ⟨.hbm, 232, rfl⟩
abbrev main_while0b_v178 : Ref sig .tc := ⟨.hbm, 233, rfl⟩
abbrev main_while0b_v179 : Ref sig .tc := ⟨.hbm, 234, rfl⟩
abbrev main_while0b_v180 : Ref sig .tc := ⟨.hbm, 235, rfl⟩
abbrev main_while0b_v181 : Ref sig .tc := ⟨.hbm, 236, rfl⟩
abbrev main_while0b_v182 : Ref sig .tc := ⟨.hbm, 237, rfl⟩
abbrev main_while0b_v183 : Ref sig .tc := ⟨.hbm, 238, rfl⟩
abbrev main_while0b_call10_v0 : Ref sig .tc := ⟨.hbm, 239, rfl⟩
abbrev main_while0b_call10_c : Ref sig .tc := ⟨.hbm, 240, rfl⟩
abbrev main_while0b_call10_c_0 : Ref sig .tc := ⟨.hbm, 241, rfl⟩
abbrev main_while0b_call10_c_1 : Ref sig .tc := ⟨.hbm, 242, rfl⟩
abbrev main_while0b_call10_c_2 : Ref sig .tc := ⟨.hbm, 243, rfl⟩
abbrev main_while0b_v184 : Ref sig .tc := ⟨.hbm, 244, rfl⟩
abbrev main_while0b_c_21 : Ref sig .tc := ⟨.hbm, 245, rfl⟩
abbrev main_while0b_v185 : Ref sig .tc := ⟨.hbm, 246, rfl⟩
abbrev main_v79 : Ref sig .tc := ⟨.hbm, 247, rfl⟩
abbrev main_v80 : Ref sig .tc := ⟨.hbm, 248, rfl⟩
abbrev main_v81 : Ref sig .tc := ⟨.hbm, 249, rfl⟩
abbrev main_v82 : Ref sig .tc := ⟨.hbm, 250, rfl⟩
abbrev main_v83 : Ref sig .tc := ⟨.hbm, 251, rfl⟩
abbrev main_v84 : Ref sig .tc := ⟨.hbm, 252, rfl⟩
abbrev main_cst_2 : Ref sig .tc := ⟨.hbm, 253, rfl⟩
abbrev main_v85 : Ref sig .tc := ⟨.hbm, 254, rfl⟩
abbrev main_v86 : Ref sig .tc := ⟨.hbm, 255, rfl⟩
abbrev main_cst_3 : Ref sig .tc := ⟨.hbm, 256, rfl⟩
abbrev main_v87 : Ref sig .tc := ⟨.hbm, 257, rfl⟩
abbrev main_v88 : Ref sig .tc := ⟨.hbm, 258, rfl⟩
abbrev main_cst_4 : Ref sig .tc := ⟨.hbm, 259, rfl⟩
abbrev main_v89 : Ref sig .tc := ⟨.hbm, 260, rfl⟩
abbrev main_v90 : Ref sig .tc := ⟨.hbm, 261, rfl⟩
abbrev main_v91 : Ref sig .tc := ⟨.hbm, 262, rfl⟩
abbrev main_v92 : Ref sig .tc := ⟨.hbm, 263, rfl⟩
abbrev main_v93 : Ref sig .tc := ⟨.hbm, 264, rfl⟩
abbrev main_v94 : Ref sig .tc := ⟨.hbm, 265, rfl⟩
abbrev main_v95 : Ref sig .tc := ⟨.hbm, 266, rfl⟩
abbrev main_v96 : Ref sig .tc := ⟨.hbm, 267, rfl⟩
abbrev main_v97 : Ref sig .tc := ⟨.hbm, 268, rfl⟩
abbrev main_v98 : Ref sig .tc := ⟨.hbm, 269, rfl⟩
abbrev main_cst_5 : Ref sig .tc := ⟨.hbm, 270, rfl⟩
abbrev main_v99 : Ref sig .tc := ⟨.hbm, 271, rfl⟩
abbrev main_v100 : Ref sig .tc := ⟨.hbm, 272, rfl⟩
abbrev main_cst_6 : Ref sig .tc := ⟨.hbm, 273, rfl⟩
abbrev main_v101 : Ref sig .tc := ⟨.hbm, 274, rfl⟩
abbrev main_v102 : Ref sig .tc := ⟨.hbm, 275, rfl⟩
abbrev main_v103 : Ref sig .tc := ⟨.hbm, 276, rfl⟩
abbrev main_v104 : Ref sig .tc := ⟨.hbm, 277, rfl⟩
abbrev main_v105 : Ref sig .tc := ⟨.hbm, 278, rfl⟩
abbrev main_v106 : Ref sig .tc := ⟨.hbm, 279, rfl⟩
abbrev main_v107 : Ref sig .tc := ⟨.hbm, 280, rfl⟩
abbrev main_v108 : Ref sig .tc := ⟨.hbm, 281, rfl⟩
abbrev main_v109 : Ref sig .tc := ⟨.hbm, 282, rfl⟩

abbrev nD : Nat := 1
abbrev τ : Topo := Topo.v7x

variable {F : FTy → Type} [FloatOps F]

abbrev main_while0_count : Scf.Loop 32 := ⟨0#32, 1#32, 1#32⟩
-- ==== Ffn.lean ====
abbrev S8448x2048 : Shape := ⟨2, ![8448, 2048]⟩
abbrev S2048 : Shape := ⟨1, ![2048]⟩
abbrev S2x2048x11264 : Shape := ⟨3, ![2, 2048, 11264]⟩
abbrev S2x5632x2048 : Shape := ⟨3, ![2, 5632, 2048]⟩
abbrev S1x2048 : Shape := ⟨2, ![1, 2048]⟩
abbrev S768x2048 : Shape := ⟨2, ![768, 2048]⟩
abbrev S1x2048x512 : Shape := ⟨3, ![1, 2048, 512]⟩
abbrev S1x512x2048 : Shape := ⟨3, ![1, 512, 2048]⟩
abbrev S768 : Shape := ⟨1, ![768]⟩
abbrev S768x1 : Shape := ⟨2, ![768, 1]⟩
abbrev S2048x512 : Shape := ⟨2, ![2048, 512]⟩
abbrev S768x512 : Shape := ⟨2, ![768, 512]⟩
abbrev S512x2048 : Shape := ⟨2, ![512, 2048]⟩

abbrev nBuf : Space → Nat
  | .hbm => 8
  | .vmem => 12
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2x2048x11264, .f32⟩
  | .hbm, ⟨3, _⟩ => ⟨S2x5632x2048, .f32⟩
  | .hbm, ⟨4, _⟩ => ⟨S2x2048x11264, .bf16⟩
  | .hbm, ⟨5, _⟩ => ⟨S2x5632x2048, .bf16⟩
  | .hbm, ⟨6, _⟩ => ⟨S1x2048, .f32⟩
  | .hbm, ⟨7, _⟩ => ⟨S8448x2048, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S768x2048, .f32⟩
  | .local _ .vmem, ⟨10, _⟩ => ⟨S768x2048, .f32⟩
  | .local _ .vmem, ⟨11, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![11, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S768x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S8448x2048 : Shape := ⟨2, ![8448, 2048]⟩
abbrev S2048 : Shape := ⟨1, ![2048]⟩
abbrev S2x2048x11264 : Shape := ⟨3, ![2, 2048, 11264]⟩
abbrev S2x5632x2048 : Shape := ⟨3, ![2, 5632, 2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S8448x11264 : Shape := ⟨2, ![8448, 11264]⟩
abbrev S8448x5632 : Shape := ⟨2, ![8448, 5632]⟩

abbrev nBuf : Space → Nat
  | .hbm => 42
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2x2048x11264, .f32⟩
  | .hbm, ⟨3, _⟩ => ⟨S2x5632x2048, .f32⟩
  | .hbm, ⟨4, _⟩ => ⟨S8448x2048, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x2048, .f32⟩
  | .hbm, ⟨16, _⟩ => ⟨S8448x2048, .f32⟩
  | .hbm, ⟨17, _⟩ => ⟨S1x2048, .f32⟩
  | .hbm, ⟨18, _⟩ => ⟨S8448x2048, .f32⟩
  | .hbm, ⟨19, _⟩ => ⟨S8448x2048, .f32⟩
  | .hbm, ⟨20, _⟩ => ⟨S1x2048x11264, .f32⟩
  | .hbm, ⟨21, _⟩ => ⟨S2048x11264, .f32⟩
  | .hbm, ⟨22, _⟩ => ⟨S1x5632x2048, .f32⟩
  | .hbm, ⟨23, _⟩ => ⟨S5632x2048, .f32⟩
  | .hbm, ⟨24, _⟩ => ⟨S8448x11264, .f32⟩
  | .hbm, ⟨25, _⟩ => ⟨S8448x5632, .f32⟩
  | .hbm, ⟨26, _⟩ => ⟨S8448x5632, .f32⟩
  | .hbm, ⟨27, _⟩ => ⟨S8448x5632, .f32⟩
  | .hbm, ⟨28, _⟩ => ⟨S8448x5632, .f32⟩
  | .hbm, ⟨29, _⟩ => ⟨S_, .f32⟩
  | .hbm, ⟨30, _⟩ => ⟨S8448x5632, .f32⟩
  | .hbm, ⟨31, _⟩ => ⟨S8448x5632, .f32⟩
  | .hbm, ⟨32, _⟩ => ⟨S_, .f32⟩
  | .hbm, ⟨33, _⟩ => ⟨S8448x5632, .f32⟩
  | .hbm, ⟨34, _⟩ => ⟨S8448x5632, .f32⟩
  | .hbm, ⟨35, _⟩ => ⟨S8448x5632, .f32⟩
  | .hbm, ⟨36, _⟩ => ⟨S8448x5632, .f32⟩
  | .hbm, ⟨37, _⟩ => ⟨S8448x2048, .f32⟩
  | .hbm, ⟨38, _⟩ => ⟨S_, .f32⟩
  | .hbm, ⟨39, _⟩ => ⟨S8448x2048, .f32⟩
  | .hbm, ⟨40, _⟩ => ⟨S8448x2048, .f32⟩
  | .hbm, ⟨41, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Inproj.lean ====
abbrev S8448x2048 : Shape := ⟨2, ![8448, 2048]⟩
abbrev S2048 : Shape := ⟨1, ![2048]⟩
abbrev S2x2048x6176 : Shape := ⟨3, ![2, 2048, 6176]⟩
abbrev S128 : Shape := ⟨1, ![128]⟩
abbrev S3x128 : Shape := ⟨2, ![3, 128]⟩
abbrev S64 : Shape := ⟨1, ![64]⟩
abbrev S25 : Shape := ⟨1, ![25]⟩
abbrev S2x2048x1024 : Shape := ⟨3, ![2, 2048, 1024]⟩
abbrev S2x2048x1536 : Shape := ⟨3, ![2, 2048, 1536]⟩
abbrev S2x2048x24 : Shape := ⟨3, ![2, 2048, 24]⟩
abbrev S2x2048x512 : Shape := ⟨3, ![2, 2048, 512]⟩
abbrev S2x2048x4 : Shape := ⟨3, ![2, 2048, 4]⟩
abbrev S_ : Shape := ⟨0, ![]⟩
abbrev S2x2048x6400 : Shape := ⟨3, ![2, 2048, 6400]⟩
abbrev S1x128 : Shape := ⟨2, ![1, 128]⟩
abbrev S8x128 : Shape := ⟨2, ![8, 128]⟩
abbrev S1024 : Shape := ⟨1, ![1024]⟩
abbrev S512 : Shape := ⟨1, ![512]⟩
abbrev S2x128 : Shape := ⟨2, ![2, 128]⟩
abbrev S256 : Shape := ⟨1, ![256]⟩
abbrev S1x64 : Shape := ⟨2, ![1, 64]⟩
abbrev S8x64 : Shape := ⟨2, ![8, 64]⟩
abbrev S2816 : Shape := ⟨1, ![2816]⟩
abbrev S6400 : Shape := ⟨1, ![6400]⟩
abbrev S1x6400 : Shape := ⟨2, ![1, 6400]⟩
abbrev S1x2048 : Shape := ⟨2, ![1, 2048]⟩
abbrev S8448x6400 : Shape := ⟨2, ![8448, 6400]⟩
abbrev S768x2048 : Shape := ⟨2, ![768, 2048]⟩
abbrev S1x2048x1280 : Shape := ⟨3, ![1, 2048, 1280]⟩
abbrev S1x1280 : Shape := ⟨2, ![1, 1280]⟩
abbrev S768x1280 : Shape := ⟨2, ![768, 1280]⟩
abbrev S768 : Shape := ⟨1, ![768]⟩
abbrev S768x1 : Shape := ⟨2, ![768, 1]⟩
abbrev S2048x1280 : Shape := ⟨2, ![2048, 1280]⟩
abbrev S1 : Shape := ⟨1, ![1]⟩
abbrev S768x128 : Shape := ⟨2, ![768, 128]⟩

abbrev nBuf : Space → Nat
  | .hbm => 62
  | .vmem => 10
  | .smem => 1
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2x2048x6176, .f32⟩
  | .hbm, ⟨3, _⟩ => ⟨S128, .f32⟩
  | .hbm, ⟨4, _⟩ => ⟨S3x128, .f32⟩
  | .hbm, ⟨5, _⟩ => ⟨S64, .f32⟩
  | .hbm, ⟨6, _⟩ => ⟨S64, .f32⟩
  | .hbm, ⟨7, _⟩ => ⟨S25, .i32⟩
  | .hbm, ⟨8, _⟩ => ⟨S2x2048x1024, .f32⟩
  | .hbm, ⟨9, _⟩ => ⟨S2x2048x1536, .f32⟩
  | .hbm, ⟨10, _⟩ => ⟨S2x2048x24, .f32⟩
  | .hbm, ⟨11, _⟩ => ⟨S2x2048x512, .f32⟩
  | .hbm, ⟨12, _⟩ => ⟨S2x2048x512, .f32⟩
  | .hbm, ⟨13, _⟩ => ⟨S2x2048x512, .f32⟩
  | .hbm, ⟨14, _⟩ => ⟨S2x2048x512, .f32⟩
  | .hbm, ⟨15, _⟩ => ⟨S2x2048x512, .f32⟩
  | .hbm, ⟨16, _⟩ => ⟨S2x2048x512, .f32⟩
  | .hbm, ⟨17, _⟩ => ⟨S2x2048x4, .f32⟩
  | .hbm, ⟨18, _⟩ => ⟨S2x2048x4, .f32⟩
  | .hbm, ⟨19, _⟩ => ⟨S2x2048x512, .f32⟩
  | .hbm, ⟨20, _⟩ => ⟨S2x2048x6176, .f32⟩
  | .hbm, ⟨21, _⟩ => ⟨S_, .i32⟩
  | .hbm, ⟨22, _⟩ => ⟨S_, .f32⟩
  | .hbm, ⟨23, _⟩ => ⟨S2x2048x6400, .f32⟩
  | .hbm, ⟨24, _⟩ => ⟨S2x2048x6400, .bf16⟩
  | .hbm, ⟨25, _⟩ => ⟨S1x128, .f32⟩
  | .hbm, ⟨26, _⟩ => ⟨S8x128, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S_, .f32⟩
  | .hbm, ⟨32, _⟩ => ⟨S512, .f32⟩
  | .hbm, ⟨33, _⟩ => ⟨S1x128, .f32⟩
  | .hbm, ⟨34, _⟩ => ⟨S128, .f32⟩
  | .hbm, ⟨35, _⟩ => ⟨S1x128, .f32⟩
  | .hbm, ⟨36, _⟩ => ⟨S2x128, .f32⟩
  | .hbm, ⟨37, _⟩ => ⟨S256, .f32⟩
  | .hbm, ⟨38, _⟩ => ⟨S_, .f32⟩
  | .hbm, ⟨39, _⟩ => ⟨S256, .f32⟩
  | .hbm, ⟨40, _⟩ => ⟨S1x128, .f32⟩
  | .hbm, ⟨41, _⟩ => ⟨S128, .f32⟩
  | .hbm, ⟨42, _⟩ => ⟨S1x128, .f32⟩
  | .hbm, ⟨43, _⟩ => ⟨S2x128, .f32⟩
  | .hbm, ⟨44, _⟩ => ⟨S256, .f32⟩
  | .hbm, ⟨45, _⟩ => ⟨S_, .f32⟩
  | .hbm, ⟨46, _⟩ => ⟨S256, .f32⟩
  | .hbm, ⟨47, _⟩ => ⟨S1x64, .f32⟩
  | .hbm, ⟨48, _⟩ => ⟨S8x64, .f32⟩
  | .hbm, ⟨49, _⟩ => ⟨S512, .f32⟩
  | .hbm, ⟨50, _⟩ => ⟨S_, .f32⟩
  | .hbm, ⟨51, _⟩ => ⟨S512, .f32⟩
  | .hbm, ⟨52, _⟩ => ⟨S512, .f32⟩
  | .hbm, ⟨53, _⟩ => ⟨S1x64, .f32⟩
  | .hbm, ⟨54, _⟩ => ⟨S8x64, .f32⟩
  | .hbm, ⟨55, _⟩ => ⟨S512, .f32⟩
  | .hbm, ⟨56, _⟩ => ⟨S_, .f32⟩
  | .hbm, ⟨57, _⟩ => ⟨S2816, .f32⟩
  | .hbm, ⟨58, _⟩ => ⟨S6400, .f32⟩
  | .hbm, ⟨59, _⟩ => ⟨S1x6400, .f32⟩
  | .hbm, ⟨60, _⟩ => ⟨S1x2048, .f32⟩
  | .hbm, ⟨61, _⟩ => ⟨S8448x6400, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S1x2048x1280, .bf16⟩
  | .local _ .vmem, ⟨4, _⟩ => ⟨S1x2048x1280, .bf16⟩
  | .local _ .vmem, ⟨5, _⟩ => ⟨S1x1280, .f32⟩
  | .local _ .vmem, ⟨6, _⟩ => ⟨S1x1280, .f32⟩
  | .local _ .vmem, ⟨7, _⟩ => ⟨S768x1280, .f32⟩
  | .local _ .vmem, ⟨8, _⟩ => ⟨S768x1280, .f32⟩
  | .local _ .vmem, ⟨9, _⟩ => ⟨S768x2048, .bf16⟩
  | .local _ .smem, ⟨0, _⟩ => ⟨S25, .i32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![11, 5], ![false, false]⟩

def k0_off1 (i : grid0.Coords) : Fin 1 → Nat :=
  let arg1 : BitVec 32 := BitVec.ofNat 32 (i 1).val
  let c5_i32 : BitVec 32 := 5#32
  let v9 : BitVec 32 := Scalar.muli arg1 c5_i32
  let c0_i32_7 : BitVec 32 := 0#32
  let v10 : BitVec 32 := Scalar.addi v9 c0_i32_7
  let v11 : Index := Scalar.indexCast v10
  ![v11.toNat]
def k0_off2 (i : grid0.Coords) : Fin 1 → Nat :=
  let arg1 : BitVec 32 := BitVec.ofNat 32 (i 1).val
  let c5_i32_12 : BitVec 32 := 5#32
  let v22 : BitVec 32 := Scalar.muli arg1 c5_i32_12
  let c1_i32_13 : BitVec 32 := 1#32
  let v23 : BitVec 32 := Scalar.addi v22 c1_i32_13
  let v24 : Index := Scalar.indexCast v23
  ![v24.toNat]
def k0_off3 (i : grid0.Coords) : Fin 1 → Nat :=
  let arg1 : BitVec 32 := BitVec.ofNat 32 (i 1).val
  let c5_i32_20 : BitVec 32 := 5#32
  let v35 : BitVec 32 := Scalar.muli arg1 c5_i32_20
  let c2_i32_21 : BitVec 32 := 2#32
  let v36 : BitVec 32 := Scalar.addi v35 c2_i32_21
  let v37 : Index := Scalar.indexCast v36
  ![v37.toNat]
def k0_off4 (i : grid0.Coords) : Fin 1 → Nat :=
  let arg1 : BitVec 32 := BitVec.ofNat 32 (i 1).val
  let c5_i32_28 : BitVec 32 := 5#32
  let v48 : BitVec 32 := Scalar.muli arg1 c5_i32_28
  let c3_i32 : BitVec 32 := 3#32
  let v49 : BitVec 32 := Scalar.addi v48 c3_i32
  let v50 : Index := Scalar.indexCast v49
  ![v50.toNat]
def k0_off5 (i : grid0.Coords) : Fin 1 → Nat :=
  let arg1 : BitVec 32 := BitVec.ofNat 32 (i 1).val
  let c5_i32_35 : BitVec 32 := 5#32
  let v61 : BitVec 32 := Scalar.muli arg1 c5_i32_35
  let c4_i32 : BitVec 32 := 4#32
  let v62 : BitVec 32 := Scalar.addi v61 c4_i32
  let v63 : Index := Scalar.indexCast v62
  ![v63.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S25 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S768x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S768x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InprojRefIdeal.lean ====
abbrev S8448x2048 : Shape := ⟨2, ![8448, 2048]⟩
abbrev S2048 : Shape := ⟨1, ![2048]⟩
abbrev S2x2048x6176 : Shape := ⟨3, ![2, 2048, 6176]⟩
abbrev S128 : Shape := ⟨1, ![128]⟩
abbrev S3x128 : Shape := ⟨2, ![3, 128]⟩
abbrev S64 : Shape := ⟨1, ![64]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S1x2048x6176 : Shape := ⟨3, ![1, 2048, 6176]⟩
abbrev S2048x6176 : Shape := ⟨2, ![2048, 6176]⟩
abbrev S8448x6176 : Shape := ⟨2, ![8448, 6176]⟩
abbrev S8448x1024 : Shape := ⟨2, ![8448, 1024]⟩
abbrev S8448x1536 : Shape := ⟨2, ![8448, 1536]⟩
abbrev S8448x24 : Shape := ⟨2, ![8448, 24]⟩
abbrev S8448x512 : Shape := ⟨2, ![8448, 512]⟩
abbrev S8448x4 : Shape := ⟨2, ![8448, 4]⟩
abbrev S8448x8x128 : Shape := ⟨3, ![8448, 8, 128]⟩
abbrev S8448x8 : Shape := ⟨2, ![8448, 8]⟩
abbrev S8448x8x1 : Shape := ⟨3, ![8448, 8, 1]⟩
abbrev S1x1x128 : Shape := ⟨3, ![1, 1, 128]⟩
abbrev S8448x6x2x128 : Shape := ⟨4, ![8448, 6, 2, 128]⟩
abbrev S8448x1x2x128 : Shape := ⟨4, ![8448, 1, 2, 128]⟩
abbrev S8448x2x128 : Shape := ⟨3, ![8448, 2, 128]⟩
abbrev S1x128 : Shape := ⟨2, ![1, 128]⟩
abbrev S8448x2 : Shape := ⟨2, ![8448, 2]⟩
abbrev S8448x2x1 : Shape := ⟨3, ![8448, 2, 1]⟩
abbrev S8448x4x2x128 : Shape := ⟨4, ![8448, 4, 2, 128]⟩
abbrev S8448x2x2x128 : Shape := ⟨4, ![8448, 2, 2, 128]⟩
abbrev S8448x4x2x64 : Shape := ⟨4, ![8448, 4, 2, 64]⟩
abbrev S8448x4x2 : Shape := ⟨3, ![8448, 4, 2]⟩
abbrev S8448x4x2x1 : Shape := ⟨4, ![8448, 4, 2, 1]⟩
abbrev S1x1x1x64 : Shape := ⟨4, ![1, 1, 1, 64]⟩
abbrev S8448x224 : Shape := ⟨2, ![8448, 224]⟩
abbrev S8448x6400 : Shape := ⟨2, ![8448, 6400]⟩

abbrev nBuf : Space → Nat
  | .hbm => 160
  | .vmem => 0
  | .smem => 0
  | _ => 0

abbrev hbmTy0_0 (i : Nat) : BufTy := match i % 128 with
  | 0 => ⟨S8448x2048, .f32⟩
  | 1 => ⟨S2048, .f32⟩
  | 2 => ⟨S2x2048x6176, .f32⟩
  | 3 => ⟨S128, .f32⟩
  | 4 => ⟨S3x128, .f32⟩
  | 5 => ⟨S64, .f32⟩
  | 6 => ⟨S64, .f32⟩
  | 7 => ⟨S8448x2048, .f32⟩
  | 8 => ⟨S_, .f32⟩
  | 9 => ⟨S8448, .f32⟩
  | 10 => ⟨S8448x1, .f32⟩
  | 11 => ⟨S_, .f32⟩
  | 12 => ⟨S8448x1, .f32⟩
  | 13 => ⟨S8448x1, .f32⟩
  | 14 => ⟨S_, .f32⟩
  | 15 => ⟨S8448x1, .f32⟩
  | 16 => ⟨S8448x1, .f32⟩
  | 17 => ⟨S8448x1, .f32⟩
  | 18 => ⟨S8448x2048, .f32⟩
  | 19 => ⟨S8448x2048, .f32⟩
  | 20 => ⟨S1x2048, .f32⟩
  | 21 => ⟨S8448x2048, .f32⟩
  | 22 => ⟨S8448x2048, .f32⟩
  | 23 => ⟨S1x2048x6176, .f32⟩
  | 24 => ⟨S2048x6176, .f32⟩
  | 25 => ⟨S8448x6176, .f32⟩
  | 26 => ⟨S8448x1024, .f32⟩
  | 27 => ⟨S8448x1536, .f32⟩
  | 28 => ⟨S8448x24, .f32⟩
  | 29 => ⟨S8448x512, .f32⟩
  | 30 => ⟨S8448x512, .f32⟩
  | 31 => ⟨S8448x512, .f32⟩
  | 32 => ⟨S8448x512, .f32⟩
  | 33 => ⟨S8448x512, .f32⟩
  | 34 => ⟨S8448x512, .f32⟩
  | 35 => ⟨S8448x4, .f32⟩
  | 36 => ⟨S8448x4, .f32⟩
  | 37 => ⟨S8448x512, .f32⟩
  | 38 => ⟨S8448x8x128, .f32⟩
  | 39 => ⟨S8448x8x128, .f32⟩
  | 40 => ⟨S_, .f32⟩
  | 41 => ⟨S8448x8, .f32⟩
  | 42 => ⟨S8448x8x1, .f32⟩
  | 43 => ⟨S_, .f32⟩
  | 44 => ⟨S8448x8x1, .f32⟩
  | 45 => ⟨S8448x8x1, .f32⟩
  | 46 => ⟨S_, .f32⟩
  | 47 => ⟨S8448x8x1, .f32⟩
  | 48 => ⟨S8448x8x1, .f32⟩
  | 49 => ⟨S8448x8x1, .f32⟩
  | 50 => ⟨S8448x8x128, .f32⟩
  | 51 => ⟨S8448x8x128, .f32⟩
  | 52 => ⟨S1x1x128, .f32⟩
  | 53 => ⟨S8448x8x128, .f32⟩
  | 54 => ⟨S8448x8x128, .f32⟩
  | 55 => ⟨S_, .f32⟩
  | 56 => ⟨S8448x8x128, .f32⟩
  | 57 => ⟨S8448x8x128, .f32⟩
  | 58 => ⟨S8448x6x2x128, .f32⟩
  | 59 => ⟨S8448x1x2x128, .f32⟩
  | 60 => ⟨S8448x2x128, .f32⟩
  | 61 => ⟨S1x128, .f32⟩
  | 62 => ⟨S128, .f32⟩
  | 63 => ⟨S8448x2x128, .f32⟩
  | 64 => ⟨S_, .f32⟩
  | 65 => ⟨S8448x2, .f32⟩
  | 66 => ⟨S8448x2x1, .f32⟩
  | 67 => ⟨S_, .f32⟩
  | 68 => ⟨S8448x2x1, .f32⟩
  | 69 => ⟨S8448x2x1, .f32⟩
  | 70 => ⟨S_, .f32⟩
  | 71 => ⟨S8448x2x1, .f32⟩
  | 72 => ⟨S8448x2x1, .f32⟩
  | 73 => ⟨S8448x2x1, .f32⟩
  | 74 => ⟨S8448x2x128, .f32⟩
  | 75 => ⟨S8448x2x128, .f32⟩
  | 76 => ⟨S1x1x128, .f32⟩
  | 77 => ⟨S8448x2x128, .f32⟩
  | 78 => ⟨S8448x2x128, .f32⟩
  | 79 => ⟨S8448x1x2x128, .f32⟩
  | 80 => ⟨S8448x2x128, .f32⟩
  | 81 => ⟨S1x128, .f32⟩
  | 82 => ⟨S128, .f32⟩
  | 83 => ⟨S8448x2x128, .f32⟩
  | 84 => ⟨S_, .f32⟩
  | 85 => ⟨S8448x2, .f32⟩
  | 86 => ⟨S8448x2x1, .f32⟩
  | 87 => ⟨S_, .f32⟩
  | 88 => ⟨S8448x2x1, .f32⟩
  | 89 => ⟨S8448x2x1, .f32⟩
  | 90 => ⟨S_, .f32⟩
  | 91 => ⟨S8448x2x1, .f32⟩
  | 92 => ⟨S8448x2x1, .f32⟩
  | 93 => ⟨S8448x2x1, .f32⟩
  | 94 => ⟨S8448x2x128, .f32⟩
  | 95 => ⟨S8448x2x128, .f32⟩
  | 96 => ⟨S1x1x128, .f32⟩
  | 97 => ⟨S8448x2x128, .f32⟩
  | 98 => ⟨S8448x2x128, .f32⟩
  | 99 => ⟨S8448x1x2x128, .f32⟩
  | 100 => ⟨S8448x2x128, .f32⟩
  | 101 => ⟨S8448x1x2x128, .f32⟩
  | 102 => ⟨S8448x2x128, .f32⟩
  | 103 => ⟨S8448x1x2x128, .f32⟩
  | 104 => ⟨S8448x2x128, .f32⟩
  | 105 => ⟨S8448x1x2x128, .f32⟩
  | 106 => ⟨S8448x1x2x128, .f32⟩
  | 107 => ⟨S8448x1x2x128, .f32⟩
  | 108 => ⟨S8448x1x2x128, .f32⟩
  | 109 => ⟨S8448x4x2x128, .f32⟩
  | 110 => ⟨S8448x1x2x128, .f32⟩
  | 111 => ⟨S8448x2x128, .f32⟩
  | 112 => ⟨S8448x1x2x128, .f32⟩
  | 113 => ⟨S8448x1x2x128, .f32⟩
  | 114 => ⟨S8448x2x2x128, .f32⟩
  | 115 => ⟨S8448x4x2x64, .f32⟩
  | 116 => ⟨S8448x4x2x64, .f32⟩
  | 117 => ⟨S_, .f32⟩
  | 118 => ⟨S8448x4x2, .f32⟩
  | 119 => ⟨S8448x4x2x1, .f32⟩
  | 120 => ⟨S_, .f32⟩
  | 121 => ⟨S8448x4x2x1, .f32⟩
  | 122 => ⟨S8448x4x2x1, .f32⟩
  | 123 => ⟨S_, .f32⟩
  | 124 => ⟨S8448x4x2x1, .f32⟩
  | 125 => ⟨S8448x4x2x1, .f32⟩
  | 126 => ⟨S8448x4x2x1, .f32⟩
  | 127 => ⟨S8448x4x2x64, .f32⟩
  | _ => ⟨S8448x2048, .f32⟩

abbrev hbmTy0_1 (i : Nat) : BufTy := match i % 128 with
  | 0 => ⟨S8448x4x2x64, .f32⟩
  | 1 => ⟨S1x1x1x64, .f32⟩
  | 2 => ⟨S8448x4x2x64, .f32⟩
  | 3 => ⟨S8448x4x2x64, .f32⟩
  | 4 => ⟨S_, .f32⟩
  | 5 => ⟨S8448x4x2x64, .f32⟩
  | 6 => ⟨S8448x4x2x64, .f32⟩
  | 7 => ⟨S8448x4x2x64, .f32⟩
  | 8 => ⟨S8448x4x2x64, .f32⟩
  | 9 => ⟨S_, .f32⟩
  | 10 => ⟨S8448x4x2, .f32⟩
  | 11 => ⟨S8448x4x2x1, .f32⟩
  | 12 => ⟨S_, .f32⟩
  | 13 => ⟨S8448x4x2x1, .f32⟩
  | 14 => ⟨S8448x4x2x1, .f32⟩
  | 15 => ⟨S_, .f32⟩
  | 16 => ⟨S8448x4x2x1, .f32⟩
  | 17 => ⟨S8448x4x2x1, .f32⟩
  | 18 => ⟨S8448x4x2x1, .f32⟩
  | 19 => ⟨S8448x4x2x64, .f32⟩
  | 20 => ⟨S8448x4x2x64, .f32⟩
  | 21 => ⟨S1x1x1x64, .f32⟩
  | 22 => ⟨S8448x4x2x64, .f32⟩
  | 23 => ⟨S8448x4x2x64, .f32⟩
  | 24 => ⟨S_, .f32⟩
  | 25 => ⟨S8448x224, .f32⟩
  | 26 => ⟨S8448x1024, .f32⟩
  | 27 => ⟨S8448x1024, .f32⟩
  | 28 => ⟨S8448x512, .f32⟩
  | 29 => ⟨S8448x512, .f32⟩
  | 30 => ⟨S8448x512, .f32⟩
  | 31 => ⟨S8448x6400, .f32⟩
  | _ => ⟨S8448x2048, .f32⟩

abbrev hbmTy (i : Nat) : BufTy := match i / 128 with
  | 0 => hbmTy0_0 i
  | 1 => hbmTy0_1 i
  | _ => ⟨S8448x2048, .f32⟩

abbrev bufTy : (tb : Table) → Fin (tcTables nBuf tb) → BufTy
  | .hbm, ⟨i, _⟩ => hbmTy i
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_cst_10 : Ref sig .tc := ⟨.hbm, 87, rfl⟩
abbrev main_v69 : Ref sig .tc := ⟨.hbm, 88, rfl⟩
abbrev main_v70 : Ref sig .tc := ⟨.hbm, 89, rfl⟩
abbrev main_cst_11 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_cst_12 : Ref sig .tc := ⟨.hbm, 117, rfl⟩
abbrev main_v97 : Ref sig .tc := ⟨.hbm, 118, rfl⟩
abbrev main_v98 : Ref sig .tc := ⟨.hbm, 119, rfl⟩
abbrev main_cst_13 : Ref sig .tc := ⟨.hbm, 120, rfl⟩
abbrev main_v99 : Ref sig .tc := ⟨.hbm, 121, rfl⟩
abbrev main_v100 : Ref sig .tc := ⟨.hbm, 122, rfl⟩
abbrev main_cst_14 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_cst_15 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_cst_16 : Ref sig .tc := ⟨.hbm, 137, rfl⟩
abbrev main_v113 : Ref sig .tc := ⟨.hbm, 138, rfl⟩
abbrev main_v114 : Ref sig .tc := ⟨.hbm, 139, rfl⟩
abbrev main_cst_17 : Ref sig .tc := ⟨.hbm, 140, rfl⟩
abbrev main_v115 : Ref sig .tc := ⟨.hbm, 141, rfl⟩
abbrev main_v116 : Ref sig .tc := ⟨.hbm, 142, rfl⟩
abbrev main_cst_18 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_cst_19 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩

abbrev nD : Nat := 1
abbrev τ : Topo := Topo.v7x

variable {F : FTy → Type} [FloatOps F]
-- ==== Outproj.lean ====
abbrev S8448x2048 : Shape := ⟨2, ![8448, 2048]⟩
abbrev S8448x1024 : Shape := ⟨2, ![8448, 1024]⟩
abbrev S8448x512 : Shape := ⟨2, ![8448, 512]⟩
abbrev S2x2048x2048 : Shape := ⟨3, ![2, 2048, 2048]⟩
abbrev S768x2048 : Shape := ⟨2, ![768, 2048]⟩
abbrev S768x1024 : Shape := ⟨2, ![768, 1024]⟩
abbrev S768x512 : Shape := ⟨2, ![768, 512]⟩
abbrev S1x2048x2048 : Shape := ⟨3, ![1, 2048, 2048]⟩
abbrev S1x1024x2048 : Shape := ⟨3, ![1, 1024, 2048]⟩
abbrev S1024x2048 : Shape := ⟨2, ![1024, 2048]⟩
abbrev S1x512x2048 : Shape := ⟨3, ![1, 512, 2048]⟩
abbrev S512x2048 : Shape := ⟨2, ![512, 2048]⟩

abbrev nBuf : Space → Nat
  | .hbm => 7
  | .vmem => 11
  | .smem => 0
  | _ => 0

abbrev bufTy : (tb : Table) → Fin (tcTables nBuf tb) → BufTy
  | .hbm, ⟨0, _⟩ => ⟨S8448x2048, .f32⟩
  | .hbm, ⟨1, _⟩ => ⟨S8448x1024, .f32⟩
  | .hbm, ⟨2, _⟩ => ⟨S8448x512, .f32⟩
  | .hbm, ⟨3, _⟩ => ⟨S8448x512, .f32⟩
  | .hbm, ⟨4, _⟩ => ⟨S2x2048x2048, .f32⟩
  | .hbm, ⟨5, _⟩ => ⟨S2x2048x2048, .bf16⟩
  | .hbm, ⟨6, _⟩ => ⟨S8448x2048, .f32⟩
  | .local _ .vmem, ⟨0, _⟩ => ⟨S768x2048, .f32⟩
  | .local _ .vmem, ⟨1, _⟩ => ⟨S768x2048, .f32⟩
  | .local _ .vmem, ⟨2, _⟩ => ⟨S768x1024, .f32⟩
  | .local _ .vmem, ⟨3, _⟩ => ⟨S768x1024, .f32⟩
  | .local _ .vmem, ⟨4, _⟩ => ⟨S768x512, .f32⟩
  | .local _ .vmem, ⟨5, _⟩ => ⟨S768x512, .f32⟩
  | .local _ .vmem, ⟨6, _⟩ => ⟨S768x512, .f32⟩
  | .local _ .vmem, ⟨7, _⟩ => ⟨S768x512, .f32⟩
  | .local _ .vmem, ⟨8, _⟩ => ⟨S1x2048x2048, .bf16⟩
  | .local _ .vmem, ⟨9, _⟩ => ⟨S768x2048, .f32⟩
  | .local _ .vmem, ⟨10, _⟩ => ⟨S768x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutprojRefIdeal.lean ====
abbrev S8448x2048 : Shape := ⟨2, ![8448, 2048]⟩
abbrev S8448x1024 : Shape := ⟨2, ![8448, 1024]⟩
abbrev S8448x512 : Shape := ⟨2, ![8448, 512]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x1024, .f32⟩
  | .hbm, ⟨2, _⟩ => ⟨S8448x512, .f32⟩
  | .hbm, ⟨3, _⟩ => ⟨S8448x512, .f32⟩
  | .hbm, ⟨4, _⟩ => ⟨S2x2048x2048, .f32⟩
  | .hbm, ⟨5, _⟩ => ⟨S8448x2048, .f32⟩
  | .hbm, ⟨6, _⟩ => ⟨S1x2048x2048, .f32⟩
  | .hbm, ⟨7, _⟩ => ⟨S2048x2048, .f32⟩
  | .hbm, ⟨8, _⟩ => ⟨S8448x2048, .f32⟩
  | .hbm, ⟨9, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Rows.lean ====
abbrev S8448x6400 : Shape := ⟨2, ![8448, 6400]⟩
abbrev S2x67584x128 : Shape := ⟨3, ![2, 67584, 128]⟩
abbrev S32x512x2x2x128 : Shape := ⟨5, ![32, 512, 2, 2, 128]⟩
abbrev S32x3x1024 : Shape := ⟨3, ![32, 3, 1024]⟩
abbrev S256x1024 : Shape := ⟨2, ![256, 1024]⟩
abbrev S1x2048x128 : Shape := ⟨3, ![1, 2048, 128]⟩
abbrev S256x128 : Shape := ⟨2, ![256, 128]⟩
abbrev S1x256x128 : Shape := ⟨3, ![1, 256, 128]⟩
abbrev S_ : Shape := ⟨0, ![]⟩
abbrev S2x0x2x2x128 : Shape := ⟨5, ![2, 0, 2, 2, 128]⟩
abbrev S2x3x1024 : Shape := ⟨3, ![2, 3, 1024]⟩
abbrev S8192x512 : Shape := ⟨2, ![8192, 512]⟩
abbrev S2x4096x512 : Shape := ⟨3, ![2, 4096, 512]⟩
abbrev S2x512x512 : Shape := ⟨3, ![2, 512, 512]⟩
abbrev S256x512 : Shape := ⟨2, ![256, 512]⟩
abbrev S32x8x512 : Shape := ⟨3, ![32, 8, 512]⟩
abbrev S2x512x2x2x128 : Shape := ⟨5, ![2, 512, 2, 2, 128]⟩
abbrev S32x8x2x2x128 : Shape := ⟨5, ![32, 8, 2, 2, 128]⟩
abbrev S32x504x2x2x128 : Shape := ⟨5, ![32, 504, 2, 2, 128]⟩
abbrev S8192x1024 : Shape := ⟨2, ![8192, 1024]⟩
abbrev S2x4096x1024 : Shape := ⟨3, ![2, 4096, 1024]⟩
abbrev S32x8x1024 : Shape := ⟨3, ![32, 8, 1024]⟩

abbrev nBuf : Space → Nat
  | .hbm => 26
  | .vmem => 8
  | .smem => 0
  | _ => 0

abbrev bufTy : (tb : Table) → Fin (tcTables nBuf tb) → BufTy
  | .hbm, ⟨0, _⟩ => ⟨S8448x6400, .f32⟩
  | .hbm, ⟨1, _⟩ => ⟨S2x67584x128, .f32⟩
  | .hbm, ⟨2, _⟩ => ⟨S2x67584x128, .f32⟩
  | .hbm, ⟨3, _⟩ => ⟨S32x512x2x2x128, .f32⟩
  | .hbm, ⟨4, _⟩ => ⟨S32x3x1024, .f32⟩
  | .hbm, ⟨5, _⟩ => ⟨S2x67584x128, .f32⟩
  | .hbm, ⟨6, _⟩ => ⟨S2x67584x128, .f32⟩
  | .hbm, ⟨7, _⟩ => ⟨S_, .f32⟩
  | .hbm, ⟨8, _⟩ => ⟨S2x0x2x2x128, .f32⟩
  | .hbm, ⟨9, _⟩ => ⟨S_, .f32⟩
  | .hbm, ⟨10, _⟩ => ⟨S2x3x1024, .f32⟩
  | .hbm, ⟨11, _⟩ => ⟨S8192x512, .f32⟩
  | .hbm, ⟨12, _⟩ => ⟨S2x4096x512, .f32⟩
  | .hbm, ⟨13, _⟩ => ⟨S2x512x512, .f32⟩
  | .hbm, ⟨14, _⟩ => ⟨S256x512, .f32⟩
  | .hbm, ⟨15, _⟩ => ⟨S32x8x512, .f32⟩
  | .hbm, ⟨16, _⟩ => ⟨S2x512x2x2x128, .f32⟩
  | .hbm, ⟨17, _⟩ => ⟨S32x8x2x2x128, .f32⟩
  | .hbm, ⟨18, _⟩ => ⟨S32x504x2x2x128, .f32⟩
  | .hbm, ⟨19, _⟩ => ⟨S32x512x2x2x128, .f32⟩
  | .hbm, ⟨20, _⟩ => ⟨S8192x1024, .f32⟩
  | .hbm, ⟨21, _⟩ => ⟨S2x4096x1024, .f32⟩
  | .hbm, ⟨22, _⟩ => ⟨S2x3x1024, .f32⟩
  | .hbm, ⟨23, _⟩ => ⟨S256x1024, .f32⟩
  | .hbm, ⟨24, _⟩ => ⟨S32x8x1024, .f32⟩
  | .hbm, ⟨25, _⟩ => ⟨S32x3x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | _, _ => ⟨S8448x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RowsRefIdeal.lean ====
abbrev S8448x6400 : Shape := ⟨2, ![8448, 6400]⟩
abbrev S2x67584x128 : Shape := ⟨3, ![2, 67584, 128]⟩
abbrev S32x512x2x2x128 : Shape := ⟨5, ![32, 512, 2, 2, 128]⟩
abbrev S32x3x1024 : Shape := ⟨3, ![32, 3, 1024]⟩
abbrev S_ : Shape := ⟨0, ![]⟩
abbrev S2x0x2x2x128 : Shape := ⟨5, ![2, 0, 2, 2, 128]⟩
abbrev S2x3x1024 : Shape := ⟨3, ![2, 3, 1024]⟩
abbrev S8448x1024 : Shape := ⟨2, ![8448, 1024]⟩
abbrev S1x67584x128 : Shape := ⟨3, ![1, 67584, 128]⟩
abbrev S8192x512 : Shape := ⟨2, ![8192, 512]⟩
abbrev S2x4096x2x2x128 : Shape := ⟨5, ![2, 4096, 2, 2, 128]⟩
abbrev S2x512x2x2x128 : Shape := ⟨5, ![2, 512, 2, 2, 128]⟩
abbrev S256x512 : Shape := ⟨2, ![256, 512]⟩
abbrev S32x8x2x2x128 : Shape := ⟨5, ![32, 8, 2, 2, 128]⟩
abbrev S32x520x2x2x128 : Shape := ⟨5, ![32, 520, 2, 2, 128]⟩
abbrev S8192x1024 : Shape := ⟨2, ![8192, 1024]⟩
abbrev S2x4096x1024 : Shape := ⟨3, ![2, 4096, 1024]⟩
abbrev S2x4099x1024 : Shape := ⟨3, ![2, 4099, 1024]⟩
abbrev S256x1024 : Shape := ⟨2, ![256, 1024]⟩
abbrev S32x8x1024 : Shape := ⟨3, ![32, 8, 1024]⟩
abbrev S32x11x1024 : Shape := ⟨3, ![32, 11, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8448x6400, .f32⟩
  | .hbm, ⟨1, _⟩ => ⟨S2x67584x128, .f32⟩
  | .hbm, ⟨2, _⟩ => ⟨S2x67584x128, .f32⟩
  | .hbm, ⟨3, _⟩ => ⟨S32x512x2x2x128, .f32⟩
  | .hbm, ⟨4, _⟩ => ⟨S32x3x1024, .f32⟩
  | .hbm, ⟨5, _⟩ => ⟨S_, .f32⟩
  | .hbm, ⟨6, _⟩ => ⟨S2x0x2x2x128, .f32⟩
  | .hbm, ⟨7, _⟩ => ⟨S_, .f32⟩
  | .hbm, ⟨8, _⟩ => ⟨S2x3x1024, .f32⟩
  | .hbm, ⟨9, _⟩ => ⟨S8448x1024, .f32⟩
  | .hbm, ⟨10, _⟩ => ⟨S1x67584x128, .f32⟩
  | .hbm, ⟨11, _⟩ => ⟨S1x67584x128, .f32⟩
  | .hbm, ⟨12, _⟩ => ⟨S2x67584x128, .f32⟩
  | .hbm, ⟨13, _⟩ => ⟨S8448x1024, .f32⟩
  | .hbm, ⟨14, _⟩ => ⟨S1x67584x128, .f32⟩
  | .hbm, ⟨15, _⟩ => ⟨S1x67584x128, .f32⟩
  | .hbm, ⟨16, _⟩ => ⟨S2x67584x128, .f32⟩
  | .hbm, ⟨17, _⟩ => ⟨S8192x512, .f32⟩
  | .hbm, ⟨18, _⟩ => ⟨S2x4096x2x2x128, .f32⟩
  | .hbm, ⟨19, _⟩ => ⟨S2x4096x2x2x128, .f32⟩
  | .hbm, ⟨20, _⟩ => ⟨S2x512x2x2x128, .f32⟩
  | .hbm, ⟨21, _⟩ => ⟨S256x512, .f32⟩
  | .hbm, ⟨22, _⟩ => ⟨S32x8x2x2x128, .f32⟩
  | .hbm, ⟨23, _⟩ => ⟨S32x520x2x2x128, .f32⟩
  | .hbm, ⟨24, _⟩ => ⟨S32x512x2x2x128, .f32⟩
  | .hbm, ⟨25, _⟩ => ⟨S8192x1024, .f32⟩
  | .hbm, ⟨26, _⟩ => ⟨S2x4096x1024, .f32⟩
  | .hbm, ⟨27, _⟩ => ⟨S2x4099x1024, .f32⟩
  | .hbm, ⟨28, _⟩ => ⟨S2x3x1024, .f32⟩
  | .hbm, ⟨29, _⟩ => ⟨S256x1024, .f32⟩
  | .hbm, ⟨30, _⟩ => ⟨S32x8x1024, .f32⟩
  | .hbm, ⟨31, _⟩ => ⟨S32x11x1024, .f32⟩
  | .hbm, ⟨32, _⟩ => ⟨S32x3x1024, .f32⟩
  | _, _ => ⟨S8448x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Proof.MlstmMath.lean ====
/- The mathematics of one chunk of the mLSTM recurrence over the extended reals, for one head: the running sum of the log
   forget gates, the stabilised weights, the output rows and the new state, and the short causal convolution before it. -/
module

public import Idealize.ShloMosaic.Lib.Pointwise

@[expose] public section

set_option maxRecDepth 16384

noncomputable section

open Idealize.ShloMosaic Idealize.ShloMosaic.TcCoe Idealize.SL.Sem

namespace Cert.Mlstm

/-! ## One chunk -/

/-- The value that stands where a weight must vanish. -/
def low : EReal := Ideal.ofBits .f32 0xF149F2CA#32
/-- The value a maximum starts from. -/
def bot : EReal := Ideal.ofBits .f32 0xFF800000#32

/-- What a chunk of `L` rows reads: queries, keys, values, the two gates in the log domain and the state before it. -/
structure Chunk (L : ℕ) where
  q : Fin L → Fin 128 → EReal
  k : Fin L → Fin 128 → EReal
  v : Fin L → Fin 128 → EReal
  li : Fin L → EReal
  lf : Fin L → EReal
  c : Fin 128 → Fin 128 → EReal
  n : Fin 128 → EReal
  m : EReal

variable {L : ℕ} (X : Chunk L)

/-- The running sum of the log forget gates. -/
def bcum (lf : Fin L → EReal) (j : Fin L) : EReal := ∑ s, if s ≤ j then lf s else 0
/-- The sum of all of them. -/
def blast (lf : Fin L → EReal) : EReal := ∑ s, lf s
def dmat (j s : Fin L) : EReal := if s ≤ j then bcum X.lf j - bcum X.lf s + X.li s else low
def inter (j : Fin L) : EReal := bcum X.lf j + X.m
def top (j : Fin L) : EReal := max (inter X j) (Finset.univ.fold max bot fun s => dmat X j s)
def wts (j s : Fin L) : EReal := Ideal.exp (dmat X j s - top X j)
def carry (j : Fin L) : EReal := Ideal.exp (inter X j - top X j)
def score (j s : Fin L) : EReal := (∑ d, X.q j d * X.k s d) * wts X j s
def num (j : Fin L) (e : Fin 128) : EReal := carry X j * (∑ d, X.q j d * X.c d e) + ∑ s, score X j s * X.v s e
def den (j : Fin L) : EReal := carry X j * (∑ d, X.q j d * X.n d) + ∑ s, score X j s
/-- The chunk's output row `j`, before its norm. -/
def out (j : Fin L) (e : Fin 128) : EReal := Ideal.div (num X j e) (max (max (den X j) (-den X j)) (Ideal.exp (-top X j)))
def gl (s : Fin L) : EReal := blast X.lf - bcum X.lf s + X.li s
/-- The new stabiliser. -/
def mNew : EReal := max (blast X.lf + X.m) (Finset.univ.fold max bot fun s => gl X s)
def decay : EReal := Ideal.exp (blast X.lf + X.m - mNew X)
def wg (s : Fin L) : EReal := Ideal.exp (gl X s - mNew X)
/-- The new matrix state. -/
def cNew (d e : Fin 128) : EReal := decay X * X.c d e + ∑ s, (wg X s * X.k s d) * X.v s e
/-- The new normaliser. -/
def nNew (d : Fin 128) : EReal := decay X * X.n d + ∑ s, wg X s * X.k s d

/-! ## Around the chunk -/

/-- An output row after the norm over the head's width, its gain and the sigmoid of the output gate. -/
def gated (h : Fin 128 → EReal) (gain og : EReal) (e : Fin 128) : EReal :=
  h e * Ideal.rsqrt (Ideal.div (∑ d, h d * h d) (Ideal.ofBits .f32 0x43000000#32) + Ideal.ofBits .f32 0x358637BD#32) * gain
    * Ideal.logistic og

/-- One channel of the causal convolution of width four and its activation: `x0` is the oldest row. -/
def conv (b x0 x1 x2 x3 w0 w1 w2 w3 : EReal) : EReal :=
  (b + x0 * w0 + x1 * w1 + x2 * w2 + x3 * w3) * Ideal.logistic (b + x0 * w0 + x1 * w1 + x2 * w2 + x3 * w3)

/-- The logarithm of the sigmoid, as the negated softplus of the negated argument. -/
def lsig (x : EReal) : EReal :=
  -(max (-x) 0 + Ideal.log1p (Ideal.exp (-FloatOps.absf (F := Ideal) (φ := .f32) (-x : EReal))))

/-- The last running sum is the whole sum. -/
theorem bcum_last (lf : Fin L → EReal) (j : Fin L) (h : j.val + 1 = L) : bcum lf j = blast lf :=
  Finset.sum_congr rfl fun s _ => if_pos (Fin.le_def.2 (by have := s.isLt; omega))

/-- A sum over the columns that meets the diagonal only. -/
theorem sum_diag (f : Fin L → EReal) (j : Fin L) : (∑ s, if j = s then f s else 0) = f j := by
  rw [Finset.sum_ite_eq Finset.univ j f, if_pos (Finset.mem_univ _)]

/-- The choice by a one-bit word. -/
theorem select_ite {α : Type} (p : Prop) [Decidable p] (a b : α) :
    Scalar.select (if p then 1#1 else 0#1) a b = if p then a else b := by
  split <;> rfl

/-! ## The running sum as the host prints it -/

/-- A left fold of additions from zero is the sum of what is added. -/
theorem foldl_add (ι : Type) (l : List ι) (g : ι → EReal) : ∀ z : EReal, l.foldl (fun r i => r + g i) z = z + (l.map g).sum := by
  induction l with
  | nil => intro z; simp
  | cons a l ih => intro z; rw [List.foldl_cons, ih, List.map_cons, List.sum_cons, add_assoc]

/-- A sum over windows one wide in the first two axes is a sum along the third. -/
theorem sum_window3 (N : ℕ) (f : (⟨3, ![1, 1, N]⟩ : Shape).Idx → EReal) : ∑ i, f i = ∑ k : Fin N, f (ix3 0 0 k) := by
  rw [sum_idx3, Fin.sum_univ_one, Fin.sum_univ_one]

/-- The running sum along the last of three axes: a window of the whole length, padded low by one less. -/
theorem cumsum3 {A B N M : ℕ} (hN : M + 1 = N) (x : FVec Ideal ⟨3, ![A, B, N]⟩ .f32) (init : FVec Ideal ⟨0, ![]⟩ .f32)
    (hinit : ∀ i, init i = 0)
    (h : (⟨3, ![A, B, N]⟩ : Shape).ReduceWindows (![1, 1, N] : Fin 3 → Nat) ![1, 1, 1] ![0, 0, M] ![0, 0, 0] ⟨3, ![A, B, N]⟩)
    (hu : 0 < (⟨0, ![]⟩ : Shape).numel) (a : Fin A) (b : Fin B) (j : Fin N) :
    Host.reduceWindowAdd ![1, 1, N] ![1, 1, 1] ![0, 0, M] ![0, 0, 0] x init h hu (ix3 a b j)
      = bcum (fun s => x (ix3 a b s)) j := by
  subst hN
  show Host.reduceWindow (fun u v : EReal => u + v) _ _ _ _ _ _ h _ _ = _
  unfold Host.reduceWindow
  dsimp only
  rw [hinit, foldl_add, zero_add, ← Fin.sum_univ_def]
  have hj := j.isLt
  have hw2 : ∀ w : (⟨3, ![1, 1, M + 1]⟩ : Shape).Idx, (w 2).val < M + 1 := fun w => (w 2).isLt
  trans ∑ i, (fun w : (⟨3, ![1, 1, M + 1]⟩ : Shape).Idx => if hM : M ≤ j.val + (w 2).val then
    x (ix3 a b ⟨j.val + (w 2).val - M, by have := hw2 w; omega⟩) else (0 : EReal)) ((⟨3, ![1, 1, M + 1]⟩ : Shape).rowMajor.symm i)
  · refine Finset.sum_congr rfl fun i _ => ?_
    have h0 : ((⟨3, ![1, 1, M + 1]⟩ : Shape).rowMajor.symm i 0).val = 0 := Nat.lt_one_iff.1 ((⟨3, ![1, 1, M + 1]⟩ : Shape).rowMajor.symm i 0).isLt
    have h1 : ((⟨3, ![1, 1, M + 1]⟩ : Shape).rowMajor.symm i 1).val = 0 := Nat.lt_one_iff.1 ((⟨3, ![1, 1, M + 1]⟩ : Shape).rowMajor.symm i 1).isLt
    have h2 := hw2 ((⟨3, ![1, 1, M + 1]⟩ : Shape).rowMajor.symm i)
    have ha := a.isLt
    have hb := b.isLt
    show _ = if hM : M ≤ j.val + ((⟨3, ![1, 1, M + 1]⟩ : Shape).rowMajor.symm i 2).val then x (ix3 a b ⟨j.val + ((⟨3, ![1, 1, M + 1]⟩ : Shape).rowMajor.symm i 2).val - M, _⟩) else (0 : EReal)
    by_cases hc : M ≤ j.val + ((⟨3, ![1, 1, M + 1]⟩ : Shape).rowMajor.symm i 2).val
    · rw [dif_pos hc, dif_pos]
      · refine congrArg x (funext fun c => Fin.ext ?_)
        match c with
        | ⟨0, _⟩ => show a.val * 1 + ((⟨3, ![1, 1, M + 1]⟩ : Shape).rowMajor.symm i 0).val - 0 = a.val; omega
        | ⟨1, _⟩ => show b.val * 1 + ((⟨3, ![1, 1, M + 1]⟩ : Shape).rowMajor.symm i 1).val - 0 = b.val; omega
        | ⟨2, _⟩ => show j.val * 1 + ((⟨3, ![1, 1, M + 1]⟩ : Shape).rowMajor.symm i 2).val - M = j.val + ((⟨3, ![1, 1, M + 1]⟩ : Shape).rowMajor.symm i 2).val - M; omega
      · intro c
        match c with
        | ⟨0, _⟩ => show 0 ≤ a.val * 1 + ((⟨3, ![1, 1, M + 1]⟩ : Shape).rowMajor.symm i 0).val ∧ a.val * 1 + ((⟨3, ![1, 1, M + 1]⟩ : Shape).rowMajor.symm i 0).val - 0 < A; omega
        | ⟨1, _⟩ => show 0 ≤ b.val * 1 + ((⟨3, ![1, 1, M + 1]⟩ : Shape).rowMajor.symm i 1).val ∧ b.val * 1 + ((⟨3, ![1, 1, M + 1]⟩ : Shape).rowMajor.symm i 1).val - 0 < B; omega
        | ⟨2, _⟩ => show M ≤ j.val * 1 + ((⟨3, ![1, 1, M + 1]⟩ : Shape).rowMajor.symm i 2).val ∧ j.val * 1 + ((⟨3, ![1, 1, M + 1]⟩ : Shape).rowMajor.symm i 2).val - M < M + 1; omega
    · rw [dif_neg hc, dif_neg]
      intro hin
      have := (hin 2).1
      change M ≤ j.val * 1 + ((⟨3, ![1, 1, M + 1]⟩ : Shape).rowMajor.symm i 2).val at this
      omega
  refine (Equiv.sum_comp ((⟨3, ![1, 1, M + 1]⟩ : Shape).rowMajor.symm) fun w : (⟨3, ![1, 1, M + 1]⟩ : Shape).Idx =>
    if hM : M ≤ j.val + (w 2).val then x (ix3 a b ⟨j.val + (w 2).val - M, by have := hw2 w; omega⟩) else (0 : EReal)).trans ?_
  rw [sum_window3]
  unfold bcum
  rw [← Finset.sum_filter]
  simp only [ix3_2]
  rw [← Finset.sum_subset (Finset.filter_subset (fun k : Fin (M + 1) => M ≤ j.val + k.val) Finset.univ) (fun k _ hk => dif_neg fun hM => hk (by simpa using hM))]
  refine Finset.sum_bij' (fun k _ => ⟨j.val + k.val - M, by have := k.isLt; omega⟩)
    (fun s hs => ⟨s.val + M - j.val, by have := Fin.le_def.1 (Finset.mem_filter.1 hs).2; omega⟩) ?_ ?_ ?_ ?_ ?_
  · intro k hk
    have := k.isLt
    simp only [Finset.mem_filter, Finset.mem_univ, true_and, Fin.le_def]
    omega
  · intro s hs
    have := s.isLt
    have := Fin.le_def.1 (Finset.mem_filter.1 hs).2
    simp only [Finset.mem_filter, Finset.mem_univ, true_and]
    omega
  · intro k hk
    have := (Finset.mem_filter.1 hk).2
    exact Fin.ext (by show j.val + k.val - M + M - j.val = k.val; omega)
  · intro s hs
    have := Fin.le_def.1 (Finset.mem_filter.1 hs).2
    exact Fin.ext (by show j.val + (s.val + M - j.val) - M = s.val; omega)
  · intro k hk
    exact dif_pos (Finset.mem_filter.1 hk).2

end Cert.Mlstm

end
-- ==== Proof.SampleBlocks.lean ====
/- The blocks a point of the sample kernel reads, in terms of the arguments. -/
module

public import proofs.«01_k».proof.Proof.Gen.SampleIdeal.Value
public import proofs.«01_k».proof.Proof.MlstmMath
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.SampleIdeal Cert.SampleIdeal.Gen Cert.Mlstm

namespace Cert.SampleBlocks

variable (m : (ℓ : Loc nD τ sig) → Buf (Elt Ideal) ℓ)

theorem idx : ∀ t : Fin cfg0.N, win0_0.index t = ![1024 + t.val / 4, 32 + t.val % 4]
    ∧ win0_1.index t = ![1024 + t.val / 4, 36 + t.val % 4] ∧ win0_2.index t = ![1024 + t.val / 4, 40 + t.val % 4]
    ∧ win0_3.index t = ![1024 + t.val / 4, 44 + t.val % 4] ∧ win0_4.index t = ![t.val / 4, 0, t.val % 4]
    ∧ win0_5.index t = ![t.val / 4, 0, 4 + t.val % 4] ∧ win0_6.index t = ![0, t.val % 4]
    ∧ win0_7.index t = ![0, 4 + t.val % 4] ∧ win0_8.index t = ![0, t.val % 4] ∧ win0_9.index t = ![0, 4 + t.val % 4]
    ∧ win0_10.index t = ![t.val, 0, 0] ∧ win0_11.index t = ![t.val, 0, 0] ∧ win0_12.index t = ![t.val, 0, 0]
    ∧ win0_13.index t = ![t.val, 0, 0] ∧ win0_14.index t = ![t.val, 0, 0] ∧ win0_15.index t = ![0, 0]
    ∧ win0_16.index t = ![t.val / 4, t.val % 4] ∧ win0_17.index t = ![t.val, 0, 0] ∧ win0_18.index t = ![t.val, 0, 0]
    ∧ win0_19.index t = ![t.val, 0, 0] ∧ t.val < 128 :=
  (by decide +kernel : ∀ t : Fin grid0.N, _)

/-- The arguments a run starts from. -/
abbrev aU (c : Dev nD) : FVec Ideal S8448x6400 .f32 := m ((c : Thread nD τ).loc main_arg0)
abbrev aG (c : Dev nD) : FVec Ideal S2x4 .f32 := m ((c : Thread nD τ).loc main_arg1)
abbrev aW (c : Dev nD) : FVec Ideal S4x1024 .f32 := m ((c : Thread nD τ).loc main_arg2)
abbrev aB (c : Dev nD) : FVec Ideal S1024 .f32 := m ((c : Thread nD τ).loc main_arg3)
abbrev aN (c : Dev nD) : FVec Ideal S128 .f32 := m ((c : Thread nD τ).loc main_arg4)
abbrev aC0 (c : Dev nD) : FVec Ideal S32x4x128x128 .f32 := m ((c : Thread nD τ).loc main_arg5)
abbrev aN0 (c : Dev nD) : FVec Ideal S32x4x128 .f32 := m ((c : Thread nD τ).loc main_arg6)
abbrev aM0 (c : Dev nD) : FVec Ideal S32x4 .f32 := m ((c : Thread nD τ).loc main_arg7)
abbrev aBuf (c : Dev nD) : FVec Ideal S32x3x1024 .f32 := m ((c : Thread nD τ).loc main_arg8)

abbrev row (b : Fin 32) (r : Fin 8) : Fin 8448 := ⟨8192 + (b.val * 8 + r.val), by omega⟩

/-- Reads one prepared operand at the region's entry. -/

theorem V22 (c : Dev nD) : V m c main_v22 = shapeCast S128x128x128 (aC0 m c) shapeCasts_S32x4x128x128_S128x128x128 := by
  unfold V
  simp only [List.flatten_cons, List.flatten_nil, List.append_nil, StableHlo.after_append]
  after_results
  rfl

theorem V23 (c : Dev nD) : V m c main_v23 = shapeCast S128x1x128 (aN0 m c) shapeCasts_S32x4x128_S128x1x128 := by
  unfold V
  simp only [List.flatten_cons, List.flatten_nil, List.append_nil, StableHlo.after_append]
  after_results
  rfl

theorem V21 (c : Dev nD) : V m c main_v21 = shapeCast S1x1024 (aB m c) shapeCasts_S1024_S1x1024 := by
  unfold V
  simp only [List.flatten_cons, List.flatten_nil, List.append_nil, StableHlo.after_append]
  after_results
  rfl

theorem V25 (c : Dev nD) : V m c main_v25 = broadcastInDim S128x1x128 ![0, 1, 2] bcast_S128x1x1_S128x1x128_0_1_2 (shapeCast S128x1x1 (aM0 m c) shapeCasts_S32x4_S128x1x1) := by
  unfold V
  simp only [List.flatten_cons, List.flatten_nil, List.append_nil, StableHlo.after_append]
  after_results
  rfl

theorem V26 (c : Dev nD) : V m c main_v26 = shapeCast S1x128 (aN m c) shapeCasts_S128_S1x128 := by
  unfold V
  simp only [List.flatten_cons, List.flatten_nil, List.append_nil, StableHlo.after_append]
  after_results
  rfl

theorem V20 (c : Dev nD) : V m c main_v20 = pad S8x1024 ![0, 0] ![4, 0] ![0, 0] (aW m c) (sitofp FTy.f32 (constantI S_ 32 0#32) : FVec Ideal S_ .f32) pads_S4x1024_S8x1024_040_000 h_S_ := by
  unfold V
  simp only [List.flatten_cons, List.flatten_nil, List.append_nil, StableHlo.after_append]
  after_results
  rfl

theorem V19 (c : Dev nD) : V m c main_v19 = pad S32x8x1024 ![0, 5, 0] ![0, 0, 0] ![0, 0, 0] (aBuf m c) (sitofp FTy.f32 (constantI S_ 32 0#32) : FVec Ideal S_ .f32) pads_S32x3x1024_S32x8x1024_000_500_000 h_S_ := by
  unfold V
  simp only [List.flatten_cons, List.flatten_nil, List.append_nil, StableHlo.after_append]
  after_results
  rfl

theorem V16 (c : Dev nD) (b : Fin 32) (h : Fin 4) (r : Fin 8) : (V m c main_v16 : FVec Ideal S128x1x8 .f32) (ix3 ⟨b.val * 4 + h.val, by omega⟩ 0 r) = aU m c (ix2 (row b r) ⟨6168 + h.val, by omega⟩) + aG m c (ix2 0 h) := by
  unfold V
  simp only [List.flatten_cons, List.flatten_nil, List.append_nil, StableHlo.after_append]
  after_results
  pointwise
  have e : (⟨6144 + (24 + h.val), by omega⟩ : Fin 6400) = ⟨6168 + h.val, by omega⟩ := Fin.ext (by show 6144 + (24 + h.val) = 6168 + h.val; omega)
  rw [e]

theorem V18 (c : Dev nD) (b : Fin 32) (h : Fin 4) (r : Fin 8) : (V m c main_v18 : FVec Ideal S128x1x8 .f32) (ix3 ⟨b.val * 4 + h.val, by omega⟩ 0 r) = lsig (aU m c (ix2 (row b r) ⟨6172 + h.val, by omega⟩) + aG m c (ix2 1 h)) := by
  unfold V
  simp only [List.flatten_cons, List.flatten_nil, List.append_nil, StableHlo.after_append]
  after_results
  simp only [StableHlo.TRef.toBuf, StableHlo.TRef.ofBuf, cast_eq]
  pointwise
  have e : (⟨6144 + (28 + h.val), by omega⟩ : Fin 6400) = ⟨6172 + h.val, by omega⟩ := Fin.ext (by show 6144 + (28 + h.val) = 6172 + h.val; omega)
  simp only [ne_eq, not_true_eq_false, if_false]
  rw [e]
  rfl

variable (c : Dev nD) (t : Fin cfg0.N) (b : Fin 32) (h : Fin 4) (hb : t.val / 4 = b.val) (hh : t.val % 4 = h.val)
include hb hh

theorem blk0 (r : Fin 8) (d : Fin 128) : iblk m c 0 t (ix2 r d) = aU m c (ix2 (row b r) ⟨4096 + (h.val * 128 + d.val), by omega⟩) := by
  blk_ext [iblk, V, idx t]

theorem blk1 (r : Fin 8) (d : Fin 128) : iblk m c 1 t (ix2 r d) = aU m c (ix2 (row b r) ⟨4608 + (h.val * 128 + d.val), by omega⟩) := by
  blk_ext [iblk, V, idx t]

theorem blk2 (r : Fin 8) (d : Fin 128) : iblk m c 2 t (ix2 r d) = aU m c (ix2 (row b r) ⟨5120 + (h.val * 128 + d.val), by omega⟩) := by
  blk_ext [iblk, V, idx t]

theorem blk3 (r : Fin 8) (d : Fin 128) : iblk m c 3 t (ix2 r d) = aU m c (ix2 (row b r) ⟨5632 + (h.val * 128 + d.val), by omega⟩) := by
  blk_ext [iblk, V, idx t]

theorem blk4 (r : Fin 3) (d : Fin 128) : iblk m c 4 t (ix3 0 ⟨5 + r.val, by omega⟩ d) = aBuf m c (ix3 b r ⟨h.val * 128 + d.val, by omega⟩) := by
  refine Eq.trans (b := (V m c main_v19 : FVec Ideal S32x8x1024 .f32) (ix3 b ⟨5 + r.val, by omega⟩ ⟨h.val * 128 + d.val, by omega⟩)) ?_ ?_
  · blk_ext [iblk, idx t]
  · rw [V19]; pointwise; rw [dif_pos (by omega)]

theorem blk5 (r : Fin 3) (d : Fin 128) : iblk m c 5 t (ix3 0 ⟨5 + r.val, by omega⟩ d) = aBuf m c (ix3 b r ⟨512 + (h.val * 128 + d.val), by omega⟩) := by
  refine Eq.trans (b := (V m c main_v19 : FVec Ideal S32x8x1024 .f32) (ix3 b ⟨5 + r.val, by omega⟩ ⟨512 + (h.val * 128 + d.val), by omega⟩)) ?_ ?_
  · blk_ext [iblk, idx t]
  · rw [V19]; pointwise; rw [dif_pos (by omega)]

theorem blk6 (r : Fin 4) (d : Fin 128) : iblk m c 6 t (ix2 ⟨r.val, by omega⟩ d) = aW m c (ix2 r ⟨h.val * 128 + d.val, by omega⟩) := by
  refine Eq.trans (b := (V m c main_v20 : FVec Ideal S8x1024 .f32) (ix2 ⟨r.val, by omega⟩ ⟨h.val * 128 + d.val, by omega⟩)) ?_ ?_
  · blk_ext [iblk, idx t]
  · rw [V20]; pointwise; rw [dif_pos (by omega)]

theorem blk7 (r : Fin 4) (d : Fin 128) : iblk m c 7 t (ix2 ⟨r.val, by omega⟩ d) = aW m c (ix2 r ⟨512 + (h.val * 128 + d.val), by omega⟩) := by
  refine Eq.trans (b := (V m c main_v20 : FVec Ideal S8x1024 .f32) (ix2 ⟨r.val, by omega⟩ ⟨512 + (h.val * 128 + d.val), by omega⟩)) ?_ ?_
  · blk_ext [iblk, idx t]
  · rw [V20]; pointwise; rw [dif_pos (by omega)]

theorem blk8 (d : Fin 128) : iblk m c 8 t (ix2 0 d) = aB m c (ix1 ⟨h.val * 128 + d.val, by omega⟩) := by
  refine Eq.trans (b := (V m c main_v21 : FVec Ideal S1x1024 .f32) (ix2 0 ⟨h.val * 128 + d.val, by omega⟩)) ?_ ?_
  · blk_ext [iblk, idx t]
  · rw [V21]; pointwise

theorem blk9 (d : Fin 128) : iblk m c 9 t (ix2 0 d) = aB m c (ix1 ⟨512 + (h.val * 128 + d.val), by omega⟩) := by
  refine Eq.trans (b := (V m c main_v21 : FVec Ideal S1x1024 .f32) (ix2 0 ⟨512 + (h.val * 128 + d.val), by omega⟩)) ?_ ?_
  · blk_ext [iblk, idx t]
  · rw [V21]; pointwise

theorem blk10 (r : Fin 8) : iblk m c 10 t (ix3 0 0 r) = aU m c (ix2 (row b r) ⟨6168 + h.val, by omega⟩) + aG m c (ix2 0 h) := by
  refine Eq.trans (b := (V m c main_v16 : FVec Ideal S128x1x8 .f32) (ix3 ⟨b.val * 4 + h.val, by omega⟩ 0 r)) ?_ (V16 m c b h r)
  blk_ext [iblk, idx t]

theorem blk11 (r : Fin 8) : iblk m c 11 t (ix3 0 0 r) = lsig (aU m c (ix2 (row b r) ⟨6172 + h.val, by omega⟩) + aG m c (ix2 1 h)) := by
  refine Eq.trans (b := (V m c main_v18 : FVec Ideal S128x1x8 .f32) (ix3 ⟨b.val * 4 + h.val, by omega⟩ 0 r)) ?_ (V18 m c b h r)
  blk_ext [iblk, idx t]

theorem blk12 (d e : Fin 128) : iblk m c 12 t (ix3 0 d e) = aC0 m c (ix4 b h d e) := by
  refine Eq.trans (b := (V m c main_v22 : FVec Ideal S128x128x128 .f32) (ix3 ⟨b.val * 4 + h.val, by omega⟩ d e)) ?_ ?_
  · blk_ext [iblk, idx t]
  · rw [V22]; pointwise

theorem blk13 (d : Fin 128) : iblk m c 13 t (ix3 0 0 d) = aN0 m c (ix3 b h d) := by
  refine Eq.trans (b := (V m c main_v23 : FVec Ideal S128x1x128 .f32) (ix3 ⟨b.val * 4 + h.val, by omega⟩ 0 d)) ?_ ?_
  · blk_ext [iblk, idx t]
  · rw [V23]; pointwise

theorem blk14 (d : Fin 128) : iblk m c 14 t (ix3 0 0 d) = aM0 m c (ix2 b h) := by
  refine Eq.trans (b := (V m c main_v25 : FVec Ideal S128x1x128 .f32) (ix3 ⟨b.val * 4 + h.val, by omega⟩ 0 d)) ?_ ?_
  · blk_ext [iblk, idx t]
  · rw [V25]; pointwise

omit hb hh in

theorem blk15 (d : Fin 128) : iblk m c 15 t (ix2 0 d) = aN m c (ix1 d) := by
  refine Eq.trans (b := (V m c main_v26 : FVec Ideal S1x128 .f32) (ix2 0 d)) ?_ ?_
  · blk_ext [iblk, idx t]
  · rw [V26]; pointwise

end Cert.SampleBlocks
end
-- ==== Proof.SampleKernelMath.lean ====
/- The sample kernel's body read at an index: what each named value of the body is, in terms of one chunk. -/
module

public import proofs.«01_k».proof.Proof.Gen.SampleIdeal.Skeleton
public import proofs.«01_k».proof.Proof.MlstmMath

@[expose] public section

set_option maxRecDepth 16384

noncomputable section

open Idealize.ShloMosaic Idealize.ShloMosaic.TcCoe Idealize.SL.Sem
open Cert.SampleIdeal Cert.SampleIdeal.Gen Cert.Mlstm

namespace Cert.SampleKernelMath

/-! ## The masks -/

theorem tril_at (r t : Fin 8) : k0_pay4 (ix2 r t) = if t ≤ r then 1#1 else 0#1 := by
  pointwise [k0_pay4]
  revert r t
  decide +kernel

theorem triu_at (r t : Fin 8) : k0_pay5 (ix2 r t) = if r ≤ t then 1#1 else 0#1 := by
  pointwise [k0_pay5]
  revert r t
  decide +kernel

theorem eye_at (r t : Fin 8) : k0_pay6 (ix2 r t) = if r = t then 1#1 else 0#1 := by
  pointwise [k0_pay6]
  revert r t
  decide +kernel

/-! ## The chunk -/

variable (c : FVec Ideal S128x128 .f32) (n : FVec Ideal S1x128 .f32) (m : FVec Ideal S1x1 .f32)
  (q k v : FVec Ideal S8x128 .f32) (li : FVec Ideal S1x8 .f32) (lf : FVec Ideal S1x1x8 .f32)

/-- The chunk the body works on. -/
def chunk : Chunk 8 where
  q r d := q (ix2 r d)
  k r d := k (ix2 r d)
  v r d := v (ix2 r d)
  li r := li (ix2 0 r)
  lf r := lf (ix3 0 0 r)
  c d e := c (ix2 d e)
  n d := n (ix2 0 d)
  m := m (ix2 0 0)

local notation "X" => chunk c n m q k v li lf

/-- The log forget gates as a row. -/
abbrev lfRow : FVec Ideal S1x8 .f32 := k0_pay21 (F := Ideal) lf
/-- Their running sum as a column, and as a row. -/
abbrev cumCol : FVec Ideal S8x1 .f32 := k0_pay22 (F := Ideal) k0_pay4 lf
abbrev cumRow : FVec Ideal S1x8 .f32 :=
  k0_pay24 (F := Ideal) k0_pay5 k0_pay6 (k0_pay23 lf) (Scalar.ofBits .f32 0x00000000#32)

theorem lfRow_at (t : Fin 8) : lfRow lf (ix2 0 t) = lf (ix3 0 0 t) := by
  pointwise [lfRow, k0_pay21]

theorem cumCol_at (r : Fin 8) : cumCol lf (ix2 r 0) = bcum (chunk c n m q k v li lf).lf r := by
  pointwise [cumCol, k0_pay22, lfRow_at, tril_at]
  simp only [select_ite]
  rfl

theorem cumRow_at (t : Fin 8) : cumRow lf (ix2 0 t) = bcum (chunk c n m q k v li lf).lf t := by
  pointwise [cumRow, k0_pay24, k0_pay23, lfRow_at, triu_at, eye_at]
  simp only [select_ite, sum_diag]
  rfl

/-- The same with the zero written as zero. -/
theorem cumRow_zero (t : Fin 8) : k0_pay24 (F := Ideal) k0_pay5 k0_pay6 (k0_pay23 lf) (0 : EReal) (ix2 0 t)
    = bcum (chunk c n m q k v li lf).lf t := by
  pointwise [k0_pay24, k0_pay23, lfRow_at, triu_at, eye_at]
  simp only [select_ite, sum_diag]
  rfl

theorem out_at (r : Fin 8) (e : Fin 128) : k0_pay25 (F := Ideal) k0_pay4 k0_pay5 k0_pay6 c n m q k v li (cumCol lf)
    (k0_pay23 lf) (Scalar.ofBits .f32 0x00000000#32) (ix2 r e) = out (chunk c n m q k v li lf) r e := by
  pointwise [k0_pay25, cumRow_zero c n m q k v li lf, cumCol_at c n m q k v li lf, tril_at]
  simp only [select_ite, zero_sub]
  rfl

theorem gated_at (g : FVec Ideal S1x128 .f32) (h og : FVec Ideal S8x128 .f32) (r : Fin 8) (e : Fin 128) :
    k0_pay26 (F := Ideal) g h og (ix2 r e) = gated (fun d => h (ix2 r d)) (g (ix2 0 e)) (og (ix2 r e)) e := by
  pointwise [k0_pay26]
  rfl

theorem blast_at : k0_pay27 (F := Ideal) (lfRow lf) (ix2 0 0) = blast (chunk c n m q k v li lf).lf := by
  pointwise [k0_pay27, lfRow_at]
  rfl

theorem gl_at (t : Fin 8) : k0_pay28 (F := Ideal) li (lfRow lf) (cumRow lf) (ix2 0 t) = gl (chunk c n m q k v li lf) t := by
  pointwise [k0_pay28, blast_at c n m q k v li lf, cumRow_at c n m q k v li lf]
  rfl

theorem mNew_at : k0_pay29 (F := Ideal) m li (lfRow lf) (cumRow lf) (ix2 0 0) = mNew (chunk c n m q k v li lf) := by
  pointwise [k0_pay29, blast_at c n m q k v li lf, gl_at c n m q k v li lf]
  rfl

theorem decay_at : k0_pay30 (F := Ideal) m li (lfRow lf) (cumRow lf) (ix2 0 0) = decay (chunk c n m q k v li lf) := by
  pointwise [k0_pay30, blast_at c n m q k v li lf, mNew_at c n m q k v li lf]
  rfl

theorem kw_at (r : Fin 8) (d : Fin 128) : k0_pay31 (F := Ideal) k0_pay6 m k li (lfRow lf) (cumRow lf) (ix2 r d)
    = wg (chunk c n m q k v li lf) r * k (ix2 r d) := by
  pointwise [k0_pay31, gl_at c n m q k v li lf, mNew_at c n m q k v li lf, eye_at]
  simp only [select_ite, sum_diag]
  exact mul_comm _ _

theorem cNew_at (d e : Fin 128) : k0_pay32 (F := Ideal) k0_pay6 c m k v li (lfRow lf) (cumRow lf) (ix2 d e)
    = cNew (chunk c n m q k v li lf) d e := by
  pointwise [k0_pay32, decay_at c n m q k v li lf, kw_at c n m q k v li lf]
  rfl

theorem nNew_at (d : Fin 128) : k0_pay33 (F := Ideal) n m li (lfRow lf) (cumRow lf) (ix2 0 d)
      + k0_pay34 (F := Ideal) k0_pay6 m k li (lfRow lf) (cumRow lf) (ix1 d)
    = nNew (chunk c n m q k v li lf) d := by
  pointwise [k0_pay33, k0_pay34, decay_at c n m q k v li lf, kw_at c n m q k v li lf]
  rfl

/-! ## The convolution -/

variable (buf : FVec Ideal S1x8x128 .f32) (x : FVec Ideal S8x128 .f32) (b w0 w1 w2 w3 : FVec Ideal S1x128 .f32)

theorem ext_at (i : Fin 16) (d : Fin 128) : k0_pay8 (F := Ideal) buf x (ix2 i d)
    = if h : i.val < 8 then buf (ix3 0 ⟨i.val, h⟩ d) else x (ix2 ⟨i.val - 8, by omega⟩ d) := by
  pointwise [k0_pay8]

theorem convQ_at (r : Fin 8) (d : Fin 128) : k0_pay12 (F := Ideal) (k0_pay9 buf x b w0 w1 w2) (k0_pay10 buf x) (k0_pay11 w3) (ix2 r d)
    = conv (b (ix2 0 d)) (k0_pay8 (F := Ideal) buf x (ix2 ⟨r.val + 5, by omega⟩ d)) (k0_pay8 (F := Ideal) buf x (ix2 ⟨r.val + 6, by omega⟩ d))
        (k0_pay8 (F := Ideal) buf x (ix2 ⟨r.val + 7, by omega⟩ d)) (k0_pay8 (F := Ideal) buf x (ix2 ⟨r.val + 8, by omega⟩ d))
        (w0 (ix2 0 d)) (w1 (ix2 0 d)) (w2 (ix2 0 d)) (w3 (ix2 0 d)) * Ideal.ofBits .f32 0x3DB504F3#32 := by
  pointwise [k0_pay12, k0_pay11, k0_pay10, k0_pay9]
  have e5 : (⟨(8 + r.val + 16 - 3) % 16, Nat.mod_lt _ (by decide)⟩ : Fin 16) = ⟨r.val + 5, by omega⟩ := Fin.ext (by show (8 + r.val + 16 - 3) % 16 = r.val + 5; omega)
  have e6 : (⟨(8 + r.val + 16 - 2) % 16, Nat.mod_lt _ (by decide)⟩ : Fin 16) = ⟨r.val + 6, by omega⟩ := Fin.ext (by show (8 + r.val + 16 - 2) % 16 = r.val + 6; omega)
  have e7 : (⟨(8 + r.val + 16 - 1) % 16, Nat.mod_lt _ (by decide)⟩ : Fin 16) = ⟨r.val + 7, by omega⟩ := Fin.ext (by show (8 + r.val + 16 - 1) % 16 = r.val + 7; omega)
  have e8 : (⟨8 + r.val, by omega⟩ : Fin 16) = ⟨r.val + 8, by omega⟩ := Fin.ext (by show 8 + r.val = r.val + 8; omega)
  rw [e5, e6, e7, e8]
  rfl

theorem extK_at (i : Fin 16) (d : Fin 128) : k0_pay13 (F := Ideal) buf x (ix2 i d)
    = if h : i.val < 8 then buf (ix3 0 ⟨i.val, h⟩ d) else x (ix2 ⟨i.val - 8, by omega⟩ d) := by
  pointwise [k0_pay13]

theorem convK_at (r : Fin 8) (d : Fin 128) : k0_pay16 (F := Ideal) (k0_pay14 buf x b w0 w1 w2) (k0_pay15 buf x) w3 (ix2 r d)
    = conv (b (ix2 0 d)) (k0_pay13 (F := Ideal) buf x (ix2 ⟨r.val + 5, by omega⟩ d)) (k0_pay13 (F := Ideal) buf x (ix2 ⟨r.val + 6, by omega⟩ d))
        (k0_pay13 (F := Ideal) buf x (ix2 ⟨r.val + 7, by omega⟩ d)) (k0_pay13 (F := Ideal) buf x (ix2 ⟨r.val + 8, by omega⟩ d))
        (w0 (ix2 0 d)) (w1 (ix2 0 d)) (w2 (ix2 0 d)) (w3 (ix2 0 d)) := by
  pointwise [k0_pay16, k0_pay15, k0_pay14]
  have e5 : (⟨(8 + r.val + 16 - 3) % 16, Nat.mod_lt _ (by decide)⟩ : Fin 16) = ⟨r.val + 5, by omega⟩ := Fin.ext (by show (8 + r.val + 16 - 3) % 16 = r.val + 5; omega)
  have e6 : (⟨(8 + r.val + 16 - 2) % 16, Nat.mod_lt _ (by decide)⟩ : Fin 16) = ⟨r.val + 6, by omega⟩ := Fin.ext (by show (8 + r.val + 16 - 2) % 16 = r.val + 6; omega)
  have e7 : (⟨(8 + r.val + 16 - 1) % 16, Nat.mod_lt _ (by decide)⟩ : Fin 16) = ⟨r.val + 7, by omega⟩ := Fin.ext (by show (8 + r.val + 16 - 1) % 16 = r.val + 7; omega)
  have e8 : (⟨8 + r.val, by omega⟩ : Fin 16) = ⟨r.val + 8, by omega⟩ := Fin.ext (by show 8 + r.val = r.val + 8; omega)
  rw [e5, e6, e7, e8]
  rfl

end Cert.SampleKernelMath

end
-- ==== Proof.SampleRefMath.lean ====
/- One trip of the sample reference's loop read at an index: each intermediate of the trip is the chunk's value of the same
   name, at any batch entry and head. -/
module

public import proofs.«01_k».proof.Proof.Gen.SampleRefIdeal.Step
public import proofs.«01_k».proof.Proof.MlstmMath

@[expose] public section

set_option maxRecDepth 16384

noncomputable section

open Idealize.ShloMosaic Idealize.ShloMosaic.TcCoe Idealize.SL.Sem
open Cert.SampleRefIdeal Cert.SampleRefIdeal.Gen Cert.SampleRefIdeal.Step Cert.Mlstm

namespace Cert.SampleRefMath

variable (j : ℕ) (s : State Ideal) (b : Fin 32) (h : Fin 4)

/-- The chunk that trip `j` computes for batch entry `b` and head `h`. -/
def chunk : Chunk 8 where
  q r d := b5 j s (ix4 b h r d)
  k r d := b11 j s (ix4 b h r d)
  v r d := b17 j s (ix4 b h r d)
  li r := b22 j s (ix3 b h r)
  lf r := b27 j s (ix3 b h r)
  c d e := s.main_v78_7 (ix4 b h d e)
  n d := s.main_v78_8 (ix3 b h d)
  m := s.main_v78_9 (ix2 b h)

theorem causal_at (r t : Fin 8) : K_main_v61 (F := Ideal) (ix2 r t) = if t ≤ r then 1#1 else 0#1 := by
  pointwise [K_main_v61, K_main_call2_v4, K_main_call2_v2, K_main_call2_v0, K_main_call2_v1, K_main_call2_c, K_main_call2_v3, K_main_v60, K_main_c, K_main_call2_v5, K_main_call2_c_0]
  revert r t
  decide +kernel

theorem b30_at (r : Fin 8) : b30 j s (ix3 b h r) = bcum (chunk j s b h).lf r := by
  unfold b30
  exact cumsum3 rfl _ _ (fun i => by pointwise [b29, b28]) _ _ b h r

theorem b43_at (r t : Fin 8) : b43 j s (ix4 b h r t) = dmat (chunk j s b h) r t := by
  pointwise [b43, b42, b41, b40, b39, b38, b37, b36, b35, b34, b33, b32, b31, b30_at, causal_at]
  simp only [select_ite]
  rfl

theorem b46_at (r : Fin 8) : b46 j s (ix3 b h r) = inter (chunk j s b h) r := by
  pointwise [b46, b45, b44, b30_at]
  rfl

theorem b49_at (r : Fin 8) : b49 j s (ix3 b h r) = top (chunk j s b h) r := by
  pointwise [b49, b48, b47, b46_at, b43_at]
  rfl

theorem b53_at (r t : Fin 8) : b53 j s (ix4 b h r t) = wts (chunk j s b h) r t := by
  pointwise [b53, b52, b51, b50, b49_at, b43_at]
  rfl

theorem b55_at (r : Fin 8) : b55 j s (ix3 b h r) = carry (chunk j s b h) r := by
  pointwise [b55, b54, b49_at, b46_at]
  rfl

theorem b57_at (r t : Fin 8) : b57 j s (ix4 b h r t) = score (chunk j s b h) r t := by
  pointwise [b57, b56, b53_at]
  rfl

theorem b63_at (r : Fin 8) (e : Fin 128) : b63 j s (ix4 b h r e) = num (chunk j s b h) r e := by
  pointwise [b63, b62, b61, b60, b59, b58, b55_at, b57_at]
  rfl

theorem b68_at (r : Fin 8) : b68 j s (ix3 b h r) = den (chunk j s b h) r := by
  pointwise [b68, b67, b66, b65, b64, b55_at, b57_at]
  rfl

theorem b75_at (r : Fin 8) (e : Fin 128) : b75 j s (ix4 b h r e) = out (chunk j s b h) r e := by
  pointwise [b75, b74, b73, b72, b71, b70, b69, b49_at, b68_at, b63_at]
  rfl

theorem b77_at : b77 j s (ix2 b h) = blast (chunk j s b h).lf := by
  pointwise [b77, b76, b30_at]
  exact bcum_last _ _ rfl

theorem b81_at (t : Fin 8) : b81 j s (ix3 b h t) = gl (chunk j s b h) t := by
  pointwise [b81, b80, b79, b78, b77_at, b30_at]
  rfl

theorem b85_at : b85 j s (ix2 b h) = mNew (chunk j s b h) := by
  pointwise [b85, b84, b83, b82, b77_at, b81_at]
  rfl

theorem b88_at : b88 j s (ix2 b h) = decay (chunk j s b h) := by
  pointwise [b88, b87, b86, b77_at, b85_at]
  rfl

theorem b92_at (t : Fin 8) : b92 j s (ix3 b h t) = wg (chunk j s b h) t := by
  pointwise [b92, b91, b90, b89, b85_at, b81_at]
  rfl

theorem b100_at (d e : Fin 128) : b100 j s (ix4 b h d e) = cNew (chunk j s b h) d e := by
  pointwise [b100, b99, b98, b97, b96, b95, b94, b93, b88_at, b92_at]
  rfl

theorem b105_at (d : Fin 128) : b105 j s (ix3 b h d) = nNew (chunk j s b h) d := by
  pointwise [b105, b104, b103, b102, b101, b88_at, b92_at]
  rfl

end Cert.SampleRefMath

end
-- ==== Proof.SampleRefSetup.lean ====
/- What the sample reference hands its loop, read at an index: the convolved queries and keys, the values and the gates. -/
module

public import proofs.«01_k».proof.Proof.Gen.SampleRefIdeal.Step
public import proofs.«01_k».proof.Proof.MlstmMath

@[expose] public section

set_option maxRecDepth 16384

noncomputable section

open Idealize.ShloMosaic Idealize.ShloMosaic.TcCoe Idealize.SL.Sem
open Cert.SampleRefIdeal Cert.SampleRefIdeal.Gen Cert.SampleRefIdeal.Step Cert.Mlstm

namespace Cert.SampleRefSetup

variable (u : FVec Ideal S8448x6400 .f32) (gb : FVec Ideal S2x4 .f32) (cw : FVec Ideal S4x1024 .f32)
  (cb : FVec Ideal S1024 .f32) (buf : FVec Ideal S32x3x1024 .f32)

/-- Row `r` of batch entry `b` among the rows of the input. -/
abbrev row (b : Fin 32) (r : Fin 8) : Fin 8448 := ⟨8192 + (b.val * 8 + r.val), by omega⟩

theorem v1_at (b : Fin 32) (r : Fin 8) (x : Fin 6400) : A_main_v1 (F := Ideal) u gb cw cb buf (ix3 b r x) = u (ix2 (row b r) x) := by
  pointwise [A_main_v1, A_main_v0]

theorem v7_at (b : Fin 32) (r : Fin 8) (ch : Fin 1024) :
    A_main_v7 (F := Ideal) u gb cw cb buf (ix3 b r ch) = u (ix2 (row b r) ⟨4096 + ch.val, by omega⟩) := by
  pointwise [A_main_v7, A_main_v2, A_main_v3, v1_at]
  split
  · rfl
  · exact congrArg u ((ix2_inj ..).2 ⟨rfl, Fin.ext (by show 4608 + (ch.val - 512) = 4096 + ch.val; omega)⟩)

/-- Row `i` of the convolution's input: three rows of history and then the batch entry's rows. -/
def ext (b : Fin 32) (i : Fin 11) (ch : Fin 1024) : EReal :=
  if h : i.val < 3 then buf (ix3 b ⟨i.val, h⟩ ch) else u (ix2 (row b ⟨i.val - 3, by omega⟩) ⟨4096 + ch.val, by omega⟩)

theorem v8_at (b : Fin 32) (i : Fin 11) (ch : Fin 1024) :
    A_main_v8 (F := Ideal) u gb cw cb buf (ix3 b i ch) = ext u buf b i ch := by
  pointwise [A_main_v8, v7_at]
  rfl

/-- One channel of the convolution's output. -/
def convd (b : Fin 32) (r : Fin 8) (ch : Fin 1024) : EReal :=
  conv (cb (ix1 ch)) (ext u buf b ⟨r.val, by omega⟩ ch) (ext u buf b ⟨1 + r.val, by omega⟩ ch) (ext u buf b ⟨2 + r.val, by omega⟩ ch)
    (ext u buf b ⟨3 + r.val, by omega⟩ ch) (cw (ix2 0 ch)) (cw (ix2 1 ch)) (cw (ix2 2 ch)) (cw (ix2 3 ch))

theorem v38_at (b : Fin 32) (r : Fin 8) (ch : Fin 1024) : A_main_v38 (F := Ideal) u gb cw cb buf (ix3 b r ch)
    = cb (ix1 ch) + ext u buf b ⟨r.val, by omega⟩ ch * cw (ix2 0 ch) + ext u buf b ⟨1 + r.val, by omega⟩ ch * cw (ix2 1 ch)
      + ext u buf b ⟨2 + r.val, by omega⟩ ch * cw (ix2 2 ch) + ext u buf b ⟨3 + r.val, by omega⟩ ch * cw (ix2 3 ch) := by
  pointwise [A_main_v38, A_main_v37, A_main_v36, A_main_v35, A_main_v34, A_main_v33, A_main_v32, A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v11, A_main_v10, A_main_v9, v8_at]

theorem v39_at (b : Fin 32) (r : Fin 8) (ch : Fin 1024) : A_main_v39 (F := Ideal) u gb cw cb buf (ix3 b r ch)
    = convd u cw cb buf b r ch := by
  pointwise [A_main_v39, A_main_call0_v5, A_main_call0_v3, A_main_call0_v1, A_main_call0_v0, K_main_call0_v2, K_main_call0_v4, K_main_call0_cst, K_main_call0_cst_0, v38_at]
  rfl

theorem q_at (b : Fin 32) (h : Fin 4) (r : Fin 8) (d : Fin 128) : A_main_v64 (F := Ideal) u gb cw cb buf (ix5 0 b h r d)
    = convd u cw cb buf b r ⟨h.val * 128 + d.val, by omega⟩ * Ideal.ofBits .f32 0x3DB504F3#32 := by
  pointwise [A_main_v64, A_main_v63, A_main_v62, A_main_v44, K_main_v43, K_main_cst, A_main_v42, A_main_v40, v39_at]

theorem k_at (b : Fin 32) (h : Fin 4) (r : Fin 8) (d : Fin 128) : A_main_v67 (F := Ideal) u gb cw cb buf (ix5 0 b h r d)
    = convd u cw cb buf b r ⟨512 + (h.val * 128 + d.val), by omega⟩ := by
  pointwise [A_main_v67, A_main_v66, A_main_v65, A_main_v45, A_main_v41, v39_at]

theorem v_at (b : Fin 32) (h : Fin 4) (r : Fin 8) (d : Fin 128) : A_main_v70 (F := Ideal) u gb cw cb buf (ix5 0 b h r d)
    = u (ix2 (row b r) ⟨5120 + (h.val * 128 + d.val), by omega⟩) := by
  pointwise [A_main_v70, A_main_v69, A_main_v68, A_main_v46, A_main_v4, v1_at]

theorem li_at (b : Fin 32) (h : Fin 4) (r : Fin 8) : A_main_v73 (F := Ideal) u gb cw cb buf (ix4 0 b h r)
    = u (ix2 (row b r) ⟨6168 + h.val, by omega⟩) + gb (ix2 0 h) := by
  pointwise [A_main_v73, A_main_v72, A_main_v71, A_main_v51, A_main_v50, A_main_v49, A_main_v48, A_main_v47, A_main_v5, v1_at]

theorem lf_at (b : Fin 32) (h : Fin 4) (r : Fin 8) : A_main_v76 (F := Ideal) u gb cw cb buf (ix4 0 b h r)
    = lsig (u (ix2 (row b r) ⟨6172 + h.val, by omega⟩) + gb (ix2 1 h)) := by
  pointwise [A_main_v76, A_main_v75, A_main_v74, A_main_v59, A_main_v58, A_main_call1_v11, A_main_call1_v10, A_main_call1_v9, A_main_call1_v8, A_main_call1_v7, A_main_call1_v6, A_main_call1_v4, A_main_call1_v3, A_main_call1_v1, K_main_call1_v0, K_main_call1_v2, K_main_call1_v5, K_main_call1_cst, A_main_v57, A_main_v56, A_main_v55, A_main_v54, A_main_v53, A_main_v52, A_main_v6, v1_at]
  simp only [ne_eq, not_true_eq_false, if_false]
  rfl

end Cert.SampleRefSetup

end
-- ==== Proof.Stack.lean ====
/- Reading one entry of a stack: the slice a loop's trip takes, and the stack after the trip has stored its own entry. -/
module

public import Idealize.ShloMosaic.Lib.Pointwise
public import Idealize.ShloMosaic.Lib.Claim

@[expose] public section

noncomputable section

open Idealize.ShloMosaic

namespace Cert.Stack

variable {α : Type} {n B C D E : ℕ} (start : Fin 5 → Int) (j : Fin n) (h0 : start 0 = (j.val : Int)) (h1 : start 1 = 0)
  (h2 : start 2 = 0) (h3 : start 3 = 0) (h4 : start 4 = 0)

include h0 h1 h2 h3 h4

/-- The clamped start of a whole entry is the entry's number, then zeros. -/
theorem clamp5 (ht : (⟨5, ![1, B, C, D, E]⟩ : Shape).rank = (⟨5, ![n, B, C, D, E]⟩ : Shape).rank) :
    Host.clampedStart ⟨5, ![n, B, C, D, E]⟩ ⟨5, ![1, B, C, D, E]⟩ ht start = ![j.val, 0, 0, 0, 0] := by
  funext a
  match a with
  | ⟨0, _⟩ => exact Host.clampedStart_of_le _ _ _ j.val h0 (by show j.val + 1 ≤ n; omega)
  | ⟨1, _⟩ => exact Host.clampedStart_of_le _ _ _ 0 h1 (by show 0 + B ≤ B; omega)
  | ⟨2, _⟩ => exact Host.clampedStart_of_le _ _ _ 0 h2 (by show 0 + C ≤ C; omega)
  | ⟨3, _⟩ => exact Host.clampedStart_of_le _ _ _ 0 h3 (by show 0 + D ≤ D; omega)
  | ⟨4, _⟩ => exact Host.clampedStart_of_le _ _ _ 0 h4 (by show 0 + E ≤ E; omega)

theorem slice5 (x : (⟨5, ![n, B, C, D, E]⟩ : Shape).Idx → α) (hs : (⟨5, ![n, B, C, D, E]⟩ : Shape).Slices (fun _ => 0) ⟨5, ![1, B, C, D, E]⟩)
    (b : Fin B) (c : Fin C) (d : Fin D) (e : Fin E) :
    Host.dynamicSlice ⟨5, ![1, B, C, D, E]⟩ x start hs (ix5 0 b c d e) = x (ix5 j b c d e) := by
  rw [Host.dynamicSlice_apply]
  refine congrArg x ((Shape.Idx.norm_def _).trans (funext fun a => Fin.ext ?_))
  have k := clamp5 start j h0 h1 h2 h3 h4 hs.1
  match a with
  | ⟨0, _⟩ => exact (congrArg (· + 0) (congrFun k 0)).trans (Nat.add_zero _)
  | ⟨1, _⟩ => exact (congrArg (· + b.val) (congrFun k 1)).trans (Nat.zero_add _)
  | ⟨2, _⟩ => exact (congrArg (· + c.val) (congrFun k 2)).trans (Nat.zero_add _)
  | ⟨3, _⟩ => exact (congrArg (· + d.val) (congrFun k 3)).trans (Nat.zero_add _)
  | ⟨4, _⟩ => exact (congrArg (· + e.val) (congrFun k 4)).trans (Nat.zero_add _)

theorem update5 (x : (⟨5, ![n, B, C, D, E]⟩ : Shape).Idx → α) (y : (⟨5, ![1, B, C, D, E]⟩ : Shape).Idx → α)
    (hs : (⟨5, ![n, B, C, D, E]⟩ : Shape).Slices (fun _ => 0) ⟨5, ![1, B, C, D, E]⟩)
    (i : Fin n) (b : Fin B) (c : Fin C) (d : Fin D) (e : Fin E) :
    Host.dynamicUpdateSlice x y start hs (ix5 i b c d e) = if i = j then y (ix5 0 b c d e) else x (ix5 i b c d e) := by
  rw [Host.dynamicUpdateSlice_apply]
  have k := clamp5 start j h0 h1 h2 h3 h4 hs.1
  simp only [k]
  by_cases hij : i = j
  · subst hij
    rw [if_pos rfl, dif_pos]
    · refine congrArg y ((Shape.Idx.norm_def _).trans (funext fun a => Fin.ext ?_))
      match a with
      | ⟨0, _⟩ => exact Nat.sub_self _
      | ⟨1, _⟩ => rfl
      | ⟨2, _⟩ => rfl
      | ⟨3, _⟩ => rfl
      | ⟨4, _⟩ => rfl
    · intro a
      match a with
      | ⟨0, _⟩ => exact ⟨Nat.le_refl _, Nat.lt_succ_self _⟩
      | ⟨1, _⟩ => exact ⟨Nat.zero_le _, by show b.val < 0 + B; omega⟩
      | ⟨2, _⟩ => exact ⟨Nat.zero_le _, by show c.val < 0 + C; omega⟩
      | ⟨3, _⟩ => exact ⟨Nat.zero_le _, by show d.val < 0 + D; omega⟩
      | ⟨4, _⟩ => exact ⟨Nat.zero_le _, by show e.val < 0 + E; omega⟩
  · rw [if_neg hij, dif_neg]
    intro hh
    have hz := hh 0
    have ha : j.val ≤ i.val := hz.1
    have hb : i.val < j.val + 1 := hz.2
    exact hij (Fin.ext (by omega))

omit h0 h1 h2 h3 h4 in
theorem slice4 (start : Fin 4 → Int) (h0 : start 0 = (j.val : Int)) (h1 : start 1 = 0) (h2 : start 2 = 0) (h3 : start 3 = 0)
    (x : (⟨4, ![n, B, C, D]⟩ : Shape).Idx → α) (hs : (⟨4, ![n, B, C, D]⟩ : Shape).Slices (fun _ => 0) ⟨4, ![1, B, C, D]⟩)
    (b : Fin B) (c : Fin C) (d : Fin D) :
    Host.dynamicSlice ⟨4, ![1, B, C, D]⟩ x start hs (ix4 0 b c d) = x (ix4 j b c d) := by
  rw [Host.dynamicSlice_apply]
  refine congrArg x ((Shape.Idx.norm_def _).trans (funext fun a => Fin.ext ?_))
  match a with
  | ⟨0, _⟩ => exact (congrArg (· + 0) (Host.clampedStart_of_le hs.1 start 0 j.val h0 (by show j.val + 1 ≤ n; omega))).trans (Nat.add_zero _)
  | ⟨1, _⟩ => exact (congrArg (· + b.val) (Host.clampedStart_of_le hs.1 start 1 0 h1 (by show 0 + B ≤ B; omega))).trans (Nat.zero_add _)
  | ⟨2, _⟩ => exact (congrArg (· + c.val) (Host.clampedStart_of_le hs.1 start 2 0 h2 (by show 0 + C ≤ C; omega))).trans (Nat.zero_add _)
  | ⟨3, _⟩ => exact (congrArg (· + d.val) (Host.clampedStart_of_le hs.1 start 3 0 h3 (by show 0 + D ≤ D; omega))).trans (Nat.zero_add _)

end Cert.Stack

end
-- ==== Proof.SampleModel.lean ====
/- The sample reference's results read at an index: the chunk each batch entry and head starts from, and what the single trip
   makes of it. -/
module

public import proofs.«01_k».proof.Proof.SampleRefMath
public import proofs.«01_k».proof.Proof.SampleRefSetup
public import proofs.«01_k».proof.Proof.Stack

@[expose] public section

set_option maxRecDepth 16384

noncomputable section

open Idealize.ShloMosaic Idealize.ShloMosaic.TcCoe Idealize.SL.Sem
open Cert.SampleRefIdeal Cert.SampleRefIdeal.Gen Cert.SampleRefIdeal.Step Cert.Mlstm Cert.SampleRefMath Cert.SampleRefSetup Cert.Stack

namespace Cert.SampleModel

variable (u : FVec Ideal S8448x6400 .f32) (gb : FVec Ideal S2x4 .f32) (cw : FVec Ideal S4x1024 .f32)
  (cb : FVec Ideal S1024 .f32) (g : FVec Ideal S128 .f32) (c0 : FVec Ideal S32x4x128x128 .f32) (n0 : FVec Ideal S32x4x128 .f32)
  (m0 : FVec Ideal S32x4 .f32) (buf : FVec Ideal S32x3x1024 .f32) (b : Fin 32) (h : Fin 4)

/-- The chunk of batch entry `b` and head `h`, of the arguments. -/
def model : Chunk 8 where
  q r d := convd u cw cb buf b r ⟨h.val * 128 + d.val, by omega⟩ * Ideal.ofBits .f32 0x3DB504F3#32
  k r d := convd u cw cb buf b r ⟨512 + (h.val * 128 + d.val), by omega⟩
  v r d := u (ix2 (row b r) ⟨5120 + (h.val * 128 + d.val), by omega⟩)
  li r := u (ix2 (row b r) ⟨6168 + h.val, by omega⟩) + gb (ix2 0 h)
  lf r := lsig (u (ix2 (row b r) ⟨6172 + h.val, by omega⟩) + gb (ix2 1 h))
  c d e := c0 (ix4 b h d e)
  n d := n0 (ix3 b h d)
  m := m0 (ix2 b h)

/-- The state the trip starts from. -/
abbrev st : State Ideal := init c0 n0 m0 u gb cw cb buf

/-! What the trip slices out of each stack is the stack's only entry. -/

variable (s : State Ideal)

theorem b4_at (r : Fin 8) (d : Fin 128) : b4 0 s (ix5 0 b h r d) = s.main_v78_0 (ix5 0 b h r d) :=
  slice5 _ (0 : Fin 1) rfl rfl rfl rfl rfl _ _ b h r d

theorem b10_at (r : Fin 8) (d : Fin 128) : b10 0 s (ix5 0 b h r d) = s.main_v78_1 (ix5 0 b h r d) :=
  slice5 _ (0 : Fin 1) rfl rfl rfl rfl rfl _ _ b h r d

theorem b16_at (r : Fin 8) (d : Fin 128) : b16 0 s (ix5 0 b h r d) = s.main_v78_2 (ix5 0 b h r d) :=
  slice5 _ (0 : Fin 1) rfl rfl rfl rfl rfl _ _ b h r d

theorem b21_at (r : Fin 8) : b21 0 s (ix4 0 b h r) = s.main_v78_3 (ix4 0 b h r) :=
  slice4 (0 : Fin 1) _ rfl rfl rfl rfl _ _ b h r

theorem b26_at (r : Fin 8) : b26 0 s (ix4 0 b h r) = s.main_v78_4 (ix4 0 b h r) :=
  slice4 (0 : Fin 1) _ rfl rfl rfl rfl _ _ b h r

theorem b111_upd (r : Fin 8) (e : Fin 128) : b111 0 s (ix5 0 b h r e) = b106 0 s (ix5 0 b h r e) :=
  (update5 _ (0 : Fin 1) rfl rfl rfl rfl rfl _ _ _ 0 b h r e).trans (if_pos rfl)

theorem start_q (r : Fin 8) (d : Fin 128) : b5 0 (st u gb cw cb c0 n0 m0 buf) (ix4 b h r d) = (model u gb cw cb c0 n0 m0 buf b h).q r d := by
  pointwise [b5, b4_at, st, init, q_at]
  rfl

theorem start_k (r : Fin 8) (d : Fin 128) : b11 0 (st u gb cw cb c0 n0 m0 buf) (ix4 b h r d) = (model u gb cw cb c0 n0 m0 buf b h).k r d := by
  pointwise [b11, b10_at, st, init, k_at]
  rfl

theorem start_v (r : Fin 8) (d : Fin 128) : b17 0 (st u gb cw cb c0 n0 m0 buf) (ix4 b h r d) = (model u gb cw cb c0 n0 m0 buf b h).v r d := by
  pointwise [b17, b16_at, st, init, v_at]
  rfl

theorem start_li (r : Fin 8) : b22 0 (st u gb cw cb c0 n0 m0 buf) (ix3 b h r) = (model u gb cw cb c0 n0 m0 buf b h).li r := by
  pointwise [b22, b21_at, st, init, li_at]
  rfl

theorem start_lf (r : Fin 8) : b27 0 (st u gb cw cb c0 n0 m0 buf) (ix3 b h r) = (model u gb cw cb c0 n0 m0 buf b h).lf r := by
  pointwise [b27, b26_at, st, init, lf_at]
  rfl

theorem start : chunk 0 (st u gb cw cb c0 n0 m0 buf) b h = model u gb cw cb c0 n0 m0 buf b h := by
  have e : ∀ X Y : Chunk 8, X.q = Y.q → X.k = Y.k → X.v = Y.v → X.li = Y.li → X.lf = Y.lf → X.c = Y.c → X.n = Y.n → X.m = Y.m → X = Y := by
    rintro ⟨⟩ ⟨⟩ h1 h2 h3 h4 h5 h6 h7 h8
    cases h1; cases h2; cases h3; cases h4; cases h5; cases h6; cases h7; cases h8
    rfl
  refine e _ _ ?_ ?_ ?_ ?_ ?_ rfl rfl rfl
  · funext r d; exact start_q ..
  · funext r d; exact start_k ..
  · funext r d; exact start_v ..
  · funext r; exact start_li ..
  · funext r; exact start_lf ..

theorem c_at (d e : Fin 128) : R_main_v106 (step 0 (st u gb cw cb c0 n0 m0 buf)) (ix3 ⟨b.val * 4 + h.val, by omega⟩ d e)
    = cNew (model u gb cw cb c0 n0 m0 buf b h) d e := by
  pointwise [R_main_v106, step_main_v78_7, b100_at, start]

theorem n_at (d : Fin 128) : R_main_v107 (step 0 (st u gb cw cb c0 n0 m0 buf)) (ix3 ⟨b.val * 4 + h.val, by omega⟩ 0 d)
    = nNew (model u gb cw cb c0 n0 m0 buf b h) d := by
  pointwise [R_main_v107, step_main_v78_8, b105_at, start]

theorem m_at (d : Fin 128) : R_main_v109 (step 0 (st u gb cw cb c0 n0 m0 buf)) (ix3 ⟨b.val * 4 + h.val, by omega⟩ 0 d)
    = mNew (model u gb cw cb c0 n0 m0 buf b h) := by
  pointwise [R_main_v109, step_main_v78_9, b85_at, start]

theorem b111_at (r : Fin 8) (e : Fin 128) : b111 0 (st u gb cw cb c0 n0 m0 buf) (ix5 0 b h r e)
    = out (model u gb cw cb c0 n0 m0 buf b h) r e := by
  pointwise [b111_upd, b106, b75_at, start]

theorem h_at (r : Fin 8) (e : Fin 128) :
    R_main_v105 (step 0 (st u gb cw cb c0 n0 m0 buf)) u g (ix2 ⟨b.val * 8 + r.val, by omega⟩ ⟨h.val * 128 + e.val, by omega⟩)
    = gated (fun d => out (model u gb cw cb c0 n0 m0 buf b h) r d) (g (ix1 e)) (u (ix2 (row b r) ⟨5632 + (h.val * 128 + e.val), by omega⟩)) e := by
  pointwise [R_main_v105, step_main_v78_10, b111_at]
  rfl

end Cert.SampleModel

end
-- ==== Proof.SampleValue.lean ====
/- The sample kernel's result arrays: each point's operands are the chunk of its batch entry and head, so the blocks it writes
   are the reference's values, and the blocks cover the arrays. -/
module

public import proofs.«01_k».proof.Proof.SampleBlocks
public import proofs.«01_k».proof.Proof.SampleKernelMath
public import proofs.«01_k».proof.Proof.SampleModel

@[expose] public section

set_option maxRecDepth 16384

noncomputable section

open Idealize.ShloMosaic Idealize.ShloMosaic.TcCoe Idealize.SL.Sem
open Idealize.ShloMosaic.Pipeline (Dat)
open Cert.SampleIdeal Cert.SampleIdeal.Gen Cert.Mlstm Cert.SampleBlocks Cert.SampleKernelMath

namespace Cert.SampleValue

/-! ## The reshapes around the body -/

theorem pay1_at (x : FVec Ideal S128x128 .f32) (d e : Fin 128) : k0_pay1 (F := Ideal) x (ix3 0 d e) = x (ix2 d e) := by
  pointwise [k0_pay1]
theorem pay2_at (x : FVec Ideal S1x128 .f32) (y : FVec Ideal S128 .f32) (d : Fin 128) :
    k0_pay2 (F := Ideal) x y (ix3 0 0 d) = x (ix2 0 d) + y (ix1 d) := by
  pointwise [k0_pay2]
theorem pay3_at (x : FVec Ideal S1x1 .f32) (d : Fin 128) : k0_pay3 (F := Ideal) x (ix3 0 0 d) = x (ix2 0 0) := by
  pointwise [k0_pay3]
theorem pay7_at (x : FVec Ideal S1x128 .f32) (d : Fin 128) : k0_pay7 (F := Ideal) x (ix2 0 d) = x (ix2 0 d) := by
  pointwise [k0_pay7]
theorem pay17_at (x : FVec Ideal S1x128x128 .f32) (d e : Fin 128) : k0_pay17 (F := Ideal) x (ix2 d e) = x (ix3 0 d e) := by
  pointwise [k0_pay17]
theorem pay18_at (x : FVec Ideal S1x1x128 .f32) (d : Fin 128) : k0_pay18 (F := Ideal) x (ix2 0 d) = x (ix3 0 0 d) := by
  pointwise [k0_pay18]
theorem pay19_at (x : FVec Ideal S1x1x128 .f32) : k0_pay19 (F := Ideal) x (ix2 0 0) = x (ix3 0 0 0) := by
  pointwise [k0_pay19]
theorem pay20_at (x : FVec Ideal S1x1x8 .f32) (r : Fin 8) : k0_pay20 (F := Ideal) x (ix2 0 r) = x (ix3 0 0 r) := by
  pointwise [k0_pay20]

/-- One row of a block of eight. -/
theorem row_at (x : FVec Ideal S8x128 .f32) (k : ℕ) (hk : k < 8) (d : Fin 128) (hw) :
    (View.ld (Val := Elt Ideal) (e' := .f32) (S := S8x128) x (Rect.unit ![k, 0] ![1, 128] hw) : FVec Ideal S1x128 .f32) (ix2 0 d)
      = x (ix2 ⟨k, hk⟩ d) :=
  View.ld_unit_apply_of (Val := Elt Ideal) (e := .f32) x _ _ hw (ix2 0 d) (ix2 ⟨k, hk⟩ d) fun a => match a with
    | ⟨0, _⟩ => rfl
    | ⟨1, _⟩ => (Nat.zero_add _).symm

variable (m : (ℓ : Loc nD τ sig) → Buf (Elt Ideal) ℓ) (c : Dev nD) (t : Fin cfg0.N)

/-! ## The operands of a point -/

abbrev kC : FVec Ideal S128x128 .f32 := k0_pay17 (F := Ideal) (iblk m c 12 t)
abbrev kN : FVec Ideal S1x128 .f32 := k0_pay18 (F := Ideal) (iblk m c 13 t)
abbrev kM : FVec Ideal S1x1 .f32 := k0_pay19 (F := Ideal) (iblk m c 14 t)
abbrev kQ : FVec Ideal S8x128 .f32 := k0_pay12 (F := Ideal)
  (k0_pay9 (iblk m c 4 t) (iblk m c 0 t) (iblk m c 8 t)
    (View.ld (iblk m c 6 t) (Rect.unit ![0, 0] ![1, 128] inb_S8x128_S1x128_0_0))
    (View.ld (iblk m c 6 t) (Rect.unit ![1, 0] ![1, 128] inb_S8x128_S1x128_1_0))
    (View.ld (iblk m c 6 t) (Rect.unit ![2, 0] ![1, 128] inb_S8x128_S1x128_2_0)))
  (k0_pay10 (iblk m c 4 t) (iblk m c 0 t))
  (k0_pay11 (View.ld (iblk m c 6 t) (Rect.unit ![3, 0] ![1, 128] inb_S8x128_S1x128_3_0)))
abbrev kK : FVec Ideal S8x128 .f32 := k0_pay16 (F := Ideal)
  (k0_pay14 (iblk m c 5 t) (iblk m c 1 t) (iblk m c 9 t)
    (View.ld (iblk m c 7 t) (Rect.unit ![0, 0] ![1, 128] inb_S8x128_S1x128_0_0))
    (View.ld (iblk m c 7 t) (Rect.unit ![1, 0] ![1, 128] inb_S8x128_S1x128_1_0))
    (View.ld (iblk m c 7 t) (Rect.unit ![2, 0] ![1, 128] inb_S8x128_S1x128_2_0)))
  (k0_pay15 (iblk m c 5 t) (iblk m c 1 t))
  (View.ld (iblk m c 7 t) (Rect.unit ![3, 0] ![1, 128] inb_S8x128_S1x128_3_0))
abbrev kLi : FVec Ideal S1x8 .f32 := k0_pay20 (F := Ideal) (iblk m c 10 t)

/-- What a point leaves in its four output blocks. -/
theorem out16 : (outsAt0 m c t).1 = k0_pay26 (F := Ideal) (k0_pay7 (iblk m c 15 t))
    (k0_pay25 k0_pay4 k0_pay5 k0_pay6 (kC m c t) (kN m c t) (kM m c t) (kQ m c t) (kK m c t) (iblk m c 2 t) (kLi m c t)
      (cumCol (iblk m c 11 t)) (k0_pay23 (iblk m c 11 t)) (Scalar.ofBits .f32 0x00000000#32)) (iblk m c 3 t) := by
  simp only [outsAt0]
  frame_out
  rfl
theorem out17 : (outsAt0 m c t).2.1 = k0_pay1 (F := Ideal) (k0_pay32 k0_pay6 (kC m c t) (kM m c t) (kK m c t) (iblk m c 2 t)
    (kLi m c t) (lfRow (iblk m c 11 t)) (cumRow (iblk m c 11 t))) := by
  simp only [outsAt0]
  frame_out
  rfl
theorem out18 : (outsAt0 m c t).2.2.1 = k0_pay2 (F := Ideal) (k0_pay33 (kN m c t) (kM m c t) (kLi m c t)
    (lfRow (iblk m c 11 t)) (cumRow (iblk m c 11 t)))
    (k0_pay34 k0_pay6 (kM m c t) (kK m c t) (kLi m c t) (lfRow (iblk m c 11 t)) (cumRow (iblk m c 11 t))) := by
  simp only [outsAt0]
  frame_out
  rfl
theorem out19 : (outsAt0 m c t).2.2.2 = k0_pay3 (F := Ideal) (k0_pay29 (kM m c t) (kLi m c t)
    (lfRow (iblk m c 11 t)) (cumRow (iblk m c 11 t))) := by
  simp only [outsAt0]
  frame_out

variable (b : Fin 32) (h : Fin 4)

/-- The chunk of batch entry `b` and head `h`. -/
abbrev M : Chunk 8 := Cert.SampleModel.model (aU m c) (aG m c) (aW m c) (aB m c) (aC0 m c) (aN0 m c) (aM0 m c) (aBuf m c) b h

theorem lf_model (r : Fin 8) : (M m c b h).lf r
    = lsig (aU m c (ix2 (row b r) ⟨6172 + h.val, by omega⟩) + aG m c (ix2 1 h)) := by
  unfold M Cert.SampleModel.model
  exact congrArg lsig rfl

variable (hb : t.val / 4 = b.val) (hh : t.val % 4 = h.val)
include hb hh

theorem extq (i : Fin 11) (d : Fin 128) : k0_pay8 (F := Ideal) (iblk m c 4 t) (iblk m c 0 t) (ix2 ⟨i.val + 5, by omega⟩ d)
    = Cert.SampleRefSetup.ext (aU m c) (aBuf m c) b i ⟨h.val * 128 + d.val, by omega⟩ := by
  rw [ext_at]
  unfold Cert.SampleRefSetup.ext
  by_cases hi : i.val < 3
  · rw [dif_pos hi, dif_pos (show i.val + 5 < 8 by omega)]
    have e : (⟨i.val + 5, by omega⟩ : Fin 8) = ⟨5 + (⟨i.val, hi⟩ : Fin 3).val, by omega⟩ := Fin.ext (Nat.add_comm _ _)
    rw [e]
    exact blk4 m c t b h hb hh ⟨i.val, hi⟩ d
  · rw [dif_neg hi, dif_neg (show ¬ i.val + 5 < 8 by omega)]
    have e : (⟨i.val + 5 - 8, by omega⟩ : Fin 8) = ⟨i.val - 3, by omega⟩ := Fin.ext (by show i.val + 5 - 8 = i.val - 3; omega)
    rw [e]
    exact blk0 m c t b h hb hh ⟨i.val - 3, by omega⟩ d

theorem extk (i : Fin 11) (d : Fin 128) : k0_pay13 (F := Ideal) (iblk m c 5 t) (iblk m c 1 t) (ix2 ⟨i.val + 5, by omega⟩ d)
    = Cert.SampleRefSetup.ext (aU m c) (aBuf m c) b i ⟨512 + (h.val * 128 + d.val), by omega⟩ := by
  rw [extK_at]
  unfold Cert.SampleRefSetup.ext
  by_cases hi : i.val < 3
  · rw [dif_pos hi, dif_pos (show i.val + 5 < 8 by omega)]
    have e : (⟨i.val + 5, by omega⟩ : Fin 8) = ⟨5 + (⟨i.val, hi⟩ : Fin 3).val, by omega⟩ := Fin.ext (Nat.add_comm _ _)
    rw [e]
    exact blk5 m c t b h hb hh ⟨i.val, hi⟩ d
  · rw [dif_neg hi, dif_neg (show ¬ i.val + 5 < 8 by omega)]
    have e : (⟨i.val + 5 - 8, by omega⟩ : Fin 8) = ⟨i.val - 3, by omega⟩ := Fin.ext (by show i.val + 5 - 8 = i.val - 3; omega)
    rw [e]
    refine (blk1 m c t b h hb hh ⟨i.val - 3, by omega⟩ d).trans (congrArg (aU m c) ((ix2_inj ..).2 ⟨rfl, Fin.ext ?_⟩))
    show 4608 + (h.val * 128 + d.val) = 4096 + (512 + (h.val * 128 + d.val))
    omega

theorem q_at (r : Fin 8) (d : Fin 128) : kQ m c t (ix2 r d) = (M m c b h).q r d := by
  refine (convQ_at _ _ _ _ _ _ _ r d).trans ?_
  refine congrArg (· * Ideal.ofBits .f32 0x3DB504F3#32) ?_
  rw [(row_at (iblk m c 6 t) 0 (by decide) d _).trans (blk6 m c t b h hb hh 0 d), (row_at (iblk m c 6 t) 1 (by decide) d _).trans (blk6 m c t b h hb hh 1 d),
    (row_at (iblk m c 6 t) 2 (by decide) d _).trans (blk6 m c t b h hb hh 2 d), (row_at (iblk m c 6 t) 3 (by decide) d _).trans (blk6 m c t b h hb hh 3 d),
    blk8 m c t b h hb hh d]
  have e1 := extq m c t b h hb hh ⟨r.val, by omega⟩ d
  have e2 := extq m c t b h hb hh ⟨1 + r.val, by omega⟩ d
  have e3 := extq m c t b h hb hh ⟨2 + r.val, by omega⟩ d
  have e4 := extq m c t b h hb hh ⟨3 + r.val, by omega⟩ d
  have f2 : (⟨1 + r.val + 5, by omega⟩ : Fin 16) = ⟨r.val + 6, by omega⟩ := Fin.ext (by show 1 + r.val + 5 = r.val + 6; omega)
  have f3 : (⟨2 + r.val + 5, by omega⟩ : Fin 16) = ⟨r.val + 7, by omega⟩ := Fin.ext (by show 2 + r.val + 5 = r.val + 7; omega)
  have f4 : (⟨3 + r.val + 5, by omega⟩ : Fin 16) = ⟨r.val + 8, by omega⟩ := Fin.ext (by show 3 + r.val + 5 = r.val + 8; omega)
  rw [f2] at e2
  rw [f3] at e3
  rw [f4] at e4
  rw [e1, e2, e3, e4]
  rfl

theorem k_at (r : Fin 8) (d : Fin 128) : kK m c t (ix2 r d) = (M m c b h).k r d := by
  refine (convK_at _ _ _ _ _ _ _ r d).trans ?_
  rw [(row_at (iblk m c 7 t) 0 (by decide) d _).trans (blk7 m c t b h hb hh 0 d), (row_at (iblk m c 7 t) 1 (by decide) d _).trans (blk7 m c t b h hb hh 1 d),
    (row_at (iblk m c 7 t) 2 (by decide) d _).trans (blk7 m c t b h hb hh 2 d), (row_at (iblk m c 7 t) 3 (by decide) d _).trans (blk7 m c t b h hb hh 3 d),
    blk9 m c t b h hb hh d]
  have e1 := extk m c t b h hb hh ⟨r.val, by omega⟩ d
  have e2 := extk m c t b h hb hh ⟨1 + r.val, by omega⟩ d
  have e3 := extk m c t b h hb hh ⟨2 + r.val, by omega⟩ d
  have e4 := extk m c t b h hb hh ⟨3 + r.val, by omega⟩ d
  have f2 : (⟨1 + r.val + 5, by omega⟩ : Fin 16) = ⟨r.val + 6, by omega⟩ := Fin.ext (by show 1 + r.val + 5 = r.val + 6; omega)
  have f3 : (⟨2 + r.val + 5, by omega⟩ : Fin 16) = ⟨r.val + 7, by omega⟩ := Fin.ext (by show 2 + r.val + 5 = r.val + 7; omega)
  have f4 : (⟨3 + r.val + 5, by omega⟩ : Fin 16) = ⟨r.val + 8, by omega⟩ := Fin.ext (by show 3 + r.val + 5 = r.val + 8; omega)
  rw [f2] at e2
  rw [f3] at e3
  rw [f4] at e4
  rw [e1, e2, e3, e4]
  rfl

theorem c_at (d e : Fin 128) : kC m c t (ix2 d e) = (M m c b h).c d e :=
  (pay17_at (iblk m c 12 t) d e).trans (blk12 m c t b h hb hh d e)

theorem n_at (d : Fin 128) : kN m c t (ix2 0 d) = (M m c b h).n d :=
  (pay18_at (iblk m c 13 t) d).trans (blk13 m c t b h hb hh d)

theorem m_at : kM m c t (ix2 0 0) = (M m c b h).m :=
  (pay19_at (iblk m c 14 t)).trans (blk14 m c t b h hb hh 0)

theorem v_at (r : Fin 8) (d : Fin 128) : iblk m c 2 t (ix2 r d) = (M m c b h).v r d :=
  blk2 m c t b h hb hh r d

theorem li_at (r : Fin 8) : kLi m c t (ix2 0 r) = (M m c b h).li r :=
  (pay20_at (iblk m c 10 t) r).trans (blk10 m c t b h hb hh r)

theorem lf_at (r : Fin 8) : iblk m c 11 t (ix3 0 0 r) = (M m c b h).lf r :=
  (blk11 m c t b h hb hh r).trans (lf_model m c b h r).symm

omit hb hh in
/-- Two chunks are the same when their fields are. -/
theorem chunk_ext (X Y : Chunk 8) (h1 : ∀ r d, X.q r d = Y.q r d) (h2 : ∀ r d, X.k r d = Y.k r d) (h3 : ∀ r d, X.v r d = Y.v r d)
    (h4 : ∀ r, X.li r = Y.li r) (h5 : ∀ r, X.lf r = Y.lf r) (h6 : ∀ d e, X.c d e = Y.c d e) (h7 : ∀ d, X.n d = Y.n d)
    (h8 : X.m = Y.m) : X = Y := by
  obtain ⟨q, k, v, li, lf, c, n, m⟩ := X
  obtain ⟨q', k', v', li', lf', c', n', m'⟩ := Y
  obtain rfl : q = q' := funext fun r => funext fun d => h1 r d
  obtain rfl : k = k' := funext fun r => funext fun d => h2 r d
  obtain rfl : v = v' := funext fun r => funext fun d => h3 r d
  obtain rfl : li = li' := funext h4
  obtain rfl : lf = lf' := funext h5
  obtain rfl : c = c' := funext fun r => funext fun d => h6 r d
  obtain rfl : n = n' := funext h7
  obtain rfl : m = m' := h8
  rfl

set_option maxHeartbeats 2000000 in
/-- The operands of a point are the chunk of its batch entry and head. -/
theorem chunk_eq : chunk (kC m c t) (kN m c t) (kM m c t) (kQ m c t) (kK m c t) (iblk m c 2 t) (kLi m c t) (iblk m c 11 t)
    = M m c b h :=
  chunk_ext _ _ (q_at m c t b h hb hh) (k_at m c t b h hb hh) (v_at m c t b h hb hh) (li_at m c t b h hb hh)
    (lf_at m c t b h hb hh) (c_at m c t b h hb hh) (n_at m c t b h hb hh) (m_at m c t b h hb hh)

theorem h_blk (r : Fin 8) (e : Fin 128) : (outsAt0 m c t).1 (ix2 r e)
    = gated (fun d => out (M m c b h) r d) (aN m c (ix1 e)) (aU m c (ix2 (row b r) ⟨5632 + (h.val * 128 + e.val), by omega⟩)) e := by
  rw [out16]
  refine (gated_at _ _ _ r e).trans ?_
  rw [pay7_at, blk15 m c t e, blk3 m c t b h hb hh r e]
  refine congrArg (fun f => gated f _ _ e) (funext fun d => ?_)
  rw [out_at, chunk_eq m c t b h hb hh]

theorem c_blk (d e : Fin 128) : (outsAt0 m c t).2.1 (ix3 0 d e) = cNew (M m c b h) d e := by
  rw [out17, pay1_at, cNew_at _ (kN m c t) _ (kQ m c t), chunk_eq m c t b h hb hh]

theorem n_blk (d : Fin 128) : (outsAt0 m c t).2.2.1 (ix3 0 0 d) = nNew (M m c b h) d := by
  rw [out18, pay2_at, nNew_at (kC m c t) _ _ (kQ m c t) _ (iblk m c 2 t), chunk_eq m c t b h hb hh]

theorem m_blk (d : Fin 128) : (outsAt0 m c t).2.2.2 (ix3 0 0 d) = mNew (M m c b h) := by
  rw [out19, pay3_at, mNew_at (kC m c t) (kN m c t) _ (kQ m c t) (kK m c t) (iblk m c 2 t), chunk_eq m c t b h hb hh]

end Cert.SampleValue

end
-- ==== Proof.SampleFinal.lean ====
/- The sample kernel's four result arrays are the reference's. -/
module

public import proofs.«01_k».proof.Proof.SampleValue

@[expose] public section

set_option maxRecDepth 16384

noncomputable section

open Idealize.ShloMosaic Idealize.ShloMosaic.TcCoe Idealize.SL.Sem
open Idealize.ShloMosaic.Pipeline (Dat)
open Cert.SampleIdeal Cert.SampleIdeal.Gen Cert.Mlstm Cert.SampleBlocks Cert.SampleValue

namespace Cert.SampleFinal

variable (m : (ℓ : Loc nD τ sig) → Buf (Elt Ideal) ℓ) (c : Dev nD)

/-- The reference's state after its trip, from the arguments of this run. -/
abbrev after : Cert.SampleRefIdeal.Step.State Ideal :=
  Cert.SampleRefIdeal.Step.step 0 (Cert.SampleModel.st (aU m c) (aG m c) (aW m c) (aB m c) (aC0 m c) (aN0 m c) (aM0 m c) (aBuf m c))

theorem batch (t : Fin cfg0.N) : t.val / 4 < 32 := by have := (idx t).2.2.2.2.2.2.2.2.2.2.2.2.2.2.2.2.2.2.2.2; omega
theorem head (t : Fin cfg0.N) : t.val % 4 < 4 := Nat.mod_lt _ (by decide)

theorem final17 : (dats m 0 c).arrAt 17 cfg0.N = Cert.SampleRefIdeal.Step.R_main_v106 (after m c) := by
  refine (dats m 0 c).arrAt_eq_of_covers 17 _ (by decide +kernel) fun t _ y => ?_
  blk_simp
  rw [after0_17]
  obtain ⟨d, e, rfl⟩ : ∃ (d e : Fin 128), y = ix3 0 d e := ⟨y 1, y 2, (eq_ix3 y).trans (congrArg (ix3 · _ _) (Subsingleton.elim (α := Fin 1) _ _))⟩
  refine (c_blk m c t ⟨t.val / 4, batch t⟩ ⟨t.val % 4, head t⟩ rfl rfl d e).trans ((Cert.SampleModel.c_at ..).symm.trans ?_)
  blk_ext [idx t]

theorem final18 : (dats m 0 c).arrAt 18 cfg0.N = Cert.SampleRefIdeal.Step.R_main_v107 (after m c) := by
  refine (dats m 0 c).arrAt_eq_of_covers 18 _ (by decide +kernel) fun t _ y => ?_
  blk_simp
  rw [after0_18]
  obtain ⟨d, rfl⟩ : ∃ (d : Fin 128), y = ix3 0 0 d :=
    ⟨y 2, (eq_ix3 y).trans (congrArg₂ (ix3 · · _) (Subsingleton.elim (α := Fin 1) _ _) (Subsingleton.elim (α := Fin 1) _ _))⟩
  refine (n_blk m c t ⟨t.val / 4, batch t⟩ ⟨t.val % 4, head t⟩ rfl rfl d).trans ((Cert.SampleModel.n_at ..).symm.trans ?_)
  blk_ext [idx t]

theorem final19 : (dats m 0 c).arrAt 19 cfg0.N = Cert.SampleRefIdeal.Step.R_main_v109 (after m c) := by
  refine (dats m 0 c).arrAt_eq_of_covers 19 _ (by decide +kernel) fun t _ y => ?_
  blk_simp
  rw [after0_19]
  obtain ⟨d, rfl⟩ : ∃ (d : Fin 128), y = ix3 0 0 d :=
    ⟨y 2, (eq_ix3 y).trans (congrArg₂ (ix3 · · _) (Subsingleton.elim (α := Fin 1) _ _) (Subsingleton.elim (α := Fin 1) _ _))⟩
  refine (m_blk m c t ⟨t.val / 4, batch t⟩ ⟨t.val % 4, head t⟩ rfl rfl d).trans ((Cert.SampleModel.m_at _ _ _ _ _ _ _ _ _ _ d).symm.trans ?_)
  blk_ext [idx t]

theorem final16 : (dats m 0 c).arrAt 16 cfg0.N = Cert.SampleRefIdeal.Step.R_main_v105 (after m c) (aU m c) (aN m c) := by
  refine (dats m 0 c).arrAt_eq_of_covers 16 _ (by decide +kernel) fun t _ y => ?_
  blk_simp
  rw [after0_16]
  obtain ⟨r, e, rfl⟩ : ∃ (r : Fin 8) (e : Fin 128), y = ix2 r e := ⟨y 0, y 1, eq_ix2 y⟩
  refine (h_blk m c t ⟨t.val / 4, batch t⟩ ⟨t.val % 4, head t⟩ rfl rfl r e).trans ((Cert.SampleModel.h_at ..).symm.trans ?_)
  blk_ext [idx t]

end Cert.SampleFinal

end
-- ==== Proof.SampleStepRun.lean ====
/- The reference `SampleRefIdeal`'s run over one trip of its loop: a valuation that holds a state, with the loop's constants and
   the trip's number, holds the next state after the trip; the operations before the loop leave the first state; so the results
   are the fields of the state after the last trip. -/
module

public import proofs.«01_k».proof.Proof.Gen.SampleRefIdeal.Run
public import proofs.«01_k».proof.Proof.Gen.SampleRefIdeal.Step

@[expose] public section

noncomputable section

namespace Cert.SampleSteps

open Idealize.ShloMosaic Idealize.ShloMosaic.TcCoe Idealize.SL.Sem Idealize.ShloMosaic.StableHlo
open Cert.SampleRefIdeal Cert.SampleRefIdeal.Gen Cert.SampleRefIdeal.Value
open Cert.SampleRefIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v78_7) = s.main_v78_7
  f_8 : V0 (Proc.devRef .tc main_v78_8) = s.main_v78_8
  f_9 : V0 (Proc.devRef .tc main_v78_9) = s.main_v78_9
  f_10 : V0 (Proc.devRef .tc main_v78_10) = s.main_v78_10
  f_0 : V0 (Proc.devRef .tc main_v78_0) = s.main_v78_0
  f_1 : V0 (Proc.devRef .tc main_v78_1) = s.main_v78_1
  f_2 : V0 (Proc.devRef .tc main_v78_2) = s.main_v78_2
  f_3 : V0 (Proc.devRef .tc main_v78_3) = s.main_v78_3
  f_4 : V0 (Proc.devRef .tc main_v78_4) = s.main_v78_4
  n_6 : V0 (Proc.devRef .tc main_v78_6) = constantI S_ 32 (BitVec.ofNat 32 j)
  k_5 : V0 (Proc.devRef .tc main_v78_5) = Cert.SampleRefIdeal.Step.K_main_v61 (F := F)

variable {V0 s j}

set_option maxRecDepth 8192 in
theorem al_0 (h : Holds V0 s j) : (constantI S_ 32 0#32 : (Proc.devRef .tc main_while0b_call3_c : DevRef τ sig).ty.Contents (Elt F)) = Cert.SampleRefIdeal.Step.b0 j s := by
  unfold Cert.SampleRefIdeal.Step.b0
  rfl
set_option maxRecDepth 8192 in
theorem al_1 (h : Holds V0 s j) : (constantI S_ 32 0#32 : (Proc.devRef .tc main_while0b_call3_c_0 : DevRef τ sig).ty.Contents (Elt F)) = Cert.SampleRefIdeal.Step.b1 j s := by
  unfold Cert.SampleRefIdeal.Step.b1
  rfl
set_option maxRecDepth 8192 in
theorem al_2 (h : Holds V0 s j) : (constantI S_ 32 0#32 : (Proc.devRef .tc main_while0b_call3_c_1 : DevRef τ sig).ty.Contents (Elt F)) = Cert.SampleRefIdeal.Step.b2 j s := by
  unfold Cert.SampleRefIdeal.Step.b2
  rfl
set_option maxRecDepth 8192 in
theorem al_3 (h : Holds V0 s j) : (constantI S_ 32 0#32 : (Proc.devRef .tc main_while0b_call3_c_2 : DevRef τ sig).ty.Contents (Elt F)) = Cert.SampleRefIdeal.Step.b3 j s := by
  unfold Cert.SampleRefIdeal.Step.b3
  rfl
set_option maxRecDepth 8192 in
theorem al_4 (h : Holds V0 s j) : (Host.dynamicSlice S1x32x4x8x128 (V0 (Proc.devRef .tc main_v78_0)) (fun k => (((![V0 (Proc.devRef .tc main_v78_6), constantI S_ 32 0#32, constantI S_ 32 0#32, constantI S_ 32 0#32, constantI S_ 32 0#32] : Fin 5 → (⟨S_, .i32⟩ : BufTy).Contents (Elt F))) k (Shape.Idx.first h_S_)).toInt) sliceFits_S1x32x4x8x128_S1x32x4x8x128 : (Proc.devRef .tc main_while0b_call3_v0 : DevRef τ sig).ty.Contents (Elt F)) = Cert.SampleRefIdeal.Step.b4 j s := by
  unfold Cert.SampleRefIdeal.Step.b4
  rw [← al_0 h, ← al_1 h, ← al_2 h, ← al_3 h, h.f_0, h.n_6]
  try rfl
set_option maxRecDepth 8192 in
theorem al_5 (h : Holds V0 s j) : (res_main_while0b_v110 V0 : (Proc.devRef .tc main_while0b_v110 : DevRef τ sig).ty.Contents (Elt F)) = Cert.SampleRefIdeal.Step.b5 j s := by
  unfold res_main_while0b_v110 Cert.SampleRefIdeal.Step.b5
  rw [← al_4 h]
  try rfl
set_option maxRecDepth 8192 in
theorem al_6 (h : Holds V0 s j) : (constantI S_ 32 0#32 : (Proc.devRef .tc main_while0b_call4_c : DevRef τ sig).ty.Contents (Elt F)) = Cert.SampleRefIdeal.Step.b6 j s := by
  unfold Cert.SampleRefIdeal.Step.b6
  rfl
set_option maxRecDepth 8192 in
theorem al_7 (h : Holds V0 s j) : (constantI S_ 32 0#32 : (Proc.devRef .tc main_while0b_call4_c_0 : DevRef τ sig).ty.Contents (Elt F)) = Cert.SampleRefIdeal.Step.b7 j s := by
  unfold Cert.SampleRefIdeal.Step.b7
  rfl
set_option maxRecDepth 8192 in
theorem al_8 (h : Holds V0 s j) : (constantI S_ 32 0#32 : (Proc.devRef .tc main_while0b_call4_c_1 : DevRef τ sig).ty.Contents (Elt F)) = Cert.SampleRefIdeal.Step.b8 j s := by
  unfold Cert.SampleRefIdeal.Step.b8
  rfl
set_option maxRecDepth 8192 in
theorem al_9 (h : Holds V0 s j) : (constantI S_ 32 0#32 : (Proc.devRef .tc main_while0b_call4_c_2 : DevRef τ sig).ty.Contents (Elt F)) = Cert.SampleRefIdeal.Step.b9 j s := by
  unfold Cert.SampleRefIdeal.Step.b9
  rfl
set_option maxRecDepth 8192 in
theorem al_10 (h : Holds V0 s j) : (Host.dynamicSlice S1x32x4x8x128 (V0 (Proc.devRef .tc main_v78_1)) (fun k => (((![V0 (Proc.devRef .tc main_v78_6), constantI S_ 32 0#32, constantI S_ 32 0#32, constantI S_ 32 0#32, constantI S_ 32 0#32] : Fin 5 → (⟨S_, .i32⟩ : BufTy).Contents (Elt F))) k (Shape.Idx.first h_S_)).toInt) sliceFits_S1x32x4x8x128_S1x32x4x8x128 : (Proc.devRef .tc main_while0b_call4_v0 : DevRef τ sig).ty.Contents (Elt F)) = Cert.SampleRefIdeal.Step.b10 j s := by
  unfold Cert.SampleRefIdeal.Step.b10
  rw [← al_6 h, ← al_7 h, ← al_8 h, ← al_9 h, h.f_1, h.n_6]
  try rfl
set_option maxRecDepth 8192 in
theorem al_11 (h : Holds V0 s j) : (res_main_while0b_v111 V0 : (Proc.devRef .tc main_while0b_v111 : DevRef τ sig).ty.Contents (Elt F)) = Cert.SampleRefIdeal.Step.b11 j s := by
  unfold res_main_while0b_v111 Cert.SampleRefIdeal.Step.b11
  rw [← al_10 h]
  try rfl
set_option maxRecDepth 8192 in
theorem al_12 (h : Holds V0 s j) : (constantI S_ 32 0#32 : (Proc.devRef .tc main_while0b_call5_c : DevRef τ sig).ty.Contents (Elt F)) = Cert.SampleRefIdeal.Step.b12 j s := by
  unfold Cert.SampleRefIdeal.Step.b12
  rfl
set_option maxRecDepth 8192 in
theorem al_13 (h : Holds V0 s j) : (constantI S_ 32 0#32 : (Proc.devRef .tc main_while0b_call5_c_0 : DevRef τ sig).ty.Contents (Elt F)) = Cert.SampleRefIdeal.Step.b13 j s := by
  unfold Cert.SampleRefIdeal.Step.b13
  rfl
set_option maxRecDepth 8192 in
theorem al_14 (h : Holds V0 s j) : (constantI S_ 32 0#32 : (Proc.devRef .tc main_while0b_call5_c_1 : DevRef τ sig).ty.Contents (Elt F)) = Cert.SampleRefIdeal.Step.b14 j s := by
  unfold Cert.SampleRefIdeal.Step.b14
  rfl
set_option maxRecDepth 8192 in
theorem al_15 (h : Holds V0 s j) : (constantI S_ 32 0#32 : (Proc.devRef .tc main_while0b_call5_c_2 : DevRef τ sig).ty.Contents (Elt F)) = Cert.SampleRefIdeal.Step.b15 j s := by
  unfold Cert.SampleRefIdeal.Step.b15
  rfl
set_option maxRecDepth 8192 in
theorem al_16 (h : Holds V0 s j) : (Host.dynamicSlice S1x32x4x8x128 (V0 (Proc.devRef .tc main_v78_2)) (fun k => (((![V0 (Proc.devRef .tc main_v78_6), constantI S_ 32 0#32, constantI S_ 32 0#32, constantI S_ 32 0#32, constantI S_ 32 0#32] : Fin 5 → (⟨S_, .i32⟩ : BufTy).Contents (Elt F))) k (Shape.Idx.first h_S_)).toInt) sliceFits_S1x32x4x8x128_S1x32x4x8x128 : (Proc.devRef .tc main_while0b_call5_v0 : DevRef τ sig).ty.Contents (Elt F)) = Cert.SampleRefIdeal.Step.b16 j s := by
  unfold Cert.SampleRefIdeal.Step.b16
  rw [← al_12 h, ← al_13 h, ← al_14 h, ← al_15 h, h.f_2, h.n_6]
  try rfl
set_option maxRecDepth 8192 in
theorem al_17 (h : Holds V0 s j) : (res_main_while0b_v112 V0 : (Proc.devRef .tc main_while0b_v112 : DevRef τ sig).ty.Contents (Elt F)) = Cert.SampleRefIdeal.Step.b17 j s := by
  unfold res_main_while0b_v112 Cert.SampleRefIdeal.Step.b17
  rw [← al_16 h]
  try rfl
set_option maxRecDepth 8192 in
theorem al_18 (h : Holds V0 s j) : (constantI S_ 32 0#32 : (Proc.devRef .tc main_while0b_call6_c : DevRef τ sig).ty.Contents (Elt F)) = Cert.SampleRefIdeal.Step.b18 j s := by
  unfold Cert.SampleRefIdeal.Step.b18
  rfl
set_option maxRecDepth 8192 in
theorem al_19 (h : Holds V0 s j) : (constantI S_ 32 0#32 : (Proc.devRef .tc main_while0b_call6_c_0 : DevRef τ sig).ty.Contents (Elt F)) = Cert.SampleRefIdeal.Step.b19 j s := by
  unfold Cert.SampleRefIdeal.Step.b19
  rfl
set_option maxRecDepth 8192 in
theorem al_20 (h : Holds V0 s j) : (constantI S_ 32 0#32 : (Proc.devRef .tc main_while0b_call6_c_1 : DevRef τ sig).ty.Contents (Elt F)) = Cert.SampleRefIdeal.Step.b20 j s := by
  unfold Cert.SampleRefIdeal.Step.b20
  rfl
set_option maxRecDepth 8192 in
theorem al_21 (h : Holds V0 s j) : (Host.dynamicSlice S1x32x4x8 (V0 (Proc.devRef .tc main_v78_3)) (fun k => (((![V0 (Proc.devRef .tc main_v78_6), constantI S_ 32 0#32, constantI S_ 32 0#32, constantI S_ 32 0#32] : Fin 4 → (⟨S_, .i32⟩ : BufTy).Contents (Elt F))) k (Shape.Idx.first h_S_)).toInt) sliceFits_S1x32x4x8_S1x32x4x8 : (Proc.devRef .tc main_while0b_call6_v0 : DevRef τ sig).ty.Contents (Elt F)) = Cert.SampleRefIdeal.Step.b21 j s := by
  unfold Cert.SampleRefIdeal.Step.b21
  rw [← al_18 h, ← al_19 h, ← al_20 h, h.f_3, h.n_6]
  try rfl
set_option maxRecDepth 8192 in
theorem al_22 (h : Holds V0 s j) : (res_main_while0b_v113 V0 : (Proc.devRef .tc main_while0b_v113 : DevRef τ sig).ty.Contents (Elt F)) = Cert.SampleRefIdeal.Step.b22 j s := by
  unfold res_main_while0b_v113 Cert.SampleRefIdeal.Step.b22
  rw [← al_21 h]
  try rfl
set_option maxRecDepth 8192 in
theorem al_23 (h : Holds V0 s j) : (constantI S_ 32 0#32 : (Proc.devRef .tc main_while0b_call7_c : DevRef τ sig).ty.Contents (Elt F)) = Cert.SampleRefIdeal.Step.b23 j s := by
  unfold Cert.SampleRefIdeal.Step.b23
  rfl
set_option maxRecDepth 8192 in
theorem al_24 (h : Holds V0 s j) : (constantI S_ 32 0#32 : (Proc.devRef .tc main_while0b_call7_c_0 : DevRef τ sig).ty.Contents (Elt F)) = Cert.SampleRefIdeal.Step.b24 j s := by
  unfold Cert.SampleRefIdeal.Step.b24
  rfl
set_option maxRecDepth 8192 in
theorem al_25 (h : Holds V0 s j) : (constantI S_ 32 0#32 : (Proc.devRef .tc main_while0b_call7_c_1 : DevRef τ sig).ty.Contents (Elt F)) = Cert.SampleRefIdeal.Step.b25 j s := by
  unfold Cert.SampleRefIdeal.Step.b25
  rfl
set_option maxRecDepth 8192 in
theorem al_26 (h : Holds V0 s j) : (Host.dynamicSlice S1x32x4x8 (V0 (Proc.devRef .tc main_v78_4)) (fun k => (((![V0 (Proc.devRef .tc main_v78_6), constantI S_ 32 0#32, constantI S_ 32 0#32, constantI S_ 32 0#32] : Fin 4 → (⟨S_, .i32⟩ : BufTy).Contents (Elt F))) k (Shape.Idx.first h_S_)).toInt) sliceFits_S1x32x4x8_S1x32x4x8 : (Proc.devRef .tc main_while0b_call7_v0 : DevRef τ sig).ty.Contents (Elt F)) = Cert.SampleRefIdeal.Step.b26 j s := by
  unfold Cert.SampleRefIdeal.Step.b26
  rw [← al_23 h, ← al_24 h, ← al_25 h, h.f_4, h.n_6]
  try rfl
set_option maxRecDepth 8192 in
theorem al_27 (h : Holds V0 s j) : (shapeCast S32x4x8 (Host.dynamicSlice S1x32x4x8 (V0 (Proc.devRef .tc main_v78_4)) (fun k => (((![V0 (Proc.devRef .tc main_v78_6), constantI S_ 32 0#32, constantI S_ 32 0#32, constantI S_ 32 0#32] : Fin 4 → (⟨S_, .i32⟩ : BufTy).Contents (Elt F))) k (Shape.Idx.first h_S_)).toInt) sliceFits_S1x32x4x8_S1x32x4x8) shapeCasts_S1x32x4x8_S32x4x8 : (Proc.devRef .tc main_while0b_v114 : DevRef τ sig).ty.Contents (Elt F)) = Cert.SampleRefIdeal.Step.b27 j s := by
  unfold Cert.SampleRefIdeal.Step.b27
  rw [← al_26 h]
  try rfl
set_option maxRecDepth 8192 in
theorem al_28 (h : Holds V0 s j) : (constant S_ .f32 0x00000000#32 : (Proc.devRef .tc main_while0b_call8_call0_cst : DevRef τ sig).ty.Contents (Elt F)) = Cert.SampleRefIdeal.Step.b28 j s := by
  unfold Cert.SampleRefIdeal.Step.b28
  rfl
set_option maxRecDepth 8192 in
theorem al_29 (h : Holds V0 s j) : (broadcastInDim S_ ![] bcast_S_S_ (constant S_ .f32 0x00000000#32) : (Proc.devRef .tc main_while0b_call8_call0_v0 : DevRef τ sig).ty.Contents (Elt F)) = Cert.SampleRefIdeal.Step.b29 j s := by
  unfold Cert.SampleRefIdeal.Step.b29
  rw [← al_28 h]
  try rfl
set_option maxRecDepth 8192 in
theorem al_30 (h : Holds V0 s j) : (res_main_while0b_v115 V0 : (Proc.devRef .tc main_while0b_v115 : DevRef τ sig).ty.Contents (Elt F)) = Cert.SampleRefIdeal.Step.b30 j s := by
  unfold res_main_while0b_v115 Cert.SampleRefIdeal.Step.b30
  rw [← al_27 h, ← al_29 h]
  try rfl
set_option maxRecDepth 8192 in
theorem al_31 (h : Holds V0 s j) : (broadcastInDim S32x4x8x1 ![0, 1, 2] bcast_S32x4x8_S32x4x8x1_0_1_2 (res_main_while0b_v115 V0) : (Proc.devRef .tc main_while0b_v116 : DevRef τ sig).ty.Contents (Elt F)) = Cert.SampleRefIdeal.Step.b31 j s := by
  unfold Cert.SampleRefIdeal.Step.b31
  rw [← al_30 h]
  try rfl
set_option maxRecDepth 8192 in
theorem al_32 (h : Holds V0 s j) : (broadcastInDim S32x4x1x8 ![0, 1, 3] bcast_S32x4x8_S32x4x1x8_0_1_3 (res_main_while0b_v115 V0) : (Proc.devRef .tc main_while0b_v117 : DevRef τ sig).ty.Contents (Elt F)) = Cert.SampleRefIdeal.Step.b32 j s := by
  unfold Cert.SampleRefIdeal.Step.b32
  rw [← al_30 h]
  try rfl
set_option maxRecDepth 8192 in
theorem al_33 (h : Holds V0 s j) : (broadcastInDim S32x4x8x8 ![0, 1, 2, 3] bcast_S32x4x8x1_S32x4x8x8_0_1_2_3 (broadcastInDim S32x4x8x1 ![0, 1, 2] bcast_S32x4x8_S32x4x8x1_0_1_2 (res_main_while0b_v115 V0)) : (Proc.devRef .tc main_while0b_v118 : DevRef τ sig).ty.Contents (Elt F)) = Cert.SampleRefIdeal.Step.b33 j s := by
  unfold Cert.SampleRefIdeal.Step.b33
  rw [← al_31 h]
  try rfl
set_option maxRecDepth 8192 in
theorem al_34 (h : Holds V0 s j) : (broadcastInDim S32x4x8x8 ![0, 1, 2, 3] bcast_S32x4x1x8_S32x4x8x8_0_1_2_3 (broadcastInDim S32x4x1x8 ![0, 1, 3] bcast_S32x4x8_S32x4x1x8_0_1_3 (res_main_while0b_v115 V0)) : (Proc.devRef .tc main_while0b_v119 : DevRef τ sig).ty.Contents (Elt F)) = Cert.SampleRefIdeal.Step.b34 j s := by
  unfold Cert.SampleRefIdeal.Step.b34
  rw [← al_32 h]
  try rfl
set_option maxRecDepth 8192 in
theorem al_35 (h : Holds V0 s j) : (subf (broadcastInDim S32x4x8x8 ![0, 1, 2, 3] bcast_S32x4x8x1_S32x4x8x8_0_1_2_3 (broadcastInDim S32x4x8x1 ![0, 1, 2] bcast_S32x4x8_S32x4x8x1_0_1_2 (res_main_while0b_v115 V0))) (broadcastInDim S32x4x8x8 ![0, 1, 2, 3] bcast_S32x4x1x8_S32x4x8x8_0_1_2_3 (broadcastInDim S32x4x1x8 ![0, 1, 3] bcast_S32x4x8_S32x4x1x8_0_1_3 (res_main_while0b_v115 V0))) : (Proc.devRef .tc main_while0b_v120 : DevRef τ sig).ty.Contents (Elt F)) = Cert.SampleRefIdeal.Step.b35 j s := by
  unfold Cert.SampleRefIdeal.Step.b35
  rw [← al_33 h, ← al_34 h]
  try rfl
set_option maxRecDepth 8192 in
theorem al_36 (h : Holds V0 s j) : (broadcastInDim S32x4x1x8 ![0, 1, 3] bcast_S32x4x8_S32x4x1x8_0_1_3 (res_main_while0b_v113 V0) : (Proc.devRef .tc main_while0b_v121 : DevRef τ sig).ty.Contents (Elt F)) = Cert.SampleRefIdeal.Step.b36 j s := by
  unfold Cert.SampleRefIdeal.Step.b36
  rw [← al_22 h]
  try rfl
set_option maxRecDepth 8192 in
theorem al_37 (h : Holds V0 s j) : (broadcastInDim S32x4x8x8 ![0, 1, 2, 3] bcast_S32x4x1x8_S32x4x8x8_0_1_2_3 (broadcastInDim S32x4x1x8 ![0, 1, 3] bcast_S32x4x8_S32x4x1x8_0_1_3 (res_main_while0b_v113 V0)) : (Proc.devRef .tc main_while0b_v122 : DevRef τ sig).ty.Contents (Elt F)) = Cert.SampleRefIdeal.Step.b37 j s := by
  unfold Cert.SampleRefIdeal.Step.b37
  rw [← al_36 h]
  try rfl
set_option maxRecDepth 8192 in
theorem al_38 (h : Holds V0 s j) : (addf (subf (broadcastInDim S32x4x8x8 ![0, 1, 2, 3] bcast_S32x4x8x1_S32x4x8x8_0_1_2_3 (broadcastInDim S32x4x8x1 ![0, 1, 2] bcast_S32x4x8_S32x4x8x1_0_1_2 (res_main_while0b_v115 V0))) (broadcastInDim S32x4x8x8 ![0, 1, 2, 3] bcast_S32x4x1x8_S32x4x8x8_0_1_2_3 (broadcastInDim S32x4x1x8 ![0, 1, 3] bcast_S32x4x8_S32x4x1x8_0_1_3 (res_main_while0b_v115 V0)))) (broadcastInDim S32x4x8x8 ![0, 1, 2, 3] bcast_S32x4x1x8_S32x4x8x8_0_1_2_3 (broadcastInDim S32x4x1x8 ![0, 1, 3] bcast_S32x4x8_S32x4x1x8_0_1_3 (res_main_while0b_v113 V0))) : (Proc.devRef .tc main_while0b_v123 : DevRef τ sig).ty.Contents (Elt F)) = Cert.SampleRefIdeal.Step.b38 j s := by
  unfold Cert.SampleRefIdeal.Step.b38
  rw [← al_35 h, ← al_37 h]
  try rfl
set_option maxRecDepth 8192 in
theorem al_39 (h : Holds V0 s j) : (constant S_ .f32 0xF149F2CA#32 : (Proc.devRef .tc main_while0b_cst_17 : DevRef τ sig).ty.Contents (Elt F)) = Cert.SampleRefIdeal.Step.b39 j s := by
  unfold Cert.SampleRefIdeal.Step.b39
  rfl
set_option maxRecDepth 8192 in
theorem al_40 (h : Holds V0 s j) : (id (constant S_ .f32 0xF149F2CA#32) : (Proc.devRef .tc main_while0b_call9_v0 : DevRef τ sig).ty.Contents (Elt F)) = Cert.SampleRefIdeal.Step.b40 j s := by
  unfold Cert.SampleRefIdeal.Step.b40
  rw [← al_39 h]
  try rfl
set_option maxRecDepth 8192 in
theorem al_41 (h : Holds V0 s j) : (broadcastInDim S32x4x8x8 ![2, 3] bcast_S8x8_S32x4x8x8_2_3 (V0 (Proc.devRef .tc main_v78_5)) : (Proc.devRef .tc main_while0b_call9_v1 : DevRef τ sig).ty.Contents (Elt F)) = Cert.SampleRefIdeal.Step.b41 j s := by
  unfold Cert.SampleRefIdeal.Step.b41
  rw [h.k_5]
  try rfl
set_option maxRecDepth 8192 in
theorem al_42 (h : Holds V0 s j) : (broadcastInDim S32x4x8x8 ![] bcast_S_S32x4x8x8 (id (constant S_ .f32 0xF149F2CA#32)) : (Proc.devRef .tc main_while0b_call9_v2 : DevRef τ sig).ty.Contents (Elt F)) = Cert.SampleRefIdeal.Step.b42 j s := by
  unfold Cert.SampleRefIdeal.Step.b42
  rw [← al_40 h]
  try rfl
set_option maxRecDepth 8192 in
theorem al_43 (h : Holds V0 s j) : (res_main_while0b_v124 V0 : (Proc.devRef .tc main_while0b_v124 : DevRef τ sig).ty.Contents (Elt F)) = Cert.SampleRefIdeal.Step.b43 j s := by
  unfold res_main_while0b_v124 Cert.SampleRefIdeal.Step.b43
  rw [← al_41 h, ← al_38 h, ← al_42 h]
  try rfl
set_option maxRecDepth 8192 in
theorem al_44 (h : Holds V0 s j) : (broadcastInDim S32x4x1 ![0, 1] bcast_S32x4_S32x4x1_0_1 (V0 (Proc.devRef .tc main_v78_9)) : (Proc.devRef .tc main_while0b_v125 : DevRef τ sig).ty.Contents (Elt F)) = Cert.SampleRefIdeal.Step.b44 j s := by
  unfold Cert.SampleRefIdeal.Step.b44
  rw [h.f_9]
  try rfl
set_option maxRecDepth 8192 in
theorem al_45 (h : Holds V0 s j) : (broadcastInDim S32x4x8 ![0, 1, 2] bcast_S32x4x1_S32x4x8_0_1_2 (broadcastInDim S32x4x1 ![0, 1] bcast_S32x4_S32x4x1_0_1 (V0 (Proc.devRef .tc main_v78_9))) : (Proc.devRef .tc main_while0b_v126 : DevRef τ sig).ty.Contents (Elt F)) = Cert.SampleRefIdeal.Step.b45 j s := by
  unfold Cert.SampleRefIdeal.Step.b45
  rw [← al_44 h]
  try rfl
set_option maxRecDepth 8192 in
theorem al_46 (h : Holds V0 s j) : (res_main_while0b_v127 V0 : (Proc.devRef .tc main_while0b_v127 : DevRef τ sig).ty.Contents (Elt F)) = Cert.SampleRefIdeal.Step.b46 j s := by
  unfold res_main_while0b_v127 Cert.SampleRefIdeal.Step.b46
  rw [← al_30 h, ← al_45 h]
  try rfl
set_option maxRecDepth 8192 in
theorem al_47 (h : Holds V0 s j) : (constant S_ .f32 0xFF800000#32 : (Proc.devRef .tc main_while0b_cst_18 : DevRef τ sig).ty.Contents (Elt F)) = Cert.SampleRefIdeal.Step.b47 j s := by
  unfold Cert.SampleRefIdeal.Step.b47
  rfl
set_option maxRecDepth 8192 in
theorem al_48 (h : Holds V0 s j) : (Host.reduce FloatOps.maximumf (res_main_while0b_v124 V0) (constant S_ .f32 0xFF800000#32) reducesTo_S32x4x8x8_S32x4x8_d3 h_S_ : (Proc.devRef .tc main_while0b_v128 : DevRef τ sig).ty.Contents (Elt F)) = Cert.SampleRefIdeal.Step.b48 j s := by
  unfold Cert.SampleRefIdeal.Step.b48
  rw [← al_43 h, ← al_47 h]
  try rfl
set_option maxRecDepth 8192 in
theorem al_49 (h : Holds V0 s j) : (res_main_while0b_v129 V0 : (Proc.devRef .tc main_while0b_v129 : DevRef τ sig).ty.Contents (Elt F)) = Cert.SampleRefIdeal.Step.b49 j s := by
  unfold res_main_while0b_v129 Cert.SampleRefIdeal.Step.b49
  rw [← al_46 h, ← al_48 h]
  try rfl
set_option maxRecDepth 8192 in
theorem al_50 (h : Holds V0 s j) : (broadcastInDim S32x4x8x1 ![0, 1, 2] bcast_S32x4x8_S32x4x8x1_0_1_2 (res_main_while0b_v129 V0) : (Proc.devRef .tc main_while0b_v130 : DevRef τ sig).ty.Contents (Elt F)) = Cert.SampleRefIdeal.Step.b50 j s := by
  unfold Cert.SampleRefIdeal.Step.b50
  rw [← al_49 h]
  try rfl
set_option maxRecDepth 8192 in
theorem al_51 (h : Holds V0 s j) : (broadcastInDim S32x4x8x8 ![0, 1, 2, 3] bcast_S32x4x8x1_S32x4x8x8_0_1_2_3 (broadcastInDim S32x4x8x1 ![0, 1, 2] bcast_S32x4x8_S32x4x8x1_0_1_2 (res_main_while0b_v129 V0)) : (Proc.devRef .tc main_while0b_v131 : DevRef τ sig).ty.Contents (Elt F)) = Cert.SampleRefIdeal.Step.b51 j s := by
  unfold Cert.SampleRefIdeal.Step.b51
  rw [← al_50 h]
  try rfl
set_option maxRecDepth 8192 in
theorem al_52 (h : Holds V0 s j) : (subf (res_main_while0b_v124 V0) (broadcastInDim S32x4x8x8 ![0, 1, 2, 3] bcast_S32x4x8x1_S32x4x8x8_0_1_2_3 (broadcastInDim S32x4x8x1 ![0, 1, 2] bcast_S32x4x8_S32x4x8x1_0_1_2 (res_main_while0b_v129 V0))) : (Proc.devRef .tc main_while0b_v132 : DevRef τ sig).ty.Contents (Elt F)) = Cert.SampleRefIdeal.Step.b52 j s := by
  unfold Cert.SampleRefIdeal.Step.b52
  rw [← al_43 h, ← al_51 h]
  try rfl
set_option maxRecDepth 8192 in
theorem al_53 (h : Holds V0 s j) : (Host.exp (subf (res_main_while0b_v124 V0) (broadcastInDim S32x4x8x8 ![0, 1, 2, 3] bcast_S32x4x8x1_S32x4x8x8_0_1_2_3 (broadcastInDim S32x4x8x1 ![0, 1, 2] bcast_S32x4x8_S32x4x8x1_0_1_2 (res_main_while0b_v129 V0)))) : (Proc.devRef .tc main_while0b_v133 : DevRef τ sig).ty.Contents (Elt F)) = Cert.SampleRefIdeal.Step.b53 j s := by
  unfold Cert.SampleRefIdeal.Step.b53
  rw [← al_52 h]
  try rfl
set_option maxRecDepth 8192 in
theorem al_54 (h : Holds V0 s j) : (subf (res_main_while0b_v127 V0) (res_main_while0b_v129 V0) : (Proc.devRef .tc main_while0b_v134 : DevRef τ sig).ty.Contents (Elt F)) = Cert.SampleRefIdeal.Step.b54 j s := by
  unfold Cert.SampleRefIdeal.Step.b54
  rw [← al_46 h, ← al_49 h]
  try rfl
set_option maxRecDepth 8192 in
theorem al_55 (h : Holds V0 s j) : (res_main_while0b_v135 V0 : (Proc.devRef .tc main_while0b_v135 : DevRef τ sig).ty.Contents (Elt F)) = Cert.SampleRefIdeal.Step.b55 j s := by
  unfold res_main_while0b_v135 Cert.SampleRefIdeal.Step.b55
  rw [← al_54 h]
  try rfl
set_option maxRecDepth 8192 in
theorem al_56 (h : Holds V0 s j) : (Host.dotGeneral dot_S32x4x8x128_S32x4x8x128_S32x4x8x8_3_3_2_2_01_01 none (res_main_while0b_v110 V0) (res_main_while0b_v111 V0) : (Proc.devRef .tc main_while0b_v136 : DevRef τ sig).ty.Contents (Elt F)) = Cert.SampleRefIdeal.Step.b56 j s := by
  unfold Cert.SampleRefIdeal.Step.b56
  rw [← al_5 h, ← al_11 h]
  try rfl
set_option maxRecDepth 8192 in
theorem al_57 (h : Holds V0 s j) : (res_main_while0b_v137 V0 : (Proc.devRef .tc main_while0b_v137 : DevRef τ sig).ty.Contents (Elt F)) = Cert.SampleRefIdeal.Step.b57 j s := by
  unfold res_main_while0b_v137 Cert.SampleRefIdeal.Step.b57
  rw [← al_56 h, ← al_53 h]
  try rfl
set_option maxRecDepth 8192 in
theorem al_58 (h : Holds V0 s j) : (broadcastInDim S32x4x8x1 ![0, 1, 2] bcast_S32x4x8_S32x4x8x1_0_1_2 (res_main_while0b_v135 V0) : (Proc.devRef .tc main_while0b_v138 : DevRef τ sig).ty.Contents (Elt F)) = Cert.SampleRefIdeal.Step.b58 j s := by
  unfold Cert.SampleRefIdeal.Step.b58
  rw [← al_55 h]
  try rfl
set_option maxRecDepth 8192 in
theorem al_59 (h : Holds V0 s j) : (Host.dotGeneral dot_S32x4x8x128_S32x4x128x128_S32x4x8x128_3_2_2_3_01_01 none (res_main_while0b_v110 V0) (V0 (Proc.devRef .tc main_v78_7)) : (Proc.devRef .tc main_while0b_v139 : DevRef τ sig).ty.Contents (Elt F)) = Cert.SampleRefIdeal.Step.b59 j s := by
  unfold Cert.SampleRefIdeal.Step.b59
  rw [← al_5 h, h.f_7]
  try rfl
set_option maxRecDepth 8192 in
theorem al_60 (h : Holds V0 s j) : (broadcastInDim S32x4x8x128 ![0, 1, 2, 3] bcast_S32x4x8x1_S32x4x8x128_0_1_2_3 (broadcastInDim S32x4x8x1 ![0, 1, 2] bcast_S32x4x8_S32x4x8x1_0_1_2 (res_main_while0b_v135 V0)) : (Proc.devRef .tc main_while0b_v140 : DevRef τ sig).ty.Contents (Elt F)) = Cert.SampleRefIdeal.Step.b60 j s := by
  unfold Cert.SampleRefIdeal.Step.b60
  rw [← al_58 h]
  try rfl
set_option maxRecDepth 8192 in
theorem al_61 (h : Holds V0 s j) : (mulf (broadcastInDim S32x4x8x128 ![0, 1, 2, 3] bcast_S32x4x8x1_S32x4x8x128_0_1_2_3 (broadcastInDim S32x4x8x1 ![0, 1, 2] bcast_S32x4x8_S32x4x8x1_0_1_2 (res_main_while0b_v135 V0))) (Host.dotGeneral dot_S32x4x8x128_S32x4x128x128_S32x4x8x128_3_2_2_3_01_01 none (res_main_while0b_v110 V0) (V0 (Proc.devRef .tc main_v78_7))) : (Proc.devRef .tc main_while0b_v141 : DevRef τ sig).ty.Contents (Elt F)) = Cert.SampleRefIdeal.Step.b61 j s := by
  unfold Cert.SampleRefIdeal.Step.b61
  rw [← al_60 h, ← al_59 h]
  try rfl
set_option maxRecDepth 8192 in
theorem al_62 (h : Holds V0 s j) : (Host.dotGeneral dot_S32x4x8x8_S32x4x8x128_S32x4x8x128_3_2_2_3_01_01 none (res_main_while0b_v137 V0) (res_main_while0b_v112 V0) : (Proc.devRef .tc main_while0b_v142 : DevRef τ sig).ty.Contents (Elt F)) = Cert.SampleRefIdeal.Step.b62 j s := by
  unfold Cert.SampleRefIdeal.Step.b62
  rw [← al_57 h, ← al_17 h]
  try rfl
set_option maxRecDepth 8192 in
theorem al_63 (h : Holds V0 s j) : (addf (mulf (broadcastInDim S32x4x8x128 ![0, 1, 2, 3] bcast_S32x4x8x1_S32x4x8x128_0_1_2_3 (broadcastInDim S32x4x8x1 ![0, 1, 2] bcast_S32x4x8_S32x4x8x1_0_1_2 (res_main_while0b_v135 V0))) (Host.dotGeneral dot_S32x4x8x128_S32x4x128x128_S32x4x8x128_3_2_2_3_01_01 none (res_main_while0b_v110 V0) (V0 (Proc.devRef .tc main_v78_7)))) (Host.dotGeneral dot_S32x4x8x8_S32x4x8x128_S32x4x8x128_3_2_2_3_01_01 none (res_main_while0b_v137 V0) (res_main_while0b_v112 V0)) : (Proc.devRef .tc main_while0b_v143 : DevRef τ sig).ty.Contents (Elt F)) = Cert.SampleRefIdeal.Step.b63 j s := by
  unfold Cert.SampleRefIdeal.Step.b63
  rw [← al_61 h, ← al_62 h]
  try rfl
set_option maxRecDepth 8192 in
theorem al_64 (h : Holds V0 s j) : (Host.dotGeneral dot_S32x4x8x128_S32x4x128_S32x4x8_3_2_2_n_01_01 none (res_main_while0b_v110 V0) (V0 (Proc.devRef .tc main_v78_8)) : (Proc.devRef .tc main_while0b_v144 : DevRef τ sig).ty.Contents (Elt F)) = Cert.SampleRefIdeal.Step.b64 j s := by
  unfold Cert.SampleRefIdeal.Step.b64
  rw [← al_5 h, h.f_8]
  try rfl
set_option maxRecDepth 8192 in
theorem al_65 (h : Holds V0 s j) : (mulf (res_main_while0b_v135 V0) (Host.dotGeneral dot_S32x4x8x128_S32x4x128_S32x4x8_3_2_2_n_01_01 none (res_main_while0b_v110 V0) (V0 (Proc.devRef .tc main_v78_8))) : (Proc.devRef .tc main_while0b_v145 : DevRef τ sig).ty.Contents (Elt F)) = Cert.SampleRefIdeal.Step.b65 j s := by
  unfold Cert.SampleRefIdeal.Step.b65
  rw [← al_55 h, ← al_64 h]
  try rfl
set_option maxRecDepth 8192 in
theorem al_66 (h : Holds V0 s j) : (constant S_ .f32 0x00000000#32 : (Proc.devRef .tc main_while0b_cst_19 : DevRef τ sig).ty.Contents (Elt F)) = Cert.SampleRefIdeal.Step.b66 j s := by
  unfold Cert.SampleRefIdeal.Step.b66
  rfl
set_option maxRecDepth 8192 in
theorem al_67 (h : Holds V0 s j) : (Host.reduceAdd (res_main_while0b_v137 V0) (constant S_ .f32 0x00000000#32) reducesTo_S32x4x8x8_S32x4x8_d3 h_S_ : (Proc.devRef .tc main_while0b_v146 : DevRef τ sig).ty.Contents (Elt F)) = Cert.SampleRefIdeal.Step.b67 j s := by
  unfold Cert.SampleRefIdeal.Step.b67
  rw [← al_57 h, ← al_66 h]
  try rfl
set_option maxRecDepth 8192 in
theorem al_68 (h : Holds V0 s j) : (addf (mulf (res_main_while0b_v135 V0) (Host.dotGeneral dot_S32x4x8x128_S32x4x128_S32x4x8_3_2_2_n_01_01 none (res_main_while0b_v110 V0) (V0 (Proc.devRef .tc main_v78_8)))) (Host.reduceAdd (res_main_while0b_v137 V0) (constant S_ .f32 0x00000000#32) reducesTo_S32x4x8x8_S32x4x8_d3 h_S_) : (Proc.devRef .tc main_while0b_v147 : DevRef τ sig).ty.Contents (Elt F)) = Cert.SampleRefIdeal.Step.b68 j s := by
  unfold Cert.SampleRefIdeal.Step.b68
  rw [← al_65 h, ← al_67 h]
  try rfl
set_option maxRecDepth 8192 in
theorem al_69 (h : Holds V0 s j) : (Host.absf (addf (mulf (res_main_while0b_v135 V0) (Host.dotGeneral dot_S32x4x8x128_S32x4x128_S32x4x8_3_2_2_n_01_01 none (res_main_while0b_v110 V0) (V0 (Proc.devRef .tc main_v78_8)))) (Host.reduceAdd (res_main_while0b_v137 V0) (constant S_ .f32 0x00000000#32) reducesTo_S32x4x8x8_S32x4x8_d3 h_S_)) : (Proc.devRef .tc main_while0b_v148 : DevRef τ sig).ty.Contents (Elt F)) = Cert.SampleRefIdeal.Step.b69 j s := by
  unfold Cert.SampleRefIdeal.Step.b69
  rw [← al_68 h]
  try rfl
set_option maxRecDepth 8192 in
theorem al_70 (h : Holds V0 s j) : (Host.negf (res_main_while0b_v129 V0) : (Proc.devRef .tc main_while0b_v149 : DevRef τ sig).ty.Contents (Elt F)) = Cert.SampleRefIdeal.Step.b70 j s := by
  unfold Cert.SampleRefIdeal.Step.b70
  rw [← al_49 h]
  try rfl
set_option maxRecDepth 8192 in
theorem al_71 (h : Holds V0 s j) : (Host.exp (Host.negf (res_main_while0b_v129 V0)) : (Proc.devRef .tc main_while0b_v150 : DevRef τ sig).ty.Contents (Elt F)) = Cert.SampleRefIdeal.Step.b71 j s := by
  unfold Cert.SampleRefIdeal.Step.b71
  rw [← al_70 h]
  try rfl
set_option maxRecDepth 8192 in
theorem al_72 (h : Holds V0 s j) : (maximumf (Host.absf (addf (mulf (res_main_while0b_v135 V0) (Host.dotGeneral dot_S32x4x8x128_S32x4x128_S32x4x8_3_2_2_n_01_01 none (res_main_while0b_v110 V0) (V0 (Proc.devRef .tc main_v78_8)))) (Host.reduceAdd (res_main_while0b_v137 V0) (constant S_ .f32 0x00000000#32) reducesTo_S32x4x8x8_S32x4x8_d3 h_S_))) (Host.exp (Host.negf (res_main_while0b_v129 V0))) : (Proc.devRef .tc main_while0b_v151 : DevRef τ sig).ty.Contents (Elt F)) = Cert.SampleRefIdeal.Step.b72 j s := by
  unfold Cert.SampleRefIdeal.Step.b72
  rw [← al_69 h, ← al_71 h]
  try rfl
set_option maxRecDepth 8192 in
theorem al_73 (h : Holds V0 s j) : (broadcastInDim S32x4x8x1 ![0, 1, 2] bcast_S32x4x8_S32x4x8x1_0_1_2 (maximumf (Host.absf (addf (mulf (res_main_while0b_v135 V0) (Host.dotGeneral dot_S32x4x8x128_S32x4x128_S32x4x8_3_2_2_n_01_01 none (res_main_while0b_v110 V0) (V0 (Proc.devRef .tc main_v78_8)))) (Host.reduceAdd (res_main_while0b_v137 V0) (constant S_ .f32 0x00000000#32) reducesTo_S32x4x8x8_S32x4x8_d3 h_S_))) (Host.exp (Host.negf (res_main_while0b_v129 V0)))) : (Proc.devRef .tc main_while0b_v152 : DevRef τ sig).ty.Contents (Elt F)) = Cert.SampleRefIdeal.Step.b73 j s := by
  unfold Cert.SampleRefIdeal.Step.b73
  rw [← al_72 h]
  try rfl
set_option maxRecDepth 8192 in
theorem al_74 (h : Holds V0 s j) : (broadcastInDim S32x4x8x128 ![0, 1, 2, 3] bcast_S32x4x8x1_S32x4x8x128_0_1_2_3 (broadcastInDim S32x4x8x1 ![0, 1, 2] bcast_S32x4x8_S32x4x8x1_0_1_2 (maximumf (Host.absf (addf (mulf (res_main_while0b_v135 V0) (Host.dotGeneral dot_S32x4x8x128_S32x4x128_S32x4x8_3_2_2_n_01_01 none (res_main_while0b_v110 V0) (V0 (Proc.devRef .tc main_v78_8)))) (Host.reduceAdd (res_main_while0b_v137 V0) (constant S_ .f32 0x00000000#32) reducesTo_S32x4x8x8_S32x4x8_d3 h_S_))) (Host.exp (Host.negf (res_main_while0b_v129 V0))))) : (Proc.devRef .tc main_while0b_v153 : DevRef τ sig).ty.Contents (Elt F)) = Cert.SampleRefIdeal.Step.b74 j s := by
  unfold Cert.SampleRefIdeal.Step.b74
  rw [← al_73 h]
  try rfl
set_option maxRecDepth 8192 in
theorem al_75 (h : Holds V0 s j) : (Host.divf (addf (mulf (broadcastInDim S32x4x8x128 ![0, 1, 2, 3] bcast_S32x4x8x1_S32x4x8x128_0_1_2_3 (broadcastInDim S32x4x8x1 ![0, 1, 2] bcast_S32x4x8_S32x4x8x1_0_1_2 (res_main_while0b_v135 V0))) (Host.dotGeneral dot_S32x4x8x128_S32x4x128x128_S32x4x8x128_3_2_2_3_01_01 none (res_main_while0b_v110 V0) (V0 (Proc.devRef .tc main_v78_7)))) (Host.dotGeneral dot_S32x4x8x8_S32x4x8x128_S32x4x8x128_3_2_2_3_01_01 none (res_main_while0b_v137 V0) (res_main_while0b_v112 V0))) (broadcastInDim S32x4x8x128 ![0, 1, 2, 3] bcast_S32x4x8x1_S32x4x8x128_0_1_2_3 (broadcastInDim S32x4x8x1 ![0, 1, 2] bcast_S32x4x8_S32x4x8x1_0_1_2 (maximumf (Host.absf (addf (mulf (res_main_while0b_v135 V0) (Host.dotGeneral dot_S32x4x8x128_S32x4x128_S32x4x8_3_2_2_n_01_01 none (res_main_while0b_v110 V0) (V0 (Proc.devRef .tc main_v78_8)))) (Host.reduceAdd (res_main_while0b_v137 V0) (constant S_ .f32 0x00000000#32) reducesTo_S32x4x8x8_S32x4x8_d3 h_S_))) (Host.exp (Host.negf (res_main_while0b_v129 V0)))))) : (Proc.devRef .tc main_while0b_v154 : DevRef τ sig).ty.Contents (Elt F)) = Cert.SampleRefIdeal.Step.b75 j s := by
  unfold Cert.SampleRefIdeal.Step.b75
  rw [← al_63 h, ← al_74 h]
  try rfl
set_option maxRecDepth 8192 in
theorem al_76 (h : Holds V0 s j) : (extractStridedSlice S32x4x1 ![0, 0, 7] (res_main_while0b_v115 V0) slices_S32x4x8_S32x4x1_0_0_7 : (Proc.devRef .tc main_while0b_v155 : DevRef τ sig).ty.Contents (Elt F)) = Cert.SampleRefIdeal.Step.b76 j s := by
  unfold Cert.SampleRefIdeal.Step.b76
  rw [← al_30 h]
  try rfl
set_option maxRecDepth 8192 in
theorem al_77 (h : Holds V0 s j) : (res_main_while0b_v156 V0 : (Proc.devRef .tc main_while0b_v156 : DevRef τ sig).ty.Contents (Elt F)) = Cert.SampleRefIdeal.Step.b77 j s := by
  unfold res_main_while0b_v156 Cert.SampleRefIdeal.Step.b77
  rw [← al_76 h]
  try rfl
set_option maxRecDepth 8192 in
theorem al_78 (h : Holds V0 s j) : (broadcastInDim S32x4x1 ![0, 1] bcast_S32x4_S32x4x1_0_1 (res_main_while0b_v156 V0) : (Proc.devRef .tc main_while0b_v157 : DevRef τ sig).ty.Contents (Elt F)) = Cert.SampleRefIdeal.Step.b78 j s := by
  unfold Cert.SampleRefIdeal.Step.b78
  rw [← al_77 h]
  try rfl
set_option maxRecDepth 8192 in
theorem al_79 (h : Holds V0 s j) : (broadcastInDim S32x4x8 ![0, 1, 2] bcast_S32x4x1_S32x4x8_0_1_2 (broadcastInDim S32x4x1 ![0, 1] bcast_S32x4_S32x4x1_0_1 (res_main_while0b_v156 V0)) : (Proc.devRef .tc main_while0b_v158 : DevRef τ sig).ty.Contents (Elt F)) = Cert.SampleRefIdeal.Step.b79 j s := by
  unfold Cert.SampleRefIdeal.Step.b79
  rw [← al_78 h]
  try rfl
set_option maxRecDepth 8192 in
theorem al_80 (h : Holds V0 s j) : (subf (broadcastInDim S32x4x8 ![0, 1, 2] bcast_S32x4x1_S32x4x8_0_1_2 (broadcastInDim S32x4x1 ![0, 1] bcast_S32x4_S32x4x1_0_1 (res_main_while0b_v156 V0))) (res_main_while0b_v115 V0) : (Proc.devRef .tc main_while0b_v159 : DevRef τ sig).ty.Contents (Elt F)) = Cert.SampleRefIdeal.Step.b80 j s := by
  unfold Cert.SampleRefIdeal.Step.b80
  rw [← al_79 h, ← al_30 h]
  try rfl
set_option maxRecDepth 8192 in
theorem al_81 (h : Holds V0 s j) : (res_main_while0b_v160 V0 : (Proc.devRef .tc main_while0b_v160 : DevRef τ sig).ty.Contents (Elt F)) = Cert.SampleRefIdeal.Step.b81 j s := by
  unfold res_main_while0b_v160 Cert.SampleRefIdeal.Step.b81
  rw [← al_80 h, ← al_22 h]
  try rfl
set_option maxRecDepth 8192 in
theorem al_82 (h : Holds V0 s j) : (addf (res_main_while0b_v156 V0) (V0 (Proc.devRef .tc main_v78_9)) : (Proc.devRef .tc main_while0b_v161 : DevRef τ sig).ty.Contents (Elt F)) = Cert.SampleRefIdeal.Step.b82 j s := by
  unfold Cert.SampleRefIdeal.Step.b82
  rw [← al_77 h, h.f_9]
  try rfl
set_option maxRecDepth 8192 in
theorem al_83 (h : Holds V0 s j) : (constant S_ .f32 0xFF800000#32 : (Proc.devRef .tc main_while0b_cst_20 : DevRef τ sig).ty.Contents (Elt F)) = Cert.SampleRefIdeal.Step.b83 j s := by
  unfold Cert.SampleRefIdeal.Step.b83
  rfl
set_option maxRecDepth 8192 in
theorem al_84 (h : Holds V0 s j) : (Host.reduce FloatOps.maximumf (res_main_while0b_v160 V0) (constant S_ .f32 0xFF800000#32) reducesTo_S32x4x8_S32x4_d2 h_S_ : (Proc.devRef .tc main_while0b_v162 : DevRef τ sig).ty.Contents (Elt F)) = Cert.SampleRefIdeal.Step.b84 j s := by
  unfold Cert.SampleRefIdeal.Step.b84
  rw [← al_81 h, ← al_83 h]
  try rfl
set_option maxRecDepth 8192 in
theorem al_85 (h : Holds V0 s j) : (res_main_while0b_v163 V0 : (Proc.devRef .tc main_while0b_v163 : DevRef τ sig).ty.Contents (Elt F)) = Cert.SampleRefIdeal.Step.b85 j s := by
  unfold res_main_while0b_v163 Cert.SampleRefIdeal.Step.b85
  rw [← al_82 h, ← al_84 h]
  try rfl
set_option maxRecDepth 8192 in
theorem al_86 (h : Holds V0 s j) : (addf (res_main_while0b_v156 V0) (V0 (Proc.devRef .tc main_v78_9)) : (Proc.devRef .tc main_while0b_v164 : DevRef τ sig).ty.Contents (Elt F)) = Cert.SampleRefIdeal.Step.b86 j s := by
  unfold Cert.SampleRefIdeal.Step.b86
  rw [← al_77 h, h.f_9]
  try rfl
set_option maxRecDepth 8192 in
theorem al_87 (h : Holds V0 s j) : (subf (addf (res_main_while0b_v156 V0) (V0 (Proc.devRef .tc main_v78_9))) (res_main_while0b_v163 V0) : (Proc.devRef .tc main_while0b_v165 : DevRef τ sig).ty.Contents (Elt F)) = Cert.SampleRefIdeal.Step.b87 j s := by
  unfold Cert.SampleRefIdeal.Step.b87
  rw [← al_86 h, ← al_85 h]
  try rfl
set_option maxRecDepth 8192 in
theorem al_88 (h : Holds V0 s j) : (res_main_while0b_v166 V0 : (Proc.devRef .tc main_while0b_v166 : DevRef τ sig).ty.Contents (Elt F)) = Cert.SampleRefIdeal.Step.b88 j s := by
  unfold res_main_while0b_v166 Cert.SampleRefIdeal.Step.b88
  rw [← al_87 h]
  try rfl
set_option maxRecDepth 8192 in
theorem al_89 (h : Holds V0 s j) : (broadcastInDim S32x4x1 ![0, 1] bcast_S32x4_S32x4x1_0_1 (res_main_while0b_v163 V0) : (Proc.devRef .tc main_while0b_v167 : DevRef τ sig).ty.Contents (Elt F)) = Cert.SampleRefIdeal.Step.b89 j s := by
  unfold Cert.SampleRefIdeal.Step.b89
  rw [← al_85 h]
  try rfl
set_option maxRecDepth 8192 in
theorem al_90 (h : Holds V0 s j) : (broadcastInDim S32x4x8 ![0, 1, 2] bcast_S32x4x1_S32x4x8_0_1_2 (broadcastInDim S32x4x1 ![0, 1] bcast_S32x4_S32x4x1_0_1 (res_main_while0b_v163 V0)) : (Proc.devRef .tc main_while0b_v168 : DevRef τ sig).ty.Contents (Elt F)) = Cert.SampleRefIdeal.Step.b90 j s := by
  unfold Cert.SampleRefIdeal.Step.b90
  rw [← al_89 h]
  try rfl
set_option maxRecDepth 8192 in
theorem al_91 (h : Holds V0 s j) : (subf (res_main_while0b_v160 V0) (broadcastInDim S32x4x8 ![0, 1, 2] bcast_S32x4x1_S32x4x8_0_1_2 (broadcastInDim S32x4x1 ![0, 1] bcast_S32x4_S32x4x1_0_1 (res_main_while0b_v163 V0))) : (Proc.devRef .tc main_while0b_v169 : DevRef τ sig).ty.Contents (Elt F)) = Cert.SampleRefIdeal.Step.b91 j s := by
  unfold Cert.SampleRefIdeal.Step.b91
  rw [← al_81 h, ← al_90 h]
  try rfl
set_option maxRecDepth 8192 in
theorem al_92 (h : Holds V0 s j) : (res_main_while0b_v170 V0 : (Proc.devRef .tc main_while0b_v170 : DevRef τ sig).ty.Contents (Elt F)) = Cert.SampleRefIdeal.Step.b92 j s := by
  unfold res_main_while0b_v170 Cert.SampleRefIdeal.Step.b92
  rw [← al_91 h]
  try rfl
set_option maxRecDepth 8192 in
theorem al_93 (h : Holds V0 s j) : (broadcastInDim S32x4x1x1 ![0, 1] bcast_S32x4_S32x4x1x1_0_1 (res_main_while0b_v166 V0) : (Proc.devRef .tc main_while0b_v171 : DevRef τ sig).ty.Contents (Elt F)) = Cert.SampleRefIdeal.Step.b93 j s := by
  unfold Cert.SampleRefIdeal.Step.b93
  rw [← al_88 h]
  try rfl
set_option maxRecDepth 8192 in
theorem al_94 (h : Holds V0 s j) : (broadcastInDim S32x4x128x128 ![0, 1, 2, 3] bcast_S32x4x1x1_S32x4x128x128_0_1_2_3 (broadcastInDim S32x4x1x1 ![0, 1] bcast_S32x4_S32x4x1x1_0_1 (res_main_while0b_v166 V0)) : (Proc.devRef .tc main_while0b_v172 : DevRef τ sig).ty.Contents (Elt F)) = Cert.SampleRefIdeal.Step.b94 j s := by
  unfold Cert.SampleRefIdeal.Step.b94
  rw [← al_93 h]
  try rfl
set_option maxRecDepth 8192 in
theorem al_95 (h : Holds V0 s j) : (mulf (broadcastInDim S32x4x128x128 ![0, 1, 2, 3] bcast_S32x4x1x1_S32x4x128x128_0_1_2_3 (broadcastInDim S32x4x1x1 ![0, 1] bcast_S32x4_S32x4x1x1_0_1 (res_main_while0b_v166 V0))) (V0 (Proc.devRef .tc main_v78_7)) : (Proc.devRef .tc main_while0b_v173 : DevRef τ sig).ty.Contents (Elt F)) = Cert.SampleRefIdeal.Step.b95 j s := by
  unfold Cert.SampleRefIdeal.Step.b95
  rw [← al_94 h, h.f_7]
  try rfl
set_option maxRecDepth 8192 in
theorem al_96 (h : Holds V0 s j) : (broadcastInDim S32x4x8x1 ![0, 1, 2] bcast_S32x4x8_S32x4x8x1_0_1_2 (res_main_while0b_v170 V0) : (Proc.devRef .tc main_while0b_v174 : DevRef τ sig).ty.Contents (Elt F)) = Cert.SampleRefIdeal.Step.b96 j s := by
  unfold Cert.SampleRefIdeal.Step.b96
  rw [← al_92 h]
  try rfl
set_option maxRecDepth 8192 in
theorem al_97 (h : Holds V0 s j) : (broadcastInDim S32x4x8x128 ![0, 1, 2, 3] bcast_S32x4x8x1_S32x4x8x128_0_1_2_3 (broadcastInDim S32x4x8x1 ![0, 1, 2] bcast_S32x4x8_S32x4x8x1_0_1_2 (res_main_while0b_v170 V0)) : (Proc.devRef .tc main_while0b_v175 : DevRef τ sig).ty.Contents (Elt F)) = Cert.SampleRefIdeal.Step.b97 j s := by
  unfold Cert.SampleRefIdeal.Step.b97
  rw [← al_96 h]
  try rfl
set_option maxRecDepth 8192 in
theorem al_98 (h : Holds V0 s j) : (mulf (broadcastInDim S32x4x8x128 ![0, 1, 2, 3] bcast_S32x4x8x1_S32x4x8x128_0_1_2_3 (broadcastInDim S32x4x8x1 ![0, 1, 2] bcast_S32x4x8_S32x4x8x1_0_1_2 (res_main_while0b_v170 V0))) (res_main_while0b_v111 V0) : (Proc.devRef .tc main_while0b_v176 : DevRef τ sig).ty.Contents (Elt F)) = Cert.SampleRefIdeal.Step.b98 j s := by
  unfold Cert.SampleRefIdeal.Step.b98
  rw [← al_97 h, ← al_11 h]
  try rfl
set_option maxRecDepth 8192 in
theorem al_99 (h : Holds V0 s j) : (Host.dotGeneral dot_S32x4x8x128_S32x4x8x128_S32x4x128x128_2_2_3_3_01_01 none (mulf (broadcastInDim S32x4x8x128 ![0, 1, 2, 3] bcast_S32x4x8x1_S32x4x8x128_0_1_2_3 (broadcastInDim S32x4x8x1 ![0, 1, 2] bcast_S32x4x8_S32x4x8x1_0_1_2 (res_main_while0b_v170 V0))) (res_main_while0b_v111 V0)) (res_main_while0b_v112 V0) : (Proc.devRef .tc main_while0b_v177 : DevRef τ sig).ty.Contents (Elt F)) = Cert.SampleRefIdeal.Step.b99 j s := by
  unfold Cert.SampleRefIdeal.Step.b99
  rw [← al_98 h, ← al_17 h]
  try rfl
set_option maxRecDepth 8192 in
theorem al_100 (h : Holds V0 s j) : (addf (mulf (broadcastInDim S32x4x128x128 ![0, 1, 2, 3] bcast_S32x4x1x1_S32x4x128x128_0_1_2_3 (broadcastInDim S32x4x1x1 ![0, 1] bcast_S32x4_S32x4x1x1_0_1 (res_main_while0b_v166 V0))) (V0 (Proc.devRef .tc main_v78_7))) (Host.dotGeneral dot_S32x4x8x128_S32x4x8x128_S32x4x128x128_2_2_3_3_01_01 none (mulf (broadcastInDim S32x4x8x128 ![0, 1, 2, 3] bcast_S32x4x8x1_S32x4x8x128_0_1_2_3 (broadcastInDim S32x4x8x1 ![0, 1, 2] bcast_S32x4x8_S32x4x8x1_0_1_2 (res_main_while0b_v170 V0))) (res_main_while0b_v111 V0)) (res_main_while0b_v112 V0)) : (Proc.devRef .tc main_while0b_v178 : DevRef τ sig).ty.Contents (Elt F)) = Cert.SampleRefIdeal.Step.b100 j s := by
  unfold Cert.SampleRefIdeal.Step.b100
  rw [← al_95 h, ← al_99 h]
  try rfl
set_option maxRecDepth 8192 in
theorem al_101 (h : Holds V0 s j) : (broadcastInDim S32x4x1 ![0, 1] bcast_S32x4_S32x4x1_0_1 (res_main_while0b_v166 V0) : (Proc.devRef .tc main_while0b_v179 : DevRef τ sig).ty.Contents (Elt F)) = Cert.SampleRefIdeal.Step.b101 j s := by
  unfold Cert.SampleRefIdeal.Step.b101
  rw [← al_88 h]
  try rfl
set_option maxRecDepth 8192 in
theorem al_102 (h : Holds V0 s j) : (broadcastInDim S32x4x128 ![0, 1, 2] bcast_S32x4x1_S32x4x128_0_1_2 (broadcastInDim S32x4x1 ![0, 1] bcast_S32x4_S32x4x1_0_1 (res_main_while0b_v166 V0)) : (Proc.devRef .tc main_while0b_v180 : DevRef τ sig).ty.Contents (Elt F)) = Cert.SampleRefIdeal.Step.b102 j s := by
  unfold Cert.SampleRefIdeal.Step.b102
  rw [← al_101 h]
  try rfl
set_option maxRecDepth 8192 in
theorem al_103 (h : Holds V0 s j) : (mulf (broadcastInDim S32x4x128 ![0, 1, 2] bcast_S32x4x1_S32x4x128_0_1_2 (broadcastInDim S32x4x1 ![0, 1] bcast_S32x4_S32x4x1_0_1 (res_main_while0b_v166 V0))) (V0 (Proc.devRef .tc main_v78_8)) : (Proc.devRef .tc main_while0b_v181 : DevRef τ sig).ty.Contents (Elt F)) = Cert.SampleRefIdeal.Step.b103 j s := by
  unfold Cert.SampleRefIdeal.Step.b103
  rw [← al_102 h, h.f_8]
  try rfl
set_option maxRecDepth 8192 in
theorem al_104 (h : Holds V0 s j) : (Host.dotGeneral dot_S32x4x8_S32x4x8x128_S32x4x128_2_2_n_3_01_01 none (res_main_while0b_v170 V0) (res_main_while0b_v111 V0) : (Proc.devRef .tc main_while0b_v182 : DevRef τ sig).ty.Contents (Elt F)) = Cert.SampleRefIdeal.Step.b104 j s := by
  unfold Cert.SampleRefIdeal.Step.b104
  rw [← al_92 h, ← al_11 h]
  try rfl
set_option maxRecDepth 8192 in
theorem al_105 (h : Holds V0 s j) : (addf (mulf (broadcastInDim S32x4x128 ![0, 1, 2] bcast_S32x4x1_S32x4x128_0_1_2 (broadcastInDim S32x4x1 ![0, 1] bcast_S32x4_S32x4x1_0_1 (res_main_while0b_v166 V0))) (V0 (Proc.devRef .tc main_v78_8))) (Host.dotGeneral dot_S32x4x8_S32x4x8x128_S32x4x128_2_2_n_3_01_01 none (res_main_while0b_v170 V0) (res_main_while0b_v111 V0)) : (Proc.devRef .tc main_while0b_v183 : DevRef τ sig).ty.Contents (Elt F)) = Cert.SampleRefIdeal.Step.b105 j s := by
  unfold Cert.SampleRefIdeal.Step.b105
  rw [← al_103 h, ← al_104 h]
  try rfl
set_option maxRecDepth 8192 in
theorem al_106 (h : Holds V0 s j) : (broadcastInDim S1x32x4x8x128 ![1, 2, 3, 4] bcast_S32x4x8x128_S1x32x4x8x128_1_2_3_4 (Host.divf (addf (mulf (broadcastInDim S32x4x8x128 ![0, 1, 2, 3] bcast_S32x4x8x1_S32x4x8x128_0_1_2_3 (broadcastInDim S32x4x8x1 ![0, 1, 2] bcast_S32x4x8_S32x4x8x1_0_1_2 (res_main_while0b_v135 V0))) (Host.dotGeneral dot_S32x4x8x128_S32x4x128x128_S32x4x8x128_3_2_2_3_01_01 none (res_main_while0b_v110 V0) (V0 (Proc.devRef .tc main_v78_7)))) (Host.dotGeneral dot_S32x4x8x8_S32x4x8x128_S32x4x8x128_3_2_2_3_01_01 none (res_main_while0b_v137 V0) (res_main_while0b_v112 V0))) (broadcastInDim S32x4x8x128 ![0, 1, 2, 3] bcast_S32x4x8x1_S32x4x8x128_0_1_2_3 (broadcastInDim S32x4x8x1 ![0, 1, 2] bcast_S32x4x8_S32x4x8x1_0_1_2 (maximumf (Host.absf (addf (mulf (res_main_while0b_v135 V0) (Host.dotGeneral dot_S32x4x8x128_S32x4x128_S32x4x8_3_2_2_n_01_01 none (res_main_while0b_v110 V0) (V0 (Proc.devRef .tc main_v78_8)))) (Host.reduceAdd (res_main_while0b_v137 V0) (constant S_ .f32 0x00000000#32) reducesTo_S32x4x8x8_S32x4x8_d3 h_S_))) (Host.exp (Host.negf (res_main_while0b_v129 V0))))))) : (Proc.devRef .tc main_while0b_call10_v0 : DevRef τ sig).ty.Contents (Elt F)) = Cert.SampleRefIdeal.Step.b106 j s := by
  unfold Cert.SampleRefIdeal.Step.b106
  rw [← al_75 h]
  try rfl
set_option maxRecDepth 8192 in
theorem al_107 (h : Holds V0 s j) : (constantI S_ 32 0#32 : (Proc.devRef .tc main_while0b_call10_c : DevRef τ sig).ty.Contents (Elt F)) = Cert.SampleRefIdeal.Step.b107 j s := by
  unfold Cert.SampleRefIdeal.Step.b107
  rfl
set_option maxRecDepth 8192 in
theorem al_108 (h : Holds V0 s j) : (constantI S_ 32 0#32 : (Proc.devRef .tc main_while0b_call10_c_0 : DevRef τ sig).ty.Contents (Elt F)) = Cert.SampleRefIdeal.Step.b108 j s := by
  unfold Cert.SampleRefIdeal.Step.b108
  rfl
set_option maxRecDepth 8192 in
theorem al_109 (h : Holds V0 s j) : (constantI S_ 32 0#32 : (Proc.devRef .tc main_while0b_call10_c_1 : DevRef τ sig).ty.Contents (Elt F)) = Cert.SampleRefIdeal.Step.b109 j s := by
  unfold Cert.SampleRefIdeal.Step.b109
  rfl
set_option maxRecDepth 8192 in
theorem al_110 (h : Holds V0 s j) : (constantI S_ 32 0#32 : (Proc.devRef .tc main_while0b_call10_c_2 : DevRef τ sig).ty.Contents (Elt F)) = Cert.SampleRefIdeal.Step.b110 j s := by
  unfold Cert.SampleRefIdeal.Step.b110
  rfl
set_option maxRecDepth 8192 in
theorem al_111 (h : Holds V0 s j) : (Host.dynamicUpdateSlice (V0 (Proc.devRef .tc main_v78_10)) (broadcastInDim S1x32x4x8x128 ![1, 2, 3, 4] bcast_S32x4x8x128_S1x32x4x8x128_1_2_3_4 (Host.divf (addf (mulf (broadcastInDim S32x4x8x128 ![0, 1, 2, 3] bcast_S32x4x8x1_S32x4x8x128_0_1_2_3 (broadcastInDim S32x4x8x1 ![0, 1, 2] bcast_S32x4x8_S32x4x8x1_0_1_2 (res_main_while0b_v135 V0))) (Host.dotGeneral dot_S32x4x8x128_S32x4x128x128_S32x4x8x128_3_2_2_3_01_01 none (res_main_while0b_v110 V0) (V0 (Proc.devRef .tc main_v78_7)))) (Host.dotGeneral dot_S32x4x8x8_S32x4x8x128_S32x4x8x128_3_2_2_3_01_01 none (res_main_while0b_v137 V0) (res_main_while0b_v112 V0))) (broadcastInDim S32x4x8x128 ![0, 1, 2, 3] bcast_S32x4x8x1_S32x4x8x128_0_1_2_3 (broadcastInDim S32x4x8x1 ![0, 1, 2] bcast_S32x4x8_S32x4x8x1_0_1_2 (maximumf (Host.absf (addf (mulf (res_main_while0b_v135 V0) (Host.dotGeneral dot_S32x4x8x128_S32x4x128_S32x4x8_3_2_2_n_01_01 none (res_main_while0b_v110 V0) (V0 (Proc.devRef .tc main_v78_8)))) (Host.reduceAdd (res_main_while0b_v137 V0) (constant S_ .f32 0x00000000#32) reducesTo_S32x4x8x8_S32x4x8_d3 h_S_))) (Host.exp (Host.negf (res_main_while0b_v129 V0)))))))) (fun k => (((![V0 (Proc.devRef .tc main_v78_6), constantI S_ 32 0#32, constantI S_ 32 0#32, constantI S_ 32 0#32, constantI S_ 32 0#32] : Fin 5 → (⟨S_, .i32⟩ : BufTy).Contents (Elt F))) k (Shape.Idx.first h_S_)).toInt) updateFits_S1x32x4x8x128_S1x32x4x8x128 : (Proc.devRef .tc main_while0b_v184 : DevRef τ sig).ty.Contents (Elt F)) = Cert.SampleRefIdeal.Step.b111 j s := by
  unfold Cert.SampleRefIdeal.Step.b111
  rw [← al_106 h, ← al_107 h, ← al_108 h, ← al_109 h, ← al_110 h, h.f_10, h.n_6]
  try rfl

/-! One trip's step of the carried values is `step`, field by field; a counter steps to the next number. -/

theorem step_7 (h : Holds V0 s j) : step_main_v78_7 V0 = (step j s).main_v78_7 := by
  unfold step_main_v78_7 Cert.SampleRefIdeal.Step.step
  show id (addf (mulf (broadcastInDim S32x4x128x128 ![0, 1, 2, 3] bcast_S32x4x1x1_S32x4x128x128_0_1_2_3 (broadcastInDim S32x4x1x1 ![0, 1] bcast_S32x4_S32x4x1x1_0_1 (res_main_while0b_v166 V0))) (V0 (Proc.devRef .tc main_v78_7))) (Host.dotGeneral dot_S32x4x8x128_S32x4x8x128_S32x4x128x128_2_2_3_3_01_01 none (mulf (broadcastInDim S32x4x8x128 ![0, 1, 2, 3] bcast_S32x4x8x1_S32x4x8x128_0_1_2_3 (broadcastInDim S32x4x8x1 ![0, 1, 2] bcast_S32x4x8_S32x4x8x1_0_1_2 (res_main_while0b_v170 V0))) (res_main_while0b_v111 V0)) (res_main_while0b_v112 V0))) = _
  rw [al_100 h]
  try rfl
theorem step_8 (h : Holds V0 s j) : step_main_v78_8 V0 = (step j s).main_v78_8 := by
  unfold step_main_v78_8 Cert.SampleRefIdeal.Step.step
  show id (addf (mulf (broadcastInDim S32x4x128 ![0, 1, 2] bcast_S32x4x1_S32x4x128_0_1_2 (broadcastInDim S32x4x1 ![0, 1] bcast_S32x4_S32x4x1_0_1 (res_main_while0b_v166 V0))) (V0 (Proc.devRef .tc main_v78_8))) (Host.dotGeneral dot_S32x4x8_S32x4x8x128_S32x4x128_2_2_n_3_01_01 none (res_main_while0b_v170 V0) (res_main_while0b_v111 V0))) = _
  rw [al_105 h]
  try rfl
theorem step_9 (h : Holds V0 s j) : step_main_v78_9 V0 = (step j s).main_v78_9 := by
  unfold step_main_v78_9 Cert.SampleRefIdeal.Step.step
  show id (res_main_while0b_v163 V0) = _
  rw [al_85 h]
  try rfl
theorem step_10 (h : Holds V0 s j) : step_main_v78_10 V0 = (step j s).main_v78_10 := by
  unfold step_main_v78_10 Cert.SampleRefIdeal.Step.step
  show id (Host.dynamicUpdateSlice (V0 (Proc.devRef .tc main_v78_10)) (broadcastInDim S1x32x4x8x128 ![1, 2, 3, 4] bcast_S32x4x8x128_S1x32x4x8x128_1_2_3_4 (Host.divf (addf (mulf (broadcastInDim S32x4x8x128 ![0, 1, 2, 3] bcast_S32x4x8x1_S32x4x8x128_0_1_2_3 (broadcastInDim S32x4x8x1 ![0, 1, 2] bcast_S32x4x8_S32x4x8x1_0_1_2 (res_main_while0b_v135 V0))) (Host.dotGeneral dot_S32x4x8x128_S32x4x128x128_S32x4x8x128_3_2_2_3_01_01 none (res_main_while0b_v110 V0) (V0 (Proc.devRef .tc main_v78_7)))) (Host.dotGeneral dot_S32x4x8x8_S32x4x8x128_S32x4x8x128_3_2_2_3_01_01 none (res_main_while0b_v137 V0) (res_main_while0b_v112 V0))) (broadcastInDim S32x4x8x128 ![0, 1, 2, 3] bcast_S32x4x8x1_S32x4x8x128_0_1_2_3 (broadcastInDim S32x4x8x1 ![0, 1, 2] bcast_S32x4x8_S32x4x8x1_0_1_2 (maximumf (Host.absf (addf (mulf (res_main_while0b_v135 V0) (Host.dotGeneral dot_S32x4x8x128_S32x4x128_S32x4x8_3_2_2_n_01_01 none (res_main_while0b_v110 V0) (V0 (Proc.devRef .tc main_v78_8)))) (Host.reduceAdd (res_main_while0b_v137 V0) (constant S_ .f32 0x00000000#32) reducesTo_S32x4x8x8_S32x4x8_d3 h_S_))) (Host.exp (Host.negf (res_main_while0b_v129 V0)))))))) (fun k => (((![V0 (Proc.devRef .tc main_v78_6), constantI S_ 32 0#32, constantI S_ 32 0#32, constantI S_ 32 0#32, constantI S_ 32 0#32] : Fin 5 → (⟨S_, .i32⟩ : BufTy).Contents (Elt F))) k (Shape.Idx.first h_S_)).toInt) updateFits_S1x32x4x8x128_S1x32x4x8x128) = _
  exact al_111 h
theorem step_6 (h : Holds V0 s j) : step_main_v78_6 V0 = constantI S_ 32 (BitVec.ofNat 32 (j + 1)) := by
  unfold step_main_v78_6
  rw [h.n_6]
  funext i
  show BitVec.ofNat 32 j + 1#32 = BitVec.ofNat 32 (j + 1)
  simp only [BitVec.ofNat_add]

set_option maxRecDepth 8192 in
theorem out_main_v105_holds (h : Holds V0 s j) {x_main_arg0 : (⟨S8448x6400, .f32⟩ : BufTy).Contents (Elt F)} (h_main_arg0 : V0 (Proc.devRef .tc main_arg0) = x_main_arg0) {x_main_arg4 : (⟨S128, .f32⟩ : BufTy).Contents (Elt F)} (h_main_arg4 : V0 (Proc.devRef .tc main_arg4) = x_main_arg4) : out_main_v105 V0 = Cert.SampleRefIdeal.Step.R_main_v105 s x_main_arg0 x_main_arg4 := by
  unfold out_main_v105 Cert.SampleRefIdeal.Step.R_main_v105
  rw [h.f_10, h_main_arg0, h_main_arg4]
  try rfl

set_option maxRecDepth 8192 in
theorem out_main_v106_holds (h : Holds V0 s j) : out_main_v106 V0 = Cert.SampleRefIdeal.Step.R_main_v106 s := by
  unfold out_main_v106 Cert.SampleRefIdeal.Step.R_main_v106
  rw [h.f_7]
  try rfl

set_option maxRecDepth 8192 in
theorem out_main_v107_holds (h : Holds V0 s j) : out_main_v107 V0 = Cert.SampleRefIdeal.Step.R_main_v107 s := by
  unfold out_main_v107 Cert.SampleRefIdeal.Step.R_main_v107
  rw [h.f_8]
  try rfl

set_option maxRecDepth 8192 in
theorem out_main_v109_holds (h : Holds V0 s j) : out_main_v109 V0 = Cert.SampleRefIdeal.Step.R_main_v109 s := by
  unfold out_main_v109 Cert.SampleRefIdeal.Step.R_main_v109
  rw [h.f_9]
  try rfl

/-- One trip keeps the valuation holding: `step` of the state, the same set-up values, the next number. -/
theorem holds_step (h : Holds V0 s j) : Holds (STEP V0) (step j s) (j + 1) where
  f_7 := (STEP_main_v78_7 V0).trans (step_7 h)
  f_8 := (STEP_main_v78_8 V0).trans (step_8 h)
  f_9 := (STEP_main_v78_9 V0).trans (step_9 h)
  f_10 := (STEP_main_v78_10 V0).trans (step_10 h)
  n_6 := (STEP_main_v78_6 V0).trans (step_6 h)
  k_5 := (STEP_main_v78_5 V0).trans h.k_5
  f_0 := (STEP_main_v78_0 V0).trans h.f_0
  f_1 := (STEP_main_v78_1 V0).trans h.f_1
  f_2 := (STEP_main_v78_2 V0).trans h.f_2
  f_3 := (STEP_main_v78_3 V0).trans h.f_3
  f_4 := (STEP_main_v78_4 V0).trans h.f_4

/-- The state the first trip starts from, of the memory the run starts from. -/
abbrev initState (m : (ℓ : Loc nD τ sig) → Buf (Elt F) ℓ) (c : Dev nD) : State F :=
  init (m ((c.tc : Thread nD τ).loc main_arg5)) (m ((c.tc : Thread nD τ).loc main_arg6)) (m ((c.tc : Thread nD τ).loc main_arg7)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8))

variable (m : (ℓ : Loc nD τ sig) → Buf (Elt F) ℓ) (c : Dev nD)

set_option maxRecDepth 65536 in
set_option maxHeartbeats 800000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The results as `step` iterated: every weakly fair execution of `SampleRefIdeal` terminates with each result at its field of state
    number 1 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v105) = Cert.SampleRefIdeal.Step.R_main_v105 (it c 1) (m ((c.tc : Thread nD τ).loc main_arg0)) (m ((c.tc : Thread nD τ).loc main_arg4))
      ∧ r.2.mem ((c.tc : Thread nD τ).loc main_v106) = Cert.SampleRefIdeal.Step.R_main_v106 (it c 1)
      ∧ r.2.mem ((c.tc : Thread nD τ).loc main_v107) = Cert.SampleRefIdeal.Step.R_main_v107 (it c 1)
      ∧ r.2.mem ((c.tc : Thread nD τ).loc main_v109) = Cert.SampleRefIdeal.Step.R_main_v109 (it c 1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    have hk := holds_iter m c (it c) (h0 c) (hs c) 1
    ⟨(h c).1.trans (out_main_v105_holds hk (iter_main_arg0 m c 1) (iter_main_arg4 m c 1)), (h c).2.1.trans (out_main_v106_holds hk), (h c).2.2.1.trans (out_main_v107_holds hk), (h c).2.2.2.1.trans (out_main_v109_holds hk), (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2⟩) (Value.run m ρ)

end Cert.SampleSteps

end
-- ==== Proof.SampleClaim.lean ====
/- The sample pair's value claim from the two runs. -/
module

public import proofs.«01_k».proof.Defs
public import proofs.«01_k».proof.Proof.SampleFinal
public import proofs.«01_k».proof.Proof.SampleStepRun
public import Idealize.ShloMosaic.Lib.Claim

@[expose] public section

noncomputable section

open Idealize.ShloMosaic Idealize.ShloMosaic.TcCoe Idealize.SL.Sem

namespace Cert.SampleClaim

/-- The reference's state after its trip is that of the kernel's arguments. -/
theorem state (m : (ℓ : Loc Cert.SampleIdeal.nD Cert.SampleIdeal.τ Cert.SampleIdeal.sig) → Buf (Elt Ideal) ℓ)
    (m' : (ℓ : Loc Cert.SampleRefIdeal.nD Cert.SampleRefIdeal.τ Cert.SampleRefIdeal.sig) → Buf (Elt Ideal) ℓ)
    (c : Dev Cert.SampleIdeal.nD)
    (h0 : m' ((c.tc : Thread Cert.SampleRefIdeal.nD Cert.SampleRefIdeal.τ).loc Cert.SampleRefIdeal.main_arg0) = Cert.SampleBlocks.aU m c)
    (h1 : m' ((c.tc : Thread Cert.SampleRefIdeal.nD Cert.SampleRefIdeal.τ).loc Cert.SampleRefIdeal.main_arg1) = Cert.SampleBlocks.aG m c)
    (h2 : m' ((c.tc : Thread Cert.SampleRefIdeal.nD Cert.SampleRefIdeal.τ).loc Cert.SampleRefIdeal.main_arg2) = Cert.SampleBlocks.aW m c)
    (h3 : m' ((c.tc : Thread Cert.SampleRefIdeal.nD Cert.SampleRefIdeal.τ).loc Cert.SampleRefIdeal.main_arg3) = Cert.SampleBlocks.aB m c)
    (h5 : m' ((c.tc : Thread Cert.SampleRefIdeal.nD Cert.SampleRefIdeal.τ).loc Cert.SampleRefIdeal.main_arg5) = Cert.SampleBlocks.aC0 m c)
    (h6 : m' ((c.tc : Thread Cert.SampleRefIdeal.nD Cert.SampleRefIdeal.τ).loc Cert.SampleRefIdeal.main_arg6) = Cert.SampleBlocks.aN0 m c)
    (h7 : m' ((c.tc : Thread Cert.SampleRefIdeal.nD Cert.SampleRefIdeal.τ).loc Cert.SampleRefIdeal.main_arg7) = Cert.SampleBlocks.aM0 m c)
    (h8 : m' ((c.tc : Thread Cert.SampleRefIdeal.nD Cert.SampleRefIdeal.τ).loc Cert.SampleRefIdeal.main_arg8) = Cert.SampleBlocks.aBuf m c) :
    Cert.SampleRefIdeal.Step.step 0 (Cert.SampleSteps.initState m' c) = Cert.SampleFinal.after m c := by
  unfold Cert.SampleSteps.initState
  rw [h0, h1, h2, h3, h5, h6, h7, h8]

theorem algebraic : Cert.algebraic_SampleIdeal_SampleRefIdeal := by
  pair_intro
  · run_from Cert.SampleIdeal.Value.run_blocks m g
  · have e : ∀ c : Dev Cert.SampleIdeal.nD, _ := fun c => state m m' c (hagree c).1 (hagree c).2.1 (hagree c).2.2.1 (hagree c).2.2.2.1
      (hagree c).2.2.2.2.2.1 (hagree c).2.2.2.2.2.2.1 (hagree c).2.2.2.2.2.2.2.1 (hagree c).2.2.2.2.2.2.2.2
    run_from Cert.SampleSteps.run_iter m' g'
      (fun c n => Nat.rec (Cert.SampleSteps.initState m' c) (fun k s => Cert.SampleRefIdeal.Step.step k s) n) (fun _ => rfl) (fun _ _ => rfl)
    · exact (congrArg (fun s => Cert.SampleRefIdeal.Step.R_main_v105 s _ _) (e c)).trans (Cert.SampleFinal.final16 m c).symm
    · exact (congrArg Cert.SampleRefIdeal.Step.R_main_v106 (e c)).trans (Cert.SampleFinal.final17 m c).symm
    · exact (congrArg Cert.SampleRefIdeal.Step.R_main_v107 (e c)).trans (Cert.SampleFinal.final18 m c).symm
    · exact (congrArg Cert.SampleRefIdeal.Step.R_main_v109 (e c)).trans (Cert.SampleFinal.final19 m c).symm

end Cert.SampleClaim

end
-- ==== Proof.PromptRefSetup.lean ====
/- What the prompt reference hands its loop, read at an index: the convolved queries and keys, the values and the gates. -/
module

public import proofs.«01_k».proof.Proof.Gen.PromptRefIdeal.Step
public import proofs.«01_k».proof.Proof.MlstmMath

@[expose] public section

set_option maxRecDepth 16384

noncomputable section

open Idealize.ShloMosaic Idealize.ShloMosaic.TcCoe Idealize.SL.Sem
open Cert.PromptRefIdeal Cert.PromptRefIdeal.Gen Cert.PromptRefIdeal.Step Cert.Mlstm

namespace Cert.PromptRefSetup

variable (u : FVec Ideal S8448x6400 .f32) (gb : FVec Ideal S2x4 .f32) (cw : FVec Ideal S4x1024 .f32)
  (cb : FVec Ideal S1024 .f32)

/-- Row `r` of batch entry `b` among the rows of the input. -/
abbrev row (b : Fin 2) (r : Fin 4096) : Fin 8448 := ⟨b.val * 4096 + r.val, by omega⟩

/-- Row `r` of chunk `j` among a batch entry's rows. -/
abbrev tok (j r : Fin 64) : Fin 4096 := ⟨j.val * 64 + r.val, by omega⟩

theorem v5_at (b : Fin 2) (r : Fin 4096) (x : Fin 6400) : A_main_v5 (F := Ideal) u gb cw cb (ix3 b r x) = u (ix2 (row b r) x) := by
  pointwise [A_main_v5, A_main_v4]

theorem v11_at (b : Fin 2) (r : Fin 4096) (ch : Fin 1024) :
    A_main_v11 (F := Ideal) u gb cw cb (ix3 b r ch) = u (ix2 (row b r) ⟨4096 + ch.val, by omega⟩) := by
  pointwise [A_main_v11, A_main_v6, A_main_v7, v5_at]
  split
  · rfl
  · exact congrArg u ((ix2_inj ..).2 ⟨rfl, Fin.ext (by show 4608 + (ch.val - 512) = 4096 + ch.val; omega)⟩)

/-- Row `i` of the convolution's input: three rows of history and then the batch entry's rows. -/
def ext (b : Fin 2) (i : Fin 4099) (ch : Fin 1024) : EReal :=
  if h : i.val < 3 then 0 else u (ix2 (row b ⟨i.val - 3, by omega⟩) ⟨4096 + ch.val, by omega⟩)

theorem v12_at (b : Fin 2) (i : Fin 4099) (ch : Fin 1024) :
    A_main_v12 (F := Ideal) u gb cw cb (ix3 b i ch) = ext u b i ch := by
  pointwise [A_main_v12, v11_at, K_main_v3, K_main_cst_2]
  rfl

/-- One channel of the convolution's output. -/
def convd (b : Fin 2) (r : Fin 4096) (ch : Fin 1024) : EReal :=
  conv (cb (ix1 ch)) (ext u b ⟨r.val, by omega⟩ ch) (ext u b ⟨1 + r.val, by omega⟩ ch) (ext u b ⟨2 + r.val, by omega⟩ ch)
    (ext u b ⟨3 + r.val, by omega⟩ ch) (cw (ix2 0 ch)) (cw (ix2 1 ch)) (cw (ix2 2 ch)) (cw (ix2 3 ch))

theorem v42_at (b : Fin 2) (r : Fin 4096) (ch : Fin 1024) : A_main_v42 (F := Ideal) u gb cw cb (ix3 b r ch)
    = cb (ix1 ch) + ext u b ⟨r.val, by omega⟩ ch * cw (ix2 0 ch) + ext u b ⟨1 + r.val, by omega⟩ ch * cw (ix2 1 ch)
      + ext u b ⟨2 + r.val, by omega⟩ ch * cw (ix2 2 ch) + ext u b ⟨3 + r.val, by omega⟩ ch * cw (ix2 3 ch) := by
  pointwise [A_main_v42, A_main_v41, A_main_v40, A_main_v39, A_main_v38, A_main_v37, A_main_v36, A_main_v35, A_main_v34, A_main_v33, A_main_v32, A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, v12_at]

theorem v43_at (b : Fin 2) (r : Fin 4096) (ch : Fin 1024) : A_main_v43 (F := Ideal) u gb cw cb (ix3 b r ch)
    = convd u cw cb b r ch := by
  pointwise [A_main_v43, A_main_call0_v5, A_main_call0_v3, A_main_call0_v1, A_main_call0_v0, K_main_call0_v2, K_main_call0_v4, K_main_call0_cst, K_main_call0_cst_0, v42_at]
  rfl

theorem q_at (j : Fin 64) (b : Fin 2) (h : Fin 4) (r : Fin 64) (d : Fin 128) : A_main_v68 (F := Ideal) u gb cw cb (ix5 j b h r d)
    = convd u cw cb b (tok j r) ⟨h.val * 128 + d.val, by omega⟩ * Ideal.ofBits .f32 0x3DB504F3#32 := by
  pointwise [A_main_v68, A_main_v67, A_main_v66, A_main_v48, K_main_v47, K_main_cst_3, A_main_v46, A_main_v44, v43_at]

theorem k_at (j : Fin 64) (b : Fin 2) (h : Fin 4) (r : Fin 64) (d : Fin 128) : A_main_v71 (F := Ideal) u gb cw cb (ix5 j b h r d)
    = convd u cw cb b (tok j r) ⟨512 + (h.val * 128 + d.val), by omega⟩ := by
  pointwise [A_main_v71, A_main_v70, A_main_v69, A_main_v49, A_main_v45, v43_at]

theorem v_at (j : Fin 64) (b : Fin 2) (h : Fin 4) (r : Fin 64) (d : Fin 128) : A_main_v74 (F := Ideal) u gb cw cb (ix5 j b h r d)
    = u (ix2 (row b (tok j r)) ⟨5120 + (h.val * 128 + d.val), by omega⟩) := by
  pointwise [A_main_v74, A_main_v73, A_main_v72, A_main_v50, A_main_v8, v5_at]

theorem li_at (j : Fin 64) (b : Fin 2) (h : Fin 4) (r : Fin 64) : A_main_v77 (F := Ideal) u gb cw cb (ix4 j b h r)
    = u (ix2 (row b (tok j r)) ⟨6168 + h.val, by omega⟩) + gb (ix2 0 h) := by
  pointwise [A_main_v77, A_main_v76, A_main_v75, A_main_v55, A_main_v54, A_main_v53, A_main_v52, A_main_v51, A_main_v9, v5_at]

theorem lf_at (j : Fin 64) (b : Fin 2) (h : Fin 4) (r : Fin 64) : A_main_v80 (F := Ideal) u gb cw cb (ix4 j b h r)
    = lsig (u (ix2 (row b (tok j r)) ⟨6172 + h.val, by omega⟩) + gb (ix2 1 h)) := by
  pointwise [A_main_v80, A_main_v79, A_main_v78, A_main_v63, A_main_v62, A_main_call1_v11, A_main_call1_v10, A_main_call1_v9, A_main_call1_v8, A_main_call1_v7, A_main_call1_v6, A_main_call1_v4, A_main_call1_v3, A_main_call1_v1, K_main_call1_v0, K_main_call1_v2, K_main_call1_v5, K_main_call1_cst, A_main_v61, A_main_v60, A_main_v59, A_main_v58, A_main_v57, A_main_v56, A_main_v10, v5_at]
  simp only [ne_eq, not_true_eq_false, if_false]
  rfl

end Cert.PromptRefSetup

end
-- ==== Proof.PromptBlocks.lean ====
/- The blocks a point of the prompt kernel reads, in terms of the arguments. -/
module

public import proofs.«01_k».proof.Proof.Gen.PromptIdeal.Value
public import proofs.«01_k».proof.Proof.MlstmMath
public import proofs.«01_k».proof.Proof.PromptRefSetup
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.PromptIdeal Cert.PromptIdeal.Gen Cert.Mlstm Cert.PromptRefSetup

namespace Cert.PromptBlocks

variable (m : (ℓ : Loc nD τ sig) → Buf (Elt Ideal) ℓ)

theorem idx : ∀ t : Fin cfg0.N, win0_0.index t = ![t.val / 4, 32 + t.val % 4]
    ∧ win0_1.index t = ![t.val / 4, 36 + t.val % 4] ∧ win0_2.index t = ![t.val / 4, 40 + t.val % 4]
    ∧ win0_3.index t = ![t.val / 4, 44 + t.val % 4] ∧ win0_4.index t = ![t.val / 4, 0, t.val % 4]
    ∧ win0_5.index t = ![t.val / 4, 0, 4 + t.val % 4] ∧ win0_6.index t = ![0, t.val % 4]
    ∧ win0_7.index t = ![0, 4 + t.val % 4] ∧ win0_8.index t = ![0, t.val % 4] ∧ win0_9.index t = ![0, 4 + t.val % 4]
    ∧ win0_10.index t = ![t.val, 0, 0] ∧ win0_11.index t = ![t.val, 0, 0] ∧ win0_12.index t = ![t.val, 0, 0]
    ∧ win0_13.index t = ![t.val, 0, 0] ∧ win0_14.index t = ![t.val, 0, 0] ∧ win0_15.index t = ![0, 0]
    ∧ win0_16.index t = ![t.val / 4, t.val % 4] ∧ win0_17.index t = ![t.val, 0, 0] ∧ win0_18.index t = ![t.val, 0, 0]
    ∧ win0_19.index t = ![t.val, 0, 0] ∧ t.val < 8 :=
  (by decide +kernel : ∀ t : Fin grid0.N, _)

/-- The arguments a run starts from. -/
abbrev aU (c : Dev nD) : FVec Ideal S8448x6400 .f32 := m ((c : Thread nD τ).loc main_arg0)
abbrev aG (c : Dev nD) : FVec Ideal S2x4 .f32 := m ((c : Thread nD τ).loc main_arg1)
abbrev aW (c : Dev nD) : FVec Ideal S4x1024 .f32 := m ((c : Thread nD τ).loc main_arg2)
abbrev aB (c : Dev nD) : FVec Ideal S1024 .f32 := m ((c : Thread nD τ).loc main_arg3)
abbrev aN (c : Dev nD) : FVec Ideal S128 .f32 := m ((c : Thread nD τ).loc main_arg4)

/-! ## The operands the host prepares -/

theorem V25 (c : Dev nD) : V m c main_v25 = shapeCast S1x1024 (aB m c) shapeCasts_S1024_S1x1024 := by
  unfold V
  simp only [List.flatten_cons, List.flatten_nil, List.append_nil, StableHlo.after_append]
  after_results
  rfl

theorem V30 (c : Dev nD) : V m c main_v30 = shapeCast S1x128 (aN m c) shapeCasts_S128_S1x128 := by
  unfold V
  simp only [List.flatten_cons, List.flatten_nil, List.append_nil, StableHlo.after_append]
  after_results
  rfl

theorem V24 (c : Dev nD) : V m c main_v24 = pad S8x1024 ![0, 0] ![4, 0] ![0, 0] (aW m c) (sitofp FTy.f32 (constantI S_ 32 0#32) : FVec Ideal S_ .f32) pads_S4x1024_S8x1024_040_000 h_S_ := by
  unfold V
  simp only [List.flatten_cons, List.flatten_nil, List.append_nil, StableHlo.after_append]
  after_results
  rfl

theorem V23 (c : Dev nD) (b : Fin 2) (r : Fin 3) (d : Fin 1024) :
    (V m c main_v23 : FVec Ideal S2x8x1024 .f32) (ix3 b ⟨5 + r.val, by omega⟩ d) = (0 : EReal) := by
  unfold V
  simp only [List.flatten_cons, List.flatten_nil, List.append_nil, StableHlo.after_append]
  after_results
  simp only [StableHlo.TRef.toBuf, StableHlo.TRef.ofBuf, cast_eq]
  pointwise

theorem V26 (c : Dev nD) (i : Fin 8) (d e : Fin 128) : (V m c main_v26 : FVec Ideal S8x128x128 .f32) (ix3 i d e) = (0 : EReal) := by
  unfold V
  simp only [List.flatten_cons, List.flatten_nil, List.append_nil, StableHlo.after_append]
  after_results
  pointwise

theorem V27 (c : Dev nD) (i : Fin 8) (d : Fin 128) : (V m c main_v27 : FVec Ideal S8x1x128 .f32) (ix3 i 0 d) = (0 : EReal) := by
  unfold V
  simp only [List.flatten_cons, List.flatten_nil, List.append_nil, StableHlo.after_append]
  after_results
  pointwise

theorem V29 (c : Dev nD) (i : Fin 8) (d : Fin 128) : (V m c main_v29 : FVec Ideal S8x1x128 .f32) (ix3 i 0 d) = (0 : EReal) := by
  unfold V
  simp only [List.flatten_cons, List.flatten_nil, List.append_nil, StableHlo.after_append]
  after_results
  pointwise

theorem gate24 (c : Dev nD) (b : Fin 2) (h : Fin 4) (j r : Fin 64) :
    aU m c (ix2 (⟨b.val * 4096 + (j.val * 64 + r.val), by omega⟩ : Fin 8448) (⟨6144 + (24 + h.val), by omega⟩ : Fin 6400))
      = aU m c (ix2 (row b (tok j r)) ⟨6168 + h.val, by omega⟩) :=
  congrArg (aU m c) ((ix2_inj ..).2 ⟨Fin.ext rfl, Fin.ext (by show 6144 + (24 + h.val) = 6168 + h.val; omega)⟩)

theorem gate28 (c : Dev nD) (b : Fin 2) (h : Fin 4) (j r : Fin 64) :
    aU m c (ix2 (⟨b.val * 4096 + (j.val * 64 + r.val), by omega⟩ : Fin 8448) (⟨6144 + (28 + h.val), by omega⟩ : Fin 6400))
      = aU m c (ix2 (row b (tok j r)) ⟨6172 + h.val, by omega⟩) :=
  congrArg (aU m c) ((ix2_inj ..).2 ⟨Fin.ext rfl, Fin.ext (by show 6144 + (28 + h.val) = 6172 + h.val; omega)⟩)

theorem V20 (c : Dev nD) (b : Fin 2) (h : Fin 4) (j r : Fin 64) :
    (V m c main_v20 : FVec Ideal S8x64x64 .f32) (ix3 ⟨b.val * 4 + h.val, by omega⟩ j r) = aU m c (ix2 (row b (tok j r)) ⟨6168 + h.val, by omega⟩) + aG m c (ix2 0 h) := by
  unfold V
  simp only [List.flatten_cons, List.flatten_nil, List.append_nil, StableHlo.after_append]
  after_results
  pointwise
  exact congrArg (fun x => x + aG m c (ix2 0 h)) (gate24 m c b h j r)

theorem V22 (c : Dev nD) (b : Fin 2) (h : Fin 4) (j r : Fin 64) :
    (V m c main_v22 : FVec Ideal S8x64x64 .f32) (ix3 ⟨b.val * 4 + h.val, by omega⟩ j r) = lsig (aU m c (ix2 (row b (tok j r)) ⟨6172 + h.val, by omega⟩) + aG m c (ix2 1 h)) := by
  unfold V
  simp only [List.flatten_cons, List.flatten_nil, List.append_nil, StableHlo.after_append]
  after_results
  simp only [StableHlo.TRef.toBuf, StableHlo.TRef.ofBuf, cast_eq]
  pointwise
  simp only [ne_eq, not_true_eq_false, if_false]
  exact congrArg (fun x => lsig (x + aG m c (ix2 1 h))) (gate28 m c b h j r)

variable (c : Dev nD) (t : Fin cfg0.N) (b : Fin 2) (h : Fin 4) (hb : t.val / 4 = b.val) (hh : t.val % 4 = h.val)
include hb hh

theorem blk0 (r : Fin 4096) (d : Fin 128) :
    X0_0 m c t (ix2 r d) = aU m c (ix2 (row b r) ⟨4096 + (h.val * 128 + d.val), by omega⟩) := by
  unfold X0_0 Pipeline.Window.fill
  rw [dif_pos (moved0_0 t _)]
  blk_ext [iblk, V, idx t]

theorem blk1 (r : Fin 4096) (d : Fin 128) :
    X0_1 m c t (ix2 r d) = aU m c (ix2 (row b r) ⟨4608 + (h.val * 128 + d.val), by omega⟩) := by
  unfold X0_1 Pipeline.Window.fill
  rw [dif_pos (moved0_1 t _)]
  blk_ext [iblk, V, idx t]

theorem blk2 (r : Fin 4096) (d : Fin 128) :
    X0_2 m c t (ix2 r d) = aU m c (ix2 (row b r) ⟨5120 + (h.val * 128 + d.val), by omega⟩) := by
  unfold X0_2 Pipeline.Window.fill
  rw [dif_pos (moved0_2 t _)]
  blk_ext [iblk, V, idx t]

theorem blk3 (r : Fin 4096) (d : Fin 128) :
    X0_3 m c t (ix2 r d) = aU m c (ix2 (row b r) ⟨5632 + (h.val * 128 + d.val), by omega⟩) := by
  unfold X0_3 Pipeline.Window.fill
  rw [dif_pos (moved0_3 t _)]
  blk_ext [iblk, V, idx t]

theorem blk4 (r : Fin 3) (d : Fin 128) : iblk m c 4 t (ix3 0 ⟨5 + r.val, by omega⟩ d) = (0 : EReal) := by
  refine Eq.trans (b := (V m c main_v23 : FVec Ideal S2x8x1024 .f32) (ix3 b ⟨5 + r.val, by omega⟩ ⟨h.val * 128 + d.val, by omega⟩)) ?_ (V23 m c b r _)
  blk_ext [iblk, idx t]

theorem blk5 (r : Fin 3) (d : Fin 128) : iblk m c 5 t (ix3 0 ⟨5 + r.val, by omega⟩ d) = (0 : EReal) := by
  refine Eq.trans (b := (V m c main_v23 : FVec Ideal S2x8x1024 .f32) (ix3 b ⟨5 + r.val, by omega⟩ ⟨512 + (h.val * 128 + d.val), by omega⟩)) ?_ (V23 m c b r _)
  blk_ext [iblk, idx t]

theorem blk6 (r : Fin 4) (d : Fin 128) : iblk m c 6 t (ix2 ⟨r.val, by omega⟩ d) = aW m c (ix2 r ⟨h.val * 128 + d.val, by omega⟩) := by
  refine Eq.trans (b := (V m c main_v24 : FVec Ideal S8x1024 .f32) (ix2 ⟨r.val, by omega⟩ ⟨h.val * 128 + d.val, by omega⟩)) ?_ ?_
  · blk_ext [iblk, idx t]
  · rw [V24]; pointwise; rw [dif_pos (by omega)]

theorem blk7 (r : Fin 4) (d : Fin 128) : iblk m c 7 t (ix2 ⟨r.val, by omega⟩ d) = aW m c (ix2 r ⟨512 + (h.val * 128 + d.val), by omega⟩) := by
  refine Eq.trans (b := (V m c main_v24 : FVec Ideal S8x1024 .f32) (ix2 ⟨r.val, by omega⟩ ⟨512 + (h.val * 128 + d.val), by omega⟩)) ?_ ?_
  · blk_ext [iblk, idx t]
  · rw [V24]; pointwise; rw [dif_pos (by omega)]

theorem blk8 (d : Fin 128) : iblk m c 8 t (ix2 0 d) = aB m c (ix1 ⟨h.val * 128 + d.val, by omega⟩) := by
  refine Eq.trans (b := (V m c main_v25 : FVec Ideal S1x1024 .f32) (ix2 0 ⟨h.val * 128 + d.val, by omega⟩)) ?_ ?_
  · blk_ext [iblk, idx t]
  · rw [V25]; pointwise

theorem blk9 (d : Fin 128) : iblk m c 9 t (ix2 0 d) = aB m c (ix1 ⟨512 + (h.val * 128 + d.val), by omega⟩) := by
  refine Eq.trans (b := (V m c main_v25 : FVec Ideal S1x1024 .f32) (ix2 0 ⟨512 + (h.val * 128 + d.val), by omega⟩)) ?_ ?_
  · blk_ext [iblk, idx t]
  · rw [V25]; pointwise

theorem blk10 (j r : Fin 64) : iblk m c 10 t (ix3 0 j r)
    = aU m c (ix2 (row b (tok j r)) ⟨6168 + h.val, by omega⟩) + aG m c (ix2 0 h) := by
  refine Eq.trans (b := (V m c main_v20 : FVec Ideal S8x64x64 .f32) (ix3 ⟨b.val * 4 + h.val, by omega⟩ j r)) ?_ (V20 m c b h j r)
  blk_ext [iblk, idx t]

theorem blk11 (j r : Fin 64) : iblk m c 11 t (ix3 0 j r)
    = lsig (aU m c (ix2 (row b (tok j r)) ⟨6172 + h.val, by omega⟩) + aG m c (ix2 1 h)) := by
  refine Eq.trans (b := (V m c main_v22 : FVec Ideal S8x64x64 .f32) (ix3 ⟨b.val * 4 + h.val, by omega⟩ j r)) ?_ (V22 m c b h j r)
  blk_ext [iblk, idx t]

theorem blk12 (d e : Fin 128) : iblk m c 12 t (ix3 0 d e) = (0 : EReal) := by
  refine Eq.trans (b := (V m c main_v26 : FVec Ideal S8x128x128 .f32) (ix3 ⟨b.val * 4 + h.val, by omega⟩ d e)) ?_ (V26 m c _ d e)
  blk_ext [iblk, idx t]

theorem blk13 (d : Fin 128) : iblk m c 13 t (ix3 0 0 d) = (0 : EReal) := by
  refine Eq.trans (b := (V m c main_v27 : FVec Ideal S8x1x128 .f32) (ix3 ⟨b.val * 4 + h.val, by omega⟩ 0 d)) ?_ (V27 m c _ d)
  blk_ext [iblk, idx t]

theorem blk14 (d : Fin 128) : iblk m c 14 t (ix3 0 0 d) = (0 : EReal) := by
  refine Eq.trans (b := (V m c main_v29 : FVec Ideal S8x1x128 .f32) (ix3 ⟨b.val * 4 + h.val, by omega⟩ 0 d)) ?_ (V29 m c _ d)
  blk_ext [iblk, idx t]

omit hb hh in
theorem blk15 (d : Fin 128) : iblk m c 15 t (ix2 0 d) = aN m c (ix1 d) := by
  refine Eq.trans (b := (V m c main_v30 : FVec Ideal S1x128 .f32) (ix2 0 d)) ?_ ?_
  · blk_ext [iblk, idx t]
  · rw [V30]; pointwise

end Cert.PromptBlocks
end
-- ==== Proof.PromptKernelMath.lean ====
/- The prompt kernel's body read at an index: what each named value of the body is, in terms of one chunk. -/
module

public import proofs.«01_k».proof.Proof.Gen.PromptIdeal.Skeleton
public import proofs.«01_k».proof.Proof.MlstmMath

@[expose] public section

set_option maxRecDepth 16384

noncomputable section

open Idealize.ShloMosaic Idealize.ShloMosaic.TcCoe Idealize.SL.Sem
open Cert.PromptIdeal Cert.PromptIdeal.Gen Cert.Mlstm

namespace Cert.PromptKernelMath

/-! ## The masks -/

theorem tril_at (r t : Fin 64) : k0_pay10 (ix2 r t) = if t ≤ r then 1#1 else 0#1 := by
  pointwise [k0_pay10]
  revert r t
  decide +kernel

theorem triu_at (r t : Fin 64) : k0_pay11 (ix2 r t) = if r ≤ t then 1#1 else 0#1 := by
  pointwise [k0_pay11]
  revert r t
  decide +kernel

theorem eye_at (r t : Fin 64) : k0_pay12 (ix2 r t) = if r = t then 1#1 else 0#1 := by
  pointwise [k0_pay12]
  revert r t
  decide +kernel

/-! ## The chunk -/

variable (c : FVec Ideal S128x128 .f32) (n : FVec Ideal S1x128 .f32) (m : FVec Ideal S1x1 .f32)
  (q k v : FVec Ideal S64x128 .f32) (li lf : FVec Ideal S1x1x64 .f32)

/-- The chunk a pass of the loop works on. -/
def chunk : Chunk 64 where
  q r d := q (ix2 r d)
  k r d := k (ix2 r d)
  v r d := v (ix2 r d)
  li r := li (ix3 0 0 r)
  lf r := lf (ix3 0 0 r)
  c d e := c (ix2 d e)
  n d := n (ix2 0 d)
  m := m (ix2 0 0)

theorem liRow_at (t : Fin 64) : k0_pay1 (F := Ideal) li (ix2 0 t) = (chunk c n m q k v li lf).li t := by
  pointwise [k0_pay1]
  rfl

theorem lfRow_at (t : Fin 64) : k0_pay2 (F := Ideal) lf (ix2 0 t) = (chunk c n m q k v li lf).lf t := by
  pointwise [k0_pay2]
  rfl

theorem cumCol_at (r : Fin 64) : k0_pay3 (F := Ideal) k0_pay10 lf (ix2 r 0) = bcum (chunk c n m q k v li lf).lf r := by
  pointwise [k0_pay3, lfRow_at c n m q k v li lf, tril_at]
  simp only [select_ite]
  rfl

theorem cumRow_at (t : Fin 64) : k0_pay4 (F := Ideal) k0_pay11 k0_pay12 lf (ix2 0 t) = bcum (chunk c n m q k v li lf).lf t := by
  pointwise [k0_pay4, lfRow_at c n m q k v li lf, triu_at, eye_at]
  simp only [select_ite, sum_diag]
  rfl

theorem out_at (g : FVec Ideal S1x128 .f32) (og : FVec Ideal S64x128 .f32) (r : Fin 64) (e : Fin 128) :
    k0_pay8 (F := Ideal) g c n q k v (k0_pay5 k0_pay10 k0_pay11 k0_pay12 li lf) (k0_pay6 k0_pay10 m lf)
      (k0_pay7 k0_pay10 k0_pay11 k0_pay12 li lf) og (ix2 r e)
    = gated (fun d => out (chunk c n m q k v li lf) r d) (g (ix2 0 e)) (og (ix2 r e)) e := by
  pointwise [k0_pay8, k0_pay7, k0_pay6, k0_pay5, liRow_at c n m q k v li lf, cumRow_at c n m q k v li lf, cumCol_at c n m q k v li lf, tril_at]
  simp only [select_ite, zero_sub]
  rfl

abbrev bl : FVec Ideal S1 .f32 := k0_pay9 (F := Ideal) (k0_pay2 lf)

theorem blast_at : k0_pay26 (F := Ideal) (bl lf) (ix2 0 0) = blast (chunk c n m q k v li lf).lf := by
  pointwise [k0_pay26, k0_pay9, bl, lfRow_at c n m q k v li lf]
  rfl

theorem gl_at (t : Fin 64) : k0_pay27 (F := Ideal) (k0_pay1 li) (k0_pay4 k0_pay11 k0_pay12 lf) (bl lf) (ix2 0 t)
    = gl (chunk c n m q k v li lf) t := by
  pointwise [k0_pay27, blast_at c n m q k v li lf, cumRow_at c n m q k v li lf, liRow_at c n m q k v li lf]
  rfl

theorem mNew_at : k0_pay28 (F := Ideal) m (k0_pay1 li) (k0_pay4 k0_pay11 k0_pay12 lf) (bl lf) (ix2 0 0)
    = mNew (chunk c n m q k v li lf) := by
  pointwise [k0_pay28, blast_at c n m q k v li lf, gl_at c n m q k v li lf]
  rfl

theorem decay_at : k0_pay29 (F := Ideal) m (k0_pay1 li) (k0_pay4 k0_pay11 k0_pay12 lf) (bl lf) (ix2 0 0)
    = decay (chunk c n m q k v li lf) := by
  pointwise [k0_pay29, blast_at c n m q k v li lf, mNew_at c n m q k v li lf]
  rfl

theorem kw_at (r : Fin 64) (d : Fin 128) : k0_pay30 (F := Ideal) k0_pay12 m k (k0_pay1 li) (k0_pay4 k0_pay11 k0_pay12 lf) (bl lf) (ix2 r d)
    = wg (chunk c n m q k v li lf) r * k (ix2 r d) := by
  pointwise [k0_pay30, gl_at c n m q k v li lf, mNew_at c n m q k v li lf, eye_at]
  simp only [select_ite, sum_diag]
  exact mul_comm _ _

theorem cNew_at (d e : Fin 128) : k0_pay31 (F := Ideal) k0_pay12 c m k v (k0_pay1 li) (k0_pay4 k0_pay11 k0_pay12 lf) (bl lf) (ix2 d e)
    = cNew (chunk c n m q k v li lf) d e := by
  pointwise [k0_pay31, decay_at c n m q k v li lf, kw_at c n m q k v li lf]
  rfl

theorem nNew_at (d : Fin 128) : k0_pay32 (F := Ideal) k0_pay12 n m k (k0_pay1 li) (k0_pay4 k0_pay11 k0_pay12 lf) (bl lf) (ix2 0 d)
    = nNew (chunk c n m q k v li lf) d := by
  pointwise [k0_pay32, decay_at c n m q k v li lf, kw_at c n m q k v li lf]
  rfl

/-! ## The convolution -/

variable (buf : FVec Ideal S1x8x128 .f32) (x : FVec Ideal S4096x128 .f32) (b w0 w1 w2 w3 : FVec Ideal S1x128 .f32)

theorem ext_at (i : Fin 4104) (d : Fin 128) : k0_pay14 (F := Ideal) buf x (ix2 i d)
    = if h : i.val < 8 then buf (ix3 0 ⟨i.val, h⟩ d) else x (ix2 ⟨i.val - 8, by omega⟩ d) := by
  pointwise [k0_pay14]

theorem extK_at (i : Fin 4104) (d : Fin 128) : k0_pay19 (F := Ideal) buf x (ix2 i d)
    = if h : i.val < 8 then buf (ix3 0 ⟨i.val, h⟩ d) else x (ix2 ⟨i.val - 8, by omega⟩ d) := by
  pointwise [k0_pay19]

theorem r5 (r : Fin 4096) : ∀ hx, (⟨(8 + r.val + 4104 - 3) % 4104, hx⟩ : Fin 4104) = ⟨r.val + 5, by omega⟩ :=
  fun _ => Fin.ext (by show (8 + r.val + 4104 - 3) % 4104 = r.val + 5; omega)
theorem r6 (r : Fin 4096) : ∀ hx, (⟨(8 + r.val + 4104 - 2) % 4104, hx⟩ : Fin 4104) = ⟨r.val + 6, by omega⟩ :=
  fun _ => Fin.ext (by show (8 + r.val + 4104 - 2) % 4104 = r.val + 6; omega)
theorem r7 (r : Fin 4096) : ∀ hx, (⟨(8 + r.val + 4104 - 1) % 4104, hx⟩ : Fin 4104) = ⟨r.val + 7, by omega⟩ :=
  fun _ => Fin.ext (by show (8 + r.val + 4104 - 1) % 4104 = r.val + 7; omega)
theorem r8 (r : Fin 4096) : ∀ hx, (⟨8 + r.val, hx⟩ : Fin 4104) = ⟨r.val + 8, by omega⟩ :=
  fun _ => Fin.ext (by show 8 + r.val = r.val + 8; omega)

theorem convQ_at (r : Fin 4096) (d : Fin 128) : k0_pay18 (F := Ideal) (k0_pay15 buf x b w0 w1 w2) (k0_pay16 buf x) (k0_pay17 w3) (ix2 r d)
    = conv (b (ix2 0 d)) (k0_pay14 (F := Ideal) buf x (ix2 ⟨r.val + 5, by omega⟩ d)) (k0_pay14 (F := Ideal) buf x (ix2 ⟨r.val + 6, by omega⟩ d))
        (k0_pay14 (F := Ideal) buf x (ix2 ⟨r.val + 7, by omega⟩ d)) (k0_pay14 (F := Ideal) buf x (ix2 ⟨r.val + 8, by omega⟩ d))
        (w0 (ix2 0 d)) (w1 (ix2 0 d)) (w2 (ix2 0 d)) (w3 (ix2 0 d)) * Ideal.ofBits .f32 0x3DB504F3#32 := by
  pointwise [k0_pay18, k0_pay17, k0_pay16, k0_pay15]
  rw [r5, r6, r7, r8]
  rfl

theorem convK_at (r : Fin 4096) (d : Fin 128) : k0_pay22 (F := Ideal) (k0_pay20 buf x b w0 w1 w2) (k0_pay21 buf x) w3 (ix2 r d)
    = conv (b (ix2 0 d)) (k0_pay19 (F := Ideal) buf x (ix2 ⟨r.val + 5, by omega⟩ d)) (k0_pay19 (F := Ideal) buf x (ix2 ⟨r.val + 6, by omega⟩ d))
        (k0_pay19 (F := Ideal) buf x (ix2 ⟨r.val + 7, by omega⟩ d)) (k0_pay19 (F := Ideal) buf x (ix2 ⟨r.val + 8, by omega⟩ d))
        (w0 (ix2 0 d)) (w1 (ix2 0 d)) (w2 (ix2 0 d)) (w3 (ix2 0 d)) := by
  pointwise [k0_pay22, k0_pay21, k0_pay20]
  rw [r5, r6, r7, r8]
  rfl

end Cert.PromptKernelMath

end
-- ==== Proof.PromptTrip.lean ====
/- One pass of the prompt kernel's loop over chunks: what it hands on and the rows it stores. -/
module

public import proofs.«01_k».proof.Proof.Gen.PromptIdeal.Loops
public import proofs.«01_k».proof.Proof.PromptKernelMath
public import Idealize.ShloMosaic.Lib.Pipeline.ValueKit

@[expose] public section

set_option maxRecDepth 16384

noncomputable section

open Idealize.ShloMosaic Idealize.ShloMosaic.TcCoe Idealize.SL.Sem
open Cert.PromptIdeal Cert.PromptIdeal.Gen Cert.Mlstm Cert.PromptKernelMath

namespace Cert.PromptTrip

/-- Pass `k`'s rows of a block of 4096 rows, and its row of a block of gates. -/
abbrev rows (M : Memref sig .tc .vmem S4096x128 .f32) (X : BufTy.Contents (Elt Ideal) M.view.ty) (k : Fin k0_t1_loop.trips) : FVec Ideal S64x128 .f32 :=
  View.readAt (Elt Ideal) M.view (Rect.unit (s := S4096x128) (k0_off1 k) S64x128.size (k0_off1_inb k)).toLoadRect X
abbrev gates (M : Memref sig .tc .vmem S1x64x64 .f32) (X : BufTy.Contents (Elt Ideal) M.view.ty) (k : Fin k0_t1_loop.trips) : FVec Ideal S1x1x64 .f32 :=
  View.readAt (Elt Ideal) M.view (Rect.unit (s := S1x64x64) (k0_off2 k) S1x1x64.size (k0_off2_inb k)).toLoadRect X

/-- What the loop carries. -/
abbrev Acc : Type := FVec Ideal S128x128 .f32 × FVec Ideal S1x128 .f32 × FVec Ideal S1x1 .f32

theorem trips_eq : k0_t1_loop.trips = 64 := by decide +kernel
theorem off1_eq : ∀ k : Fin k0_t1_loop.trips, k0_off1 k = ![k.val * 64, 0] := by decide +kernel
theorem off2_eq : ∀ k : Fin k0_t1_loop.trips, k0_off2 k = ![0, k.val, 0] := by decide +kernel

theorem row_lt (k : Fin k0_t1_loop.trips) (r : Fin 64) : k.val * 64 + r.val < 4096 := by
  have := k.isLt; have := trips_eq; omega

/-- Where a pass's rows lie. -/
theorem emb_rows (k : Fin k0_t1_loop.trips) (r : Fin 64) (e : Fin 128) :
    (Rect.unit (s := S4096x128) (k0_off1 k) S64x128.size (k0_off1_inb k)).emb (ix2 r e) = ix2 ⟨k.val * 64 + r.val, row_lt k r⟩ e :=
  Rect.emb_eq_of_coords _ _ _ fun a => match a with
    | ⟨0, _⟩ => by
      show k.val * 64 + r.val = k0_off1 k 0 + 1 * r.val
      rw [off1_eq k, Nat.one_mul]; rfl
    | ⟨1, _⟩ => by
      show e.val = k0_off1 k 1 + 1 * e.val
      rw [off1_eq k, Nat.one_mul]; exact (Nat.zero_add _).symm

theorem mem_rows (k : Fin k0_t1_loop.trips) (y : S4096x128.Idx) (h1 : k.val * 64 ≤ (y 0).val) (h2 : (y 0).val < k.val * 64 + 64) :
    y ∈ (Rect.unit (s := S4096x128) (k0_off1 k) S64x128.size (k0_off1_inb k)).set := by
  rw [Rect.mem_set_unit]
  intro a
  match a with
  | ⟨0, _⟩ => exact ⟨by rw [off1_eq k]; exact h1, by rw [off1_eq k]; exact h2⟩
  | ⟨1, _⟩ => exact ⟨by rw [off1_eq k]; exact Nat.zero_le _, by rw [off1_eq k]; exact lt_of_lt_of_eq (y 1).isLt (Nat.zero_add _).symm⟩

theorem emb_gates (k : Fin k0_t1_loop.trips) (r : Fin 64) :
    (Rect.unit (s := S1x64x64) (k0_off2 k) S1x1x64.size (k0_off2_inb k)).emb (ix3 0 0 r) = ix3 0 ⟨k.val, by have := k.isLt; have := trips_eq; omega⟩ r :=
  Rect.emb_eq_of_coords _ _ _ fun a => match a with
    | ⟨0, _⟩ => by
      show 0 = k0_off2 k 0 + 1 * 0
      rw [off2_eq k]; rfl
    | ⟨1, _⟩ => by
      show k.val = k0_off2 k 1 + 1 * 0
      rw [off2_eq k]; rfl
    | ⟨2, _⟩ => by
      show r.val = k0_off2 k 2 + 1 * r.val
      rw [off2_eq k, Nat.one_mul]; exact (Nat.zero_add _).symm

/-- What a pass makes of what it is handed. -/
abbrev next (a : Acc) (q k v : FVec Ideal S64x128 .f32) (li lf : FVec Ideal S1x1x64 .f32) : Acc :=
  (k0_pay31 (F := Ideal) k0_pay12 a.1 a.2.2 k v (k0_pay1 li) (k0_pay4 k0_pay11 k0_pay12 lf) (bl lf),
    k0_pay32 (F := Ideal) k0_pay12 a.2.1 a.2.2 k (k0_pay1 li) (k0_pay4 k0_pay11 k0_pay12 lf) (bl lf),
    k0_pay28 (F := Ideal) a.2.2 (k0_pay1 li) (k0_pay4 k0_pay11 k0_pay12 lf) (bl lf))

/-- The rows a pass stores. -/
abbrev stored (a : Acc) (g : FVec Ideal S1x128 .f32) (q k v : FVec Ideal S64x128 .f32) (li lf : FVec Ideal S1x1x64 .f32)
    (og : FVec Ideal S64x128 .f32) : FVec Ideal S64x128 .f32 :=
  k0_pay8 (F := Ideal) g a.1 a.2.1 q k v (k0_pay5 k0_pay10 k0_pay11 k0_pay12 li lf) (k0_pay6 k0_pay10 a.2.2 lf)
      (k0_pay7 k0_pay10 k0_pay11 k0_pay12 li lf) og

/-- The carried value is the state a chunk starts from. -/
def Holds (a : Acc) (X : Chunk 64) : Prop :=
  (∀ d e, a.1 (ix2 d e) = X.c d e) ∧ (∀ d, a.2.1 (ix2 0 d) = X.n d) ∧ a.2.2 (ix2 0 0) = X.m

theorem chunk_eq (a : Acc) (q k v : FVec Ideal S64x128 .f32) (li lf : FVec Ideal S1x1x64 .f32) (X : Chunk 64) (h : Holds a X)
    (hq : ∀ r d, q (ix2 r d) = X.q r d) (hk : ∀ r d, k (ix2 r d) = X.k r d) (hv : ∀ r d, v (ix2 r d) = X.v r d)
    (hli : ∀ r, li (ix3 0 0 r) = X.li r) (hlf : ∀ r, lf (ix3 0 0 r) = X.lf r) : chunk a.1 a.2.1 a.2.2 q k v li lf = X := by
  obtain ⟨hc, hn, hm⟩ := h
  obtain ⟨q', k', v', li', lf', c', n', m'⟩ := X
  obtain rfl := (funext fun r => funext fun d => (hq r d).symm : q' = _)
  obtain rfl := (funext fun r => funext fun d => (hk r d).symm : k' = _)
  obtain rfl := (funext fun r => funext fun d => (hv r d).symm : v' = _)
  obtain rfl := (funext fun r => (hli r).symm : li' = _)
  obtain rfl := (funext fun r => (hlf r).symm : lf' = _)
  obtain rfl := (funext fun r => funext fun d => (hc r d).symm : c' = _)
  obtain rfl := (funext fun r => (hn r).symm : n' = _)
  obtain rfl := (hm.symm : m' = _)
  rfl

variable (𝒱 : Variants) (c : Dev nD) (bd : Option 𝒱.V) (i : grid0.Coords)
  (arg2 : Memref sig .tc .vmem S4096x128 .f32) (harg2 : arg2.IsWhole)
  (arg3 : Memref sig .tc .vmem S4096x128 .f32) (harg3 : arg3.IsWhole)
  (arg4 : Memref sig .tc .vmem S4096x128 .f32) (harg4 : arg4.IsWhole)
  (arg5 : Memref sig .tc .vmem S4096x128 .f32) (harg5 : arg5.IsWhole)
  (arg6 : Memref sig .tc .vmem S1x8x128 .f32) (harg6 : arg6.IsWhole)
  (arg7 : Memref sig .tc .vmem S1x8x128 .f32) (harg7 : arg7.IsWhole)
  (arg8 : Memref sig .tc .vmem S8x128 .f32) (harg8 : arg8.IsWhole)
  (arg9 : Memref sig .tc .vmem S8x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x64x64 .f32) (harg12 : arg12.IsWhole)
  (arg13 : Memref sig .tc .vmem S1x64x64 .f32) (harg13 : arg13.IsWhole)
  (arg14 : Memref sig .tc .vmem S1x128x128 .f32) (harg14 : arg14.IsWhole)
  (arg15 : Memref sig .tc .vmem S1x1x128 .f32) (harg15 : arg15.IsWhole)
  (arg16 : Memref sig .tc .vmem S1x1x128 .f32) (harg16 : arg16.IsWhole)
  (arg17 : Memref sig .tc .vmem S1x128 .f32) (harg17 : arg17.IsWhole)
  (arg18 : Memref sig .tc .vmem S4096x128 .f32) (harg18 : arg18.IsWhole)
  (arg19 : Memref sig .tc .vmem S1x128x128 .f32) (harg19 : arg19.IsWhole)
  (arg20 : Memref sig .tc .vmem S1x1x128 .f32) (harg20 : arg20.IsWhole)
  (arg21 : Memref sig .tc .vmem S1x1x128 .f32) (harg21 : arg21.IsWhole)
  (arg22 : Memref sig .tc .vmem S4096x128 .f32) (harg22 : arg22.IsWhole)
  (arg23 : Memref sig .tc .vmem S4096x128 .f32) (harg23 : arg23.IsWhole)
  (v6 : FVec Ideal S1x128 .f32)
  (X_arg4 : BufTy.Contents (Elt Ideal) arg4.view.ty) (X_arg5 : BufTy.Contents (Elt Ideal) arg5.view.ty) (X_arg12 : BufTy.Contents (Elt Ideal) arg12.view.ty) (X_arg13 : BufTy.Contents (Elt Ideal) arg13.view.ty) (X_arg22 : BufTy.Contents (Elt Ideal) arg22.view.ty) (X_arg23 : BufTy.Contents (Elt Ideal) arg23.view.ty)

theorem trip_next (k : Fin k0_t1_loop.trips) (a : Acc) :
    tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_pay10 k0_pay11 k0_pay12 v6 X_arg4 X_arg5 X_arg12 X_arg13 X_arg22 X_arg23 k a
    = next a (rows arg22 X_arg22 k) (rows arg23 X_arg23 k) (rows arg4 X_arg4 k) (gates arg12 X_arg12 k) (gates arg13 X_arg13 k) := by
  unfold tripR_k0_t1 trip_k0_t1
  rfl

theorem trip_stored (k : Fin k0_t1_loop.trips) (a : Acc) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_pay10 k0_pay11 k0_pay12 v6 X_arg4 X_arg5 X_arg12 X_arg13 X_arg22 X_arg23 k a
    = [⟨Rect.unit (s := S4096x128) (k0_off1 k) S64x128.size (k0_off1_inb k),
        stored a v6 (rows arg22 X_arg22 k) (rows arg23 X_arg23 k) (rows arg4 X_arg4 k) (gates arg12 X_arg12 k) (gates arg13 X_arg13 k) (rows arg5 X_arg5 k)⟩] := by
  unfold tripL_k0_t1 trip_k0_t1
  rfl

variable (init : Acc) (A : ℕ → Chunk 64)
  (hq : ∀ (k : Fin k0_t1_loop.trips) r d, rows arg22 X_arg22 k (ix2 r d) = (A k.val).q r d)
  (hk : ∀ (k : Fin k0_t1_loop.trips) r d, rows arg23 X_arg23 k (ix2 r d) = (A k.val).k r d)
  (hv : ∀ (k : Fin k0_t1_loop.trips) r d, rows arg4 X_arg4 k (ix2 r d) = (A k.val).v r d)
  (hli : ∀ (k : Fin k0_t1_loop.trips) r, gates arg12 X_arg12 k (ix3 0 0 r) = (A k.val).li r)
  (hlf : ∀ (k : Fin k0_t1_loop.trips) r, gates arg13 X_arg13 k (ix3 0 0 r) = (A k.val).lf r)
  (h0 : Holds init (A 0))
  (hc : ∀ k < 64, ∀ d e, (A (k + 1)).c d e = cNew (A k) d e)
  (hn : ∀ k < 64, ∀ d, (A (k + 1)).n d = nNew (A k) d)
  (hm : ∀ k < 64, (A (k + 1)).m = mNew (A k))
include hq hk hv hli hlf h0 hc hn hm

/-- Before pass `n` the loop carries the state of chunk `n`. -/
theorem holds_st : ∀ n, n ≤ 64 → Holds (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_pay10 k0_pay11 k0_pay12 v6 X_arg4 X_arg5 X_arg12 X_arg13 X_arg22 X_arg23 init n).1 (A n)
  | 0, _ => h0
  | n + 1, hN => by
    have ih := holds_st n (by omega)
    have hlt : n < k0_t1_loop.trips := by have := trips_eq; omega
    rw [st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_pay10 k0_pay11 k0_pay12 v6 X_arg4 X_arg5 X_arg12 X_arg13 X_arg22 X_arg23 init ⟨n, hlt⟩, trip_next]
    have e := chunk_eq _ _ _ _ _ _ _ ih (hq ⟨n, hlt⟩) (hk ⟨n, hlt⟩) (hv ⟨n, hlt⟩) (hli ⟨n, hlt⟩) (hlf ⟨n, hlt⟩)
    refine ⟨fun d e' => ?_, fun d => ?_, ?_⟩
    · rw [hc n (by omega)]
      exact (cNew_at _ (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_pay10 k0_pay11 k0_pay12 v6 X_arg4 X_arg5 X_arg12 X_arg13 X_arg22 X_arg23 init n).1.2.1 _ (rows arg22 X_arg22 ⟨n, hlt⟩) _ _ _ _ d e').trans (by rw [e])
    · rw [hn n (by omega)]
      exact (nNew_at (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_pay10 k0_pay11 k0_pay12 v6 X_arg4 X_arg5 X_arg12 X_arg13 X_arg22 X_arg23 init n).1.1 _ _ (rows arg22 X_arg22 ⟨n, hlt⟩) _ (rows arg4 X_arg4 ⟨n, hlt⟩) _ _ d).trans (by rw [e])
    · rw [hm n (by omega)]
      exact (mNew_at (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_pay10 k0_pay11 k0_pay12 v6 X_arg4 X_arg5 X_arg12 X_arg13 X_arg22 X_arg23 init n).1.1 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_pay10 k0_pay11 k0_pay12 v6 X_arg4 X_arg5 X_arg12 X_arg13 X_arg22 X_arg23 init n).1.2.1 _ (rows arg22 X_arg22 ⟨n, hlt⟩) (rows arg23 X_arg23 ⟨n, hlt⟩) (rows arg4 X_arg4 ⟨n, hlt⟩) _ _).trans (by rw [e])

variable (G : S4096x128.Idx → EReal)
  (hG : ∀ (k : Fin k0_t1_loop.trips) (r : Fin 64) (e : Fin 128), gated (fun d => out (A k.val) r d) (v6 (ix2 0 e)) (rows arg5 X_arg5 k (ix2 r e)) e
    = G (ix2 ⟨k.val * 64 + r.val, row_lt k r⟩ e))
include hG

/-- The rows stored before pass `n` are the chunks' gated outputs. -/
theorem stored_st : ∀ n, n ≤ 64 → ∀ p ∈ (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_pay10 k0_pay11 k0_pay12 v6 X_arg4 X_arg5 X_arg12 X_arg13 X_arg22 X_arg23 init n).2, ∀ x : p.1.shape.Idx, p.2 x = G (p.1.emb x)
  | 0, _, p, hp => absurd hp List.not_mem_nil
  | n + 1, hN, p, hp => by
    have hlt : n < k0_t1_loop.trips := by have := trips_eq; omega
    rw [st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_pay10 k0_pay11 k0_pay12 v6 X_arg4 X_arg5 X_arg12 X_arg13 X_arg22 X_arg23 init ⟨n, hlt⟩, trip_stored] at hp
    rcases List.mem_cons.1 hp with rfl | hp'
    · intro x
      obtain ⟨r, e, rfl⟩ : ∃ (r : Fin 64) (e : Fin 128), x = ix2 r e := ⟨x 0, x 1, eq_ix2 x⟩
      refine Eq.trans ?_ (congrArg G (emb_rows ⟨n, hlt⟩ r e)).symm
      rw [← hG ⟨n, hlt⟩ r e]
      refine (out_at _ _ _ _ _ _ _ _ _ _ r e).trans ?_
      rw [chunk_eq _ _ _ _ _ _ _ (holds_st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v6 X_arg4 X_arg5 X_arg12 X_arg13 X_arg22 X_arg23 init A hq hk hv hli hlf h0 hc hn hm n (by omega)) (hq ⟨n, hlt⟩) (hk ⟨n, hlt⟩) (hv ⟨n, hlt⟩) (hli ⟨n, hlt⟩) (hlf ⟨n, hlt⟩)]
    · exact stored_st n (by omega) p hp'

omit hq hk hv hli hlf h0 hc hn hm hG in
/-- They cover the rows before `64 n`. -/
theorem cover_st (y : S4096x128.Idx) : ∀ n, n ≤ 64 → (y 0).val < n * 64 → ∃ p ∈ (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_pay10 k0_pay11 k0_pay12 v6 X_arg4 X_arg5 X_arg12 X_arg13 X_arg22 X_arg23 init n).2, y ∈ p.1.set
  | 0, _, hy => absurd hy (by omega)
  | n + 1, hN, hy => by
    have hlt : n < k0_t1_loop.trips := by have := trips_eq; omega
    rw [st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_pay10 k0_pay11 k0_pay12 v6 X_arg4 X_arg5 X_arg12 X_arg13 X_arg22 X_arg23 init ⟨n, hlt⟩, trip_stored]
    by_cases hin : n * 64 ≤ (y 0).val
    · refine ⟨_, List.mem_cons_self, ?_⟩
      exact mem_rows ⟨n, hlt⟩ y hin (by show (y 0).val < n * 64 + 64; omega)
    · obtain ⟨p, hp, hy'⟩ := cover_st y n (by omega) (by omega)
      exact ⟨p, List.mem_cons_of_mem _ hp, hy'⟩

/-- What the loop leaves of its rows. -/
theorem canon_st (y : S4096x128.Idx) : View.canon (Val := Elt Ideal) (e := .f32) (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_pay10 k0_pay11 k0_pay12 v6 X_arg4 X_arg5 X_arg12 X_arg13 X_arg22 X_arg23 init 64).2 y = G y :=
  View.canon_apply_of_pieces G _ (stored_st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v6 X_arg4 X_arg5 X_arg12 X_arg13 X_arg22 X_arg23 init A hq hk hv hli hlf h0 hc hn hm G hG 64 (Nat.le_refl _)) y
    (cover_st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v6 X_arg4 X_arg5 X_arg12 X_arg13 X_arg22 X_arg23 init y 64 (Nat.le_refl _) (y 0).isLt)

end Cert.PromptTrip

end
-- ==== Proof.PromptRefMath.lean ====
/- One trip of the prompt reference's loop read at an index: each intermediate of the trip is the chunk's value of the same
   name, at any batch entry and head. -/
module

public import proofs.«01_k».proof.Proof.Gen.PromptRefIdeal.Step
public import proofs.«01_k».proof.Proof.MlstmMath

@[expose] public section

set_option maxRecDepth 16384

noncomputable section

open Idealize.ShloMosaic Idealize.ShloMosaic.TcCoe Idealize.SL.Sem
open Cert.PromptRefIdeal Cert.PromptRefIdeal.Gen Cert.PromptRefIdeal.Step Cert.Mlstm

namespace Cert.PromptRefMath

variable (j : ℕ) (s : State Ideal) (b : Fin 2) (h : Fin 4)

/-- The chunk that trip `j` computes for batch entry `b` and head `h`. -/
def chunk : Chunk 64 where
  q r d := b5 j s (ix4 b h r d)
  k r d := b11 j s (ix4 b h r d)
  v r d := b17 j s (ix4 b h r d)
  li r := b22 j s (ix3 b h r)
  lf r := b27 j s (ix3 b h r)
  c d e := s.main_v82_7 (ix4 b h d e)
  n d := s.main_v82_8 (ix3 b h d)
  m := s.main_v82_9 (ix2 b h)

theorem causal_at (r t : Fin 64) : K_main_v65 (F := Ideal) (ix2 r t) = if t ≤ r then 1#1 else 0#1 := by
  pointwise [K_main_v65, K_main_call2_v4, K_main_call2_v2, K_main_call2_v0, K_main_call2_v1, K_main_call2_c, K_main_call2_v3, K_main_v64, K_main_c, K_main_call2_v5, K_main_call2_c_0]
  revert r t
  decide +kernel

theorem b30_at (r : Fin 64) : b30 j s (ix3 b h r) = bcum (chunk j s b h).lf r := by
  unfold b30
  exact cumsum3 rfl _ _ (fun i => by pointwise [b29, b28]) _ _ b h r

theorem b43_at (r t : Fin 64) : b43 j s (ix4 b h r t) = dmat (chunk j s b h) r t := by
  pointwise [b43, b42, b41, b40, b39, b38, b37, b36, b35, b34, b33, b32, b31, b30_at, causal_at]
  simp only [select_ite]
  rfl

theorem b46_at (r : Fin 64) : b46 j s (ix3 b h r) = inter (chunk j s b h) r := by
  pointwise [b46, b45, b44, b30_at]
  rfl

theorem b49_at (r : Fin 64) : b49 j s (ix3 b h r) = top (chunk j s b h) r := by
  pointwise [b49, b48, b47, b46_at, b43_at]
  rfl

theorem b53_at (r t : Fin 64) : b53 j s (ix4 b h r t) = wts (chunk j s b h) r t := by
  pointwise [b53, b52, b51, b50, b49_at, b43_at]
  rfl

theorem b55_at (r : Fin 64) : b55 j s (ix3 b h r) = carry (chunk j s b h) r := by
  pointwise [b55, b54, b49_at, b46_at]
  rfl

theorem b57_at (r t : Fin 64) : b57 j s (ix4 b h r t) = score (chunk j s b h) r t := by
  pointwise [b57, b56, b53_at]
  rfl

theorem b63_at (r : Fin 64) (e : Fin 128) : b63 j s (ix4 b h r e) = num (chunk j s b h) r e := by
  pointwise [b63, b62, b61, b60, b59, b58, b55_at, b57_at]
  rfl

theorem b68_at (r : Fin 64) : b68 j s (ix3 b h r) = den (chunk j s b h) r := by
  pointwise [b68, b67, b66, b65, b64, b55_at, b57_at]
  rfl

theorem b75_at (r : Fin 64) (e : Fin 128) : b75 j s (ix4 b h r e) = out (chunk j s b h) r e := by
  pointwise [b75, b74, b73, b72, b71, b70, b69, b49_at, b68_at, b63_at]
  rfl

theorem b77_at : b77 j s (ix2 b h) = blast (chunk j s b h).lf := by
  pointwise [b77, b76, b30_at]
  exact bcum_last _ _ rfl

theorem b81_at (t : Fin 64) : b81 j s (ix3 b h t) = gl (chunk j s b h) t := by
  pointwise [b81, b80, b79, b78, b77_at, b30_at]
  rfl

theorem b85_at : b85 j s (ix2 b h) = mNew (chunk j s b h) := by
  pointwise [b85, b84, b83, b82, b77_at, b81_at]
  rfl

theorem b88_at : b88 j s (ix2 b h) = decay (chunk j s b h) := by
  pointwise [b88, b87, b86, b77_at, b85_at]
  rfl

theorem b92_at (t : Fin 64) : b92 j s (ix3 b h t) = wg (chunk j s b h) t := by
  pointwise [b92, b91, b90, b89, b85_at, b81_at]
  rfl

theorem b100_at (d e : Fin 128) : b100 j s (ix4 b h d e) = cNew (chunk j s b h) d e := by
  pointwise [b100, b99, b98, b97, b96, b95, b94, b93, b88_at, b92_at]
  rfl

theorem b105_at (d : Fin 128) : b105 j s (ix3 b h d) = nNew (chunk j s b h) d := by
  pointwise [b105, b104, b103, b102, b101, b88_at, b92_at]
  rfl

end Cert.PromptRefMath

end
-- ==== Proof.PromptModel.lean ====
/- The prompt reference's loop read at an index: the chunks a batch entry and head goes through, the state each starts from, and
   the results after the last. -/
module

public import proofs.«01_k».proof.Proof.PromptRefMath
public import proofs.«01_k».proof.Proof.PromptRefSetup
public import proofs.«01_k».proof.Proof.Stack

@[expose] public section

set_option maxRecDepth 16384

noncomputable section

open Idealize.ShloMosaic Idealize.ShloMosaic.TcCoe Idealize.SL.Sem
open Cert.PromptRefIdeal Cert.PromptRefIdeal.Gen Cert.PromptRefIdeal.Step Cert.Mlstm Cert.PromptRefMath Cert.PromptRefSetup Cert.Stack

namespace Cert.PromptModel

/-- Two chunks with equal fields are equal. -/
theorem chunk_ext {X Y : Chunk 64} (h1 : X.q = Y.q) (h2 : X.k = Y.k) (h3 : X.v = Y.v) (h4 : X.li = Y.li) (h5 : X.lf = Y.lf)
    (h6 : X.c = Y.c) (h7 : X.n = Y.n) (h8 : X.m = Y.m) : X = Y := by
  cases X; cases Y
  cases h1; cases h2; cases h3; cases h4; cases h5; cases h6; cases h7; cases h8
  rfl

/-- What a head carries from chunk to chunk. -/
structure Carry where
  c : Fin 128 → Fin 128 → EReal
  n : Fin 128 → EReal
  m : EReal

variable (u : FVec Ideal S8448x6400 .f32) (gb : FVec Ideal S2x4 .f32) (cw : FVec Ideal S4x1024 .f32)
  (cb : FVec Ideal S1024 .f32) (g : FVec Ideal S128 .f32) (b : Fin 2) (h : Fin 4)

/-- Chunk `j` of batch entry `b` and head `h`, of the arguments and the carried state. -/
def model (j : Fin 64) (s : Carry) : Chunk 64 where
  q r d := convd u cw cb b (tok j r) ⟨h.val * 128 + d.val, by omega⟩ * Ideal.ofBits .f32 0x3DB504F3#32
  k r d := convd u cw cb b (tok j r) ⟨512 + (h.val * 128 + d.val), by omega⟩
  v r d := u (ix2 (row b (tok j r)) ⟨5120 + (h.val * 128 + d.val), by omega⟩)
  li r := u (ix2 (row b (tok j r)) ⟨6168 + h.val, by omega⟩) + gb (ix2 0 h)
  lf r := lsig (u (ix2 (row b (tok j r)) ⟨6172 + h.val, by omega⟩) + gb (ix2 1 h))
  c := s.c
  n := s.n
  m := s.m

/-- The carried state before chunk `j`. -/
def carried : ℕ → Carry
  | 0 => ⟨fun _ _ => 0, fun _ => 0, 0⟩
  | j + 1 => if hj : j < 64 then
      ⟨cNew (model u gb cw cb b h ⟨j, hj⟩ (carried j)), nNew (model u gb cw cb b h ⟨j, hj⟩ (carried j)),
        mNew (model u gb cw cb b h ⟨j, hj⟩ (carried j))⟩
    else carried j

/-- Chunk `j` from its own carried state. -/
abbrev at_ (j : Fin 64) : Chunk 64 := model u gb cw cb b h j (carried u gb cw cb b h j.val)

theorem carried_succ (j : Fin 64) : carried u gb cw cb b h (j.val + 1)
    = ⟨cNew (at_ u gb cw cb b h j), nNew (at_ u gb cw cb b h j), mNew (at_ u gb cw cb b h j)⟩ := dif_pos j.isLt

/-! What trip `j` slices out of each stack is the stack's entry `j`. -/

theorem num_toInt (j : Fin 64) : (BitVec.ofNat 32 j.val).toInt = (j.val : Int) := by
  revert j
  decide +kernel

variable (s : State Ideal) (j : Fin 64)

theorem b4_at (r : Fin 64) (d : Fin 128) : b4 j.val s (ix5 0 b h r d) = s.main_v82_0 (ix5 j b h r d) :=
  slice5 _ j (num_toInt j) rfl rfl rfl rfl _ _ b h r d

theorem b10_at (r : Fin 64) (d : Fin 128) : b10 j.val s (ix5 0 b h r d) = s.main_v82_1 (ix5 j b h r d) :=
  slice5 _ j (num_toInt j) rfl rfl rfl rfl _ _ b h r d

theorem b16_at (r : Fin 64) (d : Fin 128) : b16 j.val s (ix5 0 b h r d) = s.main_v82_2 (ix5 j b h r d) :=
  slice5 _ j (num_toInt j) rfl rfl rfl rfl _ _ b h r d

theorem b21_at (r : Fin 64) : b21 j.val s (ix4 0 b h r) = s.main_v82_3 (ix4 j b h r) :=
  slice4 j _ (num_toInt j) rfl rfl rfl _ _ b h r

theorem b26_at (r : Fin 64) : b26 j.val s (ix4 0 b h r) = s.main_v82_4 (ix4 j b h r) :=
  slice4 j _ (num_toInt j) rfl rfl rfl _ _ b h r

theorem b111_upd (i : Fin 64) (r : Fin 64) (e : Fin 128) : b111 j.val s (ix5 i b h r e)
    = if i = j then b106 j.val s (ix5 0 b h r e) else s.main_v82_10 (ix5 i b h r e) :=
  update5 _ j (num_toInt j) rfl rfl rfl rfl _ _ _ i b h r e

/-- The state after `n` trips. -/
def state (n : ℕ) : State Ideal := Nat.rec (init u gb cw cb) (fun k s => step k s) n

theorem state_succ (n : ℕ) : state u gb cw cb (n + 1) = step n (state u gb cw cb n) := rfl

/-- The kept the loop only reads stay what they are at the start. -/
theorem kept (n : ℕ) : (state u gb cw cb n).main_v82_0 = A_main_v68 u gb cw cb ∧ (state u gb cw cb n).main_v82_1 = A_main_v71 u gb cw cb
    ∧ (state u gb cw cb n).main_v82_2 = A_main_v74 u gb cw cb ∧ (state u gb cw cb n).main_v82_3 = A_main_v77 u gb cw cb
    ∧ (state u gb cw cb n).main_v82_4 = A_main_v80 u gb cw cb := by
  induction n with
  | zero => exact ⟨rfl, rfl, rfl, rfl, rfl⟩
  | succ n ih =>
    rw [state_succ]
    exact ⟨ih.1, ih.2.1, ih.2.2.1, ih.2.2.2.1, ih.2.2.2.2⟩

/-- The state carries what the heads carry. -/
def Carries (n : ℕ) : Prop := ∀ (b : Fin 2) (h : Fin 4),
  (∀ d e, (state u gb cw cb n).main_v82_7 (ix4 b h d e) = (carried u gb cw cb b h n).c d e)
  ∧ (∀ d, (state u gb cw cb n).main_v82_8 (ix3 b h d) = (carried u gb cw cb b h n).n d)
  ∧ (state u gb cw cb n).main_v82_9 (ix2 b h) = (carried u gb cw cb b h n).m

theorem chunk_at (hc : Carries u gb cw cb j.val) : chunk j.val (state u gb cw cb j.val) b h = at_ u gb cw cb b h j := by
  obtain ⟨s0, s1, s2, s3, s4⟩ := kept u gb cw cb j.val
  refine chunk_ext ?_ ?_ ?_ ?_ ?_ ?_ ?_ (hc b h).2.2
  · funext r d
    show b5 j.val _ (ix4 b h r d) = _
    pointwise [b5, b4_at, s0, q_at]
    rfl
  · funext r d
    show b11 j.val _ (ix4 b h r d) = _
    pointwise [b11, b10_at, s1, k_at]
    rfl
  · funext r d
    show b17 j.val _ (ix4 b h r d) = _
    pointwise [b17, b16_at, s2, v_at]
    rfl
  · funext r
    show b22 j.val _ (ix3 b h r) = _
    pointwise [b22, b21_at, s3, li_at]
    rfl
  · funext r
    show b27 j.val _ (ix3 b h r) = _
    pointwise [b27, b26_at, s4, lf_at]
    rfl
  · funext d e; exact (hc b h).1 d e
  · funext d; exact (hc b h).2.1 d

theorem carries : ∀ n, n ≤ 64 → Carries u gb cw cb n
  | 0, _ => fun b h => by
    refine ⟨fun d e => ?_, fun d => ?_, ?_⟩
    · show K_main_v0 (F := Ideal) (ix4 b h d e) = 0
      pointwise [K_main_v0, K_main_cst]
    · show K_main_v1 (F := Ideal) (ix3 b h d) = 0
      pointwise [K_main_v1, K_main_cst_0]
    · show K_main_v2 (F := Ideal) (ix2 b h) = 0
      pointwise [K_main_v2, K_main_cst_1]
  | n + 1, hn => fun b h => by
    have ih := carries n (by omega)
    have e := chunk_at u gb cw cb b h ⟨n, hn⟩ ih
    have k := carried_succ u gb cw cb b h ⟨n, hn⟩
    rw [state_succ, k]
    refine ⟨fun d e' => ?_, fun d => ?_, ?_⟩
    · rw [step_main_v82_7]
      exact (b100_at n _ b h d e').trans (by rw [e])
    · rw [step_main_v82_8]
      exact (b105_at n _ b h d).trans (by rw [e])
    · rw [step_main_v82_9]
      exact (b85_at n _ b h).trans (by rw [e])

/-- The stack of outputs holds the chunks' outputs so far. -/
theorem outs (i : Fin 64) (r : Fin 64) (e : Fin 128) : ∀ n, n ≤ 64 → i.val < n →
    (state u gb cw cb n).main_v82_10 (ix5 i b h r e) = out (at_ u gb cw cb b h i) r e
  | 0, _, hi => absurd hi (Nat.not_lt_zero _)
  | n + 1, hn, hi => by
    rw [state_succ, step_main_v82_10]
    refine (b111_upd b h _ ⟨n, hn⟩ i r e).trans ?_
    by_cases hin : i = ⟨n, hn⟩
    · rw [if_pos hin]
      subst hin
      have e' := chunk_at u gb cw cb b h ⟨n, hn⟩ (carries u gb cw cb n (by omega))
      have hb : b106 n (state u gb cw cb n) (ix5 0 b h r e) = b75 n (state u gb cw cb n) (ix4 b h r e) := by
        pointwise [b106]
      exact hb.trans ((b75_at n _ b h r e).trans (by rw [e']))
    · rw [if_neg hin]
      exact outs i r e n (by omega) (by have : i.val ≠ n := fun h' => hin (Fin.ext h'); omega)

/-! The results. -/

theorem c_at (d e : Fin 128) : R_main_v110 (state u gb cw cb 64) (ix3 ⟨b.val * 4 + h.val, by omega⟩ d e)
    = (carried u gb cw cb b h 64).c d e := by
  pointwise [R_main_v110, (carries u gb cw cb 64 (Nat.le_refl _) b h).1]

theorem n_at (d : Fin 128) : R_main_v111 (state u gb cw cb 64) (ix3 ⟨b.val * 4 + h.val, by omega⟩ 0 d)
    = (carried u gb cw cb b h 64).n d := by
  pointwise [R_main_v111, (carries u gb cw cb 64 (Nat.le_refl _) b h).2.1]

theorem m_at (d : Fin 128) : R_main_v113 (state u gb cw cb 64) (ix3 ⟨b.val * 4 + h.val, by omega⟩ 0 d)
    = (carried u gb cw cb b h 64).m := by
  pointwise [R_main_v113, (carries u gb cw cb 64 (Nat.le_refl _) b h).2.2]

theorem outs_at (i : Fin 64) (r : Fin 64) (e : Fin 128) : (state u gb cw cb 64).main_v82_10 (ix5 i b h r e) = out (at_ u gb cw cb b h i) r e :=
  outs u gb cw cb b h i r e 64 (Nat.le_refl _) i.isLt

theorem merge_rows (X : FVec Ideal S2x4096x4x128 .f32) (t : Fin 4096) (e : Fin 128) :
    shapeCast S8192x512 X shapeCasts_S2x4096x4x128_S8192x512 (ix2 (n0 := 8192) ⟨b.val * 4096 + t.val, by omega⟩ ⟨h.val * 128 + e.val, by omega⟩)
    = X (ix4 b t h e) := by
  pointwise []

theorem split_rows (X : FVec Ideal S2x64x64x4x128 .f32) (j r : Fin 64) (e : Fin 128) :
    shapeCast S2x4096x4x128 X shapeCasts_S2x64x64x4x128_S2x4096x4x128 (ix4 b (tok j r) h e) = X (ix5 b j r h e) := by
  pointwise []
  have e1 : ∀ hx, (⟨(j.val * 64 + r.val) / 64, hx⟩ : Fin 64) = j := fun _ => Fin.ext (by show (j.val * 64 + r.val) / 64 = j.val; omega)
  have e2 : ∀ hx, (⟨(j.val * 64 + r.val) % 64, hx⟩ : Fin 64) = r := fun _ => Fin.ext (by show (j.val * 64 + r.val) % 64 = r.val; omega)
  rw [e1, e2]

theorem split_heads (X : FVec Ideal S2x4096x512 .f32) (t : Fin 4096) (e : Fin 128) :
    shapeCast S2x4096x4x128 X shapeCasts_S2x4096x512_S2x4096x4x128 (ix4 b t h e) = X (ix3 b t ⟨h.val * 128 + e.val, by omega⟩) := by
  pointwise []

theorem split_batch (X : FVec Ideal S8192x512 .f32) (t : Fin 4096) (x : Fin 512) :
    shapeCast S2x4096x512 X shapeCasts_S8192x512_S2x4096x512 (ix3 b t x) = X (ix2 (n0 := 8192) ⟨b.val * 4096 + t.val, by omega⟩ x) := by
  pointwise []

theorem h_of (s : State Ideal) (o : Fin 128 → EReal) (j r : Fin 64) (e : Fin 128) (hs : ∀ d, s.main_v82_10 (ix5 j b h r d) = o d) :
    R_main_v109 s u g (ix2 (n0 := 8192) ⟨b.val * 4096 + (tok j r).val, by omega⟩ ⟨h.val * 128 + e.val, by omega⟩)
    = gated o (g (ix1 e)) (u (ix2 (row b (tok j r)) ⟨5632 + (h.val * 128 + e.val), by omega⟩)) e := by
  unfold R_main_v109
  refine (merge_rows b h _ (tok j r) e).trans ?_
  pointwise [split_rows, split_heads, split_batch, hs]
  rfl

theorem h_at (j r : Fin 64) (e : Fin 128) :
    R_main_v109 (state u gb cw cb 64) u g (ix2 (n0 := 8192) ⟨b.val * 4096 + (tok j r).val, by omega⟩ ⟨h.val * 128 + e.val, by omega⟩)
    = gated (fun d => out (at_ u gb cw cb b h j) r d) (g (ix1 e)) (u (ix2 (row b (tok j r)) ⟨5632 + (h.val * 128 + e.val), by omega⟩)) e :=
  h_of u g b h _ _ j r e fun d => outs_at u gb cw cb b h j r d

end Cert.PromptModel

end
-- ==== Proof.PromptValue.lean ====
/- The blocks a point of the prompt kernel leaves: its operands are the rows, gates and first state of its batch entry and head, so
   the passes of its loop are the reference's chunks. -/
module

public import proofs.«01_k».proof.Proof.PromptBlocks
public import proofs.«01_k».proof.Proof.PromptTrip
public import proofs.«01_k».proof.Proof.PromptModel
public import Idealize.ShloMosaic.Lib.WholeRead

@[expose] public section

set_option maxRecDepth 16384

noncomputable section

open Idealize.ShloMosaic Idealize.ShloMosaic.TcCoe Idealize.SL.Sem
open Idealize.ShloMosaic.Pipeline (Dat)
open Cert.PromptIdeal Cert.PromptIdeal.Gen Cert.Mlstm Cert.PromptBlocks Cert.PromptKernelMath Cert.PromptTrip Cert.PromptRefSetup

namespace Cert.PromptValue

/-! ## The reshapes around the loop -/

theorem pay13_at (x : FVec Ideal S1x128 .f32) (d : Fin 128) : k0_pay13 (F := Ideal) x (ix2 0 d) = x (ix2 0 d) := by
  pointwise [k0_pay13]
theorem pay23_at (x : FVec Ideal S1x128x128 .f32) (d e : Fin 128) : k0_pay23 (F := Ideal) x (ix2 d e) = x (ix3 0 d e) := by
  pointwise [k0_pay23]
theorem pay24_at (x : FVec Ideal S1x1x128 .f32) (d : Fin 128) : k0_pay24 (F := Ideal) x (ix2 0 d) = x (ix3 0 0 d) := by
  pointwise [k0_pay24]
theorem pay25_at (x : FVec Ideal S1x1x128 .f32) : k0_pay25 (F := Ideal) x (ix2 0 0) = x (ix3 0 0 0) := by
  pointwise [k0_pay25]
theorem pay33_at (x : FVec Ideal S128x128 .f32) (d e : Fin 128) : k0_pay33 (F := Ideal) x (ix3 0 d e) = x (ix2 d e) := by
  pointwise [k0_pay33]
theorem pay34_at (x : FVec Ideal S1x128 .f32) (d : Fin 128) : k0_pay34 (F := Ideal) x (ix3 0 0 d) = x (ix2 0 d) := by
  pointwise [k0_pay34]
theorem pay35_at (x : FVec Ideal S1x1 .f32) (d : Fin 128) : k0_pay35 (F := Ideal) x (ix3 0 0 d) = x (ix2 0 0) := by
  pointwise [k0_pay35]

/-- One row of a block of eight. -/
theorem row_at (x : FVec Ideal S8x128 .f32) (k : ℕ) (hk : k < 8) (d : Fin 128) (hw) :
    (View.ld (Val := Elt Ideal) (e' := .f32) (S := S8x128) x (Rect.unit ![k, 0] ![1, 128] hw) : FVec Ideal S1x128 .f32) (ix2 0 d)
      = x (ix2 ⟨k, hk⟩ d) :=
  View.ld_unit_apply_of (Val := Elt Ideal) (e := .f32) x _ _ hw (ix2 0 d) (ix2 ⟨k, hk⟩ d) fun a => match a with
    | ⟨0, _⟩ => rfl
    | ⟨1, _⟩ => (Nat.zero_add _).symm

/-! ## What a pass reads -/

theorem rows_held (M : Memref sig .tc .vmem S4096x128 .f32) (hM : M.IsWhole) (X : FVec Ideal S4096x128 .f32)
    (k : Fin k0_t1_loop.trips) (r : Fin 64) (e : Fin 128) :
    rows M (hM.unread (Val := Elt Ideal) X) k (ix2 r e) = X (ix2 ⟨k.val * 64 + r.val, row_lt k r⟩ e) :=
  (Memref.IsWhole.readAt_unread (Val := Elt Ideal) hM X (Rect.unit (s := S4096x128) (k0_off1 k) S64x128.size (k0_off1_inb k)).toLoadRect (ix2 r e)).trans (congrArg X (emb_rows k r e))

theorem gates_held (M : Memref sig .tc .vmem S1x64x64 .f32) (hM : M.IsWhole) (X : FVec Ideal S1x64x64 .f32)
    (k : Fin k0_t1_loop.trips) (r : Fin 64) :
    gates M (hM.unread (Val := Elt Ideal) X) k (ix3 0 0 r) = X (ix3 0 ⟨k.val, lt_of_lt_of_eq k.isLt trips_eq⟩ r) :=
  (Memref.IsWhole.readAt_unread (Val := Elt Ideal) hM X (Rect.unit (s := S1x64x64) (k0_off2 k) S1x1x64.size (k0_off2_inb k)).toLoadRect (ix3 0 0 r)).trans (congrArg X (emb_gates k r))

theorem rows_stored (M : Memref sig .tc .vmem S4096x128 .f32) (X : FVec Ideal S4096x128 .f32) (inb)
    (k : Fin k0_t1_loop.trips) (r : Fin 64) (e : Fin 128) :
    rows M (M.view.writes (Elt Ideal) M.view.junk [⟨Rect.unit (s := S4096x128) ![0, 0] ![4096, 128] inb, X⟩]) k (ix2 r e)
      = X (ix2 ⟨k.val * 64 + r.val, row_lt k r⟩ e) := by
  have e1 := congrFun (View.readAt_writes_junk_eq_canon (Val := Elt Ideal) M.view [⟨Rect.unit (s := S4096x128) ![0, 0] ![4096, 128] inb, X⟩]
    (Rect.unit (s := S4096x128) (k0_off1 k) S64x128.size (k0_off1_inb k)).toLoadRect) (ix2 r e)
  refine e1.trans ?_
  have e2 : View.canon (Val := Elt Ideal) (e := .f32) [⟨Rect.unit (s := S4096x128) ![0, 0] ![4096, 128] inb, X⟩] = X :=
    View.canon_cons_unit_lit (S := S4096x128) (Val := Elt Ideal) (e := .f32) inb X [] fun a => match a with
      | ⟨0, _⟩ => rfl
      | ⟨1, _⟩ => rfl
  rw [e2]
  exact congrArg X (emb_rows k r e)

theorem holds_of (C : FVec Ideal S128x128 .f32) (N : FVec Ideal S1x128 .f32) (M : FVec Ideal S1x1 .f32) (X : Chunk 64)
    (hc : ∀ d e, C (ix2 d e) = X.c d e) (hn : ∀ d, N (ix2 0 d) = X.n d) (hm : M (ix2 0 0) = X.m) : Holds (C, N, M) X :=
  ⟨hc, hn, hm⟩

variable (m : (ℓ : Loc nD τ sig) → Buf (Elt Ideal) ℓ) (c : Dev nD) (t : Fin cfg0.N)

/-! ## The operands of a point -/

abbrev kQ : FVec Ideal S4096x128 .f32 := k0_pay18 (F := Ideal)
  (k0_pay15 (iblk m c 4 t) (X0_0 m c t) (iblk m c 8 t)
    (View.ld (iblk m c 6 t) (Rect.unit ![0, 0] ![1, 128] inb_S8x128_S1x128_0_0))
    (View.ld (iblk m c 6 t) (Rect.unit ![1, 0] ![1, 128] inb_S8x128_S1x128_1_0))
    (View.ld (iblk m c 6 t) (Rect.unit ![2, 0] ![1, 128] inb_S8x128_S1x128_2_0)))
  (k0_pay16 (iblk m c 4 t) (X0_0 m c t))
  (k0_pay17 (View.ld (iblk m c 6 t) (Rect.unit ![3, 0] ![1, 128] inb_S8x128_S1x128_3_0)))
abbrev kK : FVec Ideal S4096x128 .f32 := k0_pay22 (F := Ideal)
  (k0_pay20 (iblk m c 5 t) (X0_1 m c t) (iblk m c 9 t)
    (View.ld (iblk m c 7 t) (Rect.unit ![0, 0] ![1, 128] inb_S8x128_S1x128_0_0))
    (View.ld (iblk m c 7 t) (Rect.unit ![1, 0] ![1, 128] inb_S8x128_S1x128_1_0))
    (View.ld (iblk m c 7 t) (Rect.unit ![2, 0] ![1, 128] inb_S8x128_S1x128_2_0)))
  (k0_pay21 (iblk m c 5 t) (X0_1 m c t))
  (View.ld (iblk m c 7 t) (Rect.unit ![3, 0] ![1, 128] inb_S8x128_S1x128_3_0))

variable (b : Fin 2) (h : Fin 4)

/-- The chunk pass `n` goes through, for batch entry `b` and head `h`. -/
def A (n : ℕ) : Chunk 64 := Cert.PromptModel.model (aU m c) (aG m c) (aW m c) (aB m c) b h ⟨n % 64, Nat.mod_lt _ (by decide)⟩
  (Cert.PromptModel.carried (aU m c) (aG m c) (aW m c) (aB m c) b h n)

theorem A_eq (n : ℕ) (hn : n < 64) : A m c b h n = Cert.PromptModel.at_ (aU m c) (aG m c) (aW m c) (aB m c) b h ⟨n, hn⟩ := by
  have e : (⟨n % 64, Nat.mod_lt _ (by decide)⟩ : Fin 64) = ⟨n, hn⟩ := Fin.ext (Nat.mod_eq_of_lt hn)
  unfold A
  rw [e]

theorem A_c (n : ℕ) : (A m c b h n).c = (Cert.PromptModel.carried (aU m c) (aG m c) (aW m c) (aB m c) b h n).c := rfl
theorem A_n (n : ℕ) : (A m c b h n).n = (Cert.PromptModel.carried (aU m c) (aG m c) (aW m c) (aB m c) b h n).n := rfl
theorem A_m (n : ℕ) : (A m c b h n).m = (Cert.PromptModel.carried (aU m c) (aG m c) (aW m c) (aB m c) b h n).m := rfl

theorem next_c (n : ℕ) (hn : n < 64) (d e : Fin 128) : (A m c b h (n + 1)).c d e = cNew (A m c b h n) d e := by
  rw [A_c, A_eq m c b h n hn]
  exact congrFun (congrFun (congrArg Cert.PromptModel.Carry.c (Cert.PromptModel.carried_succ _ _ _ _ b h ⟨n, hn⟩)) d) e
theorem next_n (n : ℕ) (hn : n < 64) (d : Fin 128) : (A m c b h (n + 1)).n d = nNew (A m c b h n) d := by
  rw [A_n, A_eq m c b h n hn]
  exact congrFun (congrArg Cert.PromptModel.Carry.n (Cert.PromptModel.carried_succ _ _ _ _ b h ⟨n, hn⟩)) d
theorem next_m (n : ℕ) (hn : n < 64) : (A m c b h (n + 1)).m = mNew (A m c b h n) := by
  rw [A_m, A_eq m c b h n hn]
  exact congrArg Cert.PromptModel.Carry.m (Cert.PromptModel.carried_succ _ _ _ _ b h ⟨n, hn⟩)

variable (hb : t.val / 4 = b.val) (hh : t.val % 4 = h.val)
include hb hh

theorem extq (i : Fin 4099) (d : Fin 128) : k0_pay14 (F := Ideal) (iblk m c 4 t) (X0_0 m c t) (ix2 ⟨i.val + 5, by omega⟩ d)
    = Cert.PromptRefSetup.ext (aU m c) b i ⟨h.val * 128 + d.val, by omega⟩ := by
  rw [ext_at]
  unfold Cert.PromptRefSetup.ext
  by_cases hi : i.val < 3
  · rw [dif_pos hi, dif_pos (show i.val + 5 < 8 by omega)]
    have e : (⟨i.val + 5, by omega⟩ : Fin 8) = ⟨5 + (⟨i.val, hi⟩ : Fin 3).val, by omega⟩ := Fin.ext (Nat.add_comm _ _)
    rw [e]
    exact blk4 m c t b h hb hh ⟨i.val, hi⟩ d
  · rw [dif_neg hi, dif_neg (show ¬ i.val + 5 < 8 by omega)]
    have e : (⟨i.val + 5 - 8, by omega⟩ : Fin 4096) = ⟨i.val - 3, by omega⟩ := Fin.ext (by show i.val + 5 - 8 = i.val - 3; omega)
    rw [e]
    exact blk0 m c t b h hb hh ⟨i.val - 3, by omega⟩ d

theorem extk (i : Fin 4099) (d : Fin 128) : k0_pay19 (F := Ideal) (iblk m c 5 t) (X0_1 m c t) (ix2 ⟨i.val + 5, by omega⟩ d)
    = Cert.PromptRefSetup.ext (aU m c) b i ⟨512 + (h.val * 128 + d.val), by omega⟩ := by
  rw [extK_at]
  unfold Cert.PromptRefSetup.ext
  by_cases hi : i.val < 3
  · rw [dif_pos hi, dif_pos (show i.val + 5 < 8 by omega)]
    have e : (⟨i.val + 5, by omega⟩ : Fin 8) = ⟨5 + (⟨i.val, hi⟩ : Fin 3).val, by omega⟩ := Fin.ext (Nat.add_comm _ _)
    rw [e]
    exact blk5 m c t b h hb hh ⟨i.val, hi⟩ d
  · rw [dif_neg hi, dif_neg (show ¬ i.val + 5 < 8 by omega)]
    have e : (⟨i.val + 5 - 8, by omega⟩ : Fin 4096) = ⟨i.val - 3, by omega⟩ := Fin.ext (by show i.val + 5 - 8 = i.val - 3; omega)
    rw [e]
    refine (blk1 m c t b h hb hh ⟨i.val - 3, by omega⟩ d).trans (congrArg (aU m c) ((ix2_inj ..).2 ⟨rfl, Fin.ext ?_⟩))
    show 4608 + (h.val * 128 + d.val) = 4096 + (512 + (h.val * 128 + d.val))
    omega

theorem q_at (r : Fin 4096) (d : Fin 128) : kQ m c t (ix2 r d)
    = convd (aU m c) (aW m c) (aB m c) b r ⟨h.val * 128 + d.val, by omega⟩ * Ideal.ofBits .f32 0x3DB504F3#32 := by
  refine (convQ_at _ _ _ _ _ _ _ r d).trans ?_
  refine congrArg (· * Ideal.ofBits .f32 0x3DB504F3#32) ?_
  rw [(row_at (iblk m c 6 t) 0 (by decide) d _).trans (blk6 m c t b h hb hh 0 d), (row_at (iblk m c 6 t) 1 (by decide) d _).trans (blk6 m c t b h hb hh 1 d), (row_at (iblk m c 6 t) 2 (by decide) d _).trans (blk6 m c t b h hb hh 2 d), (row_at (iblk m c 6 t) 3 (by decide) d _).trans (blk6 m c t b h hb hh 3 d),
    blk8 m c t b h hb hh d]
  have e1 := extq m c t b h hb hh ⟨r.val, by omega⟩ d
  have e2 := extq m c t b h hb hh ⟨1 + r.val, by omega⟩ d
  have e3 := extq m c t b h hb hh ⟨2 + r.val, by omega⟩ d
  have e4 := extq m c t b h hb hh ⟨3 + r.val, by omega⟩ d
  have f2 : (⟨1 + r.val + 5, by omega⟩ : Fin 4104) = ⟨r.val + 6, by omega⟩ := Fin.ext (by show 1 + r.val + 5 = r.val + 6; omega)
  have f3 : (⟨2 + r.val + 5, by omega⟩ : Fin 4104) = ⟨r.val + 7, by omega⟩ := Fin.ext (by show 2 + r.val + 5 = r.val + 7; omega)
  have f4 : (⟨3 + r.val + 5, by omega⟩ : Fin 4104) = ⟨r.val + 8, by omega⟩ := Fin.ext (by show 3 + r.val + 5 = r.val + 8; omega)
  rw [f2] at e2
  rw [f3] at e3
  rw [f4] at e4
  rw [e1, e2, e3, e4]
  rfl

theorem k_at (r : Fin 4096) (d : Fin 128) : kK m c t (ix2 r d)
    = convd (aU m c) (aW m c) (aB m c) b r ⟨512 + (h.val * 128 + d.val), by omega⟩ := by
  refine (convK_at _ _ _ _ _ _ _ r d).trans ?_
  rw [(row_at (iblk m c 7 t) 0 (by decide) d _).trans (blk7 m c t b h hb hh 0 d), (row_at (iblk m c 7 t) 1 (by decide) d _).trans (blk7 m c t b h hb hh 1 d), (row_at (iblk m c 7 t) 2 (by decide) d _).trans (blk7 m c t b h hb hh 2 d), (row_at (iblk m c 7 t) 3 (by decide) d _).trans (blk7 m c t b h hb hh 3 d),
    blk9 m c t b h hb hh d]
  have e1 := extk m c t b h hb hh ⟨r.val, by omega⟩ d
  have e2 := extk m c t b h hb hh ⟨1 + r.val, by omega⟩ d
  have e3 := extk m c t b h hb hh ⟨2 + r.val, by omega⟩ d
  have e4 := extk m c t b h hb hh ⟨3 + r.val, by omega⟩ d
  have f2 : (⟨1 + r.val + 5, by omega⟩ : Fin 4104) = ⟨r.val + 6, by omega⟩ := Fin.ext (by show 1 + r.val + 5 = r.val + 6; omega)
  have f3 : (⟨2 + r.val + 5, by omega⟩ : Fin 4104) = ⟨r.val + 7, by omega⟩ := Fin.ext (by show 2 + r.val + 5 = r.val + 7; omega)
  have f4 : (⟨3 + r.val + 5, by omega⟩ : Fin 4104) = ⟨r.val + 8, by omega⟩ := Fin.ext (by show 3 + r.val + 5 = r.val + 8; omega)
  rw [f2] at e2
  rw [f3] at e3
  rw [f4] at e4
  rw [e1, e2, e3, e4]
  rfl

/-! ## What the passes read is the chunks -/

theorem rows_q (M : Memref sig .tc .vmem S4096x128 .f32) (inb) (k : Fin k0_t1_loop.trips) (r : Fin 64) (d : Fin 128) :
    rows M (M.view.writes (Elt Ideal) M.view.junk [⟨Rect.unit (s := S4096x128) ![0, 0] ![4096, 128] inb, kQ m c t⟩]) k (ix2 r d)
      = (A m c b h k.val).q r d := by
  rw [rows_stored, q_at m c t b h hb hh, A_eq m c b h k.val (lt_of_lt_of_eq k.isLt trips_eq)]
  rfl

theorem rows_k (M : Memref sig .tc .vmem S4096x128 .f32) (inb) (k : Fin k0_t1_loop.trips) (r : Fin 64) (d : Fin 128) :
    rows M (M.view.writes (Elt Ideal) M.view.junk [⟨Rect.unit (s := S4096x128) ![0, 0] ![4096, 128] inb, kK m c t⟩]) k (ix2 r d)
      = (A m c b h k.val).k r d := by
  rw [rows_stored, k_at m c t b h hb hh, A_eq m c b h k.val (lt_of_lt_of_eq k.isLt trips_eq)]
  rfl

theorem rows_v (M : Memref sig .tc .vmem S4096x128 .f32) (hM : M.IsWhole) (k : Fin k0_t1_loop.trips) (r : Fin 64) (d : Fin 128) :
    rows M (hM.unread (Val := Elt Ideal) (X0_2 m c t)) k (ix2 r d) = (A m c b h k.val).v r d := by
  refine (rows_held M hM (X0_2 m c t) k r d).trans ?_
  rw [blk2 m c t b h hb hh, A_eq m c b h k.val (lt_of_lt_of_eq k.isLt trips_eq)]
  rfl

theorem gates_i (M : Memref sig .tc .vmem S1x64x64 .f32) (hM : M.IsWhole) (k : Fin k0_t1_loop.trips) (r : Fin 64) :
    gates M (hM.unread (Val := Elt Ideal) (iblk m c 10 t)) k (ix3 0 0 r) = (A m c b h k.val).li r := by
  refine (gates_held M hM (iblk m c 10 t) k r).trans ?_
  rw [blk10 m c t b h hb hh, A_eq m c b h k.val (lt_of_lt_of_eq k.isLt trips_eq)]
  rfl

theorem gates_f (M : Memref sig .tc .vmem S1x64x64 .f32) (hM : M.IsWhole) (k : Fin k0_t1_loop.trips) (r : Fin 64) :
    gates M (hM.unread (Val := Elt Ideal) (iblk m c 11 t)) k (ix3 0 0 r) = (A m c b h k.val).lf r := by
  refine (gates_held M hM (iblk m c 11 t) k r).trans ?_
  rw [blk11 m c t b h hb hh, A_eq m c b h k.val (lt_of_lt_of_eq k.isLt trips_eq)]
  exact congrArg lsig rfl

omit hb hh in
theorem A0_c (d e : Fin 128) : (A m c b h 0).c d e = 0 := rfl
omit hb hh in
theorem A0_n (d : Fin 128) : (A m c b h 0).n d = 0 := rfl
omit hb hh in
theorem A0_m : (A m c b h 0).m = 0 := rfl

theorem begin_c (d e : Fin 128) : k0_pay23 (F := Ideal) (iblk m c 12 t) (ix2 d e) = (A m c b h 0).c d e := by
  rw [A0_c]
  exact (pay23_at (iblk m c 12 t) d e).trans (blk12 m c t b h hb hh d e)
theorem begin_n (d : Fin 128) : k0_pay24 (F := Ideal) (iblk m c 13 t) (ix2 0 d) = (A m c b h 0).n d := by
  rw [A0_n]
  exact (pay24_at (iblk m c 13 t) d).trans (blk13 m c t b h hb hh d)
theorem begin_m : k0_pay25 (F := Ideal) (iblk m c 14 t) (ix2 0 0) = (A m c b h 0).m := by
  rw [A0_m]
  exact (pay25_at (iblk m c 14 t)).trans (blk14 m c t b h hb hh 0)

theorem begins : Holds (k0_pay23 (F := Ideal) (iblk m c 12 t), k0_pay24 (F := Ideal) (iblk m c 13 t), k0_pay25 (F := Ideal) (iblk m c 14 t)) (A m c b h 0) :=
  holds_of _ _ _ _ (begin_c m c t b h hb hh) (begin_n m c t b h hb hh) (begin_m m c t b h hb hh)

/-! ## The four blocks -/

omit hb hh in
theorem count : Scf.trips 0#32 (Scalar.addi 0#32 64#32) 1#32 = 64 := trips_eq

set_option maxHeartbeats 2000000 in
theorem h_blk (G : S4096x128.Idx → EReal)
    (hG : ∀ (j r : Fin 64) (e : Fin 128), gated (fun d => out (Cert.PromptModel.at_ (aU m c) (aG m c) (aW m c) (aB m c) b h j) r d) (aN m c (ix1 e))
      (aU m c (ix2 (row b (tok j r)) ⟨5632 + (h.val * 128 + e.val), by omega⟩)) e = G (ix2 (tok j r) e)) (y : S4096x128.Idx) :
    (outsAt0 m c t).1 y = G y := by
  simp only [outsAt0]
  frame_out
  rw [count]
  refine canon_st _ _ _ _ _ _ _ _ _ _ _ _ _ _ _ _ _ _ _ _ _ _ _ _ _ _ _ _ _ _ _ _ _ _ _ _ _ _ _ _ _ _ _ _ _ _ _ _ _ _ _ _ _ _ _ _ (A m c b h) (rows_q m c t b h hb hh _ _) (rows_k m c t b h hb hh _ _) (rows_v m c t b h hb hh _ _) (gates_i m c t b h hb hh _ _) (gates_f m c t b h hb hh _ _) (begins m c t b h hb hh)
    (next_c m c b h) (next_n m c b h) (next_m m c b h) G (fun k r e => ?_) y
  rw [pay13_at, blk15 m c t e]
  refine Eq.trans (congrArg (fun x => gated _ _ x e) ((rows_held _ _ (X0_3 m c t) k r e).trans (blk3 m c t b h hb hh _ e))) ?_
  rw [A_eq m c b h k.val (lt_of_lt_of_eq k.isLt trips_eq)]
  exact hG ⟨k.val, lt_of_lt_of_eq k.isLt trips_eq⟩ r e

set_option maxHeartbeats 2000000 in
theorem c_blk (d e : Fin 128) : (outsAt0 m c t).2.1 (ix3 0 d e) = (A m c b h 64).c d e := by
  simp only [outsAt0]
  frame_out
  rw [count]
  refine (pay33_at _ d e).trans ?_
  exact (holds_st _ _ _ _ _ _ _ _ _ _ _ _ _ _ _ _ _ _ _ _ _ _ _ _ _ _ _ _ _ _ _ _ _ _ _ _ _ _ _ _ _ _ _ _ _ _ _ _ _ _ _ _ _ _ _ _ (A m c b h) (rows_q m c t b h hb hh _ _) (rows_k m c t b h hb hh _ _) (rows_v m c t b h hb hh _ _) (gates_i m c t b h hb hh _ _) (gates_f m c t b h hb hh _ _) (begins m c t b h hb hh)
    (next_c m c b h) (next_n m c b h) (next_m m c b h) 64 (Nat.le_refl _)).1 d e

set_option maxHeartbeats 2000000 in
theorem n_blk (d : Fin 128) : (outsAt0 m c t).2.2.1 (ix3 0 0 d) = (A m c b h 64).n d := by
  simp only [outsAt0]
  frame_out
  rw [count]
  refine (pay34_at _ d).trans ?_
  exact (holds_st _ _ _ _ _ _ _ _ _ _ _ _ _ _ _ _ _ _ _ _ _ _ _ _ _ _ _ _ _ _ _ _ _ _ _ _ _ _ _ _ _ _ _ _ _ _ _ _ _ _ _ _ _ _ _ _ (A m c b h) (rows_q m c t b h hb hh _ _) (rows_k m c t b h hb hh _ _) (rows_v m c t b h hb hh _ _) (gates_i m c t b h hb hh _ _) (gates_f m c t b h hb hh _ _) (begins m c t b h hb hh)
    (next_c m c b h) (next_n m c b h) (next_m m c b h) 64 (Nat.le_refl _)).2.1 d

set_option maxHeartbeats 2000000 in
theorem m_blk (d : Fin 128) : (outsAt0 m c t).2.2.2 (ix3 0 0 d) = (A m c b h 64).m := by
  simp only [outsAt0]
  frame_out
  rw [count]
  refine (pay35_at _ d).trans ?_
  exact (holds_st _ _ _ _ _ _ _ _ _ _ _ _ _ _ _ _ _ _ _ _ _ _ _ _ _ _ _ _ _ _ _ _ _ _ _ _ _ _ _ _ _ _ _ _ _ _ _ _ _ _ _ _ _ _ _ _ (A m c b h) (rows_q m c t b h hb hh _ _) (rows_k m c t b h hb hh _ _) (rows_v m c t b h hb hh _ _) (gates_i m c t b h hb hh _ _) (gates_f m c t b h hb hh _ _) (begins m c t b h hb hh)
    (next_c m c b h) (next_n m c b h) (next_m m c b h) 64 (Nat.le_refl _)).2.2

end Cert.PromptValue

end
-- ==== Proof.PromptFinal.lean ====
/- The prompt kernel's four result arrays are the reference's. -/
module

public import proofs.«01_k».proof.Proof.PromptValue

@[expose] public section

set_option maxRecDepth 16384

noncomputable section

open Idealize.ShloMosaic Idealize.ShloMosaic.TcCoe Idealize.SL.Sem
open Idealize.ShloMosaic.Pipeline (Dat)
open Cert.PromptIdeal Cert.PromptIdeal.Gen Cert.Mlstm Cert.PromptBlocks Cert.PromptValue

namespace Cert.PromptFinal

variable (m : (ℓ : Loc nD τ sig) → Buf (Elt Ideal) ℓ) (c : Dev nD)

/-- The reference's state after its trips, from the arguments of this run. -/
abbrev after : Cert.PromptRefIdeal.Step.State Ideal :=
  Cert.PromptModel.state (aU m c) (aG m c) (aW m c) (aB m c) 64

theorem batch (t : Fin cfg0.N) : t.val / 4 < 2 := by have := (idx t).2.2.2.2.2.2.2.2.2.2.2.2.2.2.2.2.2.2.2.2; omega
theorem head (t : Fin cfg0.N) : t.val % 4 < 4 := Nat.mod_lt _ (by decide)

/-- The rows and channels of one batch entry and head. -/
def rowsOf (R : FVec Ideal S8192x512 .f32) (b : Fin 2) (h : Fin 4) (y : S4096x128.Idx) : EReal :=
  R (ix2 (n0 := 8192) ⟨b.val * 4096 + (y 0).val, by have : (y 0).val < 4096 := (y 0).isLt; omega⟩ ⟨h.val * 128 + (y 1).val, by have : (y 1).val < 128 := (y 1).isLt; omega⟩)

theorem rowsOf_at (R : FVec Ideal S8192x512 .f32) (b : Fin 2) (h : Fin 4) (i : Fin 4096) (e : Fin 128) :
    rowsOf R b h (ix2 i e) = R (ix2 (n0 := 8192) ⟨b.val * 4096 + i.val, by omega⟩ ⟨h.val * 128 + e.val, by omega⟩) := rfl

theorem final17 : (dats m 0 c).arrAt 17 cfg0.N = Cert.PromptRefIdeal.Step.R_main_v110 (after m c) := by
  refine (dats m 0 c).arrAt_eq_of_covers 17 _ (by decide +kernel) fun t _ y => ?_
  blk_simp
  rw [after0_17]
  obtain ⟨d, e, rfl⟩ : ∃ (d e : Fin 128), y = ix3 0 d e := ⟨y 1, y 2, (eq_ix3 y).trans (congrArg (ix3 · _ _) (Subsingleton.elim (α := Fin 1) _ _))⟩
  refine (c_blk m c t ⟨t.val / 4, batch t⟩ ⟨t.val % 4, head t⟩ rfl rfl d e).trans ((Cert.PromptModel.c_at ..).symm.trans ?_)
  blk_ext [idx t]

theorem final18 : (dats m 0 c).arrAt 18 cfg0.N = Cert.PromptRefIdeal.Step.R_main_v111 (after m c) := by
  refine (dats m 0 c).arrAt_eq_of_covers 18 _ (by decide +kernel) fun t _ y => ?_
  blk_simp
  rw [after0_18]
  obtain ⟨d, rfl⟩ : ∃ (d : Fin 128), y = ix3 0 0 d :=
    ⟨y 2, (eq_ix3 y).trans (congrArg₂ (ix3 · · _) (Subsingleton.elim (α := Fin 1) _ _) (Subsingleton.elim (α := Fin 1) _ _))⟩
  refine (n_blk m c t ⟨t.val / 4, batch t⟩ ⟨t.val % 4, head t⟩ rfl rfl d).trans ((Cert.PromptModel.n_at ..).symm.trans ?_)
  blk_ext [idx t]

theorem final19 : (dats m 0 c).arrAt 19 cfg0.N = Cert.PromptRefIdeal.Step.R_main_v113 (after m c) := by
  refine (dats m 0 c).arrAt_eq_of_covers 19 _ (by decide +kernel) fun t _ y => ?_
  blk_simp
  rw [after0_19]
  obtain ⟨d, rfl⟩ : ∃ (d : Fin 128), y = ix3 0 0 d :=
    ⟨y 2, (eq_ix3 y).trans (congrArg₂ (ix3 · · _) (Subsingleton.elim (α := Fin 1) _ _) (Subsingleton.elim (α := Fin 1) _ _))⟩
  refine (m_blk m c t ⟨t.val / 4, batch t⟩ ⟨t.val % 4, head t⟩ rfl rfl d).trans ((Cert.PromptModel.m_at _ _ _ _ _ _ d).symm.trans ?_)
  blk_ext [idx t]

theorem final16 : (dats m 0 c).arrAt 16 cfg0.N = Cert.PromptRefIdeal.Step.R_main_v109 (after m c) (aU m c) (aN m c) := by
  refine (dats m 0 c).arrAt_eq_of_covers 16 _ (by decide +kernel) fun t _ y => ?_
  blk_simp
  rw [after0_16]
  obtain ⟨i, e, rfl⟩ : ∃ (i : Fin 4096) (e : Fin 128), y = ix2 i e := ⟨y 0, y 1, eq_ix2 y⟩
  refine (h_blk m c t ⟨t.val / 4, batch t⟩ ⟨t.val % 4, head t⟩ rfl rfl (rowsOf (Cert.PromptRefIdeal.Step.R_main_v109 (after m c) (aU m c) (aN m c)) ⟨t.val / 4, batch t⟩ ⟨t.val % 4, head t⟩)
    (fun j r e' => (Cert.PromptModel.h_at (aU m c) (aG m c) (aW m c) (aB m c) (aN m c) ⟨t.val / 4, batch t⟩ ⟨t.val % 4, head t⟩ j r e').symm) (ix2 i e)).trans ?_
  refine (rowsOf_at _ _ _ i e).trans ?_
  generalize Cert.PromptRefIdeal.Step.R_main_v109 (after m c) (aU m c) (aN m c) = R
  blk_ext [idx t]

end Cert.PromptFinal

end
-- ==== Proof.PromptStepRun.lean ====
/- The reference `PromptRefIdeal`'s run over one trip of its loop: a valuation that holds a state, with the loop's constants and
   the trip's number, holds the next state after the trip; the operations before the loop leave the first state; so the results
   are the fields of the state after the last trip. -/
module

public import proofs.«01_k».proof.Proof.Gen.PromptRefIdeal.Run
public import proofs.«01_k».proof.Proof.Gen.PromptRefIdeal.Step
public import proofs.«01_k».proof.Proof.Gen.PromptIdeal.Value

@[expose] public section

noncomputable section

namespace Cert.PromptSteps

open Idealize.ShloMosaic Idealize.ShloMosaic.TcCoe Idealize.SL.Sem Idealize.ShloMosaic.StableHlo
open Cert.PromptRefIdeal Cert.PromptRefIdeal.Gen Cert.PromptRefIdeal.Value
open Cert.PromptRefIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v82_7) = s.main_v82_7
  f_8 : V0 (Proc.devRef .tc main_v82_8) = s.main_v82_8
  f_9 : V0 (Proc.devRef .tc main_v82_9) = s.main_v82_9
  f_10 : V0 (Proc.devRef .tc main_v82_10) = s.main_v82_10
  f_0 : V0 (Proc.devRef .tc main_v82_0) = s.main_v82_0
  f_1 : V0 (Proc.devRef .tc main_v82_1) = s.main_v82_1
  f_2 : V0 (Proc.devRef .tc main_v82_2) = s.main_v82_2
  f_3 : V0 (Proc.devRef .tc main_v82_3) = s.main_v82_3
  f_4 : V0 (Proc.devRef .tc main_v82_4) = s.main_v82_4
  n_6 : V0 (Proc.devRef .tc main_v82_6) = constantI S_ 32 (BitVec.ofNat 32 j)
  k_5 : V0 (Proc.devRef .tc main_v82_5) = Cert.PromptRefIdeal.Step.K_main_v65 (F := F)

variable {V0 s j}

set_option maxRecDepth 8192 in
theorem al_0 (h : Holds V0 s j) : (constantI S_ 32 0#32 : (Proc.devRef .tc main_while0b_call3_c : DevRef τ sig).ty.Contents (Elt F)) = Cert.PromptRefIdeal.Step.b0 j s := by
  unfold Cert.PromptRefIdeal.Step.b0
  rfl
set_option maxRecDepth 8192 in
theorem al_1 (h : Holds V0 s j) : (constantI S_ 32 0#32 : (Proc.devRef .tc main_while0b_call3_c_0 : DevRef τ sig).ty.Contents (Elt F)) = Cert.PromptRefIdeal.Step.b1 j s := by
  unfold Cert.PromptRefIdeal.Step.b1
  rfl
set_option maxRecDepth 8192 in
theorem al_2 (h : Holds V0 s j) : (constantI S_ 32 0#32 : (Proc.devRef .tc main_while0b_call3_c_1 : DevRef τ sig).ty.Contents (Elt F)) = Cert.PromptRefIdeal.Step.b2 j s := by
  unfold Cert.PromptRefIdeal.Step.b2
  rfl
set_option maxRecDepth 8192 in
theorem al_3 (h : Holds V0 s j) : (constantI S_ 32 0#32 : (Proc.devRef .tc main_while0b_call3_c_2 : DevRef τ sig).ty.Contents (Elt F)) = Cert.PromptRefIdeal.Step.b3 j s := by
  unfold Cert.PromptRefIdeal.Step.b3
  rfl
set_option maxRecDepth 8192 in
theorem al_4 (h : Holds V0 s j) : (Host.dynamicSlice S1x2x4x64x128 (V0 (Proc.devRef .tc main_v82_0)) (fun k => (((![V0 (Proc.devRef .tc main_v82_6), constantI S_ 32 0#32, constantI S_ 32 0#32, constantI S_ 32 0#32, constantI S_ 32 0#32] : Fin 5 → (⟨S_, .i32⟩ : BufTy).Contents (Elt F))) k (Shape.Idx.first h_S_)).toInt) sliceFits_S64x2x4x64x128_S1x2x4x64x128 : (Proc.devRef .tc main_while0b_call3_v0 : DevRef τ sig).ty.Contents (Elt F)) = Cert.PromptRefIdeal.Step.b4 j s := by
  unfold Cert.PromptRefIdeal.Step.b4
  rw [← al_0 h, ← al_1 h, ← al_2 h, ← al_3 h, h.f_0, h.n_6]
  try rfl
set_option maxRecDepth 8192 in
theorem al_5 (h : Holds V0 s j) : (res_main_while0b_v114 V0 : (Proc.devRef .tc main_while0b_v114 : DevRef τ sig).ty.Contents (Elt F)) = Cert.PromptRefIdeal.Step.b5 j s := by
  unfold res_main_while0b_v114 Cert.PromptRefIdeal.Step.b5
  rw [← al_4 h]
  try rfl
set_option maxRecDepth 8192 in
theorem al_6 (h : Holds V0 s j) : (constantI S_ 32 0#32 : (Proc.devRef .tc main_while0b_call4_c : DevRef τ sig).ty.Contents (Elt F)) = Cert.PromptRefIdeal.Step.b6 j s := by
  unfold Cert.PromptRefIdeal.Step.b6
  rfl
set_option maxRecDepth 8192 in
theorem al_7 (h : Holds V0 s j) : (constantI S_ 32 0#32 : (Proc.devRef .tc main_while0b_call4_c_0 : DevRef τ sig).ty.Contents (Elt F)) = Cert.PromptRefIdeal.Step.b7 j s := by
  unfold Cert.PromptRefIdeal.Step.b7
  rfl
set_option maxRecDepth 8192 in
theorem al_8 (h : Holds V0 s j) : (constantI S_ 32 0#32 : (Proc.devRef .tc main_while0b_call4_c_1 : DevRef τ sig).ty.Contents (Elt F)) = Cert.PromptRefIdeal.Step.b8 j s := by
  unfold Cert.PromptRefIdeal.Step.b8
  rfl
set_option maxRecDepth 8192 in
theorem al_9 (h : Holds V0 s j) : (constantI S_ 32 0#32 : (Proc.devRef .tc main_while0b_call4_c_2 : DevRef τ sig).ty.Contents (Elt F)) = Cert.PromptRefIdeal.Step.b9 j s := by
  unfold Cert.PromptRefIdeal.Step.b9
  rfl
set_option maxRecDepth 8192 in
theorem al_10 (h : Holds V0 s j) : (Host.dynamicSlice S1x2x4x64x128 (V0 (Proc.devRef .tc main_v82_1)) (fun k => (((![V0 (Proc.devRef .tc main_v82_6), constantI S_ 32 0#32, constantI S_ 32 0#32, constantI S_ 32 0#32, constantI S_ 32 0#32] : Fin 5 → (⟨S_, .i32⟩ : BufTy).Contents (Elt F))) k (Shape.Idx.first h_S_)).toInt) sliceFits_S64x2x4x64x128_S1x2x4x64x128 : (Proc.devRef .tc main_while0b_call4_v0 : DevRef τ sig).ty.Contents (Elt F)) = Cert.PromptRefIdeal.Step.b10 j s := by
  unfold Cert.PromptRefIdeal.Step.b10
  rw [← al_6 h, ← al_7 h, ← al_8 h, ← al_9 h, h.f_1, h.n_6]
  try rfl
set_option maxRecDepth 8192 in
theorem al_11 (h : Holds V0 s j) : (res_main_while0b_v115 V0 : (Proc.devRef .tc main_while0b_v115 : DevRef τ sig).ty.Contents (Elt F)) = Cert.PromptRefIdeal.Step.b11 j s := by
  unfold res_main_while0b_v115 Cert.PromptRefIdeal.Step.b11
  rw [← al_10 h]
  try rfl
set_option maxRecDepth 8192 in
theorem al_12 (h : Holds V0 s j) : (constantI S_ 32 0#32 : (Proc.devRef .tc main_while0b_call5_c : DevRef τ sig).ty.Contents (Elt F)) = Cert.PromptRefIdeal.Step.b12 j s := by
  unfold Cert.PromptRefIdeal.Step.b12
  rfl
set_option maxRecDepth 8192 in
theorem al_13 (h : Holds V0 s j) : (constantI S_ 32 0#32 : (Proc.devRef .tc main_while0b_call5_c_0 : DevRef τ sig).ty.Contents (Elt F)) = Cert.PromptRefIdeal.Step.b13 j s := by
  unfold Cert.PromptRefIdeal.Step.b13
  rfl
set_option maxRecDepth 8192 in
theorem al_14 (h : Holds V0 s j) : (constantI S_ 32 0#32 : (Proc.devRef .tc main_while0b_call5_c_1 : DevRef τ sig).ty.Contents (Elt F)) = Cert.PromptRefIdeal.Step.b14 j s := by
  unfold Cert.PromptRefIdeal.Step.b14
  rfl
set_option maxRecDepth 8192 in
theorem al_15 (h : Holds V0 s j) : (constantI S_ 32 0#32 : (Proc.devRef .tc main_while0b_call5_c_2 : DevRef τ sig).ty.Contents (Elt F)) = Cert.PromptRefIdeal.Step.b15 j s := by
  unfold Cert.PromptRefIdeal.Step.b15
  rfl
set_option maxRecDepth 8192 in
theorem al_16 (h : Holds V0 s j) : (Host.dynamicSlice S1x2x4x64x128 (V0 (Proc.devRef .tc main_v82_2)) (fun k => (((![V0 (Proc.devRef .tc main_v82_6), constantI S_ 32 0#32, constantI S_ 32 0#32, constantI S_ 32 0#32, constantI S_ 32 0#32] : Fin 5 → (⟨S_, .i32⟩ : BufTy).Contents (Elt F))) k (Shape.Idx.first h_S_)).toInt) sliceFits_S64x2x4x64x128_S1x2x4x64x128 : (Proc.devRef .tc main_while0b_call5_v0 : DevRef τ sig).ty.Contents (Elt F)) = Cert.PromptRefIdeal.Step.b16 j s := by
  unfold Cert.PromptRefIdeal.Step.b16
  rw [← al_12 h, ← al_13 h, ← al_14 h, ← al_15 h, h.f_2, h.n_6]
  try rfl
set_option maxRecDepth 8192 in
theorem al_17 (h : Holds V0 s j) : (res_main_while0b_v116 V0 : (Proc.devRef .tc main_while0b_v116 : DevRef τ sig).ty.Contents (Elt F)) = Cert.PromptRefIdeal.Step.b17 j s := by
  unfold res_main_while0b_v116 Cert.PromptRefIdeal.Step.b17
  rw [← al_16 h]
  try rfl
set_option maxRecDepth 8192 in
theorem al_18 (h : Holds V0 s j) : (constantI S_ 32 0#32 : (Proc.devRef .tc main_while0b_call6_c : DevRef τ sig).ty.Contents (Elt F)) = Cert.PromptRefIdeal.Step.b18 j s := by
  unfold Cert.PromptRefIdeal.Step.b18
  rfl
set_option maxRecDepth 8192 in
theorem al_19 (h : Holds V0 s j) : (constantI S_ 32 0#32 : (Proc.devRef .tc main_while0b_call6_c_0 : DevRef τ sig).ty.Contents (Elt F)) = Cert.PromptRefIdeal.Step.b19 j s := by
  unfold Cert.PromptRefIdeal.Step.b19
  rfl
set_option maxRecDepth 8192 in
theorem al_20 (h : Holds V0 s j) : (constantI S_ 32 0#32 : (Proc.devRef .tc main_while0b_call6_c_1 : DevRef τ sig).ty.Contents (Elt F)) = Cert.PromptRefIdeal.Step.b20 j s := by
  unfold Cert.PromptRefIdeal.Step.b20
  rfl
set_option maxRecDepth 8192 in
theorem al_21 (h : Holds V0 s j) : (Host.dynamicSlice S1x2x4x64 (V0 (Proc.devRef .tc main_v82_3)) (fun k => (((![V0 (Proc.devRef .tc main_v82_6), constantI S_ 32 0#32, constantI S_ 32 0#32, constantI S_ 32 0#32] : Fin 4 → (⟨S_, .i32⟩ : BufTy).Contents (Elt F))) k (Shape.Idx.first h_S_)).toInt) sliceFits_S64x2x4x64_S1x2x4x64 : (Proc.devRef .tc main_while0b_call6_v0 : DevRef τ sig).ty.Contents (Elt F)) = Cert.PromptRefIdeal.Step.b21 j s := by
  unfold Cert.PromptRefIdeal.Step.b21
  rw [← al_18 h, ← al_19 h, ← al_20 h, h.f_3, h.n_6]
  try rfl
set_option maxRecDepth 8192 in
theorem al_22 (h : Holds V0 s j) : (res_main_while0b_v117 V0 : (Proc.devRef .tc main_while0b_v117 : DevRef τ sig).ty.Contents (Elt F)) = Cert.PromptRefIdeal.Step.b22 j s := by
  unfold res_main_while0b_v117 Cert.PromptRefIdeal.Step.b22
  rw [← al_21 h]
  try rfl
set_option maxRecDepth 8192 in
theorem al_23 (h : Holds V0 s j) : (constantI S_ 32 0#32 : (Proc.devRef .tc main_while0b_call7_c : DevRef τ sig).ty.Contents (Elt F)) = Cert.PromptRefIdeal.Step.b23 j s := by
  unfold Cert.PromptRefIdeal.Step.b23
  rfl
set_option maxRecDepth 8192 in
theorem al_24 (h : Holds V0 s j) : (constantI S_ 32 0#32 : (Proc.devRef .tc main_while0b_call7_c_0 : DevRef τ sig).ty.Contents (Elt F)) = Cert.PromptRefIdeal.Step.b24 j s := by
  unfold Cert.PromptRefIdeal.Step.b24
  rfl
set_option maxRecDepth 8192 in
theorem al_25 (h : Holds V0 s j) : (constantI S_ 32 0#32 : (Proc.devRef .tc main_while0b_call7_c_1 : DevRef τ sig).ty.Contents (Elt F)) = Cert.PromptRefIdeal.Step.b25 j s := by
  unfold Cert.PromptRefIdeal.Step.b25
  rfl
set_option maxRecDepth 8192 in
theorem al_26 (h : Holds V0 s j) : (Host.dynamicSlice S1x2x4x64 (V0 (Proc.devRef .tc main_v82_4)) (fun k => (((![V0 (Proc.devRef .tc main_v82_6), constantI S_ 32 0#32, constantI S_ 32 0#32, constantI S_ 32 0#32] : Fin 4 → (⟨S_, .i32⟩ : BufTy).Contents (Elt F))) k (Shape.Idx.first h_S_)).toInt) sliceFits_S64x2x4x64_S1x2x4x64 : (Proc.devRef .tc main_while0b_call7_v0 : DevRef τ sig).ty.Contents (Elt F)) = Cert.PromptRefIdeal.Step.b26 j s := by
  unfold Cert.PromptRefIdeal.Step.b26
  rw [← al_23 h, ← al_24 h, ← al_25 h, h.f_4, h.n_6]
  try rfl
set_option maxRecDepth 8192 in
theorem al_27 (h : Holds V0 s j) : (shapeCast S2x4x64 (Host.dynamicSlice S1x2x4x64 (V0 (Proc.devRef .tc main_v82_4)) (fun k => (((![V0 (Proc.devRef .tc main_v82_6), constantI S_ 32 0#32, constantI S_ 32 0#32, constantI S_ 32 0#32] : Fin 4 → (⟨S_, .i32⟩ : BufTy).Contents (Elt F))) k (Shape.Idx.first h_S_)).toInt) sliceFits_S64x2x4x64_S1x2x4x64) shapeCasts_S1x2x4x64_S2x4x64 : (Proc.devRef .tc main_while0b_v118 : DevRef τ sig).ty.Contents (Elt F)) = Cert.PromptRefIdeal.Step.b27 j s := by
  unfold Cert.PromptRefIdeal.Step.b27
  rw [← al_26 h]
  try rfl
set_option maxRecDepth 8192 in
theorem al_28 (h : Holds V0 s j) : (constant S_ .f32 0x00000000#32 : (Proc.devRef .tc main_while0b_call8_call0_cst : DevRef τ sig).ty.Contents (Elt F)) = Cert.PromptRefIdeal.Step.b28 j s := by
  unfold Cert.PromptRefIdeal.Step.b28
  rfl
set_option maxRecDepth 8192 in
theorem al_29 (h : Holds V0 s j) : (broadcastInDim S_ ![] bcast_S_S_ (constant S_ .f32 0x00000000#32) : (Proc.devRef .tc main_while0b_call8_call0_v0 : DevRef τ sig).ty.Contents (Elt F)) = Cert.PromptRefIdeal.Step.b29 j s := by
  unfold Cert.PromptRefIdeal.Step.b29
  rw [← al_28 h]
  try rfl
set_option maxRecDepth 8192 in
theorem al_30 (h : Holds V0 s j) : (res_main_while0b_v119 V0 : (Proc.devRef .tc main_while0b_v119 : DevRef τ sig).ty.Contents (Elt F)) = Cert.PromptRefIdeal.Step.b30 j s := by
  unfold res_main_while0b_v119 Cert.PromptRefIdeal.Step.b30
  rw [← al_27 h, ← al_29 h]
  try rfl
set_option maxRecDepth 8192 in
theorem al_31 (h : Holds V0 s j) : (broadcastInDim S2x4x64x1 ![0, 1, 2] bcast_S2x4x64_S2x4x64x1_0_1_2 (res_main_while0b_v119 V0) : (Proc.devRef .tc main_while0b_v120 : DevRef τ sig).ty.Contents (Elt F)) = Cert.PromptRefIdeal.Step.b31 j s := by
  unfold Cert.PromptRefIdeal.Step.b31
  rw [← al_30 h]
  try rfl
set_option maxRecDepth 8192 in
theorem al_32 (h : Holds V0 s j) : (broadcastInDim S2x4x1x64 ![0, 1, 3] bcast_S2x4x64_S2x4x1x64_0_1_3 (res_main_while0b_v119 V0) : (Proc.devRef .tc main_while0b_v121 : DevRef τ sig).ty.Contents (Elt F)) = Cert.PromptRefIdeal.Step.b32 j s := by
  unfold Cert.PromptRefIdeal.Step.b32
  rw [← al_30 h]
  try rfl
set_option maxRecDepth 8192 in
theorem al_33 (h : Holds V0 s j) : (broadcastInDim S2x4x64x64 ![0, 1, 2, 3] bcast_S2x4x64x1_S2x4x64x64_0_1_2_3 (broadcastInDim S2x4x64x1 ![0, 1, 2] bcast_S2x4x64_S2x4x64x1_0_1_2 (res_main_while0b_v119 V0)) : (Proc.devRef .tc main_while0b_v122 : DevRef τ sig).ty.Contents (Elt F)) = Cert.PromptRefIdeal.Step.b33 j s := by
  unfold Cert.PromptRefIdeal.Step.b33
  rw [← al_31 h]
  try rfl
set_option maxRecDepth 8192 in
theorem al_34 (h : Holds V0 s j) : (broadcastInDim S2x4x64x64 ![0, 1, 2, 3] bcast_S2x4x1x64_S2x4x64x64_0_1_2_3 (broadcastInDim S2x4x1x64 ![0, 1, 3] bcast_S2x4x64_S2x4x1x64_0_1_3 (res_main_while0b_v119 V0)) : (Proc.devRef .tc main_while0b_v123 : DevRef τ sig).ty.Contents (Elt F)) = Cert.PromptRefIdeal.Step.b34 j s := by
  unfold Cert.PromptRefIdeal.Step.b34
  rw [← al_32 h]
  try rfl
set_option maxRecDepth 8192 in
theorem al_35 (h : Holds V0 s j) : (subf (broadcastInDim S2x4x64x64 ![0, 1, 2, 3] bcast_S2x4x64x1_S2x4x64x64_0_1_2_3 (broadcastInDim S2x4x64x1 ![0, 1, 2] bcast_S2x4x64_S2x4x64x1_0_1_2 (res_main_while0b_v119 V0))) (broadcastInDim S2x4x64x64 ![0, 1, 2, 3] bcast_S2x4x1x64_S2x4x64x64_0_1_2_3 (broadcastInDim S2x4x1x64 ![0, 1, 3] bcast_S2x4x64_S2x4x1x64_0_1_3 (res_main_while0b_v119 V0))) : (Proc.devRef .tc main_while0b_v124 : DevRef τ sig).ty.Contents (Elt F)) = Cert.PromptRefIdeal.Step.b35 j s := by
  unfold Cert.PromptRefIdeal.Step.b35
  rw [← al_33 h, ← al_34 h]
  try rfl
set_option maxRecDepth 8192 in
theorem al_36 (h : Holds V0 s j) : (broadcastInDim S2x4x1x64 ![0, 1, 3] bcast_S2x4x64_S2x4x1x64_0_1_3 (res_main_while0b_v117 V0) : (Proc.devRef .tc main_while0b_v125 : DevRef τ sig).ty.Contents (Elt F)) = Cert.PromptRefIdeal.Step.b36 j s := by
  unfold Cert.PromptRefIdeal.Step.b36
  rw [← al_22 h]
  try rfl
set_option maxRecDepth 8192 in
theorem al_37 (h : Holds V0 s j) : (broadcastInDim S2x4x64x64 ![0, 1, 2, 3] bcast_S2x4x1x64_S2x4x64x64_0_1_2_3 (broadcastInDim S2x4x1x64 ![0, 1, 3] bcast_S2x4x64_S2x4x1x64_0_1_3 (res_main_while0b_v117 V0)) : (Proc.devRef .tc main_while0b_v126 : DevRef τ sig).ty.Contents (Elt F)) = Cert.PromptRefIdeal.Step.b37 j s := by
  unfold Cert.PromptRefIdeal.Step.b37
  rw [← al_36 h]
  try rfl
set_option maxRecDepth 8192 in
theorem al_38 (h : Holds V0 s j) : (addf (subf (broadcastInDim S2x4x64x64 ![0, 1, 2, 3] bcast_S2x4x64x1_S2x4x64x64_0_1_2_3 (broadcastInDim S2x4x64x1 ![0, 1, 2] bcast_S2x4x64_S2x4x64x1_0_1_2 (res_main_while0b_v119 V0))) (broadcastInDim S2x4x64x64 ![0, 1, 2, 3] bcast_S2x4x1x64_S2x4x64x64_0_1_2_3 (broadcastInDim S2x4x1x64 ![0, 1, 3] bcast_S2x4x64_S2x4x1x64_0_1_3 (res_main_while0b_v119 V0)))) (broadcastInDim S2x4x64x64 ![0, 1, 2, 3] bcast_S2x4x1x64_S2x4x64x64_0_1_2_3 (broadcastInDim S2x4x1x64 ![0, 1, 3] bcast_S2x4x64_S2x4x1x64_0_1_3 (res_main_while0b_v117 V0))) : (Proc.devRef .tc main_while0b_v127 : DevRef τ sig).ty.Contents (Elt F)) = Cert.PromptRefIdeal.Step.b38 j s := by
  unfold Cert.PromptRefIdeal.Step.b38
  rw [← al_35 h, ← al_37 h]
  try rfl
set_option maxRecDepth 8192 in
theorem al_39 (h : Holds V0 s j) : (constant S_ .f32 0xF149F2CA#32 : (Proc.devRef .tc main_while0b_cst_21 : DevRef τ sig).ty.Contents (Elt F)) = Cert.PromptRefIdeal.Step.b39 j s := by
  unfold Cert.PromptRefIdeal.Step.b39
  rfl
set_option maxRecDepth 8192 in
theorem al_40 (h : Holds V0 s j) : (id (constant S_ .f32 0xF149F2CA#32) : (Proc.devRef .tc main_while0b_call9_v0 : DevRef τ sig).ty.Contents (Elt F)) = Cert.PromptRefIdeal.Step.b40 j s := by
  unfold Cert.PromptRefIdeal.Step.b40
  rw [← al_39 h]
  try rfl
set_option maxRecDepth 8192 in
theorem al_41 (h : Holds V0 s j) : (broadcastInDim S2x4x64x64 ![2, 3] bcast_S64x64_S2x4x64x64_2_3 (V0 (Proc.devRef .tc main_v82_5)) : (Proc.devRef .tc main_while0b_call9_v1 : DevRef τ sig).ty.Contents (Elt F)) = Cert.PromptRefIdeal.Step.b41 j s := by
  unfold Cert.PromptRefIdeal.Step.b41
  rw [h.k_5]
  try rfl
set_option maxRecDepth 8192 in
theorem al_42 (h : Holds V0 s j) : (broadcastInDim S2x4x64x64 ![] bcast_S_S2x4x64x64 (id (constant S_ .f32 0xF149F2CA#32)) : (Proc.devRef .tc main_while0b_call9_v2 : DevRef τ sig).ty.Contents (Elt F)) = Cert.PromptRefIdeal.Step.b42 j s := by
  unfold Cert.PromptRefIdeal.Step.b42
  rw [← al_40 h]
  try rfl
set_option maxRecDepth 8192 in
theorem al_43 (h : Holds V0 s j) : (res_main_while0b_v128 V0 : (Proc.devRef .tc main_while0b_v128 : DevRef τ sig).ty.Contents (Elt F)) = Cert.PromptRefIdeal.Step.b43 j s := by
  unfold res_main_while0b_v128 Cert.PromptRefIdeal.Step.b43
  rw [← al_41 h, ← al_38 h, ← al_42 h]
  try rfl
set_option maxRecDepth 8192 in
theorem al_44 (h : Holds V0 s j) : (broadcastInDim S2x4x1 ![0, 1] bcast_S2x4_S2x4x1_0_1 (V0 (Proc.devRef .tc main_v82_9)) : (Proc.devRef .tc main_while0b_v129 : DevRef τ sig).ty.Contents (Elt F)) = Cert.PromptRefIdeal.Step.b44 j s := by
  unfold Cert.PromptRefIdeal.Step.b44
  rw [h.f_9]
  try rfl
set_option maxRecDepth 8192 in
theorem al_45 (h : Holds V0 s j) : (broadcastInDim S2x4x64 ![0, 1, 2] bcast_S2x4x1_S2x4x64_0_1_2 (broadcastInDim S2x4x1 ![0, 1] bcast_S2x4_S2x4x1_0_1 (V0 (Proc.devRef .tc main_v82_9))) : (Proc.devRef .tc main_while0b_v130 : DevRef τ sig).ty.Contents (Elt F)) = Cert.PromptRefIdeal.Step.b45 j s := by
  unfold Cert.PromptRefIdeal.Step.b45
  rw [← al_44 h]
  try rfl
set_option maxRecDepth 8192 in
theorem al_46 (h : Holds V0 s j) : (res_main_while0b_v131 V0 : (Proc.devRef .tc main_while0b_v131 : DevRef τ sig).ty.Contents (Elt F)) = Cert.PromptRefIdeal.Step.b46 j s := by
  unfold res_main_while0b_v131 Cert.PromptRefIdeal.Step.b46
  rw [← al_30 h, ← al_45 h]
  try rfl
set_option maxRecDepth 8192 in
theorem al_47 (h : Holds V0 s j) : (constant S_ .f32 0xFF800000#32 : (Proc.devRef .tc main_while0b_cst_22 : DevRef τ sig).ty.Contents (Elt F)) = Cert.PromptRefIdeal.Step.b47 j s := by
  unfold Cert.PromptRefIdeal.Step.b47
  rfl
set_option maxRecDepth 8192 in
theorem al_48 (h : Holds V0 s j) : (Host.reduce FloatOps.maximumf (res_main_while0b_v128 V0) (constant S_ .f32 0xFF800000#32) reducesTo_S2x4x64x64_S2x4x64_d3 h_S_ : (Proc.devRef .tc main_while0b_v132 : DevRef τ sig).ty.Contents (Elt F)) = Cert.PromptRefIdeal.Step.b48 j s := by
  unfold Cert.PromptRefIdeal.Step.b48
  rw [← al_43 h, ← al_47 h]
  try rfl
set_option maxRecDepth 8192 in
theorem al_49 (h : Holds V0 s j) : (res_main_while0b_v133 V0 : (Proc.devRef .tc main_while0b_v133 : DevRef τ sig).ty.Contents (Elt F)) = Cert.PromptRefIdeal.Step.b49 j s := by
  unfold res_main_while0b_v133 Cert.PromptRefIdeal.Step.b49
  rw [← al_46 h, ← al_48 h]
  try rfl
set_option maxRecDepth 8192 in
theorem al_50 (h : Holds V0 s j) : (broadcastInDim S2x4x64x1 ![0, 1, 2] bcast_S2x4x64_S2x4x64x1_0_1_2 (res_main_while0b_v133 V0) : (Proc.devRef .tc main_while0b_v134 : DevRef τ sig).ty.Contents (Elt F)) = Cert.PromptRefIdeal.Step.b50 j s := by
  unfold Cert.PromptRefIdeal.Step.b50
  rw [← al_49 h]
  try rfl
set_option maxRecDepth 8192 in
theorem al_51 (h : Holds V0 s j) : (broadcastInDim S2x4x64x64 ![0, 1, 2, 3] bcast_S2x4x64x1_S2x4x64x64_0_1_2_3 (broadcastInDim S2x4x64x1 ![0, 1, 2] bcast_S2x4x64_S2x4x64x1_0_1_2 (res_main_while0b_v133 V0)) : (Proc.devRef .tc main_while0b_v135 : DevRef τ sig).ty.Contents (Elt F)) = Cert.PromptRefIdeal.Step.b51 j s := by
  unfold Cert.PromptRefIdeal.Step.b51
  rw [← al_50 h]
  try rfl
set_option maxRecDepth 8192 in
theorem al_52 (h : Holds V0 s j) : (subf (res_main_while0b_v128 V0) (broadcastInDim S2x4x64x64 ![0, 1, 2, 3] bcast_S2x4x64x1_S2x4x64x64_0_1_2_3 (broadcastInDim S2x4x64x1 ![0, 1, 2] bcast_S2x4x64_S2x4x64x1_0_1_2 (res_main_while0b_v133 V0))) : (Proc.devRef .tc main_while0b_v136 : DevRef τ sig).ty.Contents (Elt F)) = Cert.PromptRefIdeal.Step.b52 j s := by
  unfold Cert.PromptRefIdeal.Step.b52
  rw [← al_43 h, ← al_51 h]
  try rfl
set_option maxRecDepth 8192 in
theorem al_53 (h : Holds V0 s j) : (Host.exp (subf (res_main_while0b_v128 V0) (broadcastInDim S2x4x64x64 ![0, 1, 2, 3] bcast_S2x4x64x1_S2x4x64x64_0_1_2_3 (broadcastInDim S2x4x64x1 ![0, 1, 2] bcast_S2x4x64_S2x4x64x1_0_1_2 (res_main_while0b_v133 V0)))) : (Proc.devRef .tc main_while0b_v137 : DevRef τ sig).ty.Contents (Elt F)) = Cert.PromptRefIdeal.Step.b53 j s := by
  unfold Cert.PromptRefIdeal.Step.b53
  rw [← al_52 h]
  try rfl
set_option maxRecDepth 8192 in
theorem al_54 (h : Holds V0 s j) : (subf (res_main_while0b_v131 V0) (res_main_while0b_v133 V0) : (Proc.devRef .tc main_while0b_v138 : DevRef τ sig).ty.Contents (Elt F)) = Cert.PromptRefIdeal.Step.b54 j s := by
  unfold Cert.PromptRefIdeal.Step.b54
  rw [← al_46 h, ← al_49 h]
  try rfl
set_option maxRecDepth 8192 in
theorem al_55 (h : Holds V0 s j) : (res_main_while0b_v139 V0 : (Proc.devRef .tc main_while0b_v139 : DevRef τ sig).ty.Contents (Elt F)) = Cert.PromptRefIdeal.Step.b55 j s := by
  unfold res_main_while0b_v139 Cert.PromptRefIdeal.Step.b55
  rw [← al_54 h]
  try rfl
set_option maxRecDepth 8192 in
theorem al_56 (h : Holds V0 s j) : (Host.dotGeneral dot_S2x4x64x128_S2x4x64x128_S2x4x64x64_3_3_2_2_01_01 none (res_main_while0b_v114 V0) (res_main_while0b_v115 V0) : (Proc.devRef .tc main_while0b_v140 : DevRef τ sig).ty.Contents (Elt F)) = Cert.PromptRefIdeal.Step.b56 j s := by
  unfold Cert.PromptRefIdeal.Step.b56
  rw [← al_5 h, ← al_11 h]
  try rfl
set_option maxRecDepth 8192 in
theorem al_57 (h : Holds V0 s j) : (res_main_while0b_v141 V0 : (Proc.devRef .tc main_while0b_v141 : DevRef τ sig).ty.Contents (Elt F)) = Cert.PromptRefIdeal.Step.b57 j s := by
  unfold res_main_while0b_v141 Cert.PromptRefIdeal.Step.b57
  rw [← al_56 h, ← al_53 h]
  try rfl
set_option maxRecDepth 8192 in
theorem al_58 (h : Holds V0 s j) : (broadcastInDim S2x4x64x1 ![0, 1, 2] bcast_S2x4x64_S2x4x64x1_0_1_2 (res_main_while0b_v139 V0) : (Proc.devRef .tc main_while0b_v142 : DevRef τ sig).ty.Contents (Elt F)) = Cert.PromptRefIdeal.Step.b58 j s := by
  unfold Cert.PromptRefIdeal.Step.b58
  rw [← al_55 h]
  try rfl
set_option maxRecDepth 8192 in
theorem al_59 (h : Holds V0 s j) : (Host.dotGeneral dot_S2x4x64x128_S2x4x128x128_S2x4x64x128_3_2_2_3_01_01 none (res_main_while0b_v114 V0) (V0 (Proc.devRef .tc main_v82_7)) : (Proc.devRef .tc main_while0b_v143 : DevRef τ sig).ty.Contents (Elt F)) = Cert.PromptRefIdeal.Step.b59 j s := by
  unfold Cert.PromptRefIdeal.Step.b59
  rw [← al_5 h, h.f_7]
  try rfl
set_option maxRecDepth 8192 in
theorem al_60 (h : Holds V0 s j) : (broadcastInDim S2x4x64x128 ![0, 1, 2, 3] bcast_S2x4x64x1_S2x4x64x128_0_1_2_3 (broadcastInDim S2x4x64x1 ![0, 1, 2] bcast_S2x4x64_S2x4x64x1_0_1_2 (res_main_while0b_v139 V0)) : (Proc.devRef .tc main_while0b_v144 : DevRef τ sig).ty.Contents (Elt F)) = Cert.PromptRefIdeal.Step.b60 j s := by
  unfold Cert.PromptRefIdeal.Step.b60
  rw [← al_58 h]
  try rfl
set_option maxRecDepth 8192 in
theorem al_61 (h : Holds V0 s j) : (mulf (broadcastInDim S2x4x64x128 ![0, 1, 2, 3] bcast_S2x4x64x1_S2x4x64x128_0_1_2_3 (broadcastInDim S2x4x64x1 ![0, 1, 2] bcast_S2x4x64_S2x4x64x1_0_1_2 (res_main_while0b_v139 V0))) (Host.dotGeneral dot_S2x4x64x128_S2x4x128x128_S2x4x64x128_3_2_2_3_01_01 none (res_main_while0b_v114 V0) (V0 (Proc.devRef .tc main_v82_7))) : (Proc.devRef .tc main_while0b_v145 : DevRef τ sig).ty.Contents (Elt F)) = Cert.PromptRefIdeal.Step.b61 j s := by
  unfold Cert.PromptRefIdeal.Step.b61
  rw [← al_60 h, ← al_59 h]
  try rfl
set_option maxRecDepth 8192 in
theorem al_62 (h : Holds V0 s j) : (Host.dotGeneral dot_S2x4x64x64_S2x4x64x128_S2x4x64x128_3_2_2_3_01_01 none (res_main_while0b_v141 V0) (res_main_while0b_v116 V0) : (Proc.devRef .tc main_while0b_v146 : DevRef τ sig).ty.Contents (Elt F)) = Cert.PromptRefIdeal.Step.b62 j s := by
  unfold Cert.PromptRefIdeal.Step.b62
  rw [← al_57 h, ← al_17 h]
  try rfl
set_option maxRecDepth 8192 in
theorem al_63 (h : Holds V0 s j) : (addf (mulf (broadcastInDim S2x4x64x128 ![0, 1, 2, 3] bcast_S2x4x64x1_S2x4x64x128_0_1_2_3 (broadcastInDim S2x4x64x1 ![0, 1, 2] bcast_S2x4x64_S2x4x64x1_0_1_2 (res_main_while0b_v139 V0))) (Host.dotGeneral dot_S2x4x64x128_S2x4x128x128_S2x4x64x128_3_2_2_3_01_01 none (res_main_while0b_v114 V0) (V0 (Proc.devRef .tc main_v82_7)))) (Host.dotGeneral dot_S2x4x64x64_S2x4x64x128_S2x4x64x128_3_2_2_3_01_01 none (res_main_while0b_v141 V0) (res_main_while0b_v116 V0)) : (Proc.devRef .tc main_while0b_v147 : DevRef τ sig).ty.Contents (Elt F)) = Cert.PromptRefIdeal.Step.b63 j s := by
  unfold Cert.PromptRefIdeal.Step.b63
  rw [← al_61 h, ← al_62 h]
  try rfl
set_option maxRecDepth 8192 in
theorem al_64 (h : Holds V0 s j) : (Host.dotGeneral dot_S2x4x64x128_S2x4x128_S2x4x64_3_2_2_n_01_01 none (res_main_while0b_v114 V0) (V0 (Proc.devRef .tc main_v82_8)) : (Proc.devRef .tc main_while0b_v148 : DevRef τ sig).ty.Contents (Elt F)) = Cert.PromptRefIdeal.Step.b64 j s := by
  unfold Cert.PromptRefIdeal.Step.b64
  rw [← al_5 h, h.f_8]
  try rfl
set_option maxRecDepth 8192 in
theorem al_65 (h : Holds V0 s j) : (mulf (res_main_while0b_v139 V0) (Host.dotGeneral dot_S2x4x64x128_S2x4x128_S2x4x64_3_2_2_n_01_01 none (res_main_while0b_v114 V0) (V0 (Proc.devRef .tc main_v82_8))) : (Proc.devRef .tc main_while0b_v149 : DevRef τ sig).ty.Contents (Elt F)) = Cert.PromptRefIdeal.Step.b65 j s := by
  unfold Cert.PromptRefIdeal.Step.b65
  rw [← al_55 h, ← al_64 h]
  try rfl
set_option maxRecDepth 8192 in
theorem al_66 (h : Holds V0 s j) : (constant S_ .f32 0x00000000#32 : (Proc.devRef .tc main_while0b_cst_23 : DevRef τ sig).ty.Contents (Elt F)) = Cert.PromptRefIdeal.Step.b66 j s := by
  unfold Cert.PromptRefIdeal.Step.b66
  rfl
set_option maxRecDepth 8192 in
theorem al_67 (h : Holds V0 s j) : (Host.reduceAdd (res_main_while0b_v141 V0) (constant S_ .f32 0x00000000#32) reducesTo_S2x4x64x64_S2x4x64_d3 h_S_ : (Proc.devRef .tc main_while0b_v150 : DevRef τ sig).ty.Contents (Elt F)) = Cert.PromptRefIdeal.Step.b67 j s := by
  unfold Cert.PromptRefIdeal.Step.b67
  rw [← al_57 h, ← al_66 h]
  try rfl
set_option maxRecDepth 8192 in
theorem al_68 (h : Holds V0 s j) : (addf (mulf (res_main_while0b_v139 V0) (Host.dotGeneral dot_S2x4x64x128_S2x4x128_S2x4x64_3_2_2_n_01_01 none (res_main_while0b_v114 V0) (V0 (Proc.devRef .tc main_v82_8)))) (Host.reduceAdd (res_main_while0b_v141 V0) (constant S_ .f32 0x00000000#32) reducesTo_S2x4x64x64_S2x4x64_d3 h_S_) : (Proc.devRef .tc main_while0b_v151 : DevRef τ sig).ty.Contents (Elt F)) = Cert.PromptRefIdeal.Step.b68 j s := by
  unfold Cert.PromptRefIdeal.Step.b68
  rw [← al_65 h, ← al_67 h]
  try rfl
set_option maxRecDepth 8192 in
theorem al_69 (h : Holds V0 s j) : (Host.absf (addf (mulf (res_main_while0b_v139 V0) (Host.dotGeneral dot_S2x4x64x128_S2x4x128_S2x4x64_3_2_2_n_01_01 none (res_main_while0b_v114 V0) (V0 (Proc.devRef .tc main_v82_8)))) (Host.reduceAdd (res_main_while0b_v141 V0) (constant S_ .f32 0x00000000#32) reducesTo_S2x4x64x64_S2x4x64_d3 h_S_)) : (Proc.devRef .tc main_while0b_v152 : DevRef τ sig).ty.Contents (Elt F)) = Cert.PromptRefIdeal.Step.b69 j s := by
  unfold Cert.PromptRefIdeal.Step.b69
  rw [← al_68 h]
  try rfl
set_option maxRecDepth 8192 in
theorem al_70 (h : Holds V0 s j) : (Host.negf (res_main_while0b_v133 V0) : (Proc.devRef .tc main_while0b_v153 : DevRef τ sig).ty.Contents (Elt F)) = Cert.PromptRefIdeal.Step.b70 j s := by
  unfold Cert.PromptRefIdeal.Step.b70
  rw [← al_49 h]
  try rfl
set_option maxRecDepth 8192 in
theorem al_71 (h : Holds V0 s j) : (Host.exp (Host.negf (res_main_while0b_v133 V0)) : (Proc.devRef .tc main_while0b_v154 : DevRef τ sig).ty.Contents (Elt F)) = Cert.PromptRefIdeal.Step.b71 j s := by
  unfold Cert.PromptRefIdeal.Step.b71
  rw [← al_70 h]
  try rfl
set_option maxRecDepth 8192 in
theorem al_72 (h : Holds V0 s j) : (maximumf (Host.absf (addf (mulf (res_main_while0b_v139 V0) (Host.dotGeneral dot_S2x4x64x128_S2x4x128_S2x4x64_3_2_2_n_01_01 none (res_main_while0b_v114 V0) (V0 (Proc.devRef .tc main_v82_8)))) (Host.reduceAdd (res_main_while0b_v141 V0) (constant S_ .f32 0x00000000#32) reducesTo_S2x4x64x64_S2x4x64_d3 h_S_))) (Host.exp (Host.negf (res_main_while0b_v133 V0))) : (Proc.devRef .tc main_while0b_v155 : DevRef τ sig).ty.Contents (Elt F)) = Cert.PromptRefIdeal.Step.b72 j s := by
  unfold Cert.PromptRefIdeal.Step.b72
  rw [← al_69 h, ← al_71 h]
  try rfl
set_option maxRecDepth 8192 in
theorem al_73 (h : Holds V0 s j) : (broadcastInDim S2x4x64x1 ![0, 1, 2] bcast_S2x4x64_S2x4x64x1_0_1_2 (maximumf (Host.absf (addf (mulf (res_main_while0b_v139 V0) (Host.dotGeneral dot_S2x4x64x128_S2x4x128_S2x4x64_3_2_2_n_01_01 none (res_main_while0b_v114 V0) (V0 (Proc.devRef .tc main_v82_8)))) (Host.reduceAdd (res_main_while0b_v141 V0) (constant S_ .f32 0x00000000#32) reducesTo_S2x4x64x64_S2x4x64_d3 h_S_))) (Host.exp (Host.negf (res_main_while0b_v133 V0)))) : (Proc.devRef .tc main_while0b_v156 : DevRef τ sig).ty.Contents (Elt F)) = Cert.PromptRefIdeal.Step.b73 j s := by
  unfold Cert.PromptRefIdeal.Step.b73
  rw [← al_72 h]
  try rfl
set_option maxRecDepth 8192 in
theorem al_74 (h : Holds V0 s j) : (broadcastInDim S2x4x64x128 ![0, 1, 2, 3] bcast_S2x4x64x1_S2x4x64x128_0_1_2_3 (broadcastInDim S2x4x64x1 ![0, 1, 2] bcast_S2x4x64_S2x4x64x1_0_1_2 (maximumf (Host.absf (addf (mulf (res_main_while0b_v139 V0) (Host.dotGeneral dot_S2x4x64x128_S2x4x128_S2x4x64_3_2_2_n_01_01 none (res_main_while0b_v114 V0) (V0 (Proc.devRef .tc main_v82_8)))) (Host.reduceAdd (res_main_while0b_v141 V0) (constant S_ .f32 0x00000000#32) reducesTo_S2x4x64x64_S2x4x64_d3 h_S_))) (Host.exp (Host.negf (res_main_while0b_v133 V0))))) : (Proc.devRef .tc main_while0b_v157 : DevRef τ sig).ty.Contents (Elt F)) = Cert.PromptRefIdeal.Step.b74 j s := by
  unfold Cert.PromptRefIdeal.Step.b74
  rw [← al_73 h]
  try rfl
set_option maxRecDepth 8192 in
theorem al_75 (h : Holds V0 s j) : (Host.divf (addf (mulf (broadcastInDim S2x4x64x128 ![0, 1, 2, 3] bcast_S2x4x64x1_S2x4x64x128_0_1_2_3 (broadcastInDim S2x4x64x1 ![0, 1, 2] bcast_S2x4x64_S2x4x64x1_0_1_2 (res_main_while0b_v139 V0))) (Host.dotGeneral dot_S2x4x64x128_S2x4x128x128_S2x4x64x128_3_2_2_3_01_01 none (res_main_while0b_v114 V0) (V0 (Proc.devRef .tc main_v82_7)))) (Host.dotGeneral dot_S2x4x64x64_S2x4x64x128_S2x4x64x128_3_2_2_3_01_01 none (res_main_while0b_v141 V0) (res_main_while0b_v116 V0))) (broadcastInDim S2x4x64x128 ![0, 1, 2, 3] bcast_S2x4x64x1_S2x4x64x128_0_1_2_3 (broadcastInDim S2x4x64x1 ![0, 1, 2] bcast_S2x4x64_S2x4x64x1_0_1_2 (maximumf (Host.absf (addf (mulf (res_main_while0b_v139 V0) (Host.dotGeneral dot_S2x4x64x128_S2x4x128_S2x4x64_3_2_2_n_01_01 none (res_main_while0b_v114 V0) (V0 (Proc.devRef .tc main_v82_8)))) (Host.reduceAdd (res_main_while0b_v141 V0) (constant S_ .f32 0x00000000#32) reducesTo_S2x4x64x64_S2x4x64_d3 h_S_))) (Host.exp (Host.negf (res_main_while0b_v133 V0)))))) : (Proc.devRef .tc main_while0b_v158 : DevRef τ sig).ty.Contents (Elt F)) = Cert.PromptRefIdeal.Step.b75 j s := by
  unfold Cert.PromptRefIdeal.Step.b75
  rw [← al_63 h, ← al_74 h]
  try rfl
set_option maxRecDepth 8192 in
theorem al_76 (h : Holds V0 s j) : (extractStridedSlice S2x4x1 ![0, 0, 63] (res_main_while0b_v119 V0) slices_S2x4x64_S2x4x1_0_0_63 : (Proc.devRef .tc main_while0b_v159 : DevRef τ sig).ty.Contents (Elt F)) = Cert.PromptRefIdeal.Step.b76 j s := by
  unfold Cert.PromptRefIdeal.Step.b76
  rw [← al_30 h]
  try rfl
set_option maxRecDepth 8192 in
theorem al_77 (h : Holds V0 s j) : (res_main_while0b_v160 V0 : (Proc.devRef .tc main_while0b_v160 : DevRef τ sig).ty.Contents (Elt F)) = Cert.PromptRefIdeal.Step.b77 j s := by
  unfold res_main_while0b_v160 Cert.PromptRefIdeal.Step.b77
  rw [← al_76 h]
  try rfl
set_option maxRecDepth 8192 in
theorem al_78 (h : Holds V0 s j) : (broadcastInDim S2x4x1 ![0, 1] bcast_S2x4_S2x4x1_0_1 (res_main_while0b_v160 V0) : (Proc.devRef .tc main_while0b_v161 : DevRef τ sig).ty.Contents (Elt F)) = Cert.PromptRefIdeal.Step.b78 j s := by
  unfold Cert.PromptRefIdeal.Step.b78
  rw [← al_77 h]
  try rfl
set_option maxRecDepth 8192 in
theorem al_79 (h : Holds V0 s j) : (broadcastInDim S2x4x64 ![0, 1, 2] bcast_S2x4x1_S2x4x64_0_1_2 (broadcastInDim S2x4x1 ![0, 1] bcast_S2x4_S2x4x1_0_1 (res_main_while0b_v160 V0)) : (Proc.devRef .tc main_while0b_v162 : DevRef τ sig).ty.Contents (Elt F)) = Cert.PromptRefIdeal.Step.b79 j s := by
  unfold Cert.PromptRefIdeal.Step.b79
  rw [← al_78 h]
  try rfl
set_option maxRecDepth 8192 in
theorem al_80 (h : Holds V0 s j) : (subf (broadcastInDim S2x4x64 ![0, 1, 2] bcast_S2x4x1_S2x4x64_0_1_2 (broadcastInDim S2x4x1 ![0, 1] bcast_S2x4_S2x4x1_0_1 (res_main_while0b_v160 V0))) (res_main_while0b_v119 V0) : (Proc.devRef .tc main_while0b_v163 : DevRef τ sig).ty.Contents (Elt F)) = Cert.PromptRefIdeal.Step.b80 j s := by
  unfold Cert.PromptRefIdeal.Step.b80
  rw [← al_79 h, ← al_30 h]
  try rfl
set_option maxRecDepth 8192 in
theorem al_81 (h : Holds V0 s j) : (res_main_while0b_v164 V0 : (Proc.devRef .tc main_while0b_v164 : DevRef τ sig).ty.Contents (Elt F)) = Cert.PromptRefIdeal.Step.b81 j s := by
  unfold res_main_while0b_v164 Cert.PromptRefIdeal.Step.b81
  rw [← al_80 h, ← al_22 h]
  try rfl
set_option maxRecDepth 8192 in
theorem al_82 (h : Holds V0 s j) : (addf (res_main_while0b_v160 V0) (V0 (Proc.devRef .tc main_v82_9)) : (Proc.devRef .tc main_while0b_v165 : DevRef τ sig).ty.Contents (Elt F)) = Cert.PromptRefIdeal.Step.b82 j s := by
  unfold Cert.PromptRefIdeal.Step.b82
  rw [← al_77 h, h.f_9]
  try rfl
set_option maxRecDepth 8192 in
theorem al_83 (h : Holds V0 s j) : (constant S_ .f32 0xFF800000#32 : (Proc.devRef .tc main_while0b_cst_24 : DevRef τ sig).ty.Contents (Elt F)) = Cert.PromptRefIdeal.Step.b83 j s := by
  unfold Cert.PromptRefIdeal.Step.b83
  rfl
set_option maxRecDepth 8192 in
theorem al_84 (h : Holds V0 s j) : (Host.reduce FloatOps.maximumf (res_main_while0b_v164 V0) (constant S_ .f32 0xFF800000#32) reducesTo_S2x4x64_S2x4_d2 h_S_ : (Proc.devRef .tc main_while0b_v166 : DevRef τ sig).ty.Contents (Elt F)) = Cert.PromptRefIdeal.Step.b84 j s := by
  unfold Cert.PromptRefIdeal.Step.b84
  rw [← al_81 h, ← al_83 h]
  try rfl
set_option maxRecDepth 8192 in
theorem al_85 (h : Holds V0 s j) : (res_main_while0b_v167 V0 : (Proc.devRef .tc main_while0b_v167 : DevRef τ sig).ty.Contents (Elt F)) = Cert.PromptRefIdeal.Step.b85 j s := by
  unfold res_main_while0b_v167 Cert.PromptRefIdeal.Step.b85
  rw [← al_82 h, ← al_84 h]
  try rfl
set_option maxRecDepth 8192 in
theorem al_86 (h : Holds V0 s j) : (addf (res_main_while0b_v160 V0) (V0 (Proc.devRef .tc main_v82_9)) : (Proc.devRef .tc main_while0b_v168 : DevRef τ sig).ty.Contents (Elt F)) = Cert.PromptRefIdeal.Step.b86 j s := by
  unfold Cert.PromptRefIdeal.Step.b86
  rw [← al_77 h, h.f_9]
  try rfl
set_option maxRecDepth 8192 in
theorem al_87 (h : Holds V0 s j) : (subf (addf (res_main_while0b_v160 V0) (V0 (Proc.devRef .tc main_v82_9))) (res_main_while0b_v167 V0) : (Proc.devRef .tc main_while0b_v169 : DevRef τ sig).ty.Contents (Elt F)) = Cert.PromptRefIdeal.Step.b87 j s := by
  unfold Cert.PromptRefIdeal.Step.b87
  rw [← al_86 h, ← al_85 h]
  try rfl
set_option maxRecDepth 8192 in
theorem al_88 (h : Holds V0 s j) : (res_main_while0b_v170 V0 : (Proc.devRef .tc main_while0b_v170 : DevRef τ sig).ty.Contents (Elt F)) = Cert.PromptRefIdeal.Step.b88 j s := by
  unfold res_main_while0b_v170 Cert.PromptRefIdeal.Step.b88
  rw [← al_87 h]
  try rfl
set_option maxRecDepth 8192 in
theorem al_89 (h : Holds V0 s j) : (broadcastInDim S2x4x1 ![0, 1] bcast_S2x4_S2x4x1_0_1 (res_main_while0b_v167 V0) : (Proc.devRef .tc main_while0b_v171 : DevRef τ sig).ty.Contents (Elt F)) = Cert.PromptRefIdeal.Step.b89 j s := by
  unfold Cert.PromptRefIdeal.Step.b89
  rw [← al_85 h]
  try rfl
set_option maxRecDepth 8192 in
theorem al_90 (h : Holds V0 s j) : (broadcastInDim S2x4x64 ![0, 1, 2] bcast_S2x4x1_S2x4x64_0_1_2 (broadcastInDim S2x4x1 ![0, 1] bcast_S2x4_S2x4x1_0_1 (res_main_while0b_v167 V0)) : (Proc.devRef .tc main_while0b_v172 : DevRef τ sig).ty.Contents (Elt F)) = Cert.PromptRefIdeal.Step.b90 j s := by
  unfold Cert.PromptRefIdeal.Step.b90
  rw [← al_89 h]
  try rfl
set_option maxRecDepth 8192 in
theorem al_91 (h : Holds V0 s j) : (subf (res_main_while0b_v164 V0) (broadcastInDim S2x4x64 ![0, 1, 2] bcast_S2x4x1_S2x4x64_0_1_2 (broadcastInDim S2x4x1 ![0, 1] bcast_S2x4_S2x4x1_0_1 (res_main_while0b_v167 V0))) : (Proc.devRef .tc main_while0b_v173 : DevRef τ sig).ty.Contents (Elt F)) = Cert.PromptRefIdeal.Step.b91 j s := by
  unfold Cert.PromptRefIdeal.Step.b91
  rw [← al_81 h, ← al_90 h]
  try rfl
set_option maxRecDepth 8192 in
theorem al_92 (h : Holds V0 s j) : (res_main_while0b_v174 V0 : (Proc.devRef .tc main_while0b_v174 : DevRef τ sig).ty.Contents (Elt F)) = Cert.PromptRefIdeal.Step.b92 j s := by
  unfold res_main_while0b_v174 Cert.PromptRefIdeal.Step.b92
  rw [← al_91 h]
  try rfl
set_option maxRecDepth 8192 in
theorem al_93 (h : Holds V0 s j) : (broadcastInDim S2x4x1x1 ![0, 1] bcast_S2x4_S2x4x1x1_0_1 (res_main_while0b_v170 V0) : (Proc.devRef .tc main_while0b_v175 : DevRef τ sig).ty.Contents (Elt F)) = Cert.PromptRefIdeal.Step.b93 j s := by
  unfold Cert.PromptRefIdeal.Step.b93
  rw [← al_88 h]
  try rfl
set_option maxRecDepth 8192 in
theorem al_94 (h : Holds V0 s j) : (broadcastInDim S2x4x128x128 ![0, 1, 2, 3] bcast_S2x4x1x1_S2x4x128x128_0_1_2_3 (broadcastInDim S2x4x1x1 ![0, 1] bcast_S2x4_S2x4x1x1_0_1 (res_main_while0b_v170 V0)) : (Proc.devRef .tc main_while0b_v176 : DevRef τ sig).ty.Contents (Elt F)) = Cert.PromptRefIdeal.Step.b94 j s := by
  unfold Cert.PromptRefIdeal.Step.b94
  rw [← al_93 h]
  try rfl
set_option maxRecDepth 8192 in
theorem al_95 (h : Holds V0 s j) : (mulf (broadcastInDim S2x4x128x128 ![0, 1, 2, 3] bcast_S2x4x1x1_S2x4x128x128_0_1_2_3 (broadcastInDim S2x4x1x1 ![0, 1] bcast_S2x4_S2x4x1x1_0_1 (res_main_while0b_v170 V0))) (V0 (Proc.devRef .tc main_v82_7)) : (Proc.devRef .tc main_while0b_v177 : DevRef τ sig).ty.Contents (Elt F)) = Cert.PromptRefIdeal.Step.b95 j s := by
  unfold Cert.PromptRefIdeal.Step.b95
  rw [← al_94 h, h.f_7]
  try rfl
set_option maxRecDepth 8192 in
theorem al_96 (h : Holds V0 s j) : (broadcastInDim S2x4x64x1 ![0, 1, 2] bcast_S2x4x64_S2x4x64x1_0_1_2 (res_main_while0b_v174 V0) : (Proc.devRef .tc main_while0b_v178 : DevRef τ sig).ty.Contents (Elt F)) = Cert.PromptRefIdeal.Step.b96 j s := by
  unfold Cert.PromptRefIdeal.Step.b96
  rw [← al_92 h]
  try rfl
set_option maxRecDepth 8192 in
theorem al_97 (h : Holds V0 s j) : (broadcastInDim S2x4x64x128 ![0, 1, 2, 3] bcast_S2x4x64x1_S2x4x64x128_0_1_2_3 (broadcastInDim S2x4x64x1 ![0, 1, 2] bcast_S2x4x64_S2x4x64x1_0_1_2 (res_main_while0b_v174 V0)) : (Proc.devRef .tc main_while0b_v179 : DevRef τ sig).ty.Contents (Elt F)) = Cert.PromptRefIdeal.Step.b97 j s := by
  unfold Cert.PromptRefIdeal.Step.b97
  rw [← al_96 h]
  try rfl
set_option maxRecDepth 8192 in
theorem al_98 (h : Holds V0 s j) : (mulf (broadcastInDim S2x4x64x128 ![0, 1, 2, 3] bcast_S2x4x64x1_S2x4x64x128_0_1_2_3 (broadcastInDim S2x4x64x1 ![0, 1, 2] bcast_S2x4x64_S2x4x64x1_0_1_2 (res_main_while0b_v174 V0))) (res_main_while0b_v115 V0) : (Proc.devRef .tc main_while0b_v180 : DevRef τ sig).ty.Contents (Elt F)) = Cert.PromptRefIdeal.Step.b98 j s := by
  unfold Cert.PromptRefIdeal.Step.b98
  rw [← al_97 h, ← al_11 h]
  try rfl
set_option maxRecDepth 8192 in
theorem al_99 (h : Holds V0 s j) : (Host.dotGeneral dot_S2x4x64x128_S2x4x64x128_S2x4x128x128_2_2_3_3_01_01 none (mulf (broadcastInDim S2x4x64x128 ![0, 1, 2, 3] bcast_S2x4x64x1_S2x4x64x128_0_1_2_3 (broadcastInDim S2x4x64x1 ![0, 1, 2] bcast_S2x4x64_S2x4x64x1_0_1_2 (res_main_while0b_v174 V0))) (res_main_while0b_v115 V0)) (res_main_while0b_v116 V0) : (Proc.devRef .tc main_while0b_v181 : DevRef τ sig).ty.Contents (Elt F)) = Cert.PromptRefIdeal.Step.b99 j s := by
  unfold Cert.PromptRefIdeal.Step.b99
  rw [← al_98 h, ← al_17 h]
  try rfl
set_option maxRecDepth 8192 in
theorem al_100 (h : Holds V0 s j) : (addf (mulf (broadcastInDim S2x4x128x128 ![0, 1, 2, 3] bcast_S2x4x1x1_S2x4x128x128_0_1_2_3 (broadcastInDim S2x4x1x1 ![0, 1] bcast_S2x4_S2x4x1x1_0_1 (res_main_while0b_v170 V0))) (V0 (Proc.devRef .tc main_v82_7))) (Host.dotGeneral dot_S2x4x64x128_S2x4x64x128_S2x4x128x128_2_2_3_3_01_01 none (mulf (broadcastInDim S2x4x64x128 ![0, 1, 2, 3] bcast_S2x4x64x1_S2x4x64x128_0_1_2_3 (broadcastInDim S2x4x64x1 ![0, 1, 2] bcast_S2x4x64_S2x4x64x1_0_1_2 (res_main_while0b_v174 V0))) (res_main_while0b_v115 V0)) (res_main_while0b_v116 V0)) : (Proc.devRef .tc main_while0b_v182 : DevRef τ sig).ty.Contents (Elt F)) = Cert.PromptRefIdeal.Step.b100 j s := by
  unfold Cert.PromptRefIdeal.Step.b100
  rw [← al_95 h, ← al_99 h]
  try rfl
set_option maxRecDepth 8192 in
theorem al_101 (h : Holds V0 s j) : (broadcastInDim S2x4x1 ![0, 1] bcast_S2x4_S2x4x1_0_1 (res_main_while0b_v170 V0) : (Proc.devRef .tc main_while0b_v183 : DevRef τ sig).ty.Contents (Elt F)) = Cert.PromptRefIdeal.Step.b101 j s := by
  unfold Cert.PromptRefIdeal.Step.b101
  rw [← al_88 h]
  try rfl
set_option maxRecDepth 8192 in
theorem al_102 (h : Holds V0 s j) : (broadcastInDim S2x4x128 ![0, 1, 2] bcast_S2x4x1_S2x4x128_0_1_2 (broadcastInDim S2x4x1 ![0, 1] bcast_S2x4_S2x4x1_0_1 (res_main_while0b_v170 V0)) : (Proc.devRef .tc main_while0b_v184 : DevRef τ sig).ty.Contents (Elt F)) = Cert.PromptRefIdeal.Step.b102 j s := by
  unfold Cert.PromptRefIdeal.Step.b102
  rw [← al_101 h]
  try rfl
set_option maxRecDepth 8192 in
theorem al_103 (h : Holds V0 s j) : (mulf (broadcastInDim S2x4x128 ![0, 1, 2] bcast_S2x4x1_S2x4x128_0_1_2 (broadcastInDim S2x4x1 ![0, 1] bcast_S2x4_S2x4x1_0_1 (res_main_while0b_v170 V0))) (V0 (Proc.devRef .tc main_v82_8)) : (Proc.devRef .tc main_while0b_v185 : DevRef τ sig).ty.Contents (Elt F)) = Cert.PromptRefIdeal.Step.b103 j s := by
  unfold Cert.PromptRefIdeal.Step.b103
  rw [← al_102 h, h.f_8]
  try rfl
set_option maxRecDepth 8192 in
theorem al_104 (h : Holds V0 s j) : (Host.dotGeneral dot_S2x4x64_S2x4x64x128_S2x4x128_2_2_n_3_01_01 none (res_main_while0b_v174 V0) (res_main_while0b_v115 V0) : (Proc.devRef .tc main_while0b_v186 : DevRef τ sig).ty.Contents (Elt F)) = Cert.PromptRefIdeal.Step.b104 j s := by
  unfold Cert.PromptRefIdeal.Step.b104
  rw [← al_92 h, ← al_11 h]
  try rfl
set_option maxRecDepth 8192 in
theorem al_105 (h : Holds V0 s j) : (addf (mulf (broadcastInDim S2x4x128 ![0, 1, 2] bcast_S2x4x1_S2x4x128_0_1_2 (broadcastInDim S2x4x1 ![0, 1] bcast_S2x4_S2x4x1_0_1 (res_main_while0b_v170 V0))) (V0 (Proc.devRef .tc main_v82_8))) (Host.dotGeneral dot_S2x4x64_S2x4x64x128_S2x4x128_2_2_n_3_01_01 none (res_main_while0b_v174 V0) (res_main_while0b_v115 V0)) : (Proc.devRef .tc main_while0b_v187 : DevRef τ sig).ty.Contents (Elt F)) = Cert.PromptRefIdeal.Step.b105 j s := by
  unfold Cert.PromptRefIdeal.Step.b105
  rw [← al_103 h, ← al_104 h]
  try rfl
set_option maxRecDepth 8192 in
theorem al_106 (h : Holds V0 s j) : (broadcastInDim S1x2x4x64x128 ![1, 2, 3, 4] bcast_S2x4x64x128_S1x2x4x64x128_1_2_3_4 (Host.divf (addf (mulf (broadcastInDim S2x4x64x128 ![0, 1, 2, 3] bcast_S2x4x64x1_S2x4x64x128_0_1_2_3 (broadcastInDim S2x4x64x1 ![0, 1, 2] bcast_S2x4x64_S2x4x64x1_0_1_2 (res_main_while0b_v139 V0))) (Host.dotGeneral dot_S2x4x64x128_S2x4x128x128_S2x4x64x128_3_2_2_3_01_01 none (res_main_while0b_v114 V0) (V0 (Proc.devRef .tc main_v82_7)))) (Host.dotGeneral dot_S2x4x64x64_S2x4x64x128_S2x4x64x128_3_2_2_3_01_01 none (res_main_while0b_v141 V0) (res_main_while0b_v116 V0))) (broadcastInDim S2x4x64x128 ![0, 1, 2, 3] bcast_S2x4x64x1_S2x4x64x128_0_1_2_3 (broadcastInDim S2x4x64x1 ![0, 1, 2] bcast_S2x4x64_S2x4x64x1_0_1_2 (maximumf (Host.absf (addf (mulf (res_main_while0b_v139 V0) (Host.dotGeneral dot_S2x4x64x128_S2x4x128_S2x4x64_3_2_2_n_01_01 none (res_main_while0b_v114 V0) (V0 (Proc.devRef .tc main_v82_8)))) (Host.reduceAdd (res_main_while0b_v141 V0) (constant S_ .f32 0x00000000#32) reducesTo_S2x4x64x64_S2x4x64_d3 h_S_))) (Host.exp (Host.negf (res_main_while0b_v133 V0))))))) : (Proc.devRef .tc main_while0b_call10_v0 : DevRef τ sig).ty.Contents (Elt F)) = Cert.PromptRefIdeal.Step.b106 j s := by
  unfold Cert.PromptRefIdeal.Step.b106
  rw [← al_75 h]
  try rfl
set_option maxRecDepth 8192 in
theorem al_107 (h : Holds V0 s j) : (constantI S_ 32 0#32 : (Proc.devRef .tc main_while0b_call10_c : DevRef τ sig).ty.Contents (Elt F)) = Cert.PromptRefIdeal.Step.b107 j s := by
  unfold Cert.PromptRefIdeal.Step.b107
  rfl
set_option maxRecDepth 8192 in
theorem al_108 (h : Holds V0 s j) : (constantI S_ 32 0#32 : (Proc.devRef .tc main_while0b_call10_c_0 : DevRef τ sig).ty.Contents (Elt F)) = Cert.PromptRefIdeal.Step.b108 j s := by
  unfold Cert.PromptRefIdeal.Step.b108
  rfl
set_option maxRecDepth 8192 in
theorem al_109 (h : Holds V0 s j) : (constantI S_ 32 0#32 : (Proc.devRef .tc main_while0b_call10_c_1 : DevRef τ sig).ty.Contents (Elt F)) = Cert.PromptRefIdeal.Step.b109 j s := by
  unfold Cert.PromptRefIdeal.Step.b109
  rfl
set_option maxRecDepth 8192 in
theorem al_110 (h : Holds V0 s j) : (constantI S_ 32 0#32 : (Proc.devRef .tc main_while0b_call10_c_2 : DevRef τ sig).ty.Contents (Elt F)) = Cert.PromptRefIdeal.Step.b110 j s := by
  unfold Cert.PromptRefIdeal.Step.b110
  rfl
set_option maxRecDepth 8192 in
theorem al_111 (h : Holds V0 s j) : (Host.dynamicUpdateSlice (V0 (Proc.devRef .tc main_v82_10)) (broadcastInDim S1x2x4x64x128 ![1, 2, 3, 4] bcast_S2x4x64x128_S1x2x4x64x128_1_2_3_4 (Host.divf (addf (mulf (broadcastInDim S2x4x64x128 ![0, 1, 2, 3] bcast_S2x4x64x1_S2x4x64x128_0_1_2_3 (broadcastInDim S2x4x64x1 ![0, 1, 2] bcast_S2x4x64_S2x4x64x1_0_1_2 (res_main_while0b_v139 V0))) (Host.dotGeneral dot_S2x4x64x128_S2x4x128x128_S2x4x64x128_3_2_2_3_01_01 none (res_main_while0b_v114 V0) (V0 (Proc.devRef .tc main_v82_7)))) (Host.dotGeneral dot_S2x4x64x64_S2x4x64x128_S2x4x64x128_3_2_2_3_01_01 none (res_main_while0b_v141 V0) (res_main_while0b_v116 V0))) (broadcastInDim S2x4x64x128 ![0, 1, 2, 3] bcast_S2x4x64x1_S2x4x64x128_0_1_2_3 (broadcastInDim S2x4x64x1 ![0, 1, 2] bcast_S2x4x64_S2x4x64x1_0_1_2 (maximumf (Host.absf (addf (mulf (res_main_while0b_v139 V0) (Host.dotGeneral dot_S2x4x64x128_S2x4x128_S2x4x64_3_2_2_n_01_01 none (res_main_while0b_v114 V0) (V0 (Proc.devRef .tc main_v82_8)))) (Host.reduceAdd (res_main_while0b_v141 V0) (constant S_ .f32 0x00000000#32) reducesTo_S2x4x64x64_S2x4x64_d3 h_S_))) (Host.exp (Host.negf (res_main_while0b_v133 V0)))))))) (fun k => (((![V0 (Proc.devRef .tc main_v82_6), constantI S_ 32 0#32, constantI S_ 32 0#32, constantI S_ 32 0#32, constantI S_ 32 0#32] : Fin 5 → (⟨S_, .i32⟩ : BufTy).Contents (Elt F))) k (Shape.Idx.first h_S_)).toInt) updateFits_S64x2x4x64x128_S1x2x4x64x128 : (Proc.devRef .tc main_while0b_v188 : DevRef τ sig).ty.Contents (Elt F)) = Cert.PromptRefIdeal.Step.b111 j s := by
  unfold Cert.PromptRefIdeal.Step.b111
  rw [← al_106 h, ← al_107 h, ← al_108 h, ← al_109 h, ← al_110 h, h.f_10, h.n_6]
  try rfl

/-! One trip's step of the carried values is `step`, field by field; a counter steps to the next number. -/

theorem step_7 (h : Holds V0 s j) : step_main_v82_7 V0 = (step j s).main_v82_7 := by
  unfold step_main_v82_7 Cert.PromptRefIdeal.Step.step
  show id (addf (mulf (broadcastInDim S2x4x128x128 ![0, 1, 2, 3] bcast_S2x4x1x1_S2x4x128x128_0_1_2_3 (broadcastInDim S2x4x1x1 ![0, 1] bcast_S2x4_S2x4x1x1_0_1 (res_main_while0b_v170 V0))) (V0 (Proc.devRef .tc main_v82_7))) (Host.dotGeneral dot_S2x4x64x128_S2x4x64x128_S2x4x128x128_2_2_3_3_01_01 none (mulf (broadcastInDim S2x4x64x128 ![0, 1, 2, 3] bcast_S2x4x64x1_S2x4x64x128_0_1_2_3 (broadcastInDim S2x4x64x1 ![0, 1, 2] bcast_S2x4x64_S2x4x64x1_0_1_2 (res_main_while0b_v174 V0))) (res_main_while0b_v115 V0)) (res_main_while0b_v116 V0))) = _
  rw [al_100 h]
  try rfl
theorem step_8 (h : Holds V0 s j) : step_main_v82_8 V0 = (step j s).main_v82_8 := by
  unfold step_main_v82_8 Cert.PromptRefIdeal.Step.step
  show id (addf (mulf (broadcastInDim S2x4x128 ![0, 1, 2] bcast_S2x4x1_S2x4x128_0_1_2 (broadcastInDim S2x4x1 ![0, 1] bcast_S2x4_S2x4x1_0_1 (res_main_while0b_v170 V0))) (V0 (Proc.devRef .tc main_v82_8))) (Host.dotGeneral dot_S2x4x64_S2x4x64x128_S2x4x128_2_2_n_3_01_01 none (res_main_while0b_v174 V0) (res_main_while0b_v115 V0))) = _
  rw [al_105 h]
  try rfl
theorem step_9 (h : Holds V0 s j) : step_main_v82_9 V0 = (step j s).main_v82_9 := by
  unfold step_main_v82_9 Cert.PromptRefIdeal.Step.step
  show id (res_main_while0b_v167 V0) = _
  rw [al_85 h]
  try rfl
theorem step_10 (h : Holds V0 s j) : step_main_v82_10 V0 = (step j s).main_v82_10 := by
  unfold step_main_v82_10 Cert.PromptRefIdeal.Step.step
  show id (Host.dynamicUpdateSlice (V0 (Proc.devRef .tc main_v82_10)) (broadcastInDim S1x2x4x64x128 ![1, 2, 3, 4] bcast_S2x4x64x128_S1x2x4x64x128_1_2_3_4 (Host.divf (addf (mulf (broadcastInDim S2x4x64x128 ![0, 1, 2, 3] bcast_S2x4x64x1_S2x4x64x128_0_1_2_3 (broadcastInDim S2x4x64x1 ![0, 1, 2] bcast_S2x4x64_S2x4x64x1_0_1_2 (res_main_while0b_v139 V0))) (Host.dotGeneral dot_S2x4x64x128_S2x4x128x128_S2x4x64x128_3_2_2_3_01_01 none (res_main_while0b_v114 V0) (V0 (Proc.devRef .tc main_v82_7)))) (Host.dotGeneral dot_S2x4x64x64_S2x4x64x128_S2x4x64x128_3_2_2_3_01_01 none (res_main_while0b_v141 V0) (res_main_while0b_v116 V0))) (broadcastInDim S2x4x64x128 ![0, 1, 2, 3] bcast_S2x4x64x1_S2x4x64x128_0_1_2_3 (broadcastInDim S2x4x64x1 ![0, 1, 2] bcast_S2x4x64_S2x4x64x1_0_1_2 (maximumf (Host.absf (addf (mulf (res_main_while0b_v139 V0) (Host.dotGeneral dot_S2x4x64x128_S2x4x128_S2x4x64_3_2_2_n_01_01 none (res_main_while0b_v114 V0) (V0 (Proc.devRef .tc main_v82_8)))) (Host.reduceAdd (res_main_while0b_v141 V0) (constant S_ .f32 0x00000000#32) reducesTo_S2x4x64x64_S2x4x64_d3 h_S_))) (Host.exp (Host.negf (res_main_while0b_v133 V0)))))))) (fun k => (((![V0 (Proc.devRef .tc main_v82_6), constantI S_ 32 0#32, constantI S_ 32 0#32, constantI S_ 32 0#32, constantI S_ 32 0#32] : Fin 5 → (⟨S_, .i32⟩ : BufTy).Contents (Elt F))) k (Shape.Idx.first h_S_)).toInt) updateFits_S64x2x4x64x128_S1x2x4x64x128) = _
  exact al_111 h
theorem step_6 (h : Holds V0 s j) : step_main_v82_6 V0 = constantI S_ 32 (BitVec.ofNat 32 (j + 1)) := by
  unfold step_main_v82_6
  rw [h.n_6]
  funext i
  show BitVec.ofNat 32 j + 1#32 = BitVec.ofNat 32 (j + 1)
  simp only [BitVec.ofNat_add]

set_option maxRecDepth 8192 in
theorem out_main_v109_holds (h : Holds V0 s j) {x_main_arg0 : (⟨S8448x6400, .f32⟩ : BufTy).Contents (Elt F)} (h_main_arg0 : V0 (Proc.devRef .tc main_arg0) = x_main_arg0) {x_main_arg4 : (⟨S128, .f32⟩ : BufTy).Contents (Elt F)} (h_main_arg4 : V0 (Proc.devRef .tc main_arg4) = x_main_arg4) : out_main_v109 V0 = Cert.PromptRefIdeal.Step.R_main_v109 s x_main_arg0 x_main_arg4 := by
  unfold out_main_v109 Cert.PromptRefIdeal.Step.R_main_v109
  rw [h.f_10, h_main_arg0, h_main_arg4]
  try rfl

set_option maxRecDepth 8192 in
theorem out_main_v110_holds (h : Holds V0 s j) : out_main_v110 V0 = Cert.PromptRefIdeal.Step.R_main_v110 s := by
  unfold out_main_v110 Cert.PromptRefIdeal.Step.R_main_v110
  rw [h.f_7]
  try rfl

set_option maxRecDepth 8192 in
theorem out_main_v111_holds (h : Holds V0 s j) : out_main_v111 V0 = Cert.PromptRefIdeal.Step.R_main_v111 s := by
  unfold out_main_v111 Cert.PromptRefIdeal.Step.R_main_v111
  rw [h.f_8]
  try rfl

set_option maxRecDepth 8192 in
theorem out_main_v113_holds (h : Holds V0 s j) : out_main_v113 V0 = Cert.PromptRefIdeal.Step.R_main_v113 s := by
  unfold out_main_v113 Cert.PromptRefIdeal.Step.R_main_v113
  rw [h.f_9]
  try rfl

/-- One trip keeps the valuation holding: `step` of the state, the same set-up values, the next number. -/
theorem holds_step (h : Holds V0 s j) : Holds (STEP V0) (step j s) (j + 1) where
  f_7 := (STEP_main_v82_7 V0).trans (step_7 h)
  f_8 := (STEP_main_v82_8 V0).trans (step_8 h)
  f_9 := (STEP_main_v82_9 V0).trans (step_9 h)
  f_10 := (STEP_main_v82_10 V0).trans (step_10 h)
  n_6 := (STEP_main_v82_6 V0).trans (step_6 h)
  k_5 := (STEP_main_v82_5 V0).trans h.k_5
  f_0 := (STEP_main_v82_0 V0).trans h.f_0
  f_1 := (STEP_main_v82_1 V0).trans h.f_1
  f_2 := (STEP_main_v82_2 V0).trans h.f_2
  f_3 := (STEP_main_v82_3 V0).trans h.f_3
  f_4 := (STEP_main_v82_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 800000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The results as `step` iterated: every weakly fair execution of `PromptRefIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v109) = Cert.PromptRefIdeal.Step.R_main_v109 (it c 64) (m ((c.tc : Thread nD τ).loc main_arg0)) (m ((c.tc : Thread nD τ).loc main_arg4))
      ∧ r.2.mem ((c.tc : Thread nD τ).loc main_v110) = Cert.PromptRefIdeal.Step.R_main_v110 (it c 64)
      ∧ r.2.mem ((c.tc : Thread nD τ).loc main_v111) = Cert.PromptRefIdeal.Step.R_main_v111 (it c 64)
      ∧ r.2.mem ((c.tc : Thread nD τ).loc main_v113) = Cert.PromptRefIdeal.Step.R_main_v113 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    have hk := holds_iter m c (it c) (h0 c) (hs c) 64
    ⟨(h c).1.trans (out_main_v109_holds hk (iter_main_arg0 m c 64) (iter_main_arg4 m c 64)), (h c).2.1.trans (out_main_v110_holds hk), (h c).2.2.1.trans (out_main_v111_holds hk), (h c).2.2.2.1.trans (out_main_v113_holds hk), (h c).2.2.2.2.1, (h c).2.2.2.2.2.1, (h c).2.2.2.2.2.2.1, (h c).2.2.2.2.2.2.2.1, (h c).2.2.2.2.2.2.2.2⟩) (Value.run m ρ)

end Cert.PromptSteps

end
-- ==== Proof.PromptClaim.lean ====
/- The prompt pair's value claim from the two runs. -/
module

public import proofs.«01_k».proof.Defs
public import proofs.«01_k».proof.Proof.PromptFinal
public import proofs.«01_k».proof.Proof.PromptStepRun
public import Idealize.ShloMosaic.Lib.Claim

@[expose] public section

noncomputable section

open Idealize.ShloMosaic Idealize.ShloMosaic.TcCoe Idealize.SL.Sem

namespace Cert.PromptClaim

/-- The reference's state after a number of trips. -/
def it (m' : (ℓ : Loc Cert.PromptRefIdeal.nD Cert.PromptRefIdeal.τ Cert.PromptRefIdeal.sig) → Buf (Elt Ideal) ℓ)
    (c : Dev Cert.PromptRefIdeal.nD) (n : ℕ) : Cert.PromptRefIdeal.Step.State Ideal :=
  Nat.rec (Cert.PromptSteps.initState m' c) (fun k s => Cert.PromptRefIdeal.Step.step k s) n

/-- After any number of trips it is that of the kernel's arguments. -/
theorem state (m : (ℓ : Loc Cert.PromptIdeal.nD Cert.PromptIdeal.τ Cert.PromptIdeal.sig) → Buf (Elt Ideal) ℓ)
    (m' : (ℓ : Loc Cert.PromptRefIdeal.nD Cert.PromptRefIdeal.τ Cert.PromptRefIdeal.sig) → Buf (Elt Ideal) ℓ)
    (c : Dev Cert.PromptIdeal.nD) (n : ℕ)
    (h0 : m' ((c.tc : Thread Cert.PromptRefIdeal.nD Cert.PromptRefIdeal.τ).loc Cert.PromptRefIdeal.main_arg0) = Cert.PromptBlocks.aU m c)
    (h1 : m' ((c.tc : Thread Cert.PromptRefIdeal.nD Cert.PromptRefIdeal.τ).loc Cert.PromptRefIdeal.main_arg1) = Cert.PromptBlocks.aG m c)
    (h2 : m' ((c.tc : Thread Cert.PromptRefIdeal.nD Cert.PromptRefIdeal.τ).loc Cert.PromptRefIdeal.main_arg2) = Cert.PromptBlocks.aW m c)
    (h3 : m' ((c.tc : Thread Cert.PromptRefIdeal.nD Cert.PromptRefIdeal.τ).loc Cert.PromptRefIdeal.main_arg3) = Cert.PromptBlocks.aB m c) :
    it m' c n = Cert.PromptModel.state (Cert.PromptBlocks.aU m c) (Cert.PromptBlocks.aG m c) (Cert.PromptBlocks.aW m c) (Cert.PromptBlocks.aB m c) n := by
  unfold it Cert.PromptSteps.initState Cert.PromptModel.state
  rw [h0, h1, h2, h3]

theorem algebraic : Cert.algebraic_PromptIdeal_PromptRefIdeal := by
  pair_intro
  · run_from Cert.PromptIdeal.Value.run_blocks m g
  · have e : ∀ c : Dev Cert.PromptIdeal.nD, _ := fun c => state m m' c 64 (hagree c).1 (hagree c).2.1 (hagree c).2.2.1 (hagree c).2.2.2.1
    run_from Cert.PromptSteps.run_iter m' g' (it m') (fun _ => rfl) (fun _ _ => rfl)
    · exact (congrArg (fun s => Cert.PromptRefIdeal.Step.R_main_v109 s _ _) (e c)).trans (Cert.PromptFinal.final16 m c).symm
    · exact (congrArg Cert.PromptRefIdeal.Step.R_main_v110 (e c)).trans (Cert.PromptFinal.final17 m c).symm
    · exact (congrArg Cert.PromptRefIdeal.Step.R_main_v111 (e c)).trans (Cert.PromptFinal.final18 m c).symm
    · exact (congrArg Cert.PromptRefIdeal.Step.R_main_v113 (e c)).trans (Cert.PromptFinal.final19 m c).symm

end Cert.PromptClaim

end
-- ==== Proof.FfnMath.lean ====
/- The feed-forward block read at an index: the arithmetic one row of it computes, the kernel's two payloads and the
   reference's composed term each equal to it. -/
module

public import proofs.«01_k».proof.Proof.Gen.FfnIdeal.Skeleton
public import proofs.«01_k».proof.Proof.Gen.FfnRefIdeal.Read
public import Idealize.ShloMosaic.Lib.Pointwise

@[expose] public section

set_option maxRecDepth 16384

noncomputable section

open Idealize.ShloMosaic Idealize.ShloMosaic.TcCoe Idealize.SL.Sem

namespace Cert.FfnMath

/-- One element of a row divided by the row's root mean square and scaled: `s` is the row's sum of squares. -/
def scaled (x s g : EReal) : EReal :=
  x * Ideal.rsqrt (Ideal.div s (Ideal.ofBits .f32 0x45000000#32) + Ideal.ofBits .f32 0x358637BD#32) * g

/-- Half of `silu a * b`, in the order the kernel multiplies. -/
def halfSilu (a b : EReal) : EReal := Ideal.ofBits .f32 0x3F000000#32 * a * Ideal.logistic a * b

theorem half_eq : Ideal.ofBits .f32 0x3F000000#32 = ((1 / 2 : ℝ) : EReal) := by
  simp [Ideal.ofBits, Ideal.ieee]
  rw [← EReal.coe_mul]
  norm_num

/-- Multiplying by one half goes inside a finite sum of extended reals. -/
theorem half_mul_sum {n : ℕ} (f : Fin n → EReal) :
    Ideal.ofBits .f32 0x3F000000#32 * ∑ k, f k = ∑ k, Ideal.ofBits .f32 0x3F000000#32 * f k := by
  rw [half_eq]
  induction n with
  | zero => simp
  | succ n ih =>
    rw [Fin.sum_univ_succ, Fin.sum_univ_succ,
      EReal.left_distrib_of_nonneg_of_ne_top (by exact_mod_cast (by norm_num : (0 : ℝ) ≤ 1 / 2)) (EReal.coe_ne_top _), ih]

section Kernel
open Cert.FfnIdeal Cert.FfnIdeal.Gen

/-- The normalised block at row `r`, column `k`. -/
theorem pay1_at (x : FVec Ideal S768x2048 .f32) (g : FVec Ideal S1x2048 .f32) (r : Fin 768) (k : Fin 2048) :
    k0_pay1 (F := Ideal) x g (ix2 r k)
      = scaled (x (ix2 r k)) (∑ l : Fin 2048, x (ix2 r l) * x (ix2 r l)) (g (ix2 0 k)) := by
  pointwise [k0_pay1, scaled]

/-- One step's contribution added to what the output block holds. -/
theorem pay2_at (n : FVec Ideal S768x2048 .bf16) (wa wb : FVec Ideal S1x2048x512 .bf16) (o : FVec Ideal S768x2048 .f32)
    (w : FVec Ideal S1x512x2048 .bf16) (r : Fin 768) (d : Fin 2048) :
    k0_pay2 (F := Ideal) n wa wb o w (ix2 r d)
      = o (ix2 r d) + ∑ f : Fin 512, halfSilu (∑ k : Fin 2048, n (ix2 r k) * wa (ix3 0 k f))
          (∑ k : Fin 2048, n (ix2 r k) * wb (ix3 0 k f)) * w (ix3 0 f d) := by
  pointwise [k0_pay2, halfSilu]

end Kernel

section Reference
open Cert.FfnRefIdeal Cert.FfnRefIdeal.Gen Cert.FfnRefIdeal.Read

/-- The normalised row `r` of the input, against a column `f` of the first layer's input weights. -/
def pre (x : FVec Ideal S8448x2048 .f32) (g : FVec Ideal S2048 .f32) (w13 : FVec Ideal S2x2048x11264 .f32)
    (r : Fin 8448) (f : Fin 11264) : EReal :=
  ∑ k : Fin 2048, scaled (x (ix2 r k)) (∑ l : Fin 2048, x (ix2 r l) * x (ix2 r l)) (g (ix1 k)) * w13 (ix3 0 k f)

/-- Hidden unit `f` of row `r` times its output weight to column `d`. -/
def hid (x : FVec Ideal S8448x2048 .f32) (g : FVec Ideal S2048 .f32) (w13 : FVec Ideal S2x2048x11264 .f32)
    (w2 : FVec Ideal S2x5632x2048 .f32) (r : Fin 8448) (d : Fin 2048) (f : Fin 5632) : EReal :=
  halfSilu (pre x g w13 r ⟨f.val, by omega⟩) (pre x g w13 r ⟨5632 + f.val, by omega⟩) * w2 (ix3 0 f d)

/-- The reference's result at row `r`, column `d`. -/
theorem ref_at (x : FVec Ideal S8448x2048 .f32) (g : FVec Ideal S2048 .f32) (w13 : FVec Ideal S2x2048x11264 .f32)
    (w2 : FVec Ideal S2x5632x2048 .f32) (r : Fin 8448) (d : Fin 2048) :
    val_main_v25 (F := Ideal) x g w13 w2 (ix2 r d) = x (ix2 r d) + ∑ f : Fin 5632, hid x g w13 w2 r d f := by
  pointwise [val_main_v25, val_main_v24, val_main_v23, val_main_v22, val_main_v21, val_main_v20, val_main_v19,
    val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, val_main_cst_2, hid, pre, halfSilu, scaled,
    val_main_call0_v5, val_main_call0_v4, val_main_call0_v3, val_main_call0_v2, val_main_call0_v1, val_main_call0_v0,
    val_main_call0_cst, val_main_call0_cst_0, Ideal.logistic]
  rw [half_mul_sum]
  refine congrArg _ (Finset.sum_congr rfl fun f _ => ?_)
  simp only [mul_assoc]

end Reference
end Cert.FfnMath
-- ==== Proof.FfnValue.lean ====
/- The feed-forward kernel's result array: by induction over the steps of one block of rows, the output block holds the
   input rows plus the hidden units of the tiles met so far; after the last step that is the reference's sum. -/
module

public import proofs.«01_k».proof.Proof.FfnMath
public import proofs.«01_k».proof.Proof.Gen.FfnIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnValue
open Cert.FfnIdeal Cert.FfnIdeal.Gen Cert.FfnMath

variable (m : (ℓ : Loc nD τ sig) → Buf (Elt Ideal) ℓ)

theorem idx : ∀ t : Fin cfg0.N, win0_0.index t = ![t.val / 11, 0] ∧ win0_1.index t = ![0, 0]
    ∧ win0_2.index t = ![0, 0, t.val % 11] ∧ win0_3.index t = ![0, 0, t.val % 11 + 11]
    ∧ win0_4.index t = ![0, t.val % 11, 0] ∧ t.val / 11 < 11 :=
  (by decide +kernel : ∀ t : Fin grid0.N, _)

/-- At a block of rows' first step the output block is one step over the input rows, the scratch the rows normalised. -/
theorem outA (c : Dev nD) (t : Fin cfg0.N) (h : t.val % 11 = 0) :
    outsAt0 m c t.val t.isLt = (k0_pay2 (F := Ideal) (k0_pay1 (F := Ideal) (iblk m c 0 t) (iblk m c 1 t)) (iblk m c 2 t)
      (iblk m c 3 t) (iblk m c 0 t) (iblk m c 4 t), k0_pay1 (F := Ideal) (iblk m c 0 t) (iblk m c 1 t)) := by
  rw [outsAt0_A m c t h]
  frame_out

/-- At a later step it is one step over what the step before left, and the scratch stays. -/
theorem outB (c : Dev nD) (n : ℕ) (hn : n + 1 < cfg0.N) (h : ¬ (n + 1) % 11 = 0) :
    outsAt0 m c (n + 1) hn = (k0_pay2 (F := Ideal) (outsAt0 m c n (Nat.lt_of_succ_lt hn)).2 (iblk m c 2 ⟨n + 1, hn⟩)
      (iblk m c 3 ⟨n + 1, hn⟩) (outsAt0 m c n (Nat.lt_of_succ_lt hn)).1 (iblk m c 4 ⟨n + 1, hn⟩),
      (outsAt0 m c n (Nat.lt_of_succ_lt hn)).2) := by
  rw [show outsAt0 m c (n + 1) hn = _ from outsAt0_B m c ⟨n + 1, hn⟩ h]
  refine Prod.ext ?_ rfl
  frame_out
  simp only [Nat.add_sub_cancel]
  rw [read_unread_whole]

/-- The input rows, the scales and the two weights a run starts from. -/
abbrev argX (c : Dev nD) : FVec Ideal S8448x2048 .f32 := m ((c : Thread nD τ).loc main_arg0)
abbrev argG (c : Dev nD) : FVec Ideal S2048 .f32 := m ((c : Thread nD τ).loc main_arg1)
abbrev argW (c : Dev nD) : FVec Ideal S2x2048x11264 .f32 := m ((c : Thread nD τ).loc main_arg2)
abbrev argV (c : Dev nD) : FVec Ideal S2x5632x2048 .f32 := m ((c : Thread nD τ).loc main_arg3)

/-- Row `r` of block `i`. -/
abbrev row (i : Fin 11) (r : Fin 768) : Fin 8448 := ⟨i.val * 768 + r.val, by omega⟩

theorem blk0 (c : Dev nD) (t : Fin cfg0.N) (i : Fin 11) (h : t.val / 11 = i.val) (r : Fin 768) (k : Fin 2048) :
    iblk m c 0 t (ix2 r k) = argX m c (ix2 (row i r) k) := by
  blk_ext [iblk, V, idx t]

theorem blk1 (c : Dev nD) (t : Fin cfg0.N) (k : Fin 2048) : iblk m c 1 t (ix2 0 k) = argG m c (ix1 k) := by
  blk_point [iblk, V, idx t]

theorem blk2 (c : Dev nD) (t : Fin cfg0.N) (k : Fin 2048) (f : Fin 512) :
    iblk m c 2 t (ix3 0 k f) = argW m c (ix3 0 k ⟨t.val % 11 * 512 + f.val, by omega⟩) := by
  blk_point [iblk, V, idx t]

theorem blk3 (c : Dev nD) (t : Fin cfg0.N) (k : Fin 2048) (f : Fin 512) :
    iblk m c 3 t (ix3 0 k f) = argW m c (ix3 0 k ⟨5632 + (t.val % 11 * 512 + f.val), by omega⟩) := by
  blk_point [iblk, V, idx t]

theorem blk4 (c : Dev nD) (t : Fin cfg0.N) (f : Fin 512) (d : Fin 2048) :
    iblk m c 4 t (ix3 0 f d) = argV m c (ix3 0 ⟨t.val % 11 * 512 + f.val, by omega⟩ d) := by
  blk_point [iblk, V, idx t]

/-- Row `r`'s sum of squares. -/
abbrev sq (c : Dev nD) (r : Fin 8448) : EReal := ∑ l : Fin 2048, argX m c (ix2 r l) * argX m c (ix2 r l)

/-- The scratch of block `i`: its rows normalised. -/
theorem norm_at (c : Dev nD) (t : Fin cfg0.N) (i : Fin 11) (h : t.val / 11 = i.val) (r : Fin 768) (k : Fin 2048) :
    k0_pay1 (F := Ideal) (iblk m c 0 t) (iblk m c 1 t) (ix2 r k)
      = scaled (argX m c (ix2 (row i r) k)) (sq m c (row i r)) (argG m c (ix1 k)) := by
  refine (pay1_at _ _ r k).trans ?_
  rw [blk0 m c t i h r k, blk1 m c t k]
  exact congrArg (fun s => scaled _ s _) (Finset.sum_congr rfl fun l _ => by rw [blk0 m c t i h r l])

/-- One step of block `i`, over a scratch of normalised rows, adds its tile's hidden units. -/
theorem step_at (c : Dev nD) (t : Fin cfg0.N) (i j : Fin 11) (h : t.val / 11 = i.val) (hj : t.val % 11 = j.val)
    (n : FVec Ideal S768x2048 .bf16) (o : FVec Ideal S768x2048 .f32)
    (hn : ∀ (r : Fin 768) (k : Fin 2048), n (ix2 r k)
      = scaled (argX m c (ix2 (row i r) k)) (sq m c (row i r)) (argG m c (ix1 k))) (r : Fin 768) (d : Fin 2048) :
    k0_pay2 (F := Ideal) n (iblk m c 2 t) (iblk m c 3 t) o (iblk m c 4 t) (ix2 r d)
      = o (ix2 r d) + ∑ f : Fin 512, hid (argX m c) (argG m c) (argW m c) (argV m c) (row i r) d
          ⟨j.val * 512 + f.val, by omega⟩ := by
  refine (pay2_at _ _ _ _ _ r d).trans (congrArg _ (Finset.sum_congr rfl fun f _ => ?_))
  rw [blk4 m c t f d]
  simp only [hn, blk2 m c t, blk3 m c t, hj]
  rfl

/-- Block `i` after step `j`. -/
theorem steps (c : Dev nD) (i : Fin 11) : ∀ (j : ℕ) (hj : j < 11) (hb : 11 * i.val + j < cfg0.N),
    (∀ (r : Fin 768) (k : Fin 2048), (outsAt0 m c (11 * i.val + j) hb).2 (ix2 r k)
      = scaled (argX m c (ix2 (row i r) k)) (sq m c (row i r)) (argG m c (ix1 k)))
    ∧ ∀ (r : Fin 768) (d : Fin 2048), (outsAt0 m c (11 * i.val + j) hb).1 (ix2 r d)
      = argX m c (ix2 (row i r) d) + ∑ jj : Fin (j + 1), ∑ f : Fin 512,
          hid (argX m c) (argG m c) (argW m c) (argV m c) (row i r) d ⟨jj.val * 512 + f.val, by omega⟩
  | 0, hj, hb => by
    have h0 : (11 * i.val + 0) % 11 = 0 := by omega
    have h1 : (11 * i.val + 0) / 11 = i.val := by omega
    have e := outA m c ⟨11 * i.val + 0, hb⟩ h0
    constructor
    · intro r k
      rw [e]
      exact norm_at m c ⟨11 * i.val + 0, hb⟩ i h1 r k
    · intro r d
      rw [e]
      refine (step_at m c ⟨11 * i.val + 0, hb⟩ i 0 h1 h0 _ _ (norm_at m c ⟨11 * i.val + 0, hb⟩ i h1) r d).trans ?_
      rw [blk0 m c ⟨11 * i.val + 0, hb⟩ i h1 r d, Fin.sum_univ_one]
      rfl
  | j + 1, hj, hb => by
    have ih := steps c i j (by omega) (Nat.lt_of_succ_lt hb)
    have h0 : ¬ (11 * i.val + j + 1) % 11 = 0 := by omega
    have h1 : (11 * i.val + j + 1) / 11 = i.val := by omega
    have h2 : (11 * i.val + j + 1) % 11 = j + 1 := by omega
    have e := outB m c (11 * i.val + j) hb h0
    constructor
    · intro r k
      rw [show outsAt0 m c (11 * i.val + (j + 1)) hb = _ from e]
      exact ih.1 r k
    · intro r d
      rw [show outsAt0 m c (11 * i.val + (j + 1)) hb = _ from e]
      refine (step_at m c ⟨11 * i.val + j + 1, hb⟩ i ⟨j + 1, hj⟩ h1 h2 _ _ ih.1 r d).trans ?_
      rw [ih.2 r d, Fin.sum_univ_castSucc (n := j + 1), add_assoc]
      rfl

/-- The result array of the kernel is the reference's. -/
theorem final (c : Dev nD) : Cert.FfnIdeal.Value.G5 m c
    = Cert.FfnRefIdeal.Read.val_main_v25 (F := Ideal) (argX m c) (argG m c) (argW m c) (argV m c) := by
  funext y
  obtain ⟨a, d, rfl⟩ : ∃ (a : Fin 8448) (d : Fin 2048), y = ix2 a d := ⟨y 0, y 1, eq_ix2 y⟩
  have hr : Cert.FfnIdeal.Value.run5Of (ix2 a d) = a.val / 768 := by
    show 1 * (a.val / 768 - 0) + 1 * (d.val / 2048 - 0) = _
    omega
  have hN : cfg0.N = 121 := N_0
  have hb : 11 * (a.val / 768) + 10 < cfg0.N := by omega
  have hp : Cert.FfnIdeal.Value.pt5Of (ix2 a d) = 11 * (a.val / 768) + 10 := by
    show 11 * Cert.FfnIdeal.Value.run5Of (ix2 a d) + 10 = _
    rw [hr]
  have hi : a.val / 768 < 11 := by omega
  have hl : Cert.FfnIdeal.Value.loc5Of (ix2 a d) = ix2 (⟨a.val % 768, Nat.mod_lt _ (by decide)⟩ : Fin 768) d := by
    refine (eq_ix2 _).trans ((ix2_inj ..).2 ⟨rfl, Fin.ext ?_⟩)
    show d.val % 2048 = d.val
    omega
  have hrow : row ⟨a.val / 768, hi⟩ ⟨a.val % 768, Nat.mod_lt _ (by decide)⟩ = a := Fin.ext (by
    show a.val / 768 * 768 + a.val % 768 = a.val
    omega)
  unfold Cert.FfnIdeal.Value.G5
  rw [dif_pos (by rw [hp]; exact hb), ← Cert.FfnIdeal.Value.outsAt0_sweep m c _ (by rw [hp]; exact hb), hl]
  simp only [hp]
  refine ((steps m c ⟨a.val / 768, hi⟩ 10 (by omega) hb).2 ⟨a.val % 768, Nat.mod_lt _ (by decide)⟩ d).trans ?_
  rw [hrow]
  refine Eq.trans ?_ (ref_at (argX m c) (argG m c) (argW m c) (argV m c) a d).symm
  exact congrArg _ (Fin.sum_univ_tiles 11 512 (by norm_num) _).symm

end Cert.FfnValue
-- ==== Proof.FfnClaim.lean ====
/- The feed-forward pair's value claim from the two runs. -/
module

public import proofs.«01_k».proof.Defs
public import proofs.«01_k».proof.Proof.FfnValue
public import Idealize.ShloMosaic.Lib.Claim

@[expose] public section

noncomputable section

open Idealize.ShloMosaic Idealize.ShloMosaic.TcCoe Idealize.SL.Sem

namespace Cert.FfnClaim

theorem algebraic : Cert.algebraic_FfnIdeal_FfnRefIdeal := by
  pair_intro
  · run_from Cert.FfnIdeal.Value.run m g
  · run_from Cert.FfnRefIdeal.Value.run m' g'
    rw [Cert.FfnRefIdeal.Read.val_main_v25_eq]
    exact (Cert.FfnValue.final m c).symm

end Cert.FfnClaim
-- ==== Proof.InprojIdealRun.lean ====
/- The input projection's body, run once for each way its branches go: which branches those are is a hypothesis here
   (the table's words decide them, `InprojIdealBody`). -/
module

public import proofs.«01_k».proof.Proof.Gen.InprojIdeal.Frame
public import proofs.«01_k».proof.Proof.Gen.InprojIdeal.Skeleton

@[expose] public section

set_option maxRecDepth 16384

noncomputable section

namespace Cert.InprojIdeal.Body

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition: the point is the first of its block of rows. -/
abbrev condJ (i : grid0.Coords) : Prop := (Scalar.cmpi .ne (Scalar.extui (Scalar.cmpi .eq (BitVec.ofNat 32 (i 1).val) 0#32)) 0#32) = 1#1

/-- A tile's branch condition: its word of the table is `k`. -/
abbrev isK (w k : BitVec 32) : Prop := (Scalar.cmpi .ne (Scalar.extui (Scalar.cmpi .eq w k)) 0#32) = 1#1

/-- The word of the table read at an offset. -/
abbrev word (arg2 : Memref sig .tc .smem S25 .i32) (harg2 : arg2.IsWhole) (x0 : Vec F S25 .i32) (o : Fin 1 → Nat)
    (h : ∀ a, o a + S1.size a ≤ S25.size a) : BitVec 32 :=
  View.readAt (Elt F) arg2.view (Rect.unit (s := S25) o S1.size h).toLoadRect (harg2.unread x0)
    (Shape.Idx.first ((numel1_S1 : S1.numel = 1).symm ▸ Nat.one_pos))

/-- Which branches are taken in case A: the first of a block of rows: the rows are normalised into the scratch, four tiles take the 128-wide norm. -/
abbrev HypA (i : grid0.Coords) (arg2 : Memref sig .tc .smem S25 .i32) (harg2 : arg2.IsWhole) (x0 : Vec F S25 .i32) : Prop :=
  condJ i
    ∧ ¬ isK (word arg2 harg2 x0 (k0_off1 i) (k0_off1_inb i)) 0#32
    ∧ isK (word arg2 harg2 x0 (k0_off1 i) (k0_off1_inb i)) 1#32
    ∧ ¬ isK (word arg2 harg2 x0 (k0_off1 i) (k0_off1_inb i)) 2#32
    ∧ ¬ isK (word arg2 harg2 x0 (k0_off2 i) (k0_off2_inb i)) 0#32
    ∧ isK (word arg2 harg2 x0 (k0_off2 i) (k0_off2_inb i)) 1#32
    ∧ ¬ isK (word arg2 harg2 x0 (k0_off2 i) (k0_off2_inb i)) 2#32
    ∧ ¬ isK (word arg2 harg2 x0 (k0_off3 i) (k0_off3_inb i)) 0#32
    ∧ isK (word arg2 harg2 x0 (k0_off3 i) (k0_off3_inb i)) 1#32
    ∧ ¬ isK (word arg2 harg2 x0 (k0_off3 i) (k0_off3_inb i)) 2#32
    ∧ ¬ isK (word arg2 harg2 x0 (k0_off4 i) (k0_off4_inb i)) 0#32
    ∧ isK (word arg2 harg2 x0 (k0_off4 i) (k0_off4_inb i)) 1#32
    ∧ ¬ isK (word arg2 harg2 x0 (k0_off4 i) (k0_off4_inb i)) 2#32
    ∧ isK (word arg2 harg2 x0 (k0_off5 i) (k0_off5_inb i)) 0#32
    ∧ ¬ isK (word arg2 harg2 x0 (k0_off5 i) (k0_off5_inb i)) 1#32
    ∧ ¬ isK (word arg2 harg2 x0 (k0_off5 i) (k0_off5_inb i)) 2#32

set_option maxHeartbeats 2000000 in
/-- The body at a point of case A (the first of a block of rows: the rows are normalised into the scratch, four tiles take the 128-wide norm): run on whole staging memrefs it leaves the inputs as they were and the
    pieces this names in the output and the scratch. -/
noncomputable def runA (c : Dev nD) (i : grid0.Coords) (arg2 : Memref sig .tc .smem S25 .i32) (harg2 : arg2.IsWhole) (arg3 : Memref sig .tc .vmem S768x2048 .f32) (harg3 : arg3.IsWhole) (arg4 : Memref sig .tc .vmem S1x2048 .f32) (harg4 : arg4.IsWhole) (arg5 : Memref sig .tc .vmem S1x2048x1280 .bf16) (harg5 : arg5.IsWhole) (arg6 : Memref sig .tc .vmem S1x1280 .f32) (harg6 : arg6.IsWhole) (arg7 : Memref sig .tc .vmem S768x1280 .f32) (harg7 : arg7.IsWhole) (arg8 : Memref sig .tc .vmem S768x2048 .bf16) (harg8 : arg8.IsWhole) (x0 : Vec F S25 .i32) (x1 : Vec F S768x2048 .f32) (x2 : Vec F S1x2048 .f32) (x3 : Vec F S1x2048x1280 .bf16) (x4 : Vec F S1x1280 .f32) (hyp : HypA i arg2 harg2 x0) :
    Σ' (L5 : List (View.Piece (Elt F) S768x1280 .f32)), { LS0 : List (View.Piece (Elt F) S768x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_inproj i arg2 harg2 arg3 harg3 arg4 harg4 arg5 harg5 arg6 harg6 arg7 harg7 arg8 harg8) K } := by
  refine ⟨?_, ?_, fun E K => ?run⟩
  case run =>
    obtain ⟨hc0, h10, h11, h12, h20, h21, h22, h30, h31, h32, h40, h41, h42, h50, h51, h52⟩ := hyp
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact h10 | sl_exact h11 | sl_exact h12 | sl_exact h20 | sl_exact h21 | sl_exact h22 | sl_exact h30 | sl_exact h31 | sl_exact h32 | sl_exact h40 | sl_exact h41 | sl_exact h42 | sl_exact h50 | sl_exact h51 | sl_exact h52)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

/-- Which branches are taken in case B: the second: two tiles take the 128-wide norm. -/
abbrev HypB (i : grid0.Coords) (arg2 : Memref sig .tc .smem S25 .i32) (harg2 : arg2.IsWhole) (x0 : Vec F S25 .i32) : Prop :=
  ¬ condJ i
    ∧ isK (word arg2 harg2 x0 (k0_off1 i) (k0_off1_inb i)) 0#32
    ∧ ¬ isK (word arg2 harg2 x0 (k0_off1 i) (k0_off1_inb i)) 1#32
    ∧ ¬ isK (word arg2 harg2 x0 (k0_off1 i) (k0_off1_inb i)) 2#32
    ∧ ¬ isK (word arg2 harg2 x0 (k0_off2 i) (k0_off2_inb i)) 0#32
    ∧ isK (word arg2 harg2 x0 (k0_off2 i) (k0_off2_inb i)) 1#32
    ∧ ¬ isK (word arg2 harg2 x0 (k0_off2 i) (k0_off2_inb i)) 2#32
    ∧ isK (word arg2 harg2 x0 (k0_off3 i) (k0_off3_inb i)) 0#32
    ∧ ¬ isK (word arg2 harg2 x0 (k0_off3 i) (k0_off3_inb i)) 1#32
    ∧ ¬ isK (word arg2 harg2 x0 (k0_off3 i) (k0_off3_inb i)) 2#32
    ∧ ¬ isK (word arg2 harg2 x0 (k0_off4 i) (k0_off4_inb i)) 0#32
    ∧ isK (word arg2 harg2 x0 (k0_off4 i) (k0_off4_inb i)) 1#32
    ∧ ¬ isK (word arg2 harg2 x0 (k0_off4 i) (k0_off4_inb i)) 2#32
    ∧ isK (word arg2 harg2 x0 (k0_off5 i) (k0_off5_inb i)) 0#32
    ∧ ¬ isK (word arg2 harg2 x0 (k0_off5 i) (k0_off5_inb i)) 1#32
    ∧ ¬ isK (word arg2 harg2 x0 (k0_off5 i) (k0_off5_inb i)) 2#32

set_option maxHeartbeats 2000000 in
/-- The body at a point of case B (the second: two tiles take the 128-wide norm): run on whole staging memrefs it leaves the inputs as they were and the
    pieces this names in the output, the scratch as it was. -/
noncomputable def runB (c : Dev nD) (i : grid0.Coords) (arg2 : Memref sig .tc .smem S25 .i32) (harg2 : arg2.IsWhole) (arg3 : Memref sig .tc .vmem S768x2048 .f32) (harg3 : arg3.IsWhole) (arg4 : Memref sig .tc .vmem S1x2048 .f32) (harg4 : arg4.IsWhole) (arg5 : Memref sig .tc .vmem S1x2048x1280 .bf16) (harg5 : arg5.IsWhole) (arg6 : Memref sig .tc .vmem S1x1280 .f32) (harg6 : arg6.IsWhole) (arg7 : Memref sig .tc .vmem S768x1280 .f32) (harg7 : arg7.IsWhole) (arg8 : Memref sig .tc .vmem S768x2048 .bf16) (harg8 : arg8.IsWhole) (x0 : Vec F S25 .i32) (x1 : Vec F S768x2048 .f32) (x2 : Vec F S1x2048 .f32) (x3 : Vec F S1x2048x1280 .bf16) (x4 : Vec F S1x1280 .f32) (hyp : HypB i arg2 harg2 x0) (xs : Vec F S768x2048 .bf16) :
    { L5 : List (View.Piece (Elt F) S768x1280 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs) -∗ K ⟨⟩))
          ⊢ wp frame (wpE (defs₀ (F := F)) Variants.none c none) E (cc0_inproj i arg2 harg2 arg3 harg3 arg4 harg4 arg5 harg5 arg6 harg6 arg7 harg7 arg8 harg8) K } := by
  refine ⟨?_, fun E K => ?run⟩
  case run =>
    obtain ⟨hc0, h10, h11, h12, h20, h21, h22, h30, h31, h32, h40, h41, h42, h50, h51, h52⟩ := hyp
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | sl_exact hc0 | sl_exact h10 | sl_exact h11 | sl_exact h12 | sl_exact h20 | sl_exact h21 | sl_exact h22 | sl_exact h30 | sl_exact h31 | sl_exact h32 | sl_exact h40 | sl_exact h41 | sl_exact h42 | sl_exact h50 | sl_exact h51 | sl_exact h52)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact HS0

/-- Which branches are taken in case C: the third: four tiles take the 64-wide norm. -/
abbrev HypC (i : grid0.Coords) (arg2 : Memref sig .tc .smem S25 .i32) (harg2 : arg2.IsWhole) (x0 : Vec F S25 .i32) : Prop :=
  ¬ condJ i
    ∧ ¬ isK (word arg2 harg2 x0 (k0_off1 i) (k0_off1_inb i)) 0#32
    ∧ ¬ isK (word arg2 harg2 x0 (k0_off1 i) (k0_off1_inb i)) 1#32
    ∧ isK (word arg2 harg2 x0 (k0_off1 i) (k0_off1_inb i)) 2#32
    ∧ ¬ isK (word arg2 harg2 x0 (k0_off2 i) (k0_off2_inb i)) 0#32
    ∧ ¬ isK (word arg2 harg2 x0 (k0_off2 i) (k0_off2_inb i)) 1#32
    ∧ isK (word arg2 harg2 x0 (k0_off2 i) (k0_off2_inb i)) 2#32
    ∧ ¬ isK (word arg2 harg2 x0 (k0_off3 i) (k0_off3_inb i)) 0#32
    ∧ ¬ isK (word arg2 harg2 x0 (k0_off3 i) (k0_off3_inb i)) 1#32
    ∧ isK (word arg2 harg2 x0 (k0_off3 i) (k0_off3_inb i)) 2#32
    ∧ ¬ isK (word arg2 harg2 x0 (k0_off4 i) (k0_off4_inb i)) 0#32
    ∧ ¬ isK (word arg2 harg2 x0 (k0_off4 i) (k0_off4_inb i)) 1#32
    ∧ isK (word arg2 harg2 x0 (k0_off4 i) (k0_off4_inb i)) 2#32
    ∧ isK (word arg2 harg2 x0 (k0_off5 i) (k0_off5_inb i)) 0#32
    ∧ ¬ isK (word arg2 harg2 x0 (k0_off5 i) (k0_off5_inb i)) 1#32
    ∧ ¬ isK (word arg2 harg2 x0 (k0_off5 i) (k0_off5_inb i)) 2#32

set_option maxHeartbeats 2000000 in
/-- The body at a point of case C (the third: four tiles take the 64-wide norm): run on whole staging memrefs it leaves the inputs as they were and the
    pieces this names in the output, the scratch as it was. -/
noncomputable def runC (c : Dev nD) (i : grid0.Coords) (arg2 : Memref sig .tc .smem S25 .i32) (harg2 : arg2.IsWhole) (arg3 : Memref sig .tc .vmem S768x2048 .f32) (harg3 : arg3.IsWhole) (arg4 : Memref sig .tc .vmem S1x2048 .f32) (harg4 : arg4.IsWhole) (arg5 : Memref sig .tc .vmem S1x2048x1280 .bf16) (harg5 : arg5.IsWhole) (arg6 : Memref sig .tc .vmem S1x1280 .f32) (harg6 : arg6.IsWhole) (arg7 : Memref sig .tc .vmem S768x1280 .f32) (harg7 : arg7.IsWhole) (arg8 : Memref sig .tc .vmem S768x2048 .bf16) (harg8 : arg8.IsWhole) (x0 : Vec F S25 .i32) (x1 : Vec F S768x2048 .f32) (x2 : Vec F S1x2048 .f32) (x3 : Vec F S1x2048x1280 .bf16) (x4 : Vec F S1x1280 .f32) (hyp : HypC i arg2 harg2 x0) (xs : Vec F S768x2048 .bf16) :
    { L5 : List (View.Piece (Elt F) S768x1280 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs) -∗ K ⟨⟩))
          ⊢ wp frame (wpE (defs₀ (F := F)) Variants.none c none) E (cc0_inproj i arg2 harg2 arg3 harg3 arg4 harg4 arg5 harg5 arg6 harg6 arg7 harg7 arg8 harg8) K } := by
  refine ⟨?_, fun E K => ?run⟩
  case run =>
    obtain ⟨hc0, h10, h11, h12, h20, h21, h22, h30, h31, h32, h40, h41, h42, h50, h51, h52⟩ := hyp
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | sl_exact hc0 | sl_exact h10 | sl_exact h11 | sl_exact h12 | sl_exact h20 | sl_exact h21 | sl_exact h22 | sl_exact h30 | sl_exact h31 | sl_exact h32 | sl_exact h40 | sl_exact h41 | sl_exact h42 | sl_exact h50 | sl_exact h51 | sl_exact h52)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact HS0

/-- Which branches are taken in case D: the last two: every tile is copied. -/
abbrev HypD (i : grid0.Coords) (arg2 : Memref sig .tc .smem S25 .i32) (harg2 : arg2.IsWhole) (x0 : Vec F S25 .i32) : Prop :=
  ¬ condJ i
    ∧ isK (word arg2 harg2 x0 (k0_off1 i) (k0_off1_inb i)) 0#32
    ∧ ¬ isK (word arg2 harg2 x0 (k0_off1 i) (k0_off1_inb i)) 1#32
    ∧ ¬ isK (word arg2 harg2 x0 (k0_off1 i) (k0_off1_inb i)) 2#32
    ∧ isK (word arg2 harg2 x0 (k0_off2 i) (k0_off2_inb i)) 0#32
    ∧ ¬ isK (word arg2 harg2 x0 (k0_off2 i) (k0_off2_inb i)) 1#32
    ∧ ¬ isK (word arg2 harg2 x0 (k0_off2 i) (k0_off2_inb i)) 2#32
    ∧ isK (word arg2 harg2 x0 (k0_off3 i) (k0_off3_inb i)) 0#32
    ∧ ¬ isK (word arg2 harg2 x0 (k0_off3 i) (k0_off3_inb i)) 1#32
    ∧ ¬ isK (word arg2 harg2 x0 (k0_off3 i) (k0_off3_inb i)) 2#32
    ∧ isK (word arg2 harg2 x0 (k0_off4 i) (k0_off4_inb i)) 0#32
    ∧ ¬ isK (word arg2 harg2 x0 (k0_off4 i) (k0_off4_inb i)) 1#32
    ∧ ¬ isK (word arg2 harg2 x0 (k0_off4 i) (k0_off4_inb i)) 2#32
    ∧ isK (word arg2 harg2 x0 (k0_off5 i) (k0_off5_inb i)) 0#32
    ∧ ¬ isK (word arg2 harg2 x0 (k0_off5 i) (k0_off5_inb i)) 1#32
    ∧ ¬ isK (word arg2 harg2 x0 (k0_off5 i) (k0_off5_inb i)) 2#32

set_option maxHeartbeats 2000000 in
/-- The body at a point of case D (the last two: every tile is copied): run on whole staging memrefs it leaves the inputs as they were and the
    pieces this names in the output, the scratch as it was. -/
noncomputable def runD (c : Dev nD) (i : grid0.Coords) (arg2 : Memref sig .tc .smem S25 .i32) (harg2 : arg2.IsWhole) (arg3 : Memref sig .tc .vmem S768x2048 .f32) (harg3 : arg3.IsWhole) (arg4 : Memref sig .tc .vmem S1x2048 .f32) (harg4 : arg4.IsWhole) (arg5 : Memref sig .tc .vmem S1x2048x1280 .bf16) (harg5 : arg5.IsWhole) (arg6 : Memref sig .tc .vmem S1x1280 .f32) (harg6 : arg6.IsWhole) (arg7 : Memref sig .tc .vmem S768x1280 .f32) (harg7 : arg7.IsWhole) (arg8 : Memref sig .tc .vmem S768x2048 .bf16) (harg8 : arg8.IsWhole) (x0 : Vec F S25 .i32) (x1 : Vec F S768x2048 .f32) (x2 : Vec F S1x2048 .f32) (x3 : Vec F S1x2048x1280 .bf16) (x4 : Vec F S1x1280 .f32) (hyp : HypD i arg2 harg2 x0) (xs : Vec F S768x2048 .bf16) :
    { L5 : List (View.Piece (Elt F) S768x1280 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs) -∗ K ⟨⟩))
          ⊢ wp frame (wpE (defs₀ (F := F)) Variants.none c none) E (cc0_inproj i arg2 harg2 arg3 harg3 arg4 harg4 arg5 harg5 arg6 harg6 arg7 harg7 arg8 harg8) K } := by
  refine ⟨?_, fun E K => ?run⟩
  case run =>
    obtain ⟨hc0, h10, h11, h12, h20, h21, h22, h30, h31, h32, h40, h41, h42, h50, h51, h52⟩ := hyp
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | sl_exact hc0 | sl_exact h10 | sl_exact h11 | sl_exact h12 | sl_exact h20 | sl_exact h21 | sl_exact h22 | sl_exact h30 | sl_exact h31 | sl_exact h32 | sl_exact h40 | sl_exact h41 | sl_exact h42 | sl_exact h50 | sl_exact h51 | sl_exact h52)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact HS0

end Cert.InprojIdeal.Body

end
-- ==== Proof.InprojIdealBody.lean ====
/- The input projection's frame: the table's words at a point, so which branches its body takes there; what it leaves in
   its output block and in the scratch; and the launch. -/
module

public import proofs.«01_k».proof.Proof.Gen.InprojIdeal.Frame
public import proofs.«01_k».proof.Proof.Gen.InprojIdeal.Skeleton
public import proofs.«01_k».proof.Proof.InprojIdealRun
public import Idealize.ShloMosaic.Lib.WholeRead
public import Idealize.ShloMosaic.Lib.Pipeline.ValueKit

@[expose] public section

set_option maxRecDepth 16384

noncomputable section

namespace Cert.InprojIdeal.Body

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's staging memref at a point, and that it is whole. -/
abbrev ms0_0 (t : Fin cfg0.N) : Memref sig .tc .smem S25 .i32 := win0_0.stage (cfg0.slots t 0)
abbrev hs0_0 (t : Fin cfg0.N) : (ms0_0 t).IsWhole := hstage0_0 ((cfg0.slots t 0).cast nbuf0_0)
/-- Window 1's staging memref at a point, and that it is whole. -/
abbrev ms0_1 (t : Fin cfg0.N) : Memref sig .tc .vmem S768x2048 .f32 := win0_1.stage (cfg0.slots t 1)
abbrev hs0_1 (t : Fin cfg0.N) : (ms0_1 t).IsWhole := hstage0_1 ((cfg0.slots t 1).cast nbuf0_1)
/-- Window 2's staging memref at a point, and that it is whole. -/
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
/-- Window 3's staging memref at a point, and that it is whole. -/
abbrev ms0_3 (t : Fin cfg0.N) : Memref sig .tc .vmem S1x2048x1280 .bf16 := win0_3.stage (cfg0.slots t 3)
abbrev hs0_3 (t : Fin cfg0.N) : (ms0_3 t).IsWhole := hstage0_3 ((cfg0.slots t 3).cast nbuf0_3)
/-- Window 4's staging memref at a point, and that it is whole. -/
abbrev ms0_4 (t : Fin cfg0.N) : Memref sig .tc .vmem S1x1280 .f32 := win0_4.stage (cfg0.slots t 4)
abbrev hs0_4 (t : Fin cfg0.N) : (ms0_4 t).IsWhole := hstage0_4 ((cfg0.slots t 4).cast nbuf0_4)
/-- Window 5's staging memref at a point, and that it is whole. -/
abbrev ms0_5 (t : Fin cfg0.N) : Memref sig .tc .vmem S768x1280 .f32 := win0_5.stage (cfg0.slots t 5)
abbrev hs0_5 (t : Fin cfg0.N) : (ms0_5 t).IsWhole := hstage0_5 ((cfg0.slots t 5).cast nbuf0_5)
/-- One staging buffer of the output, through which its contents are stated. -/
abbrev VO0_5 : View sig .tc .vmem S768x1280 .f32 := (Memref.whole cc0_stg5_0 : Memref sig .tc .vmem S768x1280 .f32).view
/-- The scratch, whole. -/
abbrev scM0_0 : Memref sig .tc .vmem S768x2048 .bf16 := Memref.whole cc0_scratch0
abbrev VS0_0 : View sig .tc .vmem S768x2048 .bf16 := scM0_0.view

/-- The launch's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The first branch is taken at the first tile of a block of rows. -/
theorem hcond0_0 (t : Fin cfg0.N) : condJ (grid0.coords t) ↔ t.val % 5 = 0 := by
  have ht : t.val < 55 := Nat.lt_of_lt_of_eq t.isLt N_0
  have e1 : (grid0.coords t 1).val = t.val / 1 % 5 := Pipeline.Grid.coords_val t 1 (by decide) rfl
  simp only [condJ, e1]
  word_cmp

/-! ## The table's words -/

/-- The table of norms, a constant of the program. -/
abbrev tbl (n : ℕ) : BitVec 32 := if h : n < 25 then lit0 ⟨n, h⟩ else 0#32

theorem V_main_c (c : Dev nD) (k : Fin 25) : (V m c main_c : Vec F S25 .i32) (ix1 k) = tbl k.val := by
  have e : (V m c main_c : Vec F S25 .i32) = fun i => lit0 (S25.rowMajor i) := by
    unfold V
    simp only [List.flatten_cons, List.flatten_nil, List.append_nil, StableHlo.after_append]
    after_results
    try rfl
  rw [e]
  unfold tbl
  rw [dif_pos k.isLt]
  exact congrArg lit0 (Fin.ext (Shape.rowMajor_val_one _))

/-- Which block of its array each window holds at a point: a block of rows is five consecutive points. -/
theorem idx : ∀ t : Fin cfg0.N, win0_0.index t = ![0] ∧ win0_1.index t = ![t.val / 5, 0] ∧ win0_2.index t = ![0, 0]
    ∧ win0_3.index t = ![0, 0, t.val % 5] ∧ win0_4.index t = ![0, t.val % 5] ∧ win0_5.index t = ![t.val / 5, t.val % 5] :=
  (by decide +kernel : ∀ t : Fin grid0.N, _)

theorem iblk0_at (c : Dev nD) (t : Fin cfg0.N) (k : Fin 25) : (iblk m c 0 t : Vec F S25 .i32) (ix1 k) = tbl k.val := by
  rw [← V_main_c m c k]
  blk_ext [iblk, idx t]

/-- The word read at an offset below the table's length. -/
theorem word_eq (c : Dev nD) (t : Fin cfg0.N) (o : Fin 1 → Nat) (h : ∀ a, o a + S1.size a ≤ S25.size a) (n : ℕ) (hn : n < 25)
    (ho : o 0 = n) : word (ms0_0 t) (hs0_0 t) (iblk m c 0 t) o h = tbl n := by
  unfold word
  rw [Memref.IsWhole.readAt_unread, ← iblk0_at m c t ⟨n, hn⟩]
  refine congrArg (iblk m c 0 t) (funext fun a => Fin.ext ?_)
  subst ho
  match a with
  | ⟨0, _⟩ => simp [LoadRect.idx, Rect.unit, Shape.Idx.first]

theorem tbl_at (a b : ℕ) (h : a = b) (v : BitVec 32) (hv : tbl b = v) : tbl a = v := h ▸ hv

/-- The last two tiles of a block of rows have no norm. -/
theorem tbl_zero (n : ℕ) (h : 13 < n) : tbl n = 0#32 := by
  by_cases hn : n < 25
  · have : ∀ k : Fin 25, 13 < k.val → tbl k.val = 0#32 := by decide
    exact this ⟨n, hn⟩ h
  · exact dif_neg hn

/-- Tile 0's word at a point. -/
theorem word1 (c : Dev nD) (t : Fin cfg0.N) :
    word (ms0_0 t) (hs0_0 t) (iblk m c 0 t) (k0_off1 (grid0.coords t)) (k0_off1_inb _) = tbl (t.val % 5 * 5 + 0) := by
  have e1 : (grid0.coords t 1).val = t.val / 1 % 5 := Pipeline.Grid.coords_val t 1 (by decide) rfl
  refine word_eq m c t _ _ _ (by omega) ?_
  simp only [k0_off1, e1, Nat.div_one]
  have : ∀ j : Fin 5, (![(Scalar.indexCast (Scalar.addi (Scalar.muli (BitVec.ofNat 32 j.val) 5#32) 0#32)).toNat] : Fin 1 → ℕ) 0 = j.val * 5 + 0 := by decide
  exact this ⟨t.val % 5, by omega⟩

/-- Tile 1's word at a point. -/
theorem word2 (c : Dev nD) (t : Fin cfg0.N) :
    word (ms0_0 t) (hs0_0 t) (iblk m c 0 t) (k0_off2 (grid0.coords t)) (k0_off2_inb _) = tbl (t.val % 5 * 5 + 1) := by
  have e1 : (grid0.coords t 1).val = t.val / 1 % 5 := Pipeline.Grid.coords_val t 1 (by decide) rfl
  refine word_eq m c t _ _ _ (by omega) ?_
  simp only [k0_off2, e1, Nat.div_one]
  have : ∀ j : Fin 5, (![(Scalar.indexCast (Scalar.addi (Scalar.muli (BitVec.ofNat 32 j.val) 5#32) 1#32)).toNat] : Fin 1 → ℕ) 0 = j.val * 5 + 1 := by decide
  exact this ⟨t.val % 5, by omega⟩

/-- Tile 2's word at a point. -/
theorem word3 (c : Dev nD) (t : Fin cfg0.N) :
    word (ms0_0 t) (hs0_0 t) (iblk m c 0 t) (k0_off3 (grid0.coords t)) (k0_off3_inb _) = tbl (t.val % 5 * 5 + 2) := by
  have e1 : (grid0.coords t 1).val = t.val / 1 % 5 := Pipeline.Grid.coords_val t 1 (by decide) rfl
  refine word_eq m c t _ _ _ (by omega) ?_
  simp only [k0_off3, e1, Nat.div_one]
  have : ∀ j : Fin 5, (![(Scalar.indexCast (Scalar.addi (Scalar.muli (BitVec.ofNat 32 j.val) 5#32) 2#32)).toNat] : Fin 1 → ℕ) 0 = j.val * 5 + 2 := by decide
  exact this ⟨t.val % 5, by omega⟩

/-- Tile 3's word at a point. -/
theorem word4 (c : Dev nD) (t : Fin cfg0.N) :
    word (ms0_0 t) (hs0_0 t) (iblk m c 0 t) (k0_off4 (grid0.coords t)) (k0_off4_inb _) = tbl (t.val % 5 * 5 + 3) := by
  have e1 : (grid0.coords t 1).val = t.val / 1 % 5 := Pipeline.Grid.coords_val t 1 (by decide) rfl
  refine word_eq m c t _ _ _ (by omega) ?_
  simp only [k0_off4, e1, Nat.div_one]
  have : ∀ j : Fin 5, (![(Scalar.indexCast (Scalar.addi (Scalar.muli (BitVec.ofNat 32 j.val) 5#32) 3#32)).toNat] : Fin 1 → ℕ) 0 = j.val * 5 + 3 := by decide
  exact this ⟨t.val % 5, by omega⟩

/-- Tile 4's word at a point. -/
theorem word5 (c : Dev nD) (t : Fin cfg0.N) :
    word (ms0_0 t) (hs0_0 t) (iblk m c 0 t) (k0_off5 (grid0.coords t)) (k0_off5_inb _) = tbl (t.val % 5 * 5 + 4) := by
  have e1 : (grid0.coords t 1).val = t.val / 1 % 5 := Pipeline.Grid.coords_val t 1 (by decide) rfl
  refine word_eq m c t _ _ _ (by omega) ?_
  simp only [k0_off5, e1, Nat.div_one]
  have : ∀ j : Fin 5, (![(Scalar.indexCast (Scalar.addi (Scalar.muli (BitVec.ofNat 32 j.val) 5#32) 4#32)).toNat] : Fin 1 → ℕ) 0 = j.val * 5 + 4 := by decide
  exact this ⟨t.val % 5, by omega⟩

/-- The branches at a point of case A. -/
theorem hypA (c : Dev nD) (t : Fin cfg0.N) (h : t.val % 5 = 0) : HypA (grid0.coords t) (ms0_0 t) (hs0_0 t) (iblk m c 0 t) := by
  have ht : t.val < 55 := Nat.lt_of_lt_of_eq t.isLt N_0
  have w0 := (word1 m c t).trans (tbl_at _ 0 (by omega) 1#32 (by decide))
  have w1 := (word2 m c t).trans (tbl_at _ 1 (by omega) 1#32 (by decide))
  have w2 := (word3 m c t).trans (tbl_at _ 2 (by omega) 1#32 (by decide))
  have w3 := (word4 m c t).trans (tbl_at _ 3 (by omega) 1#32 (by decide))
  have w4 := (word5 m c t).trans (tbl_at _ 4 (by omega) 0#32 (by decide))
  refine ⟨(hcond0_0 t).mpr h, ?_⟩
  rw [w0, w1, w2, w3, w4]
  decide

/-- The branches at a point of case B. -/
theorem hypB (c : Dev nD) (t : Fin cfg0.N) (h : t.val % 5 = 1) : HypB (grid0.coords t) (ms0_0 t) (hs0_0 t) (iblk m c 0 t) := by
  have ht : t.val < 55 := Nat.lt_of_lt_of_eq t.isLt N_0
  have w0 := (word1 m c t).trans (tbl_at _ 5 (by omega) 0#32 (by decide))
  have w1 := (word2 m c t).trans (tbl_at _ 6 (by omega) 1#32 (by decide))
  have w2 := (word3 m c t).trans (tbl_at _ 7 (by omega) 0#32 (by decide))
  have w3 := (word4 m c t).trans (tbl_at _ 8 (by omega) 1#32 (by decide))
  have w4 := (word5 m c t).trans (tbl_at _ 9 (by omega) 0#32 (by decide))
  refine ⟨fun hc => absurd ((hcond0_0 t).mp hc) (by omega), ?_⟩
  rw [w0, w1, w2, w3, w4]
  decide

/-- The branches at a point of case C. -/
theorem hypC (c : Dev nD) (t : Fin cfg0.N) (h : t.val % 5 = 2) : HypC (grid0.coords t) (ms0_0 t) (hs0_0 t) (iblk m c 0 t) := by
  have ht : t.val < 55 := Nat.lt_of_lt_of_eq t.isLt N_0
  have w0 := (word1 m c t).trans (tbl_at _ 10 (by omega) 2#32 (by decide))
  have w1 := (word2 m c t).trans (tbl_at _ 11 (by omega) 2#32 (by decide))
  have w2 := (word3 m c t).trans (tbl_at _ 12 (by omega) 2#32 (by decide))
  have w3 := (word4 m c t).trans (tbl_at _ 13 (by omega) 2#32 (by decide))
  have w4 := (word5 m c t).trans (tbl_at _ 14 (by omega) 0#32 (by decide))
  refine ⟨fun hc => absurd ((hcond0_0 t).mp hc) (by omega), ?_⟩
  rw [w0, w1, w2, w3, w4]
  decide

/-- The branches at a point of case D. -/
theorem hypD (c : Dev nD) (t : Fin cfg0.N) (h : 2 < t.val % 5) : HypD (grid0.coords t) (ms0_0 t) (hs0_0 t) (iblk m c 0 t) := by
  have ht : t.val < 55 := Nat.lt_of_lt_of_eq t.isLt N_0
  have w0 := (word1 m c t).trans (tbl_zero _ (by omega))
  have w1 := (word2 m c t).trans (tbl_zero _ (by omega))
  have w2 := (word3 m c t).trans (tbl_zero _ (by omega))
  have w3 := (word4 m c t).trans (tbl_zero _ (by omega))
  have w4 := (word5 m c t).trans (tbl_zero _ (by omega))
  refine ⟨fun hc => absurd ((hcond0_0 t).mp hc) (by omega), ?_⟩
  rw [w0, w1, w2, w3, w4]
  decide

/-! ## What the body leaves -/

/-- Case A's pieces cover the output block. -/
theorem coverA (c : Dev nD) (i : grid0.Coords) (arg2 : Memref sig .tc .smem S25 .i32) (harg2 : arg2.IsWhole) (arg3 : Memref sig .tc .vmem S768x2048 .f32) (harg3 : arg3.IsWhole) (arg4 : Memref sig .tc .vmem S1x2048 .f32) (harg4 : arg4.IsWhole) (arg5 : Memref sig .tc .vmem S1x2048x1280 .bf16) (harg5 : arg5.IsWhole) (arg6 : Memref sig .tc .vmem S1x1280 .f32) (harg6 : arg6.IsWhole) (arg7 : Memref sig .tc .vmem S768x1280 .f32) (harg7 : arg7.IsWhole) (arg8 : Memref sig .tc .vmem S768x2048 .bf16) (harg8 : arg8.IsWhole) (x0 : Vec F S25 .i32) (x1 : Vec F S768x2048 .f32) (x2 : Vec F S1x2048 .f32) (x3 : Vec F S1x2048x1280 .bf16) (x4 : Vec F S1x1280 .f32) (hyp : HypA i arg2 harg2 x0) (y : S768x1280.Idx) :
    ∃ pc ∈ (runA c i arg2 harg2 arg3 harg3 arg4 harg4 arg5 harg5 arg6 harg6 arg7 harg7 arg8 harg8 x0 x1 x2 x3 x4 hyp).1, y ∈ pc.1.set :=
  View.cover_of_tiledL (runA c i arg2 harg2 arg3 harg3 arg4 harg4 arg5 harg5 arg6 harg6 arg7 harg7 arg8 harg8 x0 x1 x2 x3 x4 hyp).1 S768x128.size (by sl_kernel_rfl) y

/-- What case A leaves in the output's staging buffer. -/
def outA (c : Dev nD) (i : grid0.Coords) (arg2 : Memref sig .tc .smem S25 .i32) (harg2 : arg2.IsWhole) (arg3 : Memref sig .tc .vmem S768x2048 .f32) (harg3 : arg3.IsWhole) (arg4 : Memref sig .tc .vmem S1x2048 .f32) (harg4 : arg4.IsWhole) (arg5 : Memref sig .tc .vmem S1x2048x1280 .bf16) (harg5 : arg5.IsWhole) (arg6 : Memref sig .tc .vmem S1x1280 .f32) (harg6 : arg6.IsWhole) (arg7 : Memref sig .tc .vmem S768x1280 .f32) (harg7 : arg7.IsWhole) (arg8 : Memref sig .tc .vmem S768x2048 .bf16) (harg8 : arg8.IsWhole) (x0 : Vec F S25 .i32) (x1 : Vec F S768x2048 .f32) (x2 : Vec F S1x2048 .f32) (x3 : Vec F S1x2048x1280 .bf16) (x4 : Vec F S1x1280 .f32) (hyp : HypA i arg2 harg2 x0) : Vec F S768x1280 .f32 :=
  VO0_5.read (Elt F) (VO0_5.writes (Elt F) VO0_5.junk (runA c i arg2 harg2 arg3 harg3 arg4 harg4 arg5 harg5 arg6 harg6 arg7 harg7 arg8 harg8 x0 x1 x2 x3 x4 hyp).1)

/-- Case A's one piece of the scratch covers it. -/
theorem scoverA (c : Dev nD) (i : grid0.Coords) (arg2 : Memref sig .tc .smem S25 .i32) (harg2 : arg2.IsWhole) (arg3 : Memref sig .tc .vmem S768x2048 .f32) (harg3 : arg3.IsWhole) (arg4 : Memref sig .tc .vmem S1x2048 .f32) (harg4 : arg4.IsWhole) (arg5 : Memref sig .tc .vmem S1x2048x1280 .bf16) (harg5 : arg5.IsWhole) (arg6 : Memref sig .tc .vmem S1x1280 .f32) (harg6 : arg6.IsWhole) (arg7 : Memref sig .tc .vmem S768x1280 .f32) (harg7 : arg7.IsWhole) (arg8 : Memref sig .tc .vmem S768x2048 .bf16) (harg8 : arg8.IsWhole) (x0 : Vec F S25 .i32) (x1 : Vec F S768x2048 .f32) (x2 : Vec F S1x2048 .f32) (x3 : Vec F S1x2048x1280 .bf16) (x4 : Vec F S1x1280 .f32) (hyp : HypA i arg2 harg2 x0) (y : S768x2048.Idx) :
    ∃ pc ∈ (runA c i arg2 harg2 arg3 harg3 arg4 harg4 arg5 harg5 arg6 harg6 arg7 harg7 arg8 harg8 x0 x1 x2 x3 x4 hyp).2.1, y ∈ pc.1.set :=
  View.cover_of_tiledL (runA c i arg2 harg2 arg3 harg3 arg4 harg4 arg5 harg5 arg6 harg6 arg7 harg7 arg8 harg8 x0 x1 x2 x3 x4 hyp).2.1 S768x2048.size (by sl_kernel_rfl) y

/-- What case A leaves in the scratch: the rows normalised. -/
theorem soutA (c : Dev nD) (i : grid0.Coords) (arg2 : Memref sig .tc .smem S25 .i32) (harg2 : arg2.IsWhole) (arg3 : Memref sig .tc .vmem S768x2048 .f32) (harg3 : arg3.IsWhole) (arg4 : Memref sig .tc .vmem S1x2048 .f32) (harg4 : arg4.IsWhole) (arg5 : Memref sig .tc .vmem S1x2048x1280 .bf16) (harg5 : arg5.IsWhole) (arg6 : Memref sig .tc .vmem S1x1280 .f32) (harg6 : arg6.IsWhole) (arg7 : Memref sig .tc .vmem S768x1280 .f32) (harg7 : arg7.IsWhole) (arg8 : Memref sig .tc .vmem S768x2048 .bf16) (harg8 : arg8.IsWhole) (x0 : Vec F S25 .i32) (x1 : Vec F S768x2048 .f32) (x2 : Vec F S1x2048 .f32) (x3 : Vec F S1x2048x1280 .bf16) (x4 : Vec F S1x1280 .f32) (hyp : HypA i arg2 harg2 x0) :
    VS0_0.read (Elt F) (VS0_0.writes (Elt F) VS0_0.junk (runA c i arg2 harg2 arg3 harg3 arg4 harg4 arg5 harg5 arg6 harg6 arg7 harg7 arg8 harg8 x0 x1 x2 x3 x4 hyp).2.1) = k0_pay26 x1 x2 := by
  unfold runA; frame_out

/-- Case B's pieces cover the output block. -/
theorem coverB (c : Dev nD) (i : grid0.Coords) (arg2 : Memref sig .tc .smem S25 .i32) (harg2 : arg2.IsWhole) (arg3 : Memref sig .tc .vmem S768x2048 .f32) (harg3 : arg3.IsWhole) (arg4 : Memref sig .tc .vmem S1x2048 .f32) (harg4 : arg4.IsWhole) (arg5 : Memref sig .tc .vmem S1x2048x1280 .bf16) (harg5 : arg5.IsWhole) (arg6 : Memref sig .tc .vmem S1x1280 .f32) (harg6 : arg6.IsWhole) (arg7 : Memref sig .tc .vmem S768x1280 .f32) (harg7 : arg7.IsWhole) (arg8 : Memref sig .tc .vmem S768x2048 .bf16) (harg8 : arg8.IsWhole) (x0 : Vec F S25 .i32) (x1 : Vec F S768x2048 .f32) (x2 : Vec F S1x2048 .f32) (x3 : Vec F S1x2048x1280 .bf16) (x4 : Vec F S1x1280 .f32) (hyp : HypB i arg2 harg2 x0) (xs : Vec F S768x2048 .bf16) (y : S768x1280.Idx) :
    ∃ pc ∈ (runB c i arg2 harg2 arg3 harg3 arg4 harg4 arg5 harg5 arg6 harg6 arg7 harg7 arg8 harg8 x0 x1 x2 x3 x4 hyp xs).1, y ∈ pc.1.set :=
  View.cover_of_tiledL (runB c i arg2 harg2 arg3 harg3 arg4 harg4 arg5 harg5 arg6 harg6 arg7 harg7 arg8 harg8 x0 x1 x2 x3 x4 hyp xs).1 S768x128.size (by sl_kernel_rfl) y

/-- What case B leaves in the output's staging buffer. -/
def outB (c : Dev nD) (i : grid0.Coords) (arg2 : Memref sig .tc .smem S25 .i32) (harg2 : arg2.IsWhole) (arg3 : Memref sig .tc .vmem S768x2048 .f32) (harg3 : arg3.IsWhole) (arg4 : Memref sig .tc .vmem S1x2048 .f32) (harg4 : arg4.IsWhole) (arg5 : Memref sig .tc .vmem S1x2048x1280 .bf16) (harg5 : arg5.IsWhole) (arg6 : Memref sig .tc .vmem S1x1280 .f32) (harg6 : arg6.IsWhole) (arg7 : Memref sig .tc .vmem S768x1280 .f32) (harg7 : arg7.IsWhole) (arg8 : Memref sig .tc .vmem S768x2048 .bf16) (harg8 : arg8.IsWhole) (x0 : Vec F S25 .i32) (x1 : Vec F S768x2048 .f32) (x2 : Vec F S1x2048 .f32) (x3 : Vec F S1x2048x1280 .bf16) (x4 : Vec F S1x1280 .f32) (hyp : HypB i arg2 harg2 x0) (xs : Vec F S768x2048 .bf16) : Vec F S768x1280 .f32 :=
  VO0_5.read (Elt F) (VO0_5.writes (Elt F) VO0_5.junk (runB c i arg2 harg2 arg3 harg3 arg4 harg4 arg5 harg5 arg6 harg6 arg7 harg7 arg8 harg8 x0 x1 x2 x3 x4 hyp xs).1)

/-- Case C's pieces cover the output block. -/
theorem coverC (c : Dev nD) (i : grid0.Coords) (arg2 : Memref sig .tc .smem S25 .i32) (harg2 : arg2.IsWhole) (arg3 : Memref sig .tc .vmem S768x2048 .f32) (harg3 : arg3.IsWhole) (arg4 : Memref sig .tc .vmem S1x2048 .f32) (harg4 : arg4.IsWhole) (arg5 : Memref sig .tc .vmem S1x2048x1280 .bf16) (harg5 : arg5.IsWhole) (arg6 : Memref sig .tc .vmem S1x1280 .f32) (harg6 : arg6.IsWhole) (arg7 : Memref sig .tc .vmem S768x1280 .f32) (harg7 : arg7.IsWhole) (arg8 : Memref sig .tc .vmem S768x2048 .bf16) (harg8 : arg8.IsWhole) (x0 : Vec F S25 .i32) (x1 : Vec F S768x2048 .f32) (x2 : Vec F S1x2048 .f32) (x3 : Vec F S1x2048x1280 .bf16) (x4 : Vec F S1x1280 .f32) (hyp : HypC i arg2 harg2 x0) (xs : Vec F S768x2048 .bf16) (y : S768x1280.Idx) :
    ∃ pc ∈ (runC c i arg2 harg2 arg3 harg3 arg4 harg4 arg5 harg5 arg6 harg6 arg7 harg7 arg8 harg8 x0 x1 x2 x3 x4 hyp xs).1, y ∈ pc.1.set :=
  View.cover_of_tiledL (runC c i arg2 harg2 arg3 harg3 arg4 harg4 arg5 harg5 arg6 harg6 arg7 harg7 arg8 harg8 x0 x1 x2 x3 x4 hyp xs).1 S768x128.size (by sl_kernel_rfl) y

/-- What case C leaves in the output's staging buffer. -/
def outC (c : Dev nD) (i : grid0.Coords) (arg2 : Memref sig .tc .smem S25 .i32) (harg2 : arg2.IsWhole) (arg3 : Memref sig .tc .vmem S768x2048 .f32) (harg3 : arg3.IsWhole) (arg4 : Memref sig .tc .vmem S1x2048 .f32) (harg4 : arg4.IsWhole) (arg5 : Memref sig .tc .vmem S1x2048x1280 .bf16) (harg5 : arg5.IsWhole) (arg6 : Memref sig .tc .vmem S1x1280 .f32) (harg6 : arg6.IsWhole) (arg7 : Memref sig .tc .vmem S768x1280 .f32) (harg7 : arg7.IsWhole) (arg8 : Memref sig .tc .vmem S768x2048 .bf16) (harg8 : arg8.IsWhole) (x0 : Vec F S25 .i32) (x1 : Vec F S768x2048 .f32) (x2 : Vec F S1x2048 .f32) (x3 : Vec F S1x2048x1280 .bf16) (x4 : Vec F S1x1280 .f32) (hyp : HypC i arg2 harg2 x0) (xs : Vec F S768x2048 .bf16) : Vec F S768x1280 .f32 :=
  VO0_5.read (Elt F) (VO0_5.writes (Elt F) VO0_5.junk (runC c i arg2 harg2 arg3 harg3 arg4 harg4 arg5 harg5 arg6 harg6 arg7 harg7 arg8 harg8 x0 x1 x2 x3 x4 hyp xs).1)

/-- Case D's pieces cover the output block. -/
theorem coverD (c : Dev nD) (i : grid0.Coords) (arg2 : Memref sig .tc .smem S25 .i32) (harg2 : arg2.IsWhole) (arg3 : Memref sig .tc .vmem S768x2048 .f32) (harg3 : arg3.IsWhole) (arg4 : Memref sig .tc .vmem S1x2048 .f32) (harg4 : arg4.IsWhole) (arg5 : Memref sig .tc .vmem S1x2048x1280 .bf16) (harg5 : arg5.IsWhole) (arg6 : Memref sig .tc .vmem S1x1280 .f32) (harg6 : arg6.IsWhole) (arg7 : Memref sig .tc .vmem S768x1280 .f32) (harg7 : arg7.IsWhole) (arg8 : Memref sig .tc .vmem S768x2048 .bf16) (harg8 : arg8.IsWhole) (x0 : Vec F S25 .i32) (x1 : Vec F S768x2048 .f32) (x2 : Vec F S1x2048 .f32) (x3 : Vec F S1x2048x1280 .bf16) (x4 : Vec F S1x1280 .f32) (hyp : HypD i arg2 harg2 x0) (xs : Vec F S768x2048 .bf16) (y : S768x1280.Idx) :
    ∃ pc ∈ (runD c i arg2 harg2 arg3 harg3 arg4 harg4 arg5 harg5 arg6 harg6 arg7 harg7 arg8 harg8 x0 x1 x2 x3 x4 hyp xs).1, y ∈ pc.1.set :=
  View.cover_of_tiledL (runD c i arg2 harg2 arg3 harg3 arg4 harg4 arg5 harg5 arg6 harg6 arg7 harg7 arg8 harg8 x0 x1 x2 x3 x4 hyp xs).1 S768x128.size (by sl_kernel_rfl) y

/-- What case D leaves in the output's staging buffer. -/
def outD (c : Dev nD) (i : grid0.Coords) (arg2 : Memref sig .tc .smem S25 .i32) (harg2 : arg2.IsWhole) (arg3 : Memref sig .tc .vmem S768x2048 .f32) (harg3 : arg3.IsWhole) (arg4 : Memref sig .tc .vmem S1x2048 .f32) (harg4 : arg4.IsWhole) (arg5 : Memref sig .tc .vmem S1x2048x1280 .bf16) (harg5 : arg5.IsWhole) (arg6 : Memref sig .tc .vmem S1x1280 .f32) (harg6 : arg6.IsWhole) (arg7 : Memref sig .tc .vmem S768x1280 .f32) (harg7 : arg7.IsWhole) (arg8 : Memref sig .tc .vmem S768x2048 .bf16) (harg8 : arg8.IsWhole) (x0 : Vec F S25 .i32) (x1 : Vec F S768x2048 .f32) (x2 : Vec F S1x2048 .f32) (x3 : Vec F S1x2048x1280 .bf16) (x4 : Vec F S1x1280 .f32) (hyp : HypD i arg2 harg2 x0) (xs : Vec F S768x2048 .bf16) : Vec F S768x1280 .f32 :=
  VO0_5.read (Elt F) (VO0_5.writes (Elt F) VO0_5.junk (runD c i arg2 harg2 arg3 harg3 arg4 harg4 arg5 harg5 arg6 harg6 arg7 harg7 arg8 harg8 x0 x1 x2 x3 x4 hyp xs).1)

/-- The rows of a point's block normalised: what the scratch holds after it. -/
def scr (c : Dev nD) (t : Fin cfg0.N) : Vec F S768x2048 .bf16 := k0_pay26 (iblk m c 1 t) (iblk m c 2 t)

theorem iblk1_at (c : Dev nD) (t : Fin cfg0.N) (r : Fin 768) (k : Fin 2048) : (iblk m c 1 t : Vec F S768x2048 .f32) (ix2 r k)
    = (V m c main_arg0 : Vec F S8448x2048 .f32) (ix2 ⟨t.val / 5 * 768 + r.val, by
        have := Nat.lt_of_lt_of_eq t.isLt N_0; have := r.isLt; omega⟩ k) := by
  blk_ext [iblk, idx t]

theorem iblk2_at (c : Dev nD) (t : Fin cfg0.N) (k : Fin 2048) : (iblk m c 2 t : Vec F S1x2048 .f32) (ix2 0 k)
    = (V m c main_v44 : Vec F S1x2048 .f32) (ix2 0 k) := by
  blk_ext [iblk, idx t]

/-- Within a block of rows the scratch does not change. -/
theorem scr_eq (c : Dev nD) (t t' : Fin cfg0.N) (h : t'.val / 5 = t.val / 5) : scr m c t' = scr m c t := by
  have e1 : (iblk m c 1 t' : Vec F S768x2048 .f32) = iblk m c 1 t := by
    funext y
    rw [← ix2_eta y]
    exact (iblk1_at m c t' (y 0) (y 1)).trans (Eq.trans (congrArg (V m c main_arg0 : Vec F S8448x2048 .f32) ((ix2_inj _ _ _ _).2 ⟨Fin.ext (congrArg (· * 768 + _) h), rfl⟩)) (iblk1_at m c t (y 0) (y 1)).symm)
  have e2 : (iblk m c 2 t' : Vec F S1x2048 .f32) = iblk m c 2 t := by
    funext y
    rw [← ix2_eta y]
    have : y 0 = (0 : Fin 1) := Subsingleton.elim (α := Fin 1) _ _
    rw [this]
    exact (iblk2_at m c t' (y 1)).trans (iblk2_at m c t (y 1)).symm
  unfold scr
  rw [e1, e2]

/-- What a point leaves in its output block. -/
def outs0 (c : Dev nD) (t : Fin cfg0.N) : Vec F S768x1280 .f32 :=
  if h0 : t.val % 5 = 0 then outA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (hypA m c t h0)
  else if h1 : t.val % 5 = 1 then outB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (hypB m c t h1) (scr m c t)
  else if h2 : t.val % 5 = 2 then outC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (hypC m c t h2) (scr m c t)
  else outD c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (hypD m c t (by omega)) (scr m c t)

theorem outs0_A (c : Dev nD) (t : Fin cfg0.N) (h : t.val % 5 = 0) : outs0 m c t = outA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (hypA m c t h) := by
  unfold outs0; rw [dif_pos h]

theorem outs0_B (c : Dev nD) (t : Fin cfg0.N) (h : t.val % 5 = 1) : outs0 m c t = outB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (hypB m c t h) (scr m c t) := by
  unfold outs0; rw [dif_neg (by omega), dif_pos h]

theorem outs0_C (c : Dev nD) (t : Fin cfg0.N) (h : t.val % 5 = 2) : outs0 m c t = outC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (hypC m c t h) (scr m c t) := by
  unfold outs0; rw [dif_neg (by omega), dif_neg (by omega), dif_pos h]

theorem outs0_D (c : Dev nD) (t : Fin cfg0.N) (h : 2 < t.val % 5) : outs0 m c t = outD c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (hypD m c t h) (scr m c t) := by
  unfold outs0; rw [dif_neg (by omega), dif_neg (by omega), dif_neg (by omega)]

/-! ## The proof data -/

/-- The invariant before point `n`: at first what the launch hands over, later the scratch at the rows normalised. -/
def PhiS (c : Dev nD) : (n : ℕ) → n ≤ cfg0.N → sProp 𝕄
  | 0, _ => Pipeline.ΦA spec0 c
  | n + 1, hn => iprop(iprop(owns (c : Thread nD τ) scM0_0 fullShare (scr m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(iprop(owns (c : Thread nD τ) scM0_0 fullShare (scr m c t)) ∗ (∃ r, prngReg c r)) := rfl

theorem PhiS_pos (c : Dev nD) (n : ℕ) (h : n ≤ cfg0.N) (hz : n ≠ 0) :
    PhiS m c n h = iprop(iprop(owns (c : Thread nD τ) scM0_0 fullShare (scr m c ⟨n - 1, by omega⟩)) ∗ (∃ r, prngReg c r)) := by
  cases n with
  | zero => exact absurd rfl hz
  | succ n => rfl

/-- The proof data: the arrays as the region finds them, each input's block left in place, the output's at `outs0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outs0 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outs0 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is handed at a point, and what it gives back. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 3200000 in
/-- The body at a point: the table's words say which case it is, whose run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 55 := lt_of_lt_of_eq t.isLt (show cfg0.N = 55 from N_0)
  by_cases h0 : t.val % 5 = 0
  · by_cases hz : t.val = 0
    · rw [PhiS_castSucc m c t, PhiS_zero m c _ _ hz, PhiA0_eq]
      rw [outs0_A m c t h0]
      unfold outA
      iintro ⟨⟨HS0, Hg⟩, Ho, ⟨%d0, H0⟩, ⟨%d1, H1⟩, ⟨%d2, H2⟩, ⟨%d3, H3⟩, ⟨%d4, H4⟩, ⟨%d5, H5⟩⟩
      iapply ((runA c (grid0.coords t) _ _ _ _ _ _ _ _ _ _ _ _ _ _ (iblk m c 0 t) (iblk m c 1 t) (iblk m c 2 t) (iblk m c 3 t) (iblk m c 4 t) (hypA m c t h0)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hg]
      · isplitl [HS0]
        · unfold owns; iexists _; isplitr
          swap; · iexact HS0
          ipureintro
          exact (View.read_writes_of_cover _ _ _ _ _ (scoverA c _ _ _ _ _ _ _ _ _ _ _ _ _ _ _ _ _ _ _ _ _)).trans (soutA c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverA c _ _ _ _ _ _ _ _ _ _ _ _ _ _ _ _ _ _ _ _ _)
    · rw [PhiS_castSucc m c t, PhiS_pos m c _ _ hz]
      rw [outs0_A m c t h0]
      unfold outA
      iintro ⟨⟨HS0, Hg⟩, Ho, ⟨%d0, H0⟩, ⟨%d1, H1⟩, ⟨%d2, H2⟩, ⟨%d3, H3⟩, ⟨%d4, H4⟩, ⟨%d5, H5⟩⟩
      iapply ((runA c (grid0.coords t) _ _ _ _ _ _ _ _ _ _ _ _ _ _ (iblk m c 0 t) (iblk m c 1 t) (iblk m c 2 t) (iblk m c 3 t) (iblk m c 4 t) (hypA m c t h0)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      iintro ⟨H0, H1, H2, H3, H4, ⟨%e5, H5⟩, ⟨%es0, HS0⟩⟩
      isplitl [HS0 Hg]
      · isplitl [HS0]
        · unfold owns; iexists _; isplitr
          swap; · iexact HS0
          ipureintro
          exact (View.read_writes_of_cover _ _ _ _ _ (scoverA c _ _ _ _ _ _ _ _ _ _ _ _ _ _ _ _ _ _ _ _ _)).trans (soutA c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverA c _ _ _ _ _ _ _ _ _ _ _ _ _ _ _ _ _ _ _ _ _)
  · by_cases h1 : t.val % 5 = 1
    · rw [PhiS_castSucc m c t, PhiS_pos m c _ _ (by omega), scr_eq m c t ⟨t.val - 1, by omega⟩ (by show (t.val - 1) / 5 = t.val / 5; omega)]
      rw [outs0_B m c t h1]
      unfold outB
      iintro ⟨⟨HS0, Hg⟩, Ho, ⟨%d0, H0⟩, ⟨%d1, H1⟩, ⟨%d2, H2⟩, ⟨%d3, H3⟩, ⟨%d4, H4⟩, ⟨%d5, H5⟩⟩
      iapply ((runB c (grid0.coords t) _ _ _ _ _ _ _ _ _ _ _ _ _ _ (iblk m c 0 t) (iblk m c 1 t) (iblk m c 2 t) (iblk m c 3 t) (iblk m c 4 t) (hypB m c t h1) (scr m c t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverB c _ _ _ _ _ _ _ _ _ _ _ _ _ _ _ _ _ _ _ _ _ _)
    · by_cases h2 : t.val % 5 = 2
      · rw [PhiS_castSucc m c t, PhiS_pos m c _ _ (by omega), scr_eq m c t ⟨t.val - 1, by omega⟩ (by show (t.val - 1) / 5 = t.val / 5; omega)]
        rw [outs0_C m c t h2]
        unfold outC
        iintro ⟨⟨HS0, Hg⟩, Ho, ⟨%d0, H0⟩, ⟨%d1, H1⟩, ⟨%d2, H2⟩, ⟨%d3, H3⟩, ⟨%d4, H4⟩, ⟨%d5, H5⟩⟩
        iapply ((runC c (grid0.coords t) _ _ _ _ _ _ _ _ _ _ _ _ _ _ (iblk m c 0 t) (iblk m c 1 t) (iblk m c 2 t) (iblk m c 3 t) (iblk m c 4 t) (hypC m c t h2) (scr m c t)).2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, HS0⟩
        isplitl [HS0 Hg]
        · isplitl [HS0]; · iexact HS0
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (coverC c _ _ _ _ _ _ _ _ _ _ _ _ _ _ _ _ _ _ _ _ _ _)
      · have h3 : 2 < t.val % 5 := by omega
        rw [PhiS_castSucc m c t, PhiS_pos m c _ _ (by omega), scr_eq m c t ⟨t.val - 1, by omega⟩ (by show (t.val - 1) / 5 = t.val / 5; omega)]
        rw [outs0_D m c t h3]
        unfold outD
        iintro ⟨⟨HS0, Hg⟩, Ho, ⟨%d0, H0⟩, ⟨%d1, H1⟩, ⟨%d2, H2⟩, ⟨%d3, H3⟩, ⟨%d4, H4⟩, ⟨%d5, H5⟩⟩
        iapply ((runD c (grid0.coords t) _ _ _ _ _ _ _ _ _ _ _ _ _ _ (iblk m c 0 t) (iblk m c 1 t) (iblk m c 2 t) (iblk m c 3 t) (iblk m c 4 t) (hypD m c t h3) (scr m c t)).2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, HS0⟩
        isplitl [HS0 Hg]
        · isplitl [HS0]; · iexact HS0
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (coverD c _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the scratch's contents are forgotten. -/
theorem hout (c : Dev nD) : (dats m 0 c).Φ (Fin.last cfg0.N) ⊢ Pipeline.ΦA spec0 c := by
  have hN : cfg0.N = 55 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA0_eq]
  iintro ⟨HS0, Hg⟩
  isplitl [HS0]
  · iexists _; iexact HS0
  iexact Hg

/-! ## The run and the frame -/

set_option backward.isDefEq.respectTransparency.types false in
set_option maxHeartbeats 800000 in
/-- The launch: every final state has the pipeline's arrays at what the proof data computes, the rest as the region found
    it, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.InprojIdeal.Body

end
-- ==== Proof.InprojPays.lean ====
/- What a point of the input projection leaves in its block of columns: each run of 128 columns is the projected columns
   themselves, or each row's run divided by its root mean square, over all 128 lanes or over each half of them. -/
module

public import proofs.«01_k».proof.Proof.InprojIdealBody
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.InprojValue

open Cert.InprojIdeal Cert.InprojIdeal.Gen Cert.InprojIdeal.Body

/-- The added constant under each root. -/
abbrev eps : EReal := Ideal.ofBits .f32 0x358637BD#32

abbrev c128 : EReal := Ideal.ofBits .f32 0x43000000#32
abbrev c64 : EReal := Ideal.ofBits .f32 0x42800000#32
abbrev i64 : EReal := Ideal.ofBits .f32 0x3C800000#32

/-- A run of `n` numbers, each divided by the run's root mean square. -/
def rms (n : ℕ) (d : EReal) (f : Fin n → EReal) (l : Fin n) : EReal :=
  f l * Ideal.rsqrt (Ideal.div (∑ k, f k * f k) d + eps)

/-- Column `l` of the 128 from column `o` on. -/
abbrev at0 (o : ℕ) (ho : o + 128 ≤ 1280) (l : Fin 128) : Fin 1280 := ⟨o + l.val, by omega⟩

/-- The 128 columns from `o` on, normed over all of them, at their gains. -/
def N1 (o : ℕ) (ho : o + 128 ≤ 1280) (Y : Vec Ideal S768x1280 .f32) (g : Vec Ideal S1x1280 .f32) (r : Fin 768) (l : Fin 128) : EReal :=
  rms 128 c128 (fun k => Y (ix2 r (at0 o ho k))) l * g (ix2 0 (at0 o ho l))

/-- The 128 columns from `o` on, each half normed over itself, at their gains. -/
def N2 (o : ℕ) (ho : o + 128 ≤ 1280) (Y : Vec Ideal S768x1280 .f32) (g : Vec Ideal S1x1280 .f32) (r : Fin 768) (l : Fin 128) : EReal :=
  Y (ix2 r (at0 o ho l)) * Ideal.rsqrt ((if l.val < 64 then (∑ k : Fin 64, Y (ix2 r (at0 o ho ⟨k.val, by omega⟩)) * Y (ix2 r (at0 o ho ⟨k.val, by omega⟩)))
    else (∑ k : Fin 64, Y (ix2 r (at0 o ho ⟨64 + k.val, by omega⟩)) * Y (ix2 r (at0 o ho ⟨64 + k.val, by omega⟩)))) * i64 + eps) * g (ix2 0 (at0 o ho l))

theorem pay28_eq (g : Vec Ideal S1x1280 .f32) : k0_pay28 g = g := by
  funext x; pointwise [k0_pay28]

theorem lane (k : ℕ) (hk : k < 128) (a b : EReal) :
    Scalar.select (IntOp.cmpi CmpIPredicate.slt (BitVec.ofNat 32 k) 64#32) a b = if k < 64 then a else b := by
  have e : IntOp.cmpi CmpIPredicate.slt (BitVec.ofNat 32 k) 64#32 = if k < 64 then 1#1 else 0#1 := by
    revert hk; revert k; decide +kernel
  rw [e]
  by_cases h : k < 64
  · rw [if_pos h, if_pos h]; rfl
  · rw [if_neg h, if_neg h]; rfl

/-- The first 64 of 128 lanes kept, summed. -/
theorem sum_low (f : Fin 128 → EReal) :
    (∑ l : Fin 128, Scalar.select (IntOp.cmpi CmpIPredicate.slt (BitVec.ofNat 32 l.val) 64#32) (f l) 0) = ∑ k : Fin 64, f ⟨k.val, by omega⟩ := by
  simp only [fun l : Fin 128 => lane l.val l.isLt (f l) 0]
  rw [Fin.sum_univ_two_halves 64 64 rfl, Finset.sum_congr rfl fun (k : Fin 64) _ => if_pos k.isLt,
    Finset.sum_congr (g := fun _ => (0 : EReal)) rfl fun (k : Fin 64) _ => if_neg (by show ¬ (64 + k.val < 64); omega), Finset.sum_const_zero, add_zero]

/-- The last 64 of 128 lanes kept, summed. -/
theorem sum_high (f : Fin 128 → EReal) :
    (∑ l : Fin 128, Scalar.select (IntOp.cmpi CmpIPredicate.slt (BitVec.ofNat 32 l.val) 64#32) 0 (f l)) = ∑ k : Fin 64, f ⟨64 + k.val, by omega⟩ := by
  simp only [fun l : Fin 128 => lane l.val l.isLt 0 (f l)]
  rw [Fin.sum_univ_two_halves 64 64 rfl, Finset.sum_congr (g := fun _ => (0 : EReal)) rfl fun (k : Fin 64) _ => if_pos k.isLt,
    Finset.sum_congr rfl fun (k : Fin 64) _ => if_neg (by show ¬ (64 + k.val < 64); omega), Finset.sum_const_zero, zero_add]

variable (n : Vec Ideal S768x2048 .bf16) (w : Vec Ideal S1x2048x1280 .bf16) (Y : Vec Ideal S768x1280 .f32) (g : Vec Ideal S1x1280 .f32) (r : Fin 768) (l : Fin 128)

theorem at_pay29 : k0_pay29 (F := Ideal) n w (ix2 r l) = ((k0_pay27 n w) : Vec Ideal S768x1280 .f32) (ix2 r (at0 0 (by decide) l)) := by
  pointwise [k0_pay29]
  simp only [at0, Nat.zero_add]

theorem at_pay31 : k0_pay31 (F := Ideal) n w g (ix2 r l) = N1 0 (by decide) (k0_pay27 n w) g r l := by
  pointwise [k0_pay31, N1, rms, pay28_eq]
  simp only [at0, Nat.zero_add]

theorem at_pay7 : k0_pay7 (F := Ideal) Y g (ix2 r l) = N2 0 (by decide) Y g r l := by
  pointwise [k0_pay7, k0_pay6, pay28_eq]
  rw [lane _ l.isLt, sum_low (fun x => Y (ix2 r ⟨x.val, by omega⟩) * Y (ix2 r ⟨x.val, by omega⟩)), sum_high (fun x => Y (ix2 r ⟨x.val, by omega⟩) * Y (ix2 r ⟨x.val, by omega⟩))]
  simp only [N2, at0, Nat.zero_add]

theorem at_pay30 : k0_pay30 (F := Ideal) n w (ix2 r l) = ((k0_pay27 n w) : Vec Ideal S768x1280 .f32) (ix2 r (at0 128 (by decide) l)) := by
  pointwise [k0_pay30]

theorem at_pay32 : k0_pay32 (F := Ideal) n w g (ix2 r l) = N1 128 (by decide) (k0_pay27 n w) g r l := by
  pointwise [k0_pay32, N1, rms, pay28_eq]

theorem at_pay33 : k0_pay33 (F := Ideal) g (k0_pay8 Y) (k0_pay9 Y) (ix2 r l) = N2 128 (by decide) Y g r l := by
  pointwise [k0_pay33, k0_pay8, k0_pay9, k0_pay6, pay28_eq]
  rw [lane _ l.isLt, sum_low (fun x => Y (ix2 r (at0 128 (by decide) x)) * Y (ix2 r (at0 128 (by decide) x))), sum_high (fun x => Y (ix2 r (at0 128 (by decide) x)) * Y (ix2 r (at0 128 (by decide) x)))]
  rfl

theorem at_pay34 : k0_pay34 (F := Ideal) n w (ix2 r l) = ((k0_pay27 n w) : Vec Ideal S768x1280 .f32) (ix2 r (at0 256 (by decide) l)) := by
  pointwise [k0_pay34]

theorem at_pay36 : k0_pay36 (F := Ideal) Y g (ix2 r l) = N1 256 (by decide) Y g r l := by
  pointwise [k0_pay36, N1, rms]

theorem at_pay11 : k0_pay11 (F := Ideal) Y g (ix2 r l) = N2 256 (by decide) Y g r l := by
  pointwise [k0_pay11, k0_pay10]
  rw [lane _ l.isLt, sum_low (fun x => Y (ix2 r (at0 256 (by decide) x)) * Y (ix2 r (at0 256 (by decide) x))), sum_high (fun x => Y (ix2 r (at0 256 (by decide) x)) * Y (ix2 r (at0 256 (by decide) x)))]
  rfl

theorem at_pay35 : k0_pay35 (F := Ideal) n w (ix2 r l) = ((k0_pay27 n w) : Vec Ideal S768x1280 .f32) (ix2 r (at0 384 (by decide) l)) := by
  pointwise [k0_pay35]

theorem at_pay37 : k0_pay37 (F := Ideal) Y g (ix2 r l) = N1 384 (by decide) Y g r l := by
  pointwise [k0_pay37, N1, rms]

theorem at_pay38 : k0_pay38 (F := Ideal) g (k0_pay12 Y) (k0_pay13 Y) (ix2 r l) = N2 384 (by decide) Y g r l := by
  pointwise [k0_pay38, k0_pay12, k0_pay13, k0_pay10]
  rw [lane _ l.isLt, sum_low (fun x => Y (ix2 r (at0 384 (by decide) x)) * Y (ix2 r (at0 384 (by decide) x))), sum_high (fun x => Y (ix2 r (at0 384 (by decide) x)) * Y (ix2 r (at0 384 (by decide) x)))]
  rfl

theorem at_pay39 : k0_pay39 (F := Ideal) Y (ix2 r l) = (Y : Vec Ideal S768x1280 .f32) (ix2 r (at0 512 (by decide) l)) := by
  pointwise [k0_pay39]

theorem at_pay41 : k0_pay41 (F := Ideal) Y g (ix2 r l) = N1 512 (by decide) Y g r l := by
  pointwise [k0_pay41, N1, rms]

theorem at_pay15 : k0_pay15 (F := Ideal) Y g (ix2 r l) = N2 512 (by decide) Y g r l := by
  pointwise [k0_pay15, k0_pay14]
  rw [lane _ l.isLt, sum_low (fun x => Y (ix2 r (at0 512 (by decide) x)) * Y (ix2 r (at0 512 (by decide) x))), sum_high (fun x => Y (ix2 r (at0 512 (by decide) x)) * Y (ix2 r (at0 512 (by decide) x)))]
  rfl

theorem at_pay40 : k0_pay40 (F := Ideal) Y (ix2 r l) = (Y : Vec Ideal S768x1280 .f32) (ix2 r (at0 640 (by decide) l)) := by
  pointwise [k0_pay40]

theorem at_pay42 : k0_pay42 (F := Ideal) Y g (ix2 r l) = N1 640 (by decide) Y g r l := by
  pointwise [k0_pay42, N1, rms]

theorem at_pay43 : k0_pay43 (F := Ideal) g (k0_pay16 Y) (k0_pay17 Y) (ix2 r l) = N2 640 (by decide) Y g r l := by
  pointwise [k0_pay43, k0_pay16, k0_pay17, k0_pay14]
  rw [lane _ l.isLt, sum_low (fun x => Y (ix2 r (at0 640 (by decide) x)) * Y (ix2 r (at0 640 (by decide) x))), sum_high (fun x => Y (ix2 r (at0 640 (by decide) x)) * Y (ix2 r (at0 640 (by decide) x)))]
  rfl

theorem at_pay44 : k0_pay44 (F := Ideal) Y (ix2 r l) = (Y : Vec Ideal S768x1280 .f32) (ix2 r (at0 768 (by decide) l)) := by
  pointwise [k0_pay44]

theorem at_pay46 : k0_pay46 (F := Ideal) Y g (ix2 r l) = N1 768 (by decide) Y g r l := by
  pointwise [k0_pay46, N1, rms]

theorem at_pay19 : k0_pay19 (F := Ideal) Y g (ix2 r l) = N2 768 (by decide) Y g r l := by
  pointwise [k0_pay19, k0_pay18]
  rw [lane _ l.isLt, sum_low (fun x => Y (ix2 r (at0 768 (by decide) x)) * Y (ix2 r (at0 768 (by decide) x))), sum_high (fun x => Y (ix2 r (at0 768 (by decide) x)) * Y (ix2 r (at0 768 (by decide) x)))]
  rfl

theorem at_pay45 : k0_pay45 (F := Ideal) Y (ix2 r l) = (Y : Vec Ideal S768x1280 .f32) (ix2 r (at0 896 (by decide) l)) := by
  pointwise [k0_pay45]

theorem at_pay47 : k0_pay47 (F := Ideal) Y g (ix2 r l) = N1 896 (by decide) Y g r l := by
  pointwise [k0_pay47, N1, rms]

theorem at_pay48 : k0_pay48 (F := Ideal) g (k0_pay20 Y) (k0_pay21 Y) (ix2 r l) = N2 896 (by decide) Y g r l := by
  pointwise [k0_pay48, k0_pay20, k0_pay21, k0_pay18]
  rw [lane _ l.isLt, sum_low (fun x => Y (ix2 r (at0 896 (by decide) x)) * Y (ix2 r (at0 896 (by decide) x))), sum_high (fun x => Y (ix2 r (at0 896 (by decide) x)) * Y (ix2 r (at0 896 (by decide) x)))]
  rfl

theorem at_pay1 : k0_pay1 (F := Ideal) Y (ix2 r l) = (Y : Vec Ideal S768x1280 .f32) (ix2 r (at0 1024 (by decide) l)) := by
  pointwise [k0_pay1]

theorem at_pay3 : k0_pay3 (F := Ideal) Y g (ix2 r l) = N1 1024 (by decide) Y g r l := by
  pointwise [k0_pay3, N1, rms]

theorem at_pay2 : k0_pay2 (F := Ideal) Y (ix2 r l) = (Y : Vec Ideal S768x1280 .f32) (ix2 r (at0 1152 (by decide) l)) := by
  pointwise [k0_pay2]

theorem at_pay4 : k0_pay4 (F := Ideal) Y g (ix2 r l) = N1 1152 (by decide) Y g r l := by
  pointwise [k0_pay4, N1, rms]

end Cert.InprojValue

end
-- ==== Proof.InprojTiles.lean ====
/- What a point of the input projection leaves in its block of columns: each run of 128 columns is the projected columns
   themselves, or each row's run divided by its root mean square, over all 128 lanes or over each half of them. -/
module

public import proofs.«01_k».proof.Proof.InprojPays
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.InprojValue

open Cert.InprojIdeal Cert.InprojIdeal.Gen Cert.InprojIdeal.Body

/-- A column of the block, normed as its tile's word says. -/
def KB (k : ℕ → ℕ) (Y : Vec Ideal S768x1280 .f32) (g : Vec Ideal S1x1280 .f32) (r : Fin 768) (q : Fin 1280) : EReal :=
  if k (q.val / 256) = 1 then N1 (q.val / 128 * 128) (by omega) Y g r ⟨q.val % 128, by omega⟩
  else if k (q.val / 256) = 2 then N2 (q.val / 128 * 128) (by omega) Y g r ⟨q.val % 128, by omega⟩ else Y (ix2 r q)

section

variable (k : ℕ → ℕ) (Y : Vec Ideal S768x1280 .f32) (g : Vec Ideal S1x1280 .f32) (o : ℕ) (ho : o + 128 ≤ 1280) (hd : o % 128 = 0)
  (f : Fin 768 → Fin 128 → EReal) (P : FVec Ideal S768x128 .f32) (y : S768x1280.Idx) (x : S768x128.Idx) (h0 : (y 0).val = (x 0).val) (h1 : (y 1).val = o + (x 1).val)
include hd h0 h1

theorem piece_one (hk : k (o / 256) = 1) (hP : ∀ (r : Fin 768) (l : Fin 128), P (ix2 r l) = N1 o ho Y g r l) : P x = KB k Y g (y 0) (y 1) := by
  obtain ⟨r, l, rfl⟩ : ∃ (r : Fin 768) (l : Fin 128), x = ix2 r l := ⟨x 0, x 1, (ix2_eta x).symm⟩
  obtain ⟨s, q, rfl⟩ : ∃ (s : Fin 768) (q : Fin 1280), y = ix2 s q := ⟨y 0, y 1, (ix2_eta y).symm⟩
  obtain rfl : s = r := Fin.ext h0
  obtain rfl : q = ⟨o + l.val, Nat.lt_of_lt_of_le (Nat.add_lt_add_left l.isLt o) ho⟩ := Fin.ext h1
  have ek : k ((o + l.val) / 256) = 1 := by rw [show (o + l.val) / 256 = o / 256 by omega]; exact hk
  refine (hP s l).trans ?_
  show _ = KB k Y g s ⟨o + l.val, by omega⟩
  unfold KB
  rw [if_pos ek]
  have e1 : (o + l.val) / 128 * 128 = o := by omega
  have e2 : (o + l.val) % 128 = l.val := by omega
  simp only [e1, e2]

theorem piece_two (hk : k (o / 256) = 2) (hP : ∀ (r : Fin 768) (l : Fin 128), P (ix2 r l) = N2 o ho Y g r l) : P x = KB k Y g (y 0) (y 1) := by
  obtain ⟨r, l, rfl⟩ : ∃ (r : Fin 768) (l : Fin 128), x = ix2 r l := ⟨x 0, x 1, (ix2_eta x).symm⟩
  obtain ⟨s, q, rfl⟩ : ∃ (s : Fin 768) (q : Fin 1280), y = ix2 s q := ⟨y 0, y 1, (ix2_eta y).symm⟩
  obtain rfl : s = r := Fin.ext h0
  obtain rfl : q = ⟨o + l.val, Nat.lt_of_lt_of_le (Nat.add_lt_add_left l.isLt o) ho⟩ := Fin.ext h1
  have ek : k ((o + l.val) / 256) = 2 := by rw [show (o + l.val) / 256 = o / 256 by omega]; exact hk
  refine (hP s l).trans ?_
  show _ = KB k Y g s ⟨o + l.val, by omega⟩
  unfold KB
  rw [if_neg (by rw [ek]; decide), if_pos ek]
  have e1 : (o + l.val) / 128 * 128 = o := by omega
  have e2 : (o + l.val) % 128 = l.val := by omega
  simp only [e1, e2]

theorem piece_zero (hk : k (o / 256) = 0) (hP : ∀ (r : Fin 768) (l : Fin 128), P (ix2 r l) = Y (ix2 r (at0 o ho l))) : P x = KB k Y g (y 0) (y 1) := by
  obtain ⟨r, l, rfl⟩ : ∃ (r : Fin 768) (l : Fin 128), x = ix2 r l := ⟨x 0, x 1, (ix2_eta x).symm⟩
  obtain ⟨s, q, rfl⟩ : ∃ (s : Fin 768) (q : Fin 1280), y = ix2 s q := ⟨y 0, y 1, (ix2_eta y).symm⟩
  obtain rfl : s = r := Fin.ext h0
  obtain rfl : q = ⟨o + l.val, Nat.lt_of_lt_of_le (Nat.add_lt_add_left l.isLt o) ho⟩ := Fin.ext h1
  have ek : k ((o + l.val) / 256) = 0 := by rw [show (o + l.val) / 256 = o / 256 by omega]; exact hk
  refine (hP s l).trans ?_
  show _ = KB k Y g s ⟨o + l.val, by omega⟩
  unfold KB
  rw [if_neg (by rw [ek]; decide), if_neg (by rw [ek]; decide)]

end

/-- Kinds of a block's tiles: the table's row. -/
def kinds (j n : ℕ) : ℕ := (tbl (j * 5 + n)).toNat

variable (m : (ℓ : Loc nD τ sig) → Buf (Elt Ideal) ℓ)

set_option maxHeartbeats 2000000 in
theorem outs_A (c : Dev nD) (t : Fin cfg0.N) (h : t.val % 5 = 0) (y : S768x1280.Idx) :
    outs0 m c t y = KB (kinds 0) (k0_pay27 (scr m c t) (iblk m c 3 t)) (iblk m c 4 t) (y 0) (y 1) := by
  rw [outs0_A m c t h]
  unfold outA runA
  frame_out
  unfold scr
  generalize k0_pay26 (iblk m c 1 t) (iblk m c 2 t) = n
  generalize (iblk m c 3 t : Vec Ideal S1x2048x1280 .bf16) = w
  generalize (iblk m c 4 t : Vec Ideal S1x1280 .f32) = g
  simp only [pay28_eq]
  clear h
  canon_tiles x h
  case piece0 => exact piece_zero _ _ _ 1152 (by decide) (by decide) _ y x h0 h1 (by decide) (fun r l => at_pay2 _ r l)
  case piece1 => exact piece_zero _ _ _ 1024 (by decide) (by decide) _ y x h0 h1 (by decide) (fun r l => at_pay1 _ r l)
  case piece2 => exact piece_one _ _ _ 896 (by decide) (by decide) _ y x h0 h1 (by decide) (fun r l => at_pay47 _ _ r l)
  case piece3 => exact piece_one _ _ _ 768 (by decide) (by decide) _ y x h0 h1 (by decide) (fun r l => at_pay46 _ _ r l)
  case piece4 => exact piece_one _ _ _ 640 (by decide) (by decide) _ y x h0 h1 (by decide) (fun r l => at_pay42 _ _ r l)
  case piece5 => exact piece_one _ _ _ 512 (by decide) (by decide) _ y x h0 h1 (by decide) (fun r l => at_pay41 _ _ r l)
  case piece6 => exact piece_one _ _ _ 384 (by decide) (by decide) _ y x h0 h1 (by decide) (fun r l => at_pay37 _ _ r l)
  case piece7 => exact piece_one _ _ _ 256 (by decide) (by decide) _ y x h0 h1 (by decide) (fun r l => at_pay36 _ _ r l)
  case piece8 => exact piece_one _ _ _ 128 (by decide) (by decide) _ y x h0 h1 (by decide) (fun r l => at_pay32 n w _ r l)
  case piece9 => exact piece_one _ _ _ 0 (by decide) (by decide) _ y x h0 (h1.trans (Nat.zero_add _).symm) (by decide) (fun r l => at_pay31 n w _ r l)

set_option maxHeartbeats 2000000 in
theorem outs_B (c : Dev nD) (t : Fin cfg0.N) (h : t.val % 5 = 1) (y : S768x1280.Idx) :
    outs0 m c t y = KB (kinds 1) (k0_pay27 (scr m c t) (iblk m c 3 t)) (iblk m c 4 t) (y 0) (y 1) := by
  rw [outs0_B m c t h]
  unfold outB runB
  frame_out
  generalize scr m c t = n
  have e : View.read (Elt Ideal) (View.whole cc0_scratch0) ((Memref.isWhole_whole cc0_scratch0).unread n) = n :=
    Memref.IsWhole.read_unread _ n
  rw [e]
  generalize (iblk m c 3 t : Vec Ideal S1x2048x1280 .bf16) = w
  generalize (iblk m c 4 t : Vec Ideal S1x1280 .f32) = g
  simp only [pay28_eq]
  clear h e
  canon_tiles x h
  case piece0 => exact piece_zero _ _ _ 1152 (by decide) (by decide) _ y x h0 h1 (by decide) (fun r l => at_pay2 _ r l)
  case piece1 => exact piece_zero _ _ _ 1024 (by decide) (by decide) _ y x h0 h1 (by decide) (fun r l => at_pay1 _ r l)
  case piece2 => exact piece_one _ _ _ 896 (by decide) (by decide) _ y x h0 h1 (by decide) (fun r l => at_pay47 _ _ r l)
  case piece3 => exact piece_one _ _ _ 768 (by decide) (by decide) _ y x h0 h1 (by decide) (fun r l => at_pay46 _ _ r l)
  case piece4 => exact piece_zero _ _ _ 640 (by decide) (by decide) _ y x h0 h1 (by decide) (fun r l => at_pay40 _ r l)
  case piece5 => exact piece_zero _ _ _ 512 (by decide) (by decide) _ y x h0 h1 (by decide) (fun r l => at_pay39 _ r l)
  case piece6 => exact piece_one _ _ _ 384 (by decide) (by decide) _ y x h0 h1 (by decide) (fun r l => at_pay37 _ _ r l)
  case piece7 => exact piece_one _ _ _ 256 (by decide) (by decide) _ y x h0 h1 (by decide) (fun r l => at_pay36 _ _ r l)
  case piece8 => exact piece_zero _ _ _ 128 (by decide) (by decide) _ y x h0 h1 (by decide) (fun r l => at_pay30 n w r l)
  case piece9 => exact piece_zero _ _ _ 0 (by decide) (by decide) _ y x h0 (h1.trans (Nat.zero_add _).symm) (by decide) (fun r l => at_pay29 n w r l)

set_option maxHeartbeats 2000000 in
theorem outs_C (c : Dev nD) (t : Fin cfg0.N) (h : t.val % 5 = 2) (y : S768x1280.Idx) :
    outs0 m c t y = KB (kinds 2) (k0_pay27 (scr m c t) (iblk m c 3 t)) (iblk m c 4 t) (y 0) (y 1) := by
  rw [outs0_C m c t h]
  unfold outC runC
  frame_out
  generalize scr m c t = n
  have e : View.read (Elt Ideal) (View.whole cc0_scratch0) ((Memref.isWhole_whole cc0_scratch0).unread n) = n :=
    Memref.IsWhole.read_unread _ n
  rw [e]
  generalize (iblk m c 3 t : Vec Ideal S1x2048x1280 .bf16) = w
  generalize (iblk m c 4 t : Vec Ideal S1x1280 .f32) = g
  simp only [pay28_eq]
  clear h e
  canon_tiles x h
  case piece0 => exact piece_zero _ _ _ 1152 (by decide) (by decide) _ y x h0 h1 (by decide) (fun r l => at_pay2 _ r l)
  case piece1 => exact piece_zero _ _ _ 1024 (by decide) (by decide) _ y x h0 h1 (by decide) (fun r l => at_pay1 _ r l)
  case piece2 => exact piece_two _ _ _ 896 (by decide) (by decide) _ y x h0 h1 (by decide) (fun r l => at_pay48 _ _ r l)
  case piece3 => exact piece_two _ _ _ 768 (by decide) (by decide) _ y x h0 h1 (by decide) (fun r l => at_pay19 _ _ r l)
  case piece4 => exact piece_two _ _ _ 640 (by decide) (by decide) _ y x h0 h1 (by decide) (fun r l => at_pay43 _ _ r l)
  case piece5 => exact piece_two _ _ _ 512 (by decide) (by decide) _ y x h0 h1 (by decide) (fun r l => at_pay15 _ _ r l)
  case piece6 => exact piece_two _ _ _ 384 (by decide) (by decide) _ y x h0 h1 (by decide) (fun r l => at_pay38 _ _ r l)
  case piece7 => exact piece_two _ _ _ 256 (by decide) (by decide) _ y x h0 h1 (by decide) (fun r l => at_pay11 _ _ r l)
  case piece8 => exact piece_two _ _ _ 128 (by decide) (by decide) _ y x h0 h1 (by decide) (fun r l => at_pay33 _ _ r l)
  case piece9 => exact piece_two _ _ _ 0 (by decide) (by decide) _ y x h0 (h1.trans (Nat.zero_add _).symm) (by decide) (fun r l => at_pay7 _ _ r l)

set_option maxHeartbeats 2000000 in
theorem outs_D (c : Dev nD) (t : Fin cfg0.N) (h : 2 < t.val % 5) (y : S768x1280.Idx) :
    outs0 m c t y = KB (kinds (t.val % 5)) (k0_pay27 (scr m c t) (iblk m c 3 t)) (iblk m c 4 t) (y 0) (y 1) := by
  rw [outs0_D m c t h]
  have hk : ∀ n < 5, kinds (t.val % 5) n = 0 := by
    intro n hn
    obtain e | e : t.val % 5 = 3 ∨ t.val % 5 = 4 := by omega
    · rw [e]; revert n; decide
    · rw [e]; revert n; decide
  generalize kinds (t.val % 5) = kk at hk ⊢
  unfold outD runD
  frame_out
  generalize scr m c t = n
  have e : View.read (Elt Ideal) (View.whole cc0_scratch0) ((Memref.isWhole_whole cc0_scratch0).unread n) = n :=
    Memref.IsWhole.read_unread _ n
  rw [e]
  generalize (iblk m c 3 t : Vec Ideal S1x2048x1280 .bf16) = w
  generalize (iblk m c 4 t : Vec Ideal S1x1280 .f32) = g
  clear h e
  canon_tiles x h
  case piece0 => exact piece_zero _ _ _ 1152 (by decide) (by decide) _ y x h0 h1 (hk 4 (by decide)) (fun r l => at_pay2 _ r l)
  case piece1 => exact piece_zero _ _ _ 1024 (by decide) (by decide) _ y x h0 h1 (hk 4 (by decide)) (fun r l => at_pay1 _ r l)
  case piece2 => exact piece_zero _ _ _ 896 (by decide) (by decide) _ y x h0 h1 (hk 3 (by decide)) (fun r l => at_pay45 _ r l)
  case piece3 => exact piece_zero _ _ _ 768 (by decide) (by decide) _ y x h0 h1 (hk 3 (by decide)) (fun r l => at_pay44 _ r l)
  case piece4 => exact piece_zero _ _ _ 640 (by decide) (by decide) _ y x h0 h1 (hk 2 (by decide)) (fun r l => at_pay40 _ r l)
  case piece5 => exact piece_zero _ _ _ 512 (by decide) (by decide) _ y x h0 h1 (hk 2 (by decide)) (fun r l => at_pay39 _ r l)
  case piece6 => exact piece_zero _ _ _ 384 (by decide) (by decide) _ y x h0 h1 (hk 1 (by decide)) (fun r l => at_pay35 n w r l)
  case piece7 => exact piece_zero _ _ _ 256 (by decide) (by decide) _ y x h0 h1 (hk 1 (by decide)) (fun r l => at_pay34 n w r l)
  case piece8 => exact piece_zero _ _ _ 128 (by decide) (by decide) _ y x h0 h1 (hk 0 (by decide)) (fun r l => at_pay30 n w r l)
  case piece9 => exact piece_zero _ _ _ 0 (by decide) (by decide) _ y x h0 (h1.trans (Nat.zero_add _).symm) (hk 0 (by decide)) (fun r l => at_pay29 n w r l)

/-- What a point leaves in its block. -/
theorem outs_eq (c : Dev nD) (t : Fin cfg0.N) (y : S768x1280.Idx) :
    outs0 m c t y = KB (kinds (t.val % 5)) (k0_pay27 (scr m c t) (iblk m c 3 t)) (iblk m c 4 t) (y 0) (y 1) := by
  obtain e | e | e | e : t.val % 5 = 0 ∨ t.val % 5 = 1 ∨ t.val % 5 = 2 ∨ 2 < t.val % 5 := by omega
  · rw [e]; exact outs_A m c t e y
  · rw [e]; exact outs_B m c t e y
  · rw [e]; exact outs_C m c t e y
  · exact outs_D m c t e y

end Cert.InprojValue

end
-- ==== Proof.InprojRef.lean ====
/- The input projection's reference at a row and column: which projected column it is, and for the normed columns the run
   whose root mean square divides it. -/
module

public import proofs.«01_k».proof.Proof.InprojPays
public import proofs.«01_k».proof.Proof.Gen.InprojRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.InprojRefValue

open Cert.InprojRefIdeal Cert.InprojRefIdeal.Gen Cert.InprojRefIdeal.Read
open Cert.InprojValue (rms c128 c64 eps)

variable (x0 : FVec Ideal S8448x2048 .f32) (x1 : FVec Ideal S2048 .f32) (x2 : FVec Ideal S2x2048x6176 .f32) (x3 : FVec Ideal S128 .f32)
  (x4 : FVec Ideal S3x128 .f32) (x5 x6 : FVec Ideal S64 .f32) (r : Fin 8448)

/-- The reference's projected columns. -/
abbrev U (r : Fin 8448) (c : Fin 6176) : EReal := val_main_v15 (F := Ideal) x0 x1 x2 (ix2 r c)

/-- The reference's result. -/
abbrev R (r : Fin 8448) (C : Fin 6400) : EReal := val_main_v131 (F := Ideal) x0 x1 x2 x3 x4 x5 x6 (ix2 r C)

/-- The two scales of the queries. -/
abbrev sq128 : EReal := Ideal.ofBits .f32 0x3E0293EE#32
abbrev sq64 : EReal := Ideal.ofBits .f32 0x3E38AA3B#32

/-- A constant zero starts no sum. -/
theorem zero_start (x : EReal) : Ideal.ofBits .f32 0x00000000#32 + x = x := by
  rw [show Ideal.ofBits .f32 0x00000000#32 = 0 by simp [Ideal.ofBits, Ideal.ieee], zero_add]

set_option maxHeartbeats 4000000 in
theorem piece_0 (l : Fin 1024) : R x0 x1 x2 x3 x4 x5 x6 r ⟨0 + l.val, by omega⟩ = val_main_v126 (F := Ideal) x0 x1 x2 x3 (ix2 r l) := by
  unfold R val_main_v131
  refine concatenate_apply_piece (t := S8448x6400) 1 _ _ _ 0 (by show 0 < 14; decide) S8448x1024 _ rfl rfl 0 rfl (ix2 r l) (fun b hb => ?_) rfl
  match b with
  | ⟨0, _⟩ => rfl
  | ⟨1, _⟩ => exact absurd rfl hb

set_option maxHeartbeats 4000000 in
theorem piece_1 (l : Fin 1024) : R x0 x1 x2 x3 x4 x5 x6 r ⟨1024 + l.val, by omega⟩ = val_main_v127 (F := Ideal) x0 x1 x2 x4 (ix2 r l) := by
  unfold R val_main_v131
  refine concatenate_apply_piece (t := S8448x6400) 1 _ _ _ 1 (by show 1 < 14; decide) S8448x1024 _ rfl rfl 1024 rfl (ix2 r l) (fun b hb => ?_) rfl
  match b with
  | ⟨0, _⟩ => rfl
  | ⟨1, _⟩ => exact absurd rfl hb

set_option maxHeartbeats 4000000 in
theorem piece_2 (l : Fin 512) : R x0 x1 x2 x3 x4 x5 x6 r ⟨2048 + l.val, by omega⟩ = val_main_v128 (F := Ideal) x0 x1 x2 x4 (ix2 r l) := by
  unfold R val_main_v131
  refine concatenate_apply_piece (t := S8448x6400) 1 _ _ _ 2 (by show 2 < 14; decide) S8448x512 _ rfl rfl 2048 rfl (ix2 r l) (fun b hb => ?_) rfl
  match b with
  | ⟨0, _⟩ => rfl
  | ⟨1, _⟩ => exact absurd rfl hb

set_option maxHeartbeats 4000000 in
theorem piece_3 (l : Fin 512) : R x0 x1 x2 x3 x4 x5 x6 r ⟨2560 + l.val, by omega⟩ = val_main_v129 (F := Ideal) x0 x1 x2 x5 (ix2 r l) := by
  unfold R val_main_v131
  refine concatenate_apply_piece (t := S8448x6400) 1 _ _ _ 3 (by show 3 < 14; decide) S8448x512 _ rfl rfl 2560 rfl (ix2 r l) (fun b hb => ?_) rfl
  match b with
  | ⟨0, _⟩ => rfl
  | ⟨1, _⟩ => exact absurd rfl hb

set_option maxHeartbeats 4000000 in
theorem piece_4 (l : Fin 512) : R x0 x1 x2 x3 x4 x5 x6 r ⟨3072 + l.val, by omega⟩ = val_main_v130 (F := Ideal) x0 x1 x2 x6 (ix2 r l) := by
  unfold R val_main_v131
  refine concatenate_apply_piece (t := S8448x6400) 1 _ _ _ 4 (by show 4 < 14; decide) S8448x512 _ rfl rfl 3072 rfl (ix2 r l) (fun b hb => ?_) rfl
  match b with
  | ⟨0, _⟩ => rfl
  | ⟨1, _⟩ => exact absurd rfl hb

set_option maxHeartbeats 4000000 in
theorem piece_5 (l : Fin 512) : R x0 x1 x2 x3 x4 x5 x6 r ⟨3584 + l.val, by omega⟩ = val_main_v21 (F := Ideal) x0 x1 x2 (ix2 r l) := by
  unfold R val_main_v131
  refine concatenate_apply_piece (t := S8448x6400) 1 _ _ _ 5 (by show 5 < 14; decide) S8448x512 _ rfl rfl 3584 rfl (ix2 r l) (fun b hb => ?_) rfl
  match b with
  | ⟨0, _⟩ => rfl
  | ⟨1, _⟩ => exact absurd rfl hb

theorem R_5 (l : Fin 512) : R x0 x1 x2 x3 x4 x5 x6 r ⟨3584 + l.val, by omega⟩ = U x0 x1 x2 r ⟨3608 + l.val, by omega⟩ := by
  refine (piece_5 x0 x1 x2 x3 x4 x5 x6 r l).trans ?_
  pointwise [val_main_v21]

set_option maxHeartbeats 4000000 in
theorem piece_6 (l : Fin 512) : R x0 x1 x2 x3 x4 x5 x6 r ⟨4096 + l.val, by omega⟩ = val_main_v22 (F := Ideal) x0 x1 x2 (ix2 r l) := by
  unfold R val_main_v131
  refine concatenate_apply_piece (t := S8448x6400) 1 _ _ _ 6 (by show 6 < 14; decide) S8448x512 _ rfl rfl 4096 rfl (ix2 r l) (fun b hb => ?_) rfl
  match b with
  | ⟨0, _⟩ => rfl
  | ⟨1, _⟩ => exact absurd rfl hb

theorem R_6 (l : Fin 512) : R x0 x1 x2 x3 x4 x5 x6 r ⟨4096 + l.val, by omega⟩ = U x0 x1 x2 r ⟨4120 + l.val, by omega⟩ := by
  refine (piece_6 x0 x1 x2 x3 x4 x5 x6 r l).trans ?_
  pointwise [val_main_v22]

set_option maxHeartbeats 4000000 in
theorem piece_7 (l : Fin 512) : R x0 x1 x2 x3 x4 x5 x6 r ⟨4608 + l.val, by omega⟩ = val_main_v23 (F := Ideal) x0 x1 x2 (ix2 r l) := by
  unfold R val_main_v131
  refine concatenate_apply_piece (t := S8448x6400) 1 _ _ _ 7 (by show 7 < 14; decide) S8448x512 _ rfl rfl 4608 rfl (ix2 r l) (fun b hb => ?_) rfl
  match b with
  | ⟨0, _⟩ => rfl
  | ⟨1, _⟩ => exact absurd rfl hb

theorem R_7 (l : Fin 512) : R x0 x1 x2 x3 x4 x5 x6 r ⟨4608 + l.val, by omega⟩ = U x0 x1 x2 r ⟨4632 + l.val, by omega⟩ := by
  refine (piece_7 x0 x1 x2 x3 x4 x5 x6 r l).trans ?_
  pointwise [val_main_v23]

set_option maxHeartbeats 4000000 in
theorem piece_8 (l : Fin 512) : R x0 x1 x2 x3 x4 x5 x6 r ⟨5120 + l.val, by omega⟩ = val_main_v24 (F := Ideal) x0 x1 x2 (ix2 r l) := by
  unfold R val_main_v131
  refine concatenate_apply_piece (t := S8448x6400) 1 _ _ _ 8 (by show 8 < 14; decide) S8448x512 _ rfl rfl 5120 rfl (ix2 r l) (fun b hb => ?_) rfl
  match b with
  | ⟨0, _⟩ => rfl
  | ⟨1, _⟩ => exact absurd rfl hb

theorem R_8 (l : Fin 512) : R x0 x1 x2 x3 x4 x5 x6 r ⟨5120 + l.val, by omega⟩ = U x0 x1 x2 r ⟨5144 + l.val, by omega⟩ := by
  refine (piece_8 x0 x1 x2 x3 x4 x5 x6 r l).trans ?_
  pointwise [val_main_v24]

set_option maxHeartbeats 4000000 in
theorem piece_9 (l : Fin 512) : R x0 x1 x2 x3 x4 x5 x6 r ⟨5632 + l.val, by omega⟩ = val_main_v27 (F := Ideal) x0 x1 x2 (ix2 r l) := by
  unfold R val_main_v131
  refine concatenate_apply_piece (t := S8448x6400) 1 _ _ _ 9 (by show 9 < 14; decide) S8448x512 _ rfl rfl 5632 rfl (ix2 r l) (fun b hb => ?_) rfl
  match b with
  | ⟨0, _⟩ => rfl
  | ⟨1, _⟩ => exact absurd rfl hb

theorem R_9 (l : Fin 512) : R x0 x1 x2 x3 x4 x5 x6 r ⟨5632 + l.val, by omega⟩ = U x0 x1 x2 r ⟨5664 + l.val, by omega⟩ := by
  refine (piece_9 x0 x1 x2 x3 x4 x5 x6 r l).trans ?_
  pointwise [val_main_v27]

set_option maxHeartbeats 4000000 in
theorem piece_10 (l : Fin 24) : R x0 x1 x2 x3 x4 x5 x6 r ⟨6144 + l.val, by omega⟩ = val_main_v18 (F := Ideal) x0 x1 x2 (ix2 r l) := by
  unfold R val_main_v131
  refine concatenate_apply_piece (t := S8448x6400) 1 _ _ _ 10 (by show 10 < 14; decide) S8448x24 _ rfl rfl 6144 rfl (ix2 r l) (fun b hb => ?_) rfl
  match b with
  | ⟨0, _⟩ => rfl
  | ⟨1, _⟩ => exact absurd rfl hb

theorem R_10 (l : Fin 24) : R x0 x1 x2 x3 x4 x5 x6 r ⟨6144 + l.val, by omega⟩ = U x0 x1 x2 r ⟨2560 + l.val, by omega⟩ := by
  refine (piece_10 x0 x1 x2 x3 x4 x5 x6 r l).trans ?_
  pointwise [val_main_v18]

set_option maxHeartbeats 4000000 in
theorem piece_11 (l : Fin 4) : R x0 x1 x2 x3 x4 x5 x6 r ⟨6168 + l.val, by omega⟩ = val_main_v25 (F := Ideal) x0 x1 x2 (ix2 r l) := by
  unfold R val_main_v131
  refine concatenate_apply_piece (t := S8448x6400) 1 _ _ _ 11 (by show 11 < 14; decide) S8448x4 _ rfl rfl 6168 rfl (ix2 r l) (fun b hb => ?_) rfl
  match b with
  | ⟨0, _⟩ => rfl
  | ⟨1, _⟩ => exact absurd rfl hb

theorem R_11 (l : Fin 4) : R x0 x1 x2 x3 x4 x5 x6 r ⟨6168 + l.val, by omega⟩ = U x0 x1 x2 r ⟨5656 + l.val, by omega⟩ := by
  refine (piece_11 x0 x1 x2 x3 x4 x5 x6 r l).trans ?_
  pointwise [val_main_v25]

set_option maxHeartbeats 4000000 in
theorem piece_12 (l : Fin 4) : R x0 x1 x2 x3 x4 x5 x6 r ⟨6172 + l.val, by omega⟩ = val_main_v26 (F := Ideal) x0 x1 x2 (ix2 r l) := by
  unfold R val_main_v131
  refine concatenate_apply_piece (t := S8448x6400) 1 _ _ _ 12 (by show 12 < 14; decide) S8448x4 _ rfl rfl 6172 rfl (ix2 r l) (fun b hb => ?_) rfl
  match b with
  | ⟨0, _⟩ => rfl
  | ⟨1, _⟩ => exact absurd rfl hb

theorem R_12 (l : Fin 4) : R x0 x1 x2 x3 x4 x5 x6 r ⟨6172 + l.val, by omega⟩ = U x0 x1 x2 r ⟨5660 + l.val, by omega⟩ := by
  refine (piece_12 x0 x1 x2 x3 x4 x5 x6 r l).trans ?_
  pointwise [val_main_v26]

set_option maxHeartbeats 4000000 in
theorem piece_13 (l : Fin 224) : R x0 x1 x2 x3 x4 x5 x6 r ⟨6176 + l.val, by omega⟩ = val_main_v125 (F := Ideal)  (ix2 r l) := by
  unfold R val_main_v131
  refine concatenate_apply_piece (t := S8448x6400) 1 _ _ _ 13 (by show 13 < 14; decide) S8448x224 _ rfl rfl 6176 rfl (ix2 r l) (fun b hb => ?_) rfl
  match b with
  | ⟨0, _⟩ => rfl
  | ⟨1, _⟩ => exact absurd rfl hb

theorem R_13 (l : Fin 224) : R x0 x1 x2 x3 x4 x5 x6 r ⟨6176 + l.val, by omega⟩ = 0 := by
  refine (piece_13 x0 x1 x2 x3 x4 x5 x6 r l).trans ?_
  pointwise [val_main_v125, val_main_cst_19]

theorem q_at (h : Fin 8) (d : Fin 128) : val_main_v43 (F := Ideal) x0 x1 x2 x3 (ix3 r h d)
    = rms 128 c128 (fun k => U x0 x1 x2 r ⟨h.val * 128 + k.val, by omega⟩) d * x3 (ix1 d) * sq128 := by
  pointwise [val_main_v43, val_main_v42, val_main_v41, val_main_v40, val_main_v39, val_main_v38, val_main_v37, val_main_v36, val_main_v35, val_main_v34, val_main_v33, val_main_v32, val_main_v31, val_main_v30, val_main_v29, val_main_v28, val_main_v16, val_main_cst_2, val_main_cst_3, val_main_cst_4, val_main_cst_5]
  rfl

theorem slc_at (h : Fin 2) (d : Fin 128) : val_main_v61 (F := Ideal) x0 x1 x2 x4 (ix3 r h d)
    = rms 128 c128 (fun k => U x0 x1 x2 r ⟨1024 + (512 + h.val * 128 + k.val), by omega⟩) d * x4 (ix2 1 d) := by
  pointwise [val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v17, val_main_cst_6, val_main_cst_7, val_main_cst_8]
  rfl

theorem win_at (h : Fin 2) (d : Fin 128) : val_main_v78 (F := Ideal) x0 x1 x2 x4 (ix3 r h d)
    = rms 128 c128 (fun k => U x0 x1 x2 r ⟨1024 + (1024 + h.val * 128 + k.val), by omega⟩) d * x4 (ix2 2 d) := by
  pointwise [val_main_v78, val_main_v77, val_main_v76, val_main_v75, val_main_v74, val_main_v73, val_main_v72, val_main_v71, val_main_v70, val_main_v69, val_main_v68, val_main_v67, val_main_v66, val_main_v65, val_main_v64, val_main_v63, val_main_v62, val_main_v44, val_main_v17, val_main_cst_9, val_main_cst_10, val_main_cst_11]
  rfl

theorem dq_at (a : Fin 4) (b : Fin 2) (d : Fin 64) : val_main_v110 (F := Ideal) x0 x1 x2 x5 (ix4 r a b d)
    = rms 64 c64 (fun k => U x0 x1 x2 r ⟨2584 + (a.val * 128 + b.val * 64 + k.val), by omega⟩) d * x5 (ix1 d) * sq64 := by
  pointwise [val_main_v110, val_main_v109, val_main_v108, val_main_v107, val_main_v106, val_main_v105, val_main_v104, val_main_v103, val_main_v102, val_main_v101, val_main_v100, val_main_v99, val_main_v98, val_main_v97, val_main_v96, val_main_v95, val_main_v19, val_main_cst_12, val_main_cst_13, val_main_cst_14, val_main_cst_15]

  rfl

theorem dk_at (a : Fin 4) (b : Fin 2) (d : Fin 64) : val_main_v124 (F := Ideal) x0 x1 x2 x6 (ix4 r a b d)
    = rms 64 c64 (fun k => U x0 x1 x2 r ⟨3096 + (a.val * 128 + b.val * 64 + k.val), by omega⟩) d * x6 (ix1 d) := by
  pointwise [val_main_v124, val_main_v123, val_main_v122, val_main_v121, val_main_v120, val_main_v119, val_main_v118, val_main_v117, val_main_v116, val_main_v115, val_main_v114, val_main_v113, val_main_v112, val_main_v111, val_main_v20, val_main_cst_16, val_main_cst_17, val_main_cst_18]
  rfl

end Cert.InprojRefValue

end
-- ==== Proof.InprojPack.lean ====
/- What the host hands the input projection's kernel: the weights with their columns moved and padded, and one gain for
   each column. -/
module

public import proofs.«01_k».proof.Proof.InprojTiles
public import proofs.«01_k».proof.Proof.InprojRef
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.InprojValue

open Cert.InprojIdeal Cert.InprojIdeal.Gen Cert.InprojIdeal.Body
open Cert.InprojRefValue (sq128 sq64)

variable (m : (ℓ : Loc nD τ sig) → Buf (Elt Ideal) ℓ)

/-! ## The arguments -/

abbrev aX (c : Dev nD) : FVec Ideal S8448x2048 .f32 := m ((c : Thread nD τ).loc main_arg0)
abbrev aG (c : Dev nD) : FVec Ideal S2048 .f32 := m ((c : Thread nD τ).loc main_arg1)
abbrev aW (c : Dev nD) : FVec Ideal S2x2048x6176 .f32 := m ((c : Thread nD τ).loc main_arg2)
abbrev aQ (c : Dev nD) : FVec Ideal S128 .f32 := m ((c : Thread nD τ).loc main_arg3)
abbrev aK (c : Dev nD) : FVec Ideal S3x128 .f32 := m ((c : Thread nD τ).loc main_arg4)
abbrev aD (c : Dev nD) : FVec Ideal S64 .f32 := m ((c : Thread nD τ).loc main_arg5)
abbrev aE (c : Dev nD) : FVec Ideal S64 .f32 := m ((c : Thread nD τ).loc main_arg6)

/-! ## The weights -/

/-- The weights' columns in the kernel's order. -/
def packed (w : FVec Ideal S2x2048x6176 .f32) : FVec Ideal S2x2048x6176 .f32 :=
  concatenate S2x2048x6176 2 [⟨S2x2048x1024, extractStridedSlice S2x2048x1024 ![0, 0, 0] w slices_S2x2048x6176_S2x2048x1024_0_0_0⟩, ⟨S2x2048x1536, extractStridedSlice S2x2048x1536 ![0, 0, 1024] w slices_S2x2048x6176_S2x2048x1536_0_0_1024⟩, ⟨S2x2048x512, extractStridedSlice S2x2048x512 ![0, 0, 2584] w slices_S2x2048x6176_S2x2048x512_0_0_2584⟩, ⟨S2x2048x512, extractStridedSlice S2x2048x512 ![0, 0, 3096] w slices_S2x2048x6176_S2x2048x512_0_0_3096⟩, ⟨S2x2048x512, extractStridedSlice S2x2048x512 ![0, 0, 3608] w slices_S2x2048x6176_S2x2048x512_0_0_3608⟩, ⟨S2x2048x512, extractStridedSlice S2x2048x512 ![0, 0, 4120] w slices_S2x2048x6176_S2x2048x512_0_0_4120⟩, ⟨S2x2048x512, extractStridedSlice S2x2048x512 ![0, 0, 4632] w slices_S2x2048x6176_S2x2048x512_0_0_4632⟩, ⟨S2x2048x512, extractStridedSlice S2x2048x512 ![0, 0, 5144] w slices_S2x2048x6176_S2x2048x512_0_0_5144⟩, ⟨S2x2048x512, extractStridedSlice S2x2048x512 ![0, 0, 5664] w slices_S2x2048x6176_S2x2048x512_0_0_5664⟩, ⟨S2x2048x24, extractStridedSlice S2x2048x24 ![0, 0, 2560] w slices_S2x2048x6176_S2x2048x24_0_0_2560⟩, ⟨S2x2048x4, extractStridedSlice S2x2048x4 ![0, 0, 5656] w slices_S2x2048x6176_S2x2048x4_0_0_5656⟩, ⟨S2x2048x4, extractStridedSlice S2x2048x4 ![0, 0, 5660] w slices_S2x2048x6176_S2x2048x4_0_0_5660⟩]
    concatenates_S2x2048x1024_S2x2048x1536_S2x2048x512_S2x2048x512_S2x2048x512_S2x2048x512_S2x2048x512_S2x2048x512_S2x2048x512_S2x2048x24_S2x2048x4_S2x2048x4_S2x2048x6176_d2

/-- Padded to whole blocks of columns. -/
def padded (P : FVec Ideal S2x2048x6176 .f32) : FVec Ideal S2x2048x6400 .bf16 :=
  truncf .bf16 (pad S2x2048x6400 ![0, 0, 0] ![0, 0, 224] ![0, 0, 0] P (sitofp FTy.f32 (constantI S_ 32 0#32) : FVec Ideal S_ .f32)
    pads_S2x2048x6176_S2x2048x6400_000_000_02240 h_S_) bitsLt_bf16_f32

theorem V14 (c : Dev nD) : V m c main_v14 = padded (packed (aW m c)) := by
  unfold V
  simp only [List.flatten_cons, List.flatten_nil, List.append_nil, StableHlo.after_append]
  after_results
  rfl

theorem padded_low (P : FVec Ideal S2x2048x6176 .f32) (k : Fin 2048) (C : Fin 6176) :
    padded P (ix3 0 k ⟨C.val, by omega⟩) = P (ix3 0 k C) := by
  pointwise [padded]

theorem padded_high (P : FVec Ideal S2x2048x6176 .f32) (k : Fin 2048) (l : Fin 224) :
    padded P (ix3 0 k ⟨6176 + l.val, by omega⟩) = (0 : EReal) := by
  pointwise [padded]
  simp [FloatOps.sitofp]

set_option maxHeartbeats 4000000 in
theorem W_0 (c : Dev nD) (k : Fin 2048) (l : Fin 1024) : (V m c main_v14 : FVec Ideal S2x2048x6400 .bf16) (ix3 0 k ⟨0 + l.val, by omega⟩)
    = aW m c (ix3 0 k ⟨0 + l.val, by omega⟩) := by
  rw [V14]
  refine (padded_low _ k ⟨0 + l.val, by omega⟩).trans ?_
  unfold packed
  refine (concatenate_apply_piece (t := S2x2048x6176) 2 _ _ _ 0 (by show 0 < 12; decide) S2x2048x1024 _ rfl rfl 0 rfl (ix3 0 k l) (fun b hb => ?_) rfl).trans ?_
  · match b with
    | ⟨0, _⟩ => rfl
    | ⟨1, _⟩ => rfl
    | ⟨2, _⟩ => exact absurd rfl hb
  · pointwise

set_option maxHeartbeats 4000000 in
theorem W_1 (c : Dev nD) (k : Fin 2048) (l : Fin 1536) : (V m c main_v14 : FVec Ideal S2x2048x6400 .bf16) (ix3 0 k ⟨1024 + l.val, by omega⟩)
    = aW m c (ix3 0 k ⟨1024 + l.val, by omega⟩) := by
  rw [V14]
  refine (padded_low _ k ⟨1024 + l.val, by omega⟩).trans ?_
  unfold packed
  refine (concatenate_apply_piece (t := S2x2048x6176) 2 _ _ _ 1 (by show 1 < 12; decide) S2x2048x1536 _ rfl rfl 1024 rfl (ix3 0 k l) (fun b hb => ?_) rfl).trans ?_
  · match b with
    | ⟨0, _⟩ => rfl
    | ⟨1, _⟩ => rfl
    | ⟨2, _⟩ => exact absurd rfl hb
  · pointwise

set_option maxHeartbeats 4000000 in
theorem W_2 (c : Dev nD) (k : Fin 2048) (l : Fin 512) : (V m c main_v14 : FVec Ideal S2x2048x6400 .bf16) (ix3 0 k ⟨2560 + l.val, by omega⟩)
    = aW m c (ix3 0 k ⟨2584 + l.val, by omega⟩) := by
  rw [V14]
  refine (padded_low _ k ⟨2560 + l.val, by omega⟩).trans ?_
  unfold packed
  refine (concatenate_apply_piece (t := S2x2048x6176) 2 _ _ _ 2 (by show 2 < 12; decide) S2x2048x512 _ rfl rfl 2560 rfl (ix3 0 k l) (fun b hb => ?_) rfl).trans ?_
  · match b with
    | ⟨0, _⟩ => rfl
    | ⟨1, _⟩ => rfl
    | ⟨2, _⟩ => exact absurd rfl hb
  · pointwise

set_option maxHeartbeats 4000000 in
theorem W_3 (c : Dev nD) (k : Fin 2048) (l : Fin 512) : (V m c main_v14 : FVec Ideal S2x2048x6400 .bf16) (ix3 0 k ⟨3072 + l.val, by omega⟩)
    = aW m c (ix3 0 k ⟨3096 + l.val, by omega⟩) := by
  rw [V14]
  refine (padded_low _ k ⟨3072 + l.val, by omega⟩).trans ?_
  unfold packed
  refine (concatenate_apply_piece (t := S2x2048x6176) 2 _ _ _ 3 (by show 3 < 12; decide) S2x2048x512 _ rfl rfl 3072 rfl (ix3 0 k l) (fun b hb => ?_) rfl).trans ?_
  · match b with
    | ⟨0, _⟩ => rfl
    | ⟨1, _⟩ => rfl
    | ⟨2, _⟩ => exact absurd rfl hb
  · pointwise

set_option maxHeartbeats 4000000 in
theorem W_4 (c : Dev nD) (k : Fin 2048) (l : Fin 512) : (V m c main_v14 : FVec Ideal S2x2048x6400 .bf16) (ix3 0 k ⟨3584 + l.val, by omega⟩)
    = aW m c (ix3 0 k ⟨3608 + l.val, by omega⟩) := by
  rw [V14]
  refine (padded_low _ k ⟨3584 + l.val, by omega⟩).trans ?_
  unfold packed
  refine (concatenate_apply_piece (t := S2x2048x6176) 2 _ _ _ 4 (by show 4 < 12; decide) S2x2048x512 _ rfl rfl 3584 rfl (ix3 0 k l) (fun b hb => ?_) rfl).trans ?_
  · match b with
    | ⟨0, _⟩ => rfl
    | ⟨1, _⟩ => rfl
    | ⟨2, _⟩ => exact absurd rfl hb
  · pointwise

set_option maxHeartbeats 4000000 in
theorem W_5 (c : Dev nD) (k : Fin 2048) (l : Fin 512) : (V m c main_v14 : FVec Ideal S2x2048x6400 .bf16) (ix3 0 k ⟨4096 + l.val, by omega⟩)
    = aW m c (ix3 0 k ⟨4120 + l.val, by omega⟩) := by
  rw [V14]
  refine (padded_low _ k ⟨4096 + l.val, by omega⟩).trans ?_
  unfold packed
  refine (concatenate_apply_piece (t := S2x2048x6176) 2 _ _ _ 5 (by show 5 < 12; decide) S2x2048x512 _ rfl rfl 4096 rfl (ix3 0 k l) (fun b hb => ?_) rfl).trans ?_
  · match b with
    | ⟨0, _⟩ => rfl
    | ⟨1, _⟩ => rfl
    | ⟨2, _⟩ => exact absurd rfl hb
  · pointwise

set_option maxHeartbeats 4000000 in
theorem W_6 (c : Dev nD) (k : Fin 2048) (l : Fin 512) : (V m c main_v14 : FVec Ideal S2x2048x6400 .bf16) (ix3 0 k ⟨4608 + l.val, by omega⟩)
    = aW m c (ix3 0 k ⟨4632 + l.val, by omega⟩) := by
  rw [V14]
  refine (padded_low _ k ⟨4608 + l.val, by omega⟩).trans ?_
  unfold packed
  refine (concatenate_apply_piece (t := S2x2048x6176) 2 _ _ _ 6 (by show 6 < 12; decide) S2x2048x512 _ rfl rfl 4608 rfl (ix3 0 k l) (fun b hb => ?_) rfl).trans ?_
  · match b with
    | ⟨0, _⟩ => rfl
    | ⟨1, _⟩ => rfl
    | ⟨2, _⟩ => exact absurd rfl hb
  · pointwise

set_option maxHeartbeats 4000000 in
theorem W_7 (c : Dev nD) (k : Fin 2048) (l : Fin 512) : (V m c main_v14 : FVec Ideal S2x2048x6400 .bf16) (ix3 0 k ⟨5120 + l.val, by omega⟩)
    = aW m c (ix3 0 k ⟨5144 + l.val, by omega⟩) := by
  rw [V14]
  refine (padded_low _ k ⟨5120 + l.val, by omega⟩).trans ?_
  unfold packed
  refine (concatenate_apply_piece (t := S2x2048x6176) 2 _ _ _ 7 (by show 7 < 12; decide) S2x2048x512 _ rfl rfl 5120 rfl (ix3 0 k l) (fun b hb => ?_) rfl).trans ?_
  · match b with
    | ⟨0, _⟩ => rfl
    | ⟨1, _⟩ => rfl
    | ⟨2, _⟩ => exact absurd rfl hb
  · pointwise

set_option maxHeartbeats 4000000 in
theorem W_8 (c : Dev nD) (k : Fin 2048) (l : Fin 512) : (V m c main_v14 : FVec Ideal S2x2048x6400 .bf16) (ix3 0 k ⟨5632 + l.val, by omega⟩)
    = aW m c (ix3 0 k ⟨5664 + l.val, by omega⟩) := by
  rw [V14]
  refine (padded_low _ k ⟨5632 + l.val, by omega⟩).trans ?_
  unfold packed
  refine (concatenate_apply_piece (t := S2x2048x6176) 2 _ _ _ 8 (by show 8 < 12; decide) S2x2048x512 _ rfl rfl 5632 rfl (ix3 0 k l) (fun b hb => ?_) rfl).trans ?_
  · match b with
    | ⟨0, _⟩ => rfl
    | ⟨1, _⟩ => rfl
    | ⟨2, _⟩ => exact absurd rfl hb
  · pointwise

set_option maxHeartbeats 4000000 in
theorem W_9 (c : Dev nD) (k : Fin 2048) (l : Fin 24) : (V m c main_v14 : FVec Ideal S2x2048x6400 .bf16) (ix3 0 k ⟨6144 + l.val, by omega⟩)
    = aW m c (ix3 0 k ⟨2560 + l.val, by omega⟩) := by
  rw [V14]
  refine (padded_low _ k ⟨6144 + l.val, by omega⟩).trans ?_
  unfold packed
  refine (concatenate_apply_piece (t := S2x2048x6176) 2 _ _ _ 9 (by show 9 < 12; decide) S2x2048x24 _ rfl rfl 6144 rfl (ix3 0 k l) (fun b hb => ?_) rfl).trans ?_
  · match b with
    | ⟨0, _⟩ => rfl
    | ⟨1, _⟩ => rfl
    | ⟨2, _⟩ => exact absurd rfl hb
  · pointwise

set_option maxHeartbeats 4000000 in
theorem W_10 (c : Dev nD) (k : Fin 2048) (l : Fin 4) : (V m c main_v14 : FVec Ideal S2x2048x6400 .bf16) (ix3 0 k ⟨6168 + l.val, by omega⟩)
    = aW m c (ix3 0 k ⟨5656 + l.val, by omega⟩) := by
  rw [V14]
  refine (padded_low _ k ⟨6168 + l.val, by omega⟩).trans ?_
  unfold packed
  refine (concatenate_apply_piece (t := S2x2048x6176) 2 _ _ _ 10 (by show 10 < 12; decide) S2x2048x4 _ rfl rfl 6168 rfl (ix3 0 k l) (fun b hb => ?_) rfl).trans ?_
  · match b with
    | ⟨0, _⟩ => rfl
    | ⟨1, _⟩ => rfl
    | ⟨2, _⟩ => exact absurd rfl hb
  · pointwise

set_option maxHeartbeats 4000000 in
theorem W_11 (c : Dev nD) (k : Fin 2048) (l : Fin 4) : (V m c main_v14 : FVec Ideal S2x2048x6400 .bf16) (ix3 0 k ⟨6172 + l.val, by omega⟩)
    = aW m c (ix3 0 k ⟨5660 + l.val, by omega⟩) := by
  rw [V14]
  refine (padded_low _ k ⟨6172 + l.val, by omega⟩).trans ?_
  unfold packed
  refine (concatenate_apply_piece (t := S2x2048x6176) 2 _ _ _ 11 (by show 11 < 12; decide) S2x2048x4 _ rfl rfl 6172 rfl (ix3 0 k l) (fun b hb => ?_) rfl).trans ?_
  · match b with
    | ⟨0, _⟩ => rfl
    | ⟨1, _⟩ => rfl
    | ⟨2, _⟩ => exact absurd rfl hb
  · pointwise

theorem W_12 (c : Dev nD) (k : Fin 2048) (l : Fin 224) : (V m c main_v14 : FVec Ideal S2x2048x6400 .bf16) (ix3 0 k ⟨6176 + l.val, by omega⟩) = (0 : EReal) := by
  rw [V14]
  exact padded_high _ k l

/-! ## The gains -/

/-- A gain over 128 lanes, for `n` heads. -/
def g8 (x : FVec Ideal S128 .f32) : FVec Ideal S1024 .f32 :=
  mulf (shapeCast S1024 (broadcastInDim S8x128 ![0, 1] bcast_S1x128_S8x128_0_1 (shapeCast S1x128 x shapeCasts_S128_S1x128)) shapeCasts_S8x128_S1024)
    (broadcastInDim S1024 ![] bcast_S_S1024 (constant S_ .f32 0x3E0293EE#32))

def g2 (x : FVec Ideal S1x128 .f32) : FVec Ideal S256 .f32 :=
  shapeCast S256 (broadcastInDim S2x128 ![0, 1] bcast_S1x128_S2x128_0_1 (shapeCast S1x128 (shapeCast S128 x shapeCasts_S1x128_S128) shapeCasts_S128_S1x128)) shapeCasts_S2x128_S256

def gd (x : FVec Ideal S64 .f32) : FVec Ideal S512 .f32 :=
  shapeCast S512 (broadcastInDim S8x64 ![0, 1] bcast_S1x64_S8x64_0_1 (shapeCast S1x64 x shapeCasts_S64_S1x64)) shapeCasts_S8x64_S512

def ones (s : Shape) (h : S_.BroadcastsInDim s (![] : Fin 0 → Fin s.rank)) : FVec Ideal s .f32 := broadcastInDim s ![] h (constant S_ .f32 0x3F800000#32)

/-- One gain for each column. -/
def gains (q : FVec Ideal S128 .f32) (k : FVec Ideal S3x128 .f32) (d e : FVec Ideal S64 .f32) : FVec Ideal S6400 .f32 :=
  concatenate S6400 0 [⟨S1024, g8 q⟩, ⟨S512, ones S512 bcast_S_S512⟩, ⟨S256, g2 (extractStridedSlice S1x128 ![1, 0] k slices_S3x128_S1x128_1_0)⟩, ⟨S256, ones S256 bcast_S_S256⟩,
    ⟨S256, g2 (extractStridedSlice S1x128 ![2, 0] k slices_S3x128_S1x128_2_0)⟩, ⟨S256, ones S256 bcast_S_S256⟩,
    ⟨S512, mulf (gd d) (broadcastInDim S512 ![] bcast_S_S512 (constant S_ .f32 0x3E38AA3B#32))⟩, ⟨S512, gd e⟩, ⟨S2816, ones S2816 bcast_S_S2816⟩]
    concatenates_S1024_S512_S256_S256_S256_S256_S512_S512_S2816_S6400_d0

theorem V43 (c : Dev nD) : V m c main_v43 = shapeCast S1x6400 (gains (aQ m c) (aK m c) (aD m c) (aE m c)) shapeCasts_S6400_S1x6400 := by
  unfold V
  simp only [List.flatten_cons, List.flatten_nil, List.append_nil, StableHlo.after_append]
  after_results
  rfl

/-- The gain of a column. -/
abbrev gn (c : Dev nD) (C : Fin 6400) : EReal := (V m c main_v43 : FVec Ideal S1x6400 .f32) (ix2 0 C)

theorem gn_eq (c : Dev nD) (C : Fin 6400) : gn m c C = gains (aQ m c) (aK m c) (aD m c) (aE m c) (ix1 C) := by
  unfold gn
  rw [V43]
  pointwise

set_option maxHeartbeats 4000000 in
theorem gn_q (c : Dev nD) (h : Fin 8) (d : Fin 128) : gn m c ⟨0 + (h.val * 128 + d.val), by omega⟩ = aQ m c (ix1 d) * sq128 := by
  rw [gn_eq]
  unfold gains
  refine (concatenate_apply_piece (t := S6400) 0 _ _ _ 0 (by show 0 < 9; decide) S1024 _ rfl rfl 0 rfl (ix1 ⟨h.val * 128 + d.val, by omega⟩) (fun b hb => ?_) rfl).trans ?_
  · match b with
    | ⟨0, _⟩ => exact absurd rfl hb
  · pointwise [g8]

set_option maxHeartbeats 4000000 in
theorem gn_slc (c : Dev nD) (h : Fin 2) (d : Fin 128) : gn m c ⟨1536 + (h.val * 128 + d.val), by omega⟩ = aK m c (ix2 1 d) := by
  rw [gn_eq]
  unfold gains
  refine (concatenate_apply_piece (t := S6400) 0 _ _ _ 2 (by show 2 < 9; decide) S256 _ rfl rfl 1536 rfl (ix1 ⟨h.val * 128 + d.val, by omega⟩) (fun b hb => ?_) rfl).trans ?_
  · match b with
    | ⟨0, _⟩ => exact absurd rfl hb
  · pointwise [g2]

set_option maxHeartbeats 4000000 in
theorem gn_win (c : Dev nD) (h : Fin 2) (d : Fin 128) : gn m c ⟨2048 + (h.val * 128 + d.val), by omega⟩ = aK m c (ix2 2 d) := by
  rw [gn_eq]
  unfold gains
  refine (concatenate_apply_piece (t := S6400) 0 _ _ _ 4 (by show 4 < 9; decide) S256 _ rfl rfl 2048 rfl (ix1 ⟨h.val * 128 + d.val, by omega⟩) (fun b hb => ?_) rfl).trans ?_
  · match b with
    | ⟨0, _⟩ => exact absurd rfl hb
  · pointwise [g2]

set_option maxHeartbeats 4000000 in
theorem gn_dq (c : Dev nD) (a : Fin 4) (b : Fin 2) (d : Fin 64) : gn m c ⟨2560 + (a.val * 128 + b.val * 64 + d.val), by omega⟩ = aD m c (ix1 d) * sq64 := by
  rw [gn_eq]
  unfold gains
  refine (concatenate_apply_piece (t := S6400) 0 _ _ _ 6 (by show 6 < 9; decide) S512 _ rfl rfl 2560 rfl (ix1 ⟨a.val * 128 + b.val * 64 + d.val, by omega⟩) (fun b hb => ?_) rfl).trans ?_
  · match b with
    | ⟨0, _⟩ => exact absurd rfl hb
  · pointwise [gd]

set_option maxHeartbeats 4000000 in
theorem gn_dk (c : Dev nD) (a : Fin 4) (b : Fin 2) (d : Fin 64) : gn m c ⟨3072 + (a.val * 128 + b.val * 64 + d.val), by omega⟩ = aE m c (ix1 d) := by
  rw [gn_eq]
  unfold gains
  refine (concatenate_apply_piece (t := S6400) 0 _ _ _ 7 (by show 7 < 9; decide) S512 _ rfl rfl 3072 rfl (ix1 ⟨a.val * 128 + b.val * 64 + d.val, by omega⟩) (fun b hb => ?_) rfl).trans ?_
  · match b with
    | ⟨0, _⟩ => exact absurd rfl hb
  · pointwise [gd]

theorem V44 (c : Dev nD) (k : Fin 2048) : (V m c main_v44 : FVec Ideal S1x2048 .f32) (ix2 0 k) = aG m c (ix1 k) := by
  unfold V
  simp only [List.flatten_cons, List.flatten_nil, List.append_nil, StableHlo.after_append]
  after_results
  pointwise

end Cert.InprojValue

end
-- ==== Proof.InprojRefCols.lean ====
/- The input projection's reference, run of columns by run of columns: the query heads, the rows of the caches, the two
   halves of each differential head. -/
module

public import proofs.«01_k».proof.Proof.InprojRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.InprojRefValue

open Cert.InprojRefIdeal Cert.InprojRefIdeal.Gen Cert.InprojRefIdeal.Read
open Cert.InprojValue (rms c128 c64 eps)

variable (x0 : FVec Ideal S8448x2048 .f32) (x1 : FVec Ideal S2048 .f32) (x2 : FVec Ideal S2x2048x6176 .f32) (x3 : FVec Ideal S128 .f32)
  (x4 : FVec Ideal S3x128 .f32) (x5 x6 : FVec Ideal S64 .f32) (r : Fin 8448)

theorem R_q (h : Fin 8) (d : Fin 128) : R x0 x1 x2 x3 x4 x5 x6 r ⟨h.val * 128 + d.val, by omega⟩
    = rms 128 c128 (fun k => U x0 x1 x2 r ⟨h.val * 128 + k.val, by omega⟩) d * x3 (ix1 d) * sq128 := by
  refine Eq.trans (b := R x0 x1 x2 x3 x4 x5 x6 r ⟨0 + (h.val * 128 + d.val), by omega⟩) (congrArg (R x0 x1 x2 x3 x4 x5 x6 r) (Fin.ext (Nat.zero_add _).symm))
    ((piece_0 x0 x1 x2 x3 x4 x5 x6 r ⟨h.val * 128 + d.val, by omega⟩).trans ?_)
  refine Eq.trans ?_ (q_at x0 x1 x2 x3 r h d)
  pointwise [val_main_v126]

theorem v89_0 (h : Fin 2) (d : Fin 128) : val_main_v89 (F := Ideal) x0 x1 x2 x4 (ix4 r 0 h d) = val_main_v85 (F := Ideal) x0 x1 x2 (ix4 r 0 h d) := by
  unfold val_main_v89
  refine concatenate_apply_piece (t := S8448x4x2x128) 1 _ _ _ 0 (by show 0 < 4; decide) S8448x1x2x128 _ rfl rfl 0 rfl (ix4 r 0 h d) (fun b hb => ?_) rfl
  match b with
  | ⟨0, _⟩ => rfl
  | ⟨1, _⟩ => exact absurd rfl hb
  | ⟨2, _⟩ => rfl
  | ⟨3, _⟩ => rfl

theorem R_v85 (h : Fin 2) (d : Fin 128) : R x0 x1 x2 x3 x4 x5 x6 r ⟨1024 + (0 + h.val * 128 + d.val), by omega⟩
    = U x0 x1 x2 r ⟨1024 + (0 + h.val * 128 + d.val), by omega⟩ := by
  refine (piece_1 x0 x1 x2 x3 x4 x5 x6 r ⟨0 + h.val * 128 + d.val, by omega⟩).trans ?_
  refine Eq.trans (b := val_main_v89 (F := Ideal) x0 x1 x2 x4 (ix4 r 0 h d)) ?_ ((v89_0 x0 x1 x2 x4 r h d).trans ?_)
  · pointwise [val_main_v127]
    refine congrArg _ (funext fun a => ?_)
    match a with
    | ⟨0, _⟩ => rfl
    | ⟨1, _⟩ => exact Fin.ext (by show (h.val * 128 + d.val) / 256 = 0; omega)
    | ⟨2, _⟩ => rfl
    | ⟨3, _⟩ => rfl
  pointwise [val_main_v85, val_main_v80, val_main_v79, val_main_v44, val_main_v17]

theorem v89_1 (h : Fin 2) (d : Fin 128) : val_main_v89 (F := Ideal) x0 x1 x2 x4 (ix4 r 1 h d) = val_main_v86 (F := Ideal) x0 x1 x2 (ix4 r 0 h d) := by
  unfold val_main_v89
  refine concatenate_apply_piece (t := S8448x4x2x128) 1 _ _ _ 1 (by show 1 < 4; decide) S8448x1x2x128 _ rfl rfl 1 rfl (ix4 r 0 h d) (fun b hb => ?_) rfl
  match b with
  | ⟨0, _⟩ => rfl
  | ⟨1, _⟩ => exact absurd rfl hb
  | ⟨2, _⟩ => rfl
  | ⟨3, _⟩ => rfl

theorem R_v86 (h : Fin 2) (d : Fin 128) : R x0 x1 x2 x3 x4 x5 x6 r ⟨1024 + (256 + h.val * 128 + d.val), by omega⟩
    = U x0 x1 x2 r ⟨1024 + (256 + h.val * 128 + d.val), by omega⟩ := by
  refine (piece_1 x0 x1 x2 x3 x4 x5 x6 r ⟨256 + h.val * 128 + d.val, by omega⟩).trans ?_
  refine Eq.trans (b := val_main_v89 (F := Ideal) x0 x1 x2 x4 (ix4 r 1 h d)) ?_ ((v89_1 x0 x1 x2 x4 r h d).trans ?_)
  · pointwise [val_main_v127]
    refine congrArg _ (funext fun a => ?_)
    match a with
    | ⟨0, _⟩ => rfl
    | ⟨1, _⟩ => exact Fin.ext (by show (256 + h.val * 128 + d.val) / 256 = 1; omega)
    | ⟨2, _⟩ => rfl
    | ⟨3, _⟩ => rfl
  pointwise [val_main_v86, val_main_v82, val_main_v81, val_main_v44, val_main_v17]

theorem v89_2 (h : Fin 2) (d : Fin 128) : val_main_v89 (F := Ideal) x0 x1 x2 x4 (ix4 r 2 h d) = val_main_v87 (F := Ideal) x0 x1 x2 x4 (ix4 r 0 h d) := by
  unfold val_main_v89
  refine concatenate_apply_piece (t := S8448x4x2x128) 1 _ _ _ 2 (by show 2 < 4; decide) S8448x1x2x128 _ rfl rfl 2 rfl (ix4 r 0 h d) (fun b hb => ?_) rfl
  match b with
  | ⟨0, _⟩ => rfl
  | ⟨1, _⟩ => exact absurd rfl hb
  | ⟨2, _⟩ => rfl
  | ⟨3, _⟩ => rfl

theorem R_v87 (h : Fin 2) (d : Fin 128) : R x0 x1 x2 x3 x4 x5 x6 r ⟨1024 + (512 + h.val * 128 + d.val), by omega⟩
    = rms 128 c128 (fun k => U x0 x1 x2 r ⟨1024 + (512 + h.val * 128 + k.val), by omega⟩) d * x4 (ix2 1 d) := by
  refine (piece_1 x0 x1 x2 x3 x4 x5 x6 r ⟨512 + h.val * 128 + d.val, by omega⟩).trans ?_
  refine Eq.trans (b := val_main_v89 (F := Ideal) x0 x1 x2 x4 (ix4 r 2 h d)) ?_ ((v89_2 x0 x1 x2 x4 r h d).trans ?_)
  · pointwise [val_main_v127]
    refine congrArg _ (funext fun a => ?_)
    match a with
    | ⟨0, _⟩ => rfl
    | ⟨1, _⟩ => exact Fin.ext (by show (512 + h.val * 128 + d.val) / 256 = 2; omega)
    | ⟨2, _⟩ => rfl
    | ⟨3, _⟩ => rfl
  refine Eq.trans ?_ (slc_at x0 x1 x2 x4 r h d)
  pointwise [val_main_v87]

theorem v89_3 (h : Fin 2) (d : Fin 128) : val_main_v89 (F := Ideal) x0 x1 x2 x4 (ix4 r 3 h d) = val_main_v88 (F := Ideal) x0 x1 x2 (ix4 r 0 h d) := by
  unfold val_main_v89
  refine concatenate_apply_piece (t := S8448x4x2x128) 1 _ _ _ 3 (by show 3 < 4; decide) S8448x1x2x128 _ rfl rfl 3 rfl (ix4 r 0 h d) (fun b hb => ?_) rfl
  match b with
  | ⟨0, _⟩ => rfl
  | ⟨1, _⟩ => exact absurd rfl hb
  | ⟨2, _⟩ => rfl
  | ⟨3, _⟩ => rfl

theorem R_v88 (h : Fin 2) (d : Fin 128) : R x0 x1 x2 x3 x4 x5 x6 r ⟨1024 + (768 + h.val * 128 + d.val), by omega⟩
    = U x0 x1 x2 r ⟨1024 + (768 + h.val * 128 + d.val), by omega⟩ := by
  refine (piece_1 x0 x1 x2 x3 x4 x5 x6 r ⟨768 + h.val * 128 + d.val, by omega⟩).trans ?_
  refine Eq.trans (b := val_main_v89 (F := Ideal) x0 x1 x2 x4 (ix4 r 3 h d)) ?_ ((v89_3 x0 x1 x2 x4 r h d).trans ?_)
  · pointwise [val_main_v127]
    refine congrArg _ (funext fun a => ?_)
    match a with
    | ⟨0, _⟩ => rfl
    | ⟨1, _⟩ => exact Fin.ext (by show (768 + h.val * 128 + d.val) / 256 = 3; omega)
    | ⟨2, _⟩ => rfl
    | ⟨3, _⟩ => rfl
  pointwise [val_main_v88, val_main_v84, val_main_v83, val_main_v44, val_main_v17]

theorem v94_0 (h : Fin 2) (d : Fin 128) : val_main_v94 (F := Ideal) x0 x1 x2 x4 (ix4 r 0 h d) = val_main_v92 (F := Ideal) x0 x1 x2 x4 (ix4 r 0 h d) := by
  unfold val_main_v94
  refine concatenate_apply_piece (t := S8448x2x2x128) 1 _ _ _ 0 (by show 0 < 2; decide) S8448x1x2x128 _ rfl rfl 0 rfl (ix4 r 0 h d) (fun b hb => ?_) rfl
  match b with
  | ⟨0, _⟩ => rfl
  | ⟨1, _⟩ => exact absurd rfl hb
  | ⟨2, _⟩ => rfl
  | ⟨3, _⟩ => rfl

theorem R_v92 (h : Fin 2) (d : Fin 128) : R x0 x1 x2 x3 x4 x5 x6 r ⟨2048 + (0 + h.val * 128 + d.val), by omega⟩
    = rms 128 c128 (fun k => U x0 x1 x2 r ⟨1024 + (1024 + h.val * 128 + k.val), by omega⟩) d * x4 (ix2 2 d) := by
  refine (piece_2 x0 x1 x2 x3 x4 x5 x6 r ⟨0 + h.val * 128 + d.val, by omega⟩).trans ?_
  refine Eq.trans (b := val_main_v94 (F := Ideal) x0 x1 x2 x4 (ix4 r 0 h d)) ?_ ((v94_0 x0 x1 x2 x4 r h d).trans ?_)
  · pointwise [val_main_v128]
    refine congrArg _ (funext fun a => ?_)
    match a with
    | ⟨0, _⟩ => rfl
    | ⟨1, _⟩ => exact Fin.ext (by show (h.val * 128 + d.val) / 256 = 0; omega)
    | ⟨2, _⟩ => rfl
    | ⟨3, _⟩ => rfl
  refine Eq.trans ?_ (win_at x0 x1 x2 x4 r h d)
  pointwise [val_main_v92]

theorem v94_1 (h : Fin 2) (d : Fin 128) : val_main_v94 (F := Ideal) x0 x1 x2 x4 (ix4 r 1 h d) = val_main_v93 (F := Ideal) x0 x1 x2 (ix4 r 0 h d) := by
  unfold val_main_v94
  refine concatenate_apply_piece (t := S8448x2x2x128) 1 _ _ _ 1 (by show 1 < 2; decide) S8448x1x2x128 _ rfl rfl 1 rfl (ix4 r 0 h d) (fun b hb => ?_) rfl
  match b with
  | ⟨0, _⟩ => rfl
  | ⟨1, _⟩ => exact absurd rfl hb
  | ⟨2, _⟩ => rfl
  | ⟨3, _⟩ => rfl

theorem R_v93 (h : Fin 2) (d : Fin 128) : R x0 x1 x2 x3 x4 x5 x6 r ⟨2048 + (256 + h.val * 128 + d.val), by omega⟩
    = U x0 x1 x2 r ⟨1024 + (1280 + h.val * 128 + d.val), by omega⟩ := by
  refine (piece_2 x0 x1 x2 x3 x4 x5 x6 r ⟨256 + h.val * 128 + d.val, by omega⟩).trans ?_
  refine Eq.trans (b := val_main_v94 (F := Ideal) x0 x1 x2 x4 (ix4 r 1 h d)) ?_ ((v94_1 x0 x1 x2 x4 r h d).trans ?_)
  · pointwise [val_main_v128]
    refine congrArg _ (funext fun a => ?_)
    match a with
    | ⟨0, _⟩ => rfl
    | ⟨1, _⟩ => exact Fin.ext (by show (256 + h.val * 128 + d.val) / 256 = 1; omega)
    | ⟨2, _⟩ => rfl
    | ⟨3, _⟩ => rfl
  pointwise [val_main_v93, val_main_v91, val_main_v90, val_main_v44, val_main_v17]

theorem R_dq (a : Fin 4) (b : Fin 2) (d : Fin 64) : R x0 x1 x2 x3 x4 x5 x6 r ⟨2560 + (a.val * 128 + b.val * 64 + d.val), by omega⟩
    = rms 64 c64 (fun k => U x0 x1 x2 r ⟨2584 + (a.val * 128 + b.val * 64 + k.val), by omega⟩) d * x5 (ix1 d) * sq64 := by
  refine (piece_3 x0 x1 x2 x3 x4 x5 x6 r ⟨a.val * 128 + b.val * 64 + d.val, by omega⟩).trans ?_
  refine Eq.trans ?_ (dq_at x0 x1 x2 x5 r a b d)
  pointwise [val_main_v129]

theorem R_dk (a : Fin 4) (b : Fin 2) (d : Fin 64) : R x0 x1 x2 x3 x4 x5 x6 r ⟨3072 + (a.val * 128 + b.val * 64 + d.val), by omega⟩
    = rms 64 c64 (fun k => U x0 x1 x2 r ⟨3096 + (a.val * 128 + b.val * 64 + k.val), by omega⟩) d * x6 (ix1 d) := by
  refine (piece_4 x0 x1 x2 x3 x4 x5 x6 r ⟨a.val * 128 + b.val * 64 + d.val, by omega⟩).trans ?_
  refine Eq.trans ?_ (dk_at x0 x1 x2 x6 r a b d)
  pointwise [val_main_v130]

end Cert.InprojRefValue

end
-- ==== Proof.InprojValue.lean ====
/- The input projection's kernel leaves the reference's array: each run of its columns is the reference's run of the same
   projected columns, normed the same way. -/
module

public import proofs.«01_k».proof.Proof.InprojPack
public import proofs.«01_k».proof.Proof.InprojRefCols
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.InprojValue

/-- An entry of a normed row. -/
def scaledRow (x s g : EReal) : EReal := x * Ideal.rsqrt (Ideal.div s (Ideal.ofBits .f32 0x45000000#32) + eps) * g

section Reference
open Cert.InprojRefIdeal Cert.InprojRefIdeal.Gen Cert.InprojRefIdeal.Read

/-- The reference's projected columns. -/
theorem U_at (x0 : FVec Ideal S8448x2048 .f32) (x1 : FVec Ideal S2048 .f32) (x2 : FVec Ideal S2x2048x6176 .f32) (r : Fin 8448) (c : Fin 6176) :
    Cert.InprojRefValue.U x0 x1 x2 r c
      = ∑ k : Fin 2048, scaledRow (x0 (ix2 r k)) (∑ l : Fin 2048, x0 (ix2 r l) * x0 (ix2 r l)) (x1 (ix1 k)) * x2 (ix3 0 k c) := by
  unfold Cert.InprojRefValue.U
  pointwise [val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, scaledRow]

end Reference

open Cert.InprojIdeal Cert.InprojIdeal.Gen Cert.InprojIdeal.Body

/-- Dividing by 64 is multiplying by 1/64. -/
theorem mul_i64 (s : EReal) : s * i64 = Ideal.div s c64 := by
  have e1 : i64 = ((1 / 64 : ℝ) : EReal) := by simp [Ideal.ofBits, Ideal.ieee]; rw [← EReal.coe_mul]; norm_num
  have e2 : c64 = ((64 : ℝ) : EReal) := by simp [Ideal.ofBits, Ideal.ieee]; rw [← EReal.coe_mul]; norm_num
  have h0 : c64 ≠ 0 := by rw [e2]; norm_num
  unfold Ideal.div
  rw [if_neg h0, e1, e2]
  refine congrArg (s * ·) ?_
  rw [← EReal.coe_inv]
  norm_num

theorem scr_at (x : Vec Ideal S768x2048 .f32) (g : Vec Ideal S1x2048 .f32) (r : Fin 768) (k : Fin 2048) :
    k0_pay26 (F := Ideal) x g (ix2 r k) = scaledRow (x (ix2 r k)) (∑ l : Fin 2048, x (ix2 r l) * x (ix2 r l)) (g (ix2 0 k)) := by
  pointwise [k0_pay26, scaledRow]

theorem proj_at (n : Vec Ideal S768x2048 .bf16) (w : Vec Ideal S1x2048x1280 .bf16) (r : Fin 768) (q : Fin 1280) :
    k0_pay27 (F := Ideal) n w (ix2 r q) = ∑ k : Fin 2048, (n (ix2 r k) : EReal) * (w (ix3 0 k q) : EReal) := by
  pointwise [k0_pay27]

variable (m : (ℓ : Loc nD τ sig) → Buf (Elt Ideal) ℓ)

/-- The row of the array a block's row is. -/
abbrev row (t : Fin cfg0.N) (r : Fin 768) : Fin 8448 := ⟨t.val / 5 * 768 + r.val, by
  have := Nat.lt_of_lt_of_eq t.isLt N_0; have := r.isLt; omega⟩

/-- The column of the array a block's column is. -/
abbrev col (t : Fin cfg0.N) (q : Fin 1280) : Fin 6400 := ⟨t.val % 5 * 1280 + q.val, by have := q.isLt; omega⟩

theorem iblk3_at (c : Dev nD) (t : Fin cfg0.N) (k : Fin 2048) (q : Fin 1280) : (iblk m c 3 t : Vec Ideal S1x2048x1280 .bf16) (ix3 0 k q)
    = (V m c main_v14 : Vec Ideal S2x2048x6400 .bf16) (ix3 0 k (col t q)) := by
  blk_ext [iblk, idx t]

theorem iblk4_at (c : Dev nD) (t : Fin cfg0.N) (q : Fin 1280) : (iblk m c 4 t : Vec Ideal S1x1280 .f32) (ix2 0 q) = gn m c (col t q) := by
  blk_ext [iblk, idx t]

/-- A column of the kernel's own projection. -/
def Ux (c : Dev nD) (r : Fin 8448) (C : Fin 6400) : EReal :=
  ∑ k : Fin 2048, scaledRow (aX m c (ix2 r k)) (∑ l : Fin 2048, aX m c (ix2 r l) * aX m c (ix2 r l)) (aG m c (ix1 k))
    * ((V m c main_v14 : FVec Ideal S2x2048x6400 .bf16) (ix3 0 k C) : EReal)

theorem Y_at (c : Dev nD) (t : Fin cfg0.N) (r : Fin 768) (q : Fin 1280) :
    k0_pay27 (F := Ideal) (scr m c t) (iblk m c 3 t) (ix2 r q) = Ux m c (row t r) (col t q) := by
  refine (proj_at _ _ r q).trans (Finset.sum_congr rfl fun k _ => ?_)
  rw [iblk3_at]
  refine congrArg (· * _) ((scr_at _ _ r k).trans ?_)
  simp only [iblk1_at, iblk2_at]
  rw [V_main_arg0]
  exact congrArg (scaledRow _ _) (V44 m c k)

/-- The word of a tile of 256 columns. -/
def kd (n : ℕ) : ℕ := (tbl n).toNat

/-- A column of the kernel's result: as its tile's word says. -/
def KC (c : Dev nD) (r : Fin 8448) (C : Fin 6400) : EReal :=
  if kd (C.val / 256) = 1 then rms 128 c128 (fun k => Ux m c r ⟨C.val / 128 * 128 + k.val, by omega⟩) ⟨C.val % 128, by omega⟩ * gn m c C
  else if kd (C.val / 256) = 2 then rms 64 c64 (fun k => Ux m c r ⟨C.val / 64 * 64 + k.val, by omega⟩) ⟨C.val % 64, by omega⟩ * gn m c C
  else Ux m c r C

theorem rms_congr (n : ℕ) (d : EReal) (f g : Fin n → EReal) (l : Fin n) (h : ∀ k, f k = g k) : rms n d f l = rms n d g l := by
  rw [funext h]

theorem gn_val (c : Dev nD) (C D : Fin 6400) (h : C.val = D.val) : gn m c C = gn m c D := by rw [Fin.ext h]

theorem Ux_val (c : Dev nD) (r : Fin 8448) (C D : Fin 6400) (h : C.val = D.val) : Ux m c r C = Ux m c r D := by rw [Fin.ext h]

/-- A point's block, column by column. -/
theorem KB_eq (c : Dev nD) (t : Fin cfg0.N) (r : Fin 768) (q : Fin 1280) :
    KB (kinds (t.val % 5)) (k0_pay27 (scr m c t) (iblk m c 3 t)) (iblk m c 4 t) r q = KC m c (row t r) (col t q) := by
  have ek : kinds (t.val % 5) (q.val / 256) = kd ((col t q).val / 256) := by
    show kd (t.val % 5 * 5 + q.val / 256) = kd ((t.val % 5 * 1280 + q.val) / 256)
    refine congrArg kd ?_
    omega
  unfold KB KC
  rw [ek]
  by_cases h1 : kd ((col t q).val / 256) = 1
  · rw [if_pos h1, if_pos h1]
    unfold N1
    rw [iblk4_at]
    refine congrArg₂ (· * ·) ?_ (gn_val m c _ _ ?_)
    · simp only [Y_at]
      have e : (⟨q.val % 128, by omega⟩ : Fin 128) = ⟨(col t q).val % 128, by omega⟩ := Fin.ext (by show q.val % 128 = (t.val % 5 * 1280 + q.val) % 128; omega)
      rw [e]
      refine rms_congr _ _ _ _ _ fun k => Ux_val m c _ _ _ ?_
      show t.val % 5 * 1280 + (q.val / 128 * 128 + k.val) = (t.val % 5 * 1280 + q.val) / 128 * 128 + k.val
      omega
    · show t.val % 5 * 1280 + (q.val / 128 * 128 + q.val % 128) = t.val % 5 * 1280 + q.val
      omega
  rw [if_neg h1, if_neg h1]
  by_cases h2 : kd ((col t q).val / 256) = 2
  · rw [if_pos h2, if_pos h2]
    unfold N2
    rw [iblk4_at]
    refine congrArg₂ (· * ·) ?_ (gn_val m c _ _ ?_)
    · simp only [Y_at]
      unfold rms
      rw [mul_i64]
      refine congrArg₂ (· * ·) (Ux_val m c _ _ _ ?_) (congrArg (fun s => Ideal.rsqrt (Ideal.div s c64 + eps)) ?_)
      · show t.val % 5 * 1280 + (q.val / 128 * 128 + q.val % 128) = (t.val % 5 * 1280 + q.val) / 64 * 64 + (t.val % 5 * 1280 + q.val) % 64
        omega
      · by_cases h3 : q.val % 128 < 64
        · rw [if_pos h3]
          refine Finset.sum_congr rfl fun k _ => ?_
          rw [Ux_val m c (row t r) (col t (at0 (q.val / 128 * 128) (by omega) ⟨k.val, by omega⟩)) ⟨(col t q).val / 64 * 64 + k.val, by omega⟩ (by
            show t.val % 5 * 1280 + (q.val / 128 * 128 + k.val) = (t.val % 5 * 1280 + q.val) / 64 * 64 + k.val
            omega)]
        · rw [if_neg h3]
          refine Finset.sum_congr rfl fun k _ => ?_
          rw [Ux_val m c (row t r) (col t (at0 (q.val / 128 * 128) (by omega) ⟨64 + k.val, by omega⟩)) ⟨(col t q).val / 64 * 64 + k.val, by omega⟩ (by
            show t.val % 5 * 1280 + (q.val / 128 * 128 + (64 + k.val)) = (t.val % 5 * 1280 + q.val) / 64 * 64 + k.val
            omega)]
    · show t.val % 5 * 1280 + (q.val / 128 * 128 + q.val % 128) = t.val % 5 * 1280 + q.val
      omega
  rw [if_neg h2, if_neg h2]
  exact Y_at m c t r q

/-! ## Against the reference -/

/-- The reference's projected columns and its result, over the kernel's arguments. -/
abbrev UR (c : Dev nD) (r : Fin 8448) (D : Fin 6176) : EReal := Cert.InprojRefValue.U (aX m c) (aG m c) (aW m c) r D
abbrev RR (c : Dev nD) (r : Fin 8448) (C : Fin 6400) : EReal :=
  Cert.InprojRefValue.R (aX m c) (aG m c) (aW m c) (aQ m c) (aK m c) (aD m c) (aE m c) r C

theorem Ux_of (c : Dev nD) (r : Fin 8448) (C : Fin 6400) (D : Fin 6176)
    (h : ∀ k : Fin 2048, (V m c main_v14 : FVec Ideal S2x2048x6400 .bf16) (ix3 0 k C) = aW m c (ix3 0 k D)) : Ux m c r C = UR m c r D := by
  refine Eq.trans ?_ (U_at _ _ _ r D).symm
  exact Finset.sum_congr rfl fun k _ => congrArg (_ * ·) (h k)

/-- Which projected column each of the kernel's columns is. -/
theorem Ux_src (c : Dev nD) (r : Fin 8448) (C : Fin 6400) (D : Fin 6176)
    (h : (C.val < 2560 ∧ D.val = C.val) ∨ (2560 ≤ C.val ∧ C.val < 5632 ∧ D.val = C.val + 24) ∨ (5632 ≤ C.val ∧ C.val < 6144 ∧ D.val = C.val + 32)
      ∨ (6144 ≤ C.val ∧ C.val < 6168 ∧ C.val = D.val + 3584) ∨ (6168 ≤ C.val ∧ C.val < 6176 ∧ C.val = D.val + 512)) : Ux m c r C = UR m c r D := by
  refine Ux_of m c r C D fun k => ?_
  have cut : ∀ (o s n : ℕ) (ho : o + n ≤ 6400) (hs : s + n ≤ 6176)
      (W : ∀ l : Fin n, (V m c main_v14 : FVec Ideal S2x2048x6400 .bf16) (ix3 0 k ⟨o + l.val, by omega⟩) = aW m c (ix3 0 k ⟨s + l.val, by omega⟩))
      (h1 : o ≤ C.val) (h2 : C.val < o + n) (h3 : D.val + o = C.val + s),
      (V m c main_v14 : FVec Ideal S2x2048x6400 .bf16) (ix3 0 k C) = aW m c (ix3 0 k D) := by
    intro o s n ho hs W h1 h2 h3
    have e1 : C = ⟨o + (C.val - o), by omega⟩ := Fin.ext (by show C.val = o + (C.val - o); omega)
    have e2 : D = ⟨s + (C.val - o), by omega⟩ := Fin.ext (by show D.val = s + (C.val - o); omega)
    exact (congrArg (fun z => (V m c main_v14 : FVec Ideal S2x2048x6400 .bf16) (ix3 0 k z)) e1).trans
      ((W ⟨C.val - o, by omega⟩).trans (congrArg (fun z => aW m c (ix3 0 k z)) e2.symm))
  by_cases h0 : C.val < 1024
  · exact cut 0 0 1024 (by decide) (by decide) (fun l => W_0 m c k l) (by omega) (by omega) (by omega)
  by_cases h1 : C.val < 2560
  · exact cut 1024 1024 1536 (by decide) (by decide) (fun l => W_1 m c k l) (by omega) (by omega) (by omega)
  by_cases h2 : C.val < 3072
  · exact cut 2560 2584 512 (by decide) (by decide) (fun l => W_2 m c k l) (by omega) (by omega) (by omega)
  by_cases h3 : C.val < 3584
  · exact cut 3072 3096 512 (by decide) (by decide) (fun l => W_3 m c k l) (by omega) (by omega) (by omega)
  by_cases h4 : C.val < 4096
  · exact cut 3584 3608 512 (by decide) (by decide) (fun l => W_4 m c k l) (by omega) (by omega) (by omega)
  by_cases h5 : C.val < 4608
  · exact cut 4096 4120 512 (by decide) (by decide) (fun l => W_5 m c k l) (by omega) (by omega) (by omega)
  by_cases h6 : C.val < 5120
  · exact cut 4608 4632 512 (by decide) (by decide) (fun l => W_6 m c k l) (by omega) (by omega) (by omega)
  by_cases h7 : C.val < 5632
  · exact cut 5120 5144 512 (by decide) (by decide) (fun l => W_7 m c k l) (by omega) (by omega) (by omega)
  by_cases h8 : C.val < 6144
  · exact cut 5632 5664 512 (by decide) (by decide) (fun l => W_8 m c k l) (by omega) (by omega) (by omega)
  by_cases h9 : C.val < 6168
  · exact cut 6144 2560 24 (by decide) (by decide) (fun l => W_9 m c k l) (by omega) (by omega) (by omega)
  by_cases h10 : C.val < 6172
  · exact cut 6168 5656 4 (by decide) (by decide) (fun l => W_10 m c k l) (by omega) (by omega) (by omega)
  exact cut 6172 5660 4 (by decide) (by decide) (fun l => W_11 m c k l) (by omega) (by omega) (by omega)

theorem Ux_pad (c : Dev nD) (r : Fin 8448) (l : Fin 224) : Ux m c r ⟨6176 + l.val, by omega⟩ = 0 :=
  Finset.sum_eq_zero fun k _ => by rw [W_12, mul_zero]

theorem KC_plain (c : Dev nD) (r : Fin 8448) (C : Fin 6400) (hk : kd (C.val / 256) = 0) : KC m c r C = Ux m c r C := by
  unfold KC
  rw [if_neg (by rw [hk]; decide), if_neg (by rw [hk]; decide)]

theorem KC_whole (c : Dev nD) (r : Fin 8448) (C : Fin 6400) (b : ℕ) (d : Fin 128) (hC : C.val = b + d.val) (hb : b % 128 = 0)
    (hk : kd (C.val / 256) = 1) (f : Fin 128 → EReal) (G : EReal) (hf : ∀ (k : Fin 128) (C' : Fin 6400), C'.val = b + k.val → Ux m c r C' = f k)
    (hG : gn m c C = G) : KC m c r C = rms 128 c128 f d * G := by
  unfold KC
  rw [if_pos hk, hG]
  have e : (⟨C.val % 128, by omega⟩ : Fin 128) = d := Fin.ext (by show C.val % 128 = d.val; omega)
  rw [e]
  exact congrArg (· * G) (rms_congr _ _ _ _ _ fun k => hf k _ (by show C.val / 128 * 128 + k.val = b + k.val; omega))

theorem KC_half (c : Dev nD) (r : Fin 8448) (C : Fin 6400) (b : ℕ) (d : Fin 64) (hC : C.val = b + d.val) (hb : b % 64 = 0)
    (hk : kd (C.val / 256) = 2) (f : Fin 64 → EReal) (G : EReal) (hf : ∀ (k : Fin 64) (C' : Fin 6400), C'.val = b + k.val → Ux m c r C' = f k)
    (hG : gn m c C = G) : KC m c r C = rms 64 c64 f d * G := by
  unfold KC
  rw [if_neg (by rw [hk]; decide), if_pos hk, hG]
  have e : (⟨C.val % 64, by omega⟩ : Fin 64) = d := Fin.ext (by show C.val % 64 = d.val; omega)
  rw [e]
  exact congrArg (· * G) (rms_congr _ _ _ _ _ fun k => hf k _ (by show C.val / 64 * 64 + k.val = b + k.val; omega))

/-- The table's words, tile by tile. -/
theorem kd_whole : ∀ n : Fin 25, n.val < 4 ∨ n.val = 6 ∨ n.val = 8 → kd n.val = 1 := by decide +kernel
theorem kd_half : ∀ n : Fin 25, 10 ≤ n.val ∧ n.val < 14 → kd n.val = 2 := by decide +kernel
theorem kd_plain : ∀ n : Fin 25, n.val = 4 ∨ n.val = 5 ∨ n.val = 7 ∨ n.val = 9 ∨ 14 ≤ n.val → kd n.val = 0 := by decide +kernel

theorem eq_q (c : Dev nD) (r : Fin 8448) (h : Fin 8) (d : Fin 128) : KC m c r ⟨h.val * 128 + d.val, by omega⟩ = RR m c r ⟨h.val * 128 + d.val, by omega⟩ := by
  refine (KC_whole m c r _ (h.val * 128) d (by show h.val * 128 + d.val = h.val * 128 + d.val; omega) (by omega) (kd_whole ⟨(h.val * 128 + d.val) / 256, by omega⟩ (by show _; dsimp only; omega))
    (fun k => UR m c r ⟨h.val * 128 + k.val, by omega⟩) _ (fun k C' h' => Ux_src m c r _ _ ?_) ((gn_val m c _ _ ?_).trans (gn_q m c h d))).trans ?_
  · first | rfl | (dsimp only; omega)
  · first | rfl | (dsimp only; omega)
  · exact (mul_assoc _ _ _).symm.trans (Cert.InprojRefValue.R_q _ _ _ _ _ _ _ r h d).symm

theorem eq_slc (c : Dev nD) (r : Fin 8448) (h : Fin 2) (d : Fin 128) : KC m c r ⟨1024 + (512 + h.val * 128 + d.val), by omega⟩ = RR m c r ⟨1024 + (512 + h.val * 128 + d.val), by omega⟩ := by
  refine (KC_whole m c r _ (1536 + h.val * 128) d (by show 1024 + (512 + h.val * 128 + d.val) = 1536 + h.val * 128 + d.val; omega) (by omega) (kd_whole ⟨(1024 + (512 + h.val * 128 + d.val)) / 256, by omega⟩ (by show _; dsimp only; omega))
    (fun k => UR m c r ⟨1024 + (512 + h.val * 128 + k.val), by omega⟩) _ (fun k C' h' => Ux_src m c r _ _ ?_) ((gn_val m c _ _ ?_).trans (gn_slc m c h d))).trans ?_
  · first | rfl | (dsimp only; omega)
  · first | rfl | (dsimp only; omega)
  · exact (Cert.InprojRefValue.R_v87 _ _ _ _ _ _ _ r h d).symm

theorem eq_win (c : Dev nD) (r : Fin 8448) (h : Fin 2) (d : Fin 128) : KC m c r ⟨2048 + (0 + h.val * 128 + d.val), by omega⟩ = RR m c r ⟨2048 + (0 + h.val * 128 + d.val), by omega⟩ := by
  refine (KC_whole m c r _ (2048 + h.val * 128) d (by show 2048 + (0 + h.val * 128 + d.val) = 2048 + h.val * 128 + d.val; omega) (by omega) (kd_whole ⟨(2048 + (0 + h.val * 128 + d.val)) / 256, by omega⟩ (by show _; dsimp only; omega))
    (fun k => UR m c r ⟨1024 + (1024 + h.val * 128 + k.val), by omega⟩) _ (fun k C' h' => Ux_src m c r _ _ ?_) ((gn_val m c _ _ ?_).trans (gn_win m c h d))).trans ?_
  · first | rfl | (dsimp only; omega)
  · first | rfl | (dsimp only; omega)
  · exact (Cert.InprojRefValue.R_v92 _ _ _ _ _ _ _ r h d).symm

theorem eq_dq (c : Dev nD) (r : Fin 8448) (a : Fin 4) (b : Fin 2) (d : Fin 64) : KC m c r ⟨2560 + (a.val * 128 + b.val * 64 + d.val), by omega⟩ = RR m c r ⟨2560 + (a.val * 128 + b.val * 64 + d.val), by omega⟩ := by
  refine (KC_half m c r _ (2560 + a.val * 128 + b.val * 64) d (by show 2560 + (a.val * 128 + b.val * 64 + d.val) = 2560 + a.val * 128 + b.val * 64 + d.val; omega) (by omega) (kd_half ⟨(2560 + (a.val * 128 + b.val * 64 + d.val)) / 256, by omega⟩ (by show _; dsimp only; omega))
    (fun k => UR m c r ⟨2584 + (a.val * 128 + b.val * 64 + k.val), by omega⟩) _ (fun k C' h' => Ux_src m c r _ _ ?_) ((gn_val m c _ _ ?_).trans (gn_dq m c a b d))).trans ?_
  · first | rfl | (dsimp only; omega)
  · first | rfl | (dsimp only; omega)
  · exact (mul_assoc _ _ _).symm.trans (Cert.InprojRefValue.R_dq _ _ _ _ _ _ _ r a b d).symm

theorem eq_dk (c : Dev nD) (r : Fin 8448) (a : Fin 4) (b : Fin 2) (d : Fin 64) : KC m c r ⟨3072 + (a.val * 128 + b.val * 64 + d.val), by omega⟩ = RR m c r ⟨3072 + (a.val * 128 + b.val * 64 + d.val), by omega⟩ := by
  refine (KC_half m c r _ (3072 + a.val * 128 + b.val * 64) d (by show 3072 + (a.val * 128 + b.val * 64 + d.val) = 3072 + a.val * 128 + b.val * 64 + d.val; omega) (by omega) (kd_half ⟨(3072 + (a.val * 128 + b.val * 64 + d.val)) / 256, by omega⟩ (by show _; dsimp only; omega))
    (fun k => UR m c r ⟨3096 + (a.val * 128 + b.val * 64 + k.val), by omega⟩) _ (fun k C' h' => Ux_src m c r _ _ ?_) ((gn_val m c _ _ ?_).trans (gn_dk m c a b d))).trans ?_
  · first | rfl | (dsimp only; omega)
  · first | rfl | (dsimp only; omega)
  · exact (Cert.InprojRefValue.R_dk _ _ _ _ _ _ _ r a b d).symm

theorem eq_v85 (c : Dev nD) (r : Fin 8448) (h : Fin 2) (d : Fin 128) : KC m c r ⟨1024 + (0 + h.val * 128 + d.val), by omega⟩ = RR m c r ⟨1024 + (0 + h.val * 128 + d.val), by omega⟩ := by
  refine (KC_plain m c r _ (kd_plain ⟨(1024 + (0 + h.val * 128 + d.val)) / 256, by omega⟩ (by dsimp only; omega))).trans ((Ux_src m c r _ ⟨1024 + (0 + h.val * 128 + d.val), by omega⟩ ?_).trans
    (Cert.InprojRefValue.R_v85 _ _ _ _ _ _ _ r h d).symm)
  first | (dsimp only; omega) | (dsimp only; done)

theorem eq_v86 (c : Dev nD) (r : Fin 8448) (h : Fin 2) (d : Fin 128) : KC m c r ⟨1024 + (256 + h.val * 128 + d.val), by omega⟩ = RR m c r ⟨1024 + (256 + h.val * 128 + d.val), by omega⟩ := by
  refine (KC_plain m c r _ (kd_plain ⟨(1024 + (256 + h.val * 128 + d.val)) / 256, by omega⟩ (by dsimp only; omega))).trans ((Ux_src m c r _ ⟨1024 + (256 + h.val * 128 + d.val), by omega⟩ ?_).trans
    (Cert.InprojRefValue.R_v86 _ _ _ _ _ _ _ r h d).symm)
  first | (dsimp only; omega) | (dsimp only; done)

theorem eq_v88 (c : Dev nD) (r : Fin 8448) (h : Fin 2) (d : Fin 128) : KC m c r ⟨1024 + (768 + h.val * 128 + d.val), by omega⟩ = RR m c r ⟨1024 + (768 + h.val * 128 + d.val), by omega⟩ := by
  refine (KC_plain m c r _ (kd_plain ⟨(1024 + (768 + h.val * 128 + d.val)) / 256, by omega⟩ (by dsimp only; omega))).trans ((Ux_src m c r _ ⟨1024 + (768 + h.val * 128 + d.val), by omega⟩ ?_).trans
    (Cert.InprojRefValue.R_v88 _ _ _ _ _ _ _ r h d).symm)
  first | (dsimp only; omega) | (dsimp only; done)

theorem eq_v93 (c : Dev nD) (r : Fin 8448) (h : Fin 2) (d : Fin 128) : KC m c r ⟨2048 + (256 + h.val * 128 + d.val), by omega⟩ = RR m c r ⟨2048 + (256 + h.val * 128 + d.val), by omega⟩ := by
  refine (KC_plain m c r _ (kd_plain ⟨(2048 + (256 + h.val * 128 + d.val)) / 256, by omega⟩ (by dsimp only; omega))).trans ((Ux_src m c r _ ⟨1024 + (1280 + h.val * 128 + d.val), by omega⟩ ?_).trans
    (Cert.InprojRefValue.R_v93 _ _ _ _ _ _ _ r h d).symm)
  first | (dsimp only; omega) | (dsimp only; done)

theorem eq_5 (c : Dev nD) (r : Fin 8448) (l : Fin 512) : KC m c r ⟨3584 + l.val, by omega⟩ = RR m c r ⟨3584 + l.val, by omega⟩ := by
  refine (KC_plain m c r _ (kd_plain ⟨(3584 + l.val) / 256, by omega⟩ (by dsimp only; omega))).trans ((Ux_src m c r _ ⟨3608 + l.val, by omega⟩ ?_).trans
    (Cert.InprojRefValue.R_5 _ _ _ _ _ _ _ r l).symm)
  first | (dsimp only; omega) | (dsimp only; done)

theorem eq_6 (c : Dev nD) (r : Fin 8448) (l : Fin 512) : KC m c r ⟨4096 + l.val, by omega⟩ = RR m c r ⟨4096 + l.val, by omega⟩ := by
  refine (KC_plain m c r _ (kd_plain ⟨(4096 + l.val) / 256, by omega⟩ (by dsimp only; omega))).trans ((Ux_src m c r _ ⟨4120 + l.val, by omega⟩ ?_).trans
    (Cert.InprojRefValue.R_6 _ _ _ _ _ _ _ r l).symm)
  first | (dsimp only; omega) | (dsimp only; done)

theorem eq_7 (c : Dev nD) (r : Fin 8448) (l : Fin 512) : KC m c r ⟨4608 + l.val, by omega⟩ = RR m c r ⟨4608 + l.val, by omega⟩ := by
  refine (KC_plain m c r _ (kd_plain ⟨(4608 + l.val) / 256, by omega⟩ (by dsimp only; omega))).trans ((Ux_src m c r _ ⟨4632 + l.val, by omega⟩ ?_).trans
    (Cert.InprojRefValue.R_7 _ _ _ _ _ _ _ r l).symm)
  first | (dsimp only; omega) | (dsimp only; done)

theorem eq_8 (c : Dev nD) (r : Fin 8448) (l : Fin 512) : KC m c r ⟨5120 + l.val, by omega⟩ = RR m c r ⟨5120 + l.val, by omega⟩ := by
  refine (KC_plain m c r _ (kd_plain ⟨(5120 + l.val) / 256, by omega⟩ (by dsimp only; omega))).trans ((Ux_src m c r _ ⟨5144 + l.val, by omega⟩ ?_).trans
    (Cert.InprojRefValue.R_8 _ _ _ _ _ _ _ r l).symm)
  first | (dsimp only; omega) | (dsimp only; done)

theorem eq_9 (c : Dev nD) (r : Fin 8448) (l : Fin 512) : KC m c r ⟨5632 + l.val, by omega⟩ = RR m c r ⟨5632 + l.val, by omega⟩ := by
  refine (KC_plain m c r _ (kd_plain ⟨(5632 + l.val) / 256, by omega⟩ (by dsimp only; omega))).trans ((Ux_src m c r _ ⟨5664 + l.val, by omega⟩ ?_).trans
    (Cert.InprojRefValue.R_9 _ _ _ _ _ _ _ r l).symm)
  first | (dsimp only; omega) | (dsimp only; done)

theorem eq_10 (c : Dev nD) (r : Fin 8448) (l : Fin 24) : KC m c r ⟨6144 + l.val, by omega⟩ = RR m c r ⟨6144 + l.val, by omega⟩ := by
  refine (KC_plain m c r _ (kd_plain ⟨(6144 + l.val) / 256, by omega⟩ (by dsimp only; omega))).trans ((Ux_src m c r _ ⟨2560 + l.val, by omega⟩ ?_).trans
    (Cert.InprojRefValue.R_10 _ _ _ _ _ _ _ r l).symm)
  first | (dsimp only; omega) | (dsimp only; done)

theorem eq_11 (c : Dev nD) (r : Fin 8448) (l : Fin 4) : KC m c r ⟨6168 + l.val, by omega⟩ = RR m c r ⟨6168 + l.val, by omega⟩ := by
  refine (KC_plain m c r _ (kd_plain ⟨(6168 + l.val) / 256, by omega⟩ (by dsimp only; omega))).trans ((Ux_src m c r _ ⟨5656 + l.val, by omega⟩ ?_).trans
    (Cert.InprojRefValue.R_11 _ _ _ _ _ _ _ r l).symm)
  first | (dsimp only; omega) | (dsimp only; done)

theorem eq_12 (c : Dev nD) (r : Fin 8448) (l : Fin 4) : KC m c r ⟨6172 + l.val, by omega⟩ = RR m c r ⟨6172 + l.val, by omega⟩ := by
  refine (KC_plain m c r _ (kd_plain ⟨(6172 + l.val) / 256, by omega⟩ (by dsimp only; omega))).trans ((Ux_src m c r _ ⟨5660 + l.val, by omega⟩ ?_).trans
    (Cert.InprojRefValue.R_12 _ _ _ _ _ _ _ r l).symm)
  first | (dsimp only; omega) | (dsimp only; done)

theorem eq_13 (c : Dev nD) (r : Fin 8448) (l : Fin 224) : KC m c r ⟨6176 + l.val, by omega⟩ = RR m c r ⟨6176 + l.val, by omega⟩ := by
  refine (KC_plain m c r _ (kd_plain ⟨(6176 + l.val) / 256, by omega⟩ (by dsimp only; omega))).trans ((Ux_pad m c r l).trans
    (Cert.InprojRefValue.R_13 _ _ _ _ _ _ _ r l).symm)

/-- Every column. -/
theorem KC_eq (c : Dev nD) (r : Fin 8448) (C : Fin 6400) : KC m c r C = RR m c r C := by
  have at_ : ∀ (n : ℕ) (hn : n < 6400), C.val = n → KC m c r ⟨n, hn⟩ = RR m c r ⟨n, hn⟩ → KC m c r C = RR m c r C := by
    intro n hn e h
    rw [show C = ⟨n, hn⟩ from Fin.ext e]
    exact h
  by_cases hq : C.val < 1024
  · exact at_ _ _ (by dsimp only; omega) (eq_q m c r ⟨(C.val - 0) / 128, by omega⟩ ⟨(C.val - 0) % 128, by omega⟩)
  by_cases hv85 : C.val < 1280
  · exact at_ _ _ (by dsimp only; omega) (eq_v85 m c r ⟨(C.val - 1024) / 128, by omega⟩ ⟨(C.val - 1024) % 128, by omega⟩)
  by_cases hv86 : C.val < 1536
  · exact at_ _ _ (by dsimp only; omega) (eq_v86 m c r ⟨(C.val - 1280) / 128, by omega⟩ ⟨(C.val - 1280) % 128, by omega⟩)
  by_cases hslc : C.val < 1792
  · exact at_ _ _ (by dsimp only; omega) (eq_slc m c r ⟨(C.val - 1536) / 128, by omega⟩ ⟨(C.val - 1536) % 128, by omega⟩)
  by_cases hv88 : C.val < 2048
  · exact at_ _ _ (by dsimp only; omega) (eq_v88 m c r ⟨(C.val - 1792) / 128, by omega⟩ ⟨(C.val - 1792) % 128, by omega⟩)
  by_cases hwin : C.val < 2304
  · exact at_ _ _ (by dsimp only; omega) (eq_win m c r ⟨(C.val - 2048) / 128, by omega⟩ ⟨(C.val - 2048) % 128, by omega⟩)
  by_cases hv93 : C.val < 2560
  · exact at_ _ _ (by dsimp only; omega) (eq_v93 m c r ⟨(C.val - 2304) / 128, by omega⟩ ⟨(C.val - 2304) % 128, by omega⟩)
  by_cases hdq : C.val < 3072
  · exact at_ _ _ (by dsimp only; omega) (eq_dq m c r ⟨(C.val - 2560) / 128, by omega⟩ ⟨(C.val - 2560) / 64 % 2, by omega⟩ ⟨(C.val - 2560) % 64, by omega⟩)
  by_cases hdk : C.val < 3584
  · exact at_ _ _ (by dsimp only; omega) (eq_dk m c r ⟨(C.val - 3072) / 128, by omega⟩ ⟨(C.val - 3072) / 64 % 2, by omega⟩ ⟨(C.val - 3072) % 64, by omega⟩)
  by_cases h5 : C.val < 4096
  · exact at_ _ _ (by dsimp only; omega) (eq_5 m c r ⟨C.val - 3584, by omega⟩)
  by_cases h6 : C.val < 4608
  · exact at_ _ _ (by dsimp only; omega) (eq_6 m c r ⟨C.val - 4096, by omega⟩)
  by_cases h7 : C.val < 5120
  · exact at_ _ _ (by dsimp only; omega) (eq_7 m c r ⟨C.val - 4608, by omega⟩)
  by_cases h8 : C.val < 5632
  · exact at_ _ _ (by dsimp only; omega) (eq_8 m c r ⟨C.val - 5120, by omega⟩)
  by_cases h9 : C.val < 6144
  · exact at_ _ _ (by dsimp only; omega) (eq_9 m c r ⟨C.val - 5632, by omega⟩)
  by_cases h10 : C.val < 6168
  · exact at_ _ _ (by dsimp only; omega) (eq_10 m c r ⟨C.val - 6144, by omega⟩)
  by_cases h11 : C.val < 6172
  · exact at_ _ _ (by dsimp only; omega) (eq_11 m c r ⟨C.val - 6168, by omega⟩)
  by_cases h12 : C.val < 6176
  · exact at_ _ _ (by dsimp only; omega) (eq_12 m c r ⟨C.val - 6172, by omega⟩)
  exact at_ _ _ (by dsimp only; omega) (eq_13 m c r ⟨C.val - 6176, by omega⟩)

/-- The array the kernel leaves is the reference's. -/
theorem final (c : Dev nD) : (dats m 0 c).arrAt 5 cfg0.N
    = Cert.InprojRefIdeal.Read.val_main_v131 (F := Ideal) (aX m c) (aG m c) (aW m c) (aQ m c) (aK m c) (aD m c) (aE m c) := by
  refine (dats m 0 c).arrAt_eq_of_covers 5 _ (by decide +kernel) fun t _ y => ?_
  blk_simp
  rw [after0_5]
  obtain ⟨r, q, rfl⟩ : ∃ (r : Fin 768) (q : Fin 1280), y = ix2 r q := ⟨y 0, y 1, eq_ix2 y⟩
  refine (outs_eq m c t (ix2 r q)).trans ((KB_eq m c t r q).trans ((KC_eq m c (row t r) (col t q)).trans ?_))
  show Cert.InprojRefIdeal.Read.val_main_v131 (F := Ideal) (aX m c) (aG m c) (aW m c) (aQ m c) (aK m c) (aD m c) (aE m c) (ix2 (row t r) (col t q)) = _
  blk_ext [idx t]

end Cert.InprojValue

end
-- ==== Proof.InprojClaim.lean ====
/- The input projection pair's value claim from the two runs. -/
module

public import proofs.«01_k».proof.Defs
public import proofs.«01_k».proof.Proof.InprojValue
public import proofs.«01_k».proof.Proof.Gen.InprojRefIdeal.Read
public import Idealize.ShloMosaic.Lib.Claim

@[expose] public section

noncomputable section

open Idealize.ShloMosaic Idealize.ShloMosaic.TcCoe Idealize.SL.Sem

namespace Cert.InprojClaim

section
open Cert.InprojIdeal Cert.InprojIdeal.Gen Cert.InprojIdeal.Body Cert.InprojValue

variable (m : (ℓ : Loc nD τ sig) → Buf (Elt Ideal) ℓ) (ρ : Dev nD → PrngReg)

/-- The kernel's run: its result is the reference's array of its arguments, which end as they were. -/
theorem run : θ_run defs (onTc (τ := τ) (main (F := Ideal))) ⟨m, fun _ => 0, ρ⟩ fun r => ∀ c : Dev nD,
      r.2.mem ((c : Thread nD τ).loc main_v45)
        = Cert.InprojRefIdeal.Read.val_main_v131 (F := Ideal) (aX m c) (aG m c) (aW m c) (aQ m c) (aK m c) (aD m c) (aE m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h.1 c).1 5).trans (final m c), h.2 c⟩)
    (θ_run_and (run_main m ρ) (frame_of m ρ (dats m) (A_eq m) (run_main m ρ)))

end

theorem algebraic : Cert.algebraic_InprojIdeal_InprojRefIdeal := by
  pair_intro
  · run_from Cert.InprojClaim.run m g
  · run_from Cert.InprojRefIdeal.Value.run m' g'
    rw [Cert.InprojRefIdeal.Read.val_main_v131_eq]
    obtain ⟨e0, e1, e2, e3, e4, e5, e6⟩ := hagree c
    rw [e0, e1, e2, e3, e4, e5, e6]

end Cert.InprojClaim

end
-- ==== Proof.OutprojValue.lean ====
/- The output projection's kernel leaves the reference's array: the three mixers' outputs against their own rows of the
   weights, added one after another, are one product against the three side by side. -/
module

public import proofs.«01_k».proof.Proof.Gen.OutprojIdeal.Value
public import proofs.«01_k».proof.Proof.Gen.OutprojIdeal.Skeleton
public import proofs.«01_k».proof.Proof.Gen.OutprojRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.OutprojValue

/-- A sum over 2048 as its first 1024, its next 512 and its last 512. -/
theorem sum_cut (f : Fin 2048 → EReal) : ∑ k, f k = (∑ k : Fin 1024, f ⟨k.val, by omega⟩) + (∑ k : Fin 512, f ⟨1024 + k.val, by omega⟩)
    + ∑ k : Fin 512, f ⟨1536 + k.val, by omega⟩ :=
  (Fin.sum_univ_add (a := 1536) (b := 512) f).trans
    (congrArg (· + _) (Fin.sum_univ_add (a := 1024) (b := 512) fun i => f (Fin.castAdd 512 i)))

section Reference
open Cert.OutprojRefIdeal Cert.OutprojRefIdeal.Gen Cert.OutprojRefIdeal.Read

variable (x0 : FVec Ideal S8448x2048 .f32) (x1 : FVec Ideal S8448x1024 .f32) (x2 x3 : FVec Ideal S8448x512 .f32) (x4 : FVec Ideal S2x2048x2048 .f32)

theorem beside_0 (r : Fin 8448) (k : Fin 1024) : val_main_v0 (F := Ideal) x1 x2 x3 (ix2 r ⟨k.val, by omega⟩) = x1 (ix2 r k) := by
  pointwise [val_main_v0]

theorem beside_1 (r : Fin 8448) (k : Fin 512) : val_main_v0 (F := Ideal) x1 x2 x3 (ix2 r ⟨1024 + k.val, by omega⟩) = x2 (ix2 r k) := by
  pointwise [val_main_v0]

theorem beside_2 (r : Fin 8448) (k : Fin 512) : val_main_v0 (F := Ideal) x1 x2 x3 (ix2 r ⟨1536 + k.val, by omega⟩) = x3 (ix2 r k) := by
  pointwise [val_main_v0]
  rw [dif_neg (by omega), dif_neg (by omega)]
  exact congrArg x3 ((ix2_inj _ _ _ _).2 ⟨rfl, Fin.ext (by show 1536 + k.val - 1024 - 512 = k.val; omega)⟩)

theorem prod_at (r : Fin 8448) (n : Fin 2048) : val_main_v4 (F := Ideal) x0 x1 x2 x3 x4 (ix2 r n)
    = x0 (ix2 r n) + ∑ k : Fin 2048, val_main_v0 (F := Ideal) x1 x2 x3 (ix2 r k) * x4 (ix3 0 k n) := by
  pointwise [val_main_v4, val_main_v3, val_main_v2, val_main_v1]

theorem ref_at (r : Fin 8448) (n : Fin 2048) : val_main_v4 (F := Ideal) x0 x1 x2 x3 x4 (ix2 r n)
    = x0 (ix2 r n) + (∑ k : Fin 1024, x1 (ix2 r k) * x4 (ix3 0 ⟨k.val, by omega⟩ n))
      + (∑ k : Fin 512, x2 (ix2 r k) * x4 (ix3 0 ⟨1024 + k.val, by omega⟩ n)) + ∑ k : Fin 512, x3 (ix2 r k) * x4 (ix3 0 ⟨1536 + k.val, by omega⟩ n) := by
  rw [prod_at, sum_cut]
  simp only [beside_0, beside_1, beside_2, add_assoc]

end Reference

open Cert.OutprojIdeal Cert.OutprojIdeal.Gen

/-- What a point stores, at a row and column of its block. -/
theorem out_at (x0 : Vec Ideal S768x2048 .f32) (x1 : Vec Ideal S768x1024 .f32) (x2 x3 : Vec Ideal S768x512 .f32) (x4 : Vec Ideal S1x2048x2048 .bf16)
    (r : Fin 768) (n : Fin 2048) : out0_5 x0 x1 x2 x3 x4 (ix2 r n)
    = (x0 (ix2 r n) : EReal) + (∑ k : Fin 1024, (x1 (ix2 r k) : EReal) * (x4 (ix3 0 ⟨k.val, by omega⟩ n) : EReal))
      + (∑ k : Fin 512, (x2 (ix2 r k) : EReal) * (x4 (ix3 0 ⟨1024 + k.val, by omega⟩ n) : EReal))
      + ∑ k : Fin 512, (x3 (ix2 r k) : EReal) * (x4 (ix3 0 ⟨1536 + k.val, by omega⟩ n) : EReal) := by
  frame_out
  pointwise [k0_pay1]

variable (m : (ℓ : Loc nD τ sig) → Buf (Elt Ideal) ℓ)

abbrev aH (c : Dev nD) : FVec Ideal S8448x2048 .f32 := m ((c : Thread nD τ).loc main_arg0)
abbrev aA (c : Dev nD) : FVec Ideal S8448x1024 .f32 := m ((c : Thread nD τ).loc main_arg1)
abbrev aB (c : Dev nD) : FVec Ideal S8448x512 .f32 := m ((c : Thread nD τ).loc main_arg2)
abbrev aC (c : Dev nD) : FVec Ideal S8448x512 .f32 := m ((c : Thread nD τ).loc main_arg3)
abbrev aW (c : Dev nD) : FVec Ideal S2x2048x2048 .f32 := m ((c : Thread nD τ).loc main_arg4)

/-- Which block of its array each window holds at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![t.val, 0] :=
  (by decide +kernel : ∀ t : Fin grid0.N, _)

/-- The row of the array a block's row is. -/
abbrev row (t : Fin cfg0.N) (r : Fin 768) : Fin 8448 := ⟨t.val * 768 + r.val, by
  have := Nat.lt_of_lt_of_eq t.isLt N_0; have := r.isLt; omega⟩

theorem V0 (c : Dev nD) (k n : Fin 2048) : (V m c main_v0 : FVec Ideal S2x2048x2048 .bf16) (ix3 0 k n) = aW m c (ix3 0 k n) := by
  unfold V
  after_results
  pointwise

theorem blk0 (c : Dev nD) (t : Fin cfg0.N) (r : Fin 768) (k : Fin 2048) : (iblk m c 0 t : Vec Ideal S768x2048 .f32) (ix2 r k) = aH m c (ix2 (row t r) k) := by
  rw [aH, ← V_main_arg0 m c]
  blk_ext [iblk, idx t]

theorem blk1 (c : Dev nD) (t : Fin cfg0.N) (r : Fin 768) (k : Fin 1024) : (iblk m c 1 t : Vec Ideal S768x1024 .f32) (ix2 r k) = aA m c (ix2 (row t r) k) := by
  rw [aA, ← V_main_arg1 m c]
  blk_ext [iblk, idx t]

theorem blk2 (c : Dev nD) (t : Fin cfg0.N) (r : Fin 768) (k : Fin 512) : (iblk m c 2 t : Vec Ideal S768x512 .f32) (ix2 r k) = aB m c (ix2 (row t r) k) := by
  rw [aB, ← V_main_arg2 m c]
  blk_ext [iblk, idx t]

theorem blk3 (c : Dev nD) (t : Fin cfg0.N) (r : Fin 768) (k : Fin 512) : (iblk m c 3 t : Vec Ideal S768x512 .f32) (ix2 r k) = aC m c (ix2 (row t r) k) := by
  rw [aC, ← V_main_arg3 m c]
  blk_ext [iblk, idx t]

theorem blk4 (c : Dev nD) (t : Fin cfg0.N) (k n : Fin 2048) : (iblk m c 4 t : Vec Ideal S1x2048x2048 .bf16) (ix3 0 k n) = aW m c (ix3 0 k n) := by
  rw [← V0 m c k n]
  blk_ext [iblk, idx t]

/-- The array the kernel leaves is the reference's. -/
theorem final (c : Dev nD) : (dats m 0 c).arrAt 5 cfg0.N
    = Cert.OutprojRefIdeal.Read.val_main_v4 (F := Ideal) (aH m c) (aA m c) (aB m c) (aC m c) (aW m c) := by
  refine (dats m 0 c).arrAt_eq_of_covers 5 _ (by decide +kernel) fun t _ y => ?_
  blk_simp
  rw [after0_5]
  obtain ⟨r, n, rfl⟩ : ∃ (r : Fin 768) (n : Fin 2048), y = ix2 r n := ⟨y 0, y 1, eq_ix2 y⟩
  refine (out_at _ _ _ _ _ r n).trans ?_
  simp only [blk0, blk1, blk2, blk3, blk4]
  refine (ref_at (aH m c) (aA m c) (aB m c) (aC m c) (aW m c) (row t r) n).symm.trans ?_
  blk_ext [idx t]

end Cert.OutprojValue

end
-- ==== Proof.OutprojClaim.lean ====
/- The output projection pair's value claim from the two runs. -/
module

public import proofs.«01_k».proof.Defs
public import proofs.«01_k».proof.Proof.OutprojValue
public import proofs.«01_k».proof.Proof.Gen.OutprojIdeal.Value
public import proofs.«01_k».proof.Proof.Gen.OutprojRefIdeal.Read
public import Idealize.ShloMosaic.Lib.Claim

@[expose] public section

noncomputable section

open Idealize.ShloMosaic Idealize.ShloMosaic.TcCoe Idealize.SL.Sem

namespace Cert.OutprojClaim

theorem algebraic : Cert.algebraic_OutprojIdeal_OutprojRefIdeal := by
  pair_intro
  · run_from Cert.OutprojIdeal.Value.run_blocks m g
  · run_from Cert.OutprojRefIdeal.Value.run m' g'
    rw [Cert.OutprojRefIdeal.Read.val_main_v4_eq]
    obtain ⟨e0, e1, e2, e3, e4⟩ := hagree c
    simp only [e0, e1, e2, e3, e4]
    exact (Cert.OutprojValue.final m c).symm

end Cert.OutprojClaim

end
-- ==== Proof.RowsIdealBody.lean ====
/- The row kernel's frame: a point cuts two blocks of columns into rows of a head's width, each cut a store through
   every eighth row; eight of them fill a block. -/
module

public import proofs.«01_k».proof.Proof.Gen.RowsIdeal.Frame
public import Idealize.ShloMosaic.Lib.Pipeline.ValueKit
public import Idealize.ShloMosaic.Lib.ValueLayout
public import Idealize.ShloMosaic.Lib.WholeRead

@[expose] public section

set_option maxRecDepth 16384

noncomputable section

namespace Cert.RowsIdeal.Body

open Cert.RowsIdeal Cert.RowsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body run on whole staging memrefs: the two inputs stay as they were, and each output is left with the pieces
    this names. -/
noncomputable def run (c : Dev nD) (i : grid0.Coords) (arg1 : Memref sig .tc .vmem S256x1024 .f32) (harg1 : arg1.IsWhole) (arg2 : Memref sig .tc .vmem S256x1024 .f32) (harg2 : arg2.IsWhole) (arg3 : Memref sig .tc .hbm S2x67584x128 .f32) (harg3 : arg3.IsWhole) (arg4 : Memref sig .tc .hbm S2x67584x128 .f32) (harg4 : arg4.IsWhole) (arg5 : Memref sig .tc .vmem S1x2048x128 .f32) (harg5 : arg5.IsWhole) (arg6 : Memref sig .tc .vmem S1x2048x128 .f32) (harg6 : arg6.IsWhole) (x0 x1 : Vec F S256x1024 .f32) :
    Σ' (L2 : List (View.Piece (Elt F) S1x2048x128 .f32)), { L3 : List (View.Piece (Elt F) S1x2048x128 .f32) //
      ∀ (E : Set ℕ) (K : PUnit → sProp 𝕄),
        iprop(owns (c : Thread nD τ) arg1 fullShare x0 ∗ owns (c : Thread nD τ) arg2 fullShare x1 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3)) -∗ K ⟨⟩))
          ⊢ wp frame (wpE (defs₀ (F := F)) Variants.none c none) E (cc0_cache_rows i arg1 harg1 arg2 harg2 arg3 harg3 arg4 harg4 arg5 harg5 arg6 harg6) K } := by
  refine ⟨?_, ?_, fun E K => ?run⟩
  case run =>
    unfold cc0_cache_rows k0_part1 k0_part2
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- A block of columns cut into rows of a head's width: eight to each row. -/
def rowsOf (x : Vec F S256x1024 .f32) : Vec F S1x2048x128 .f32 := fun y =>
  x (ix2 ⟨(y 1).val / 8, Nat.div_lt_of_lt_mul (y 1).isLt⟩ ⟨(y 1).val % 8 * 128 + (y 2).val, by
    have h : (y 2).val < 128 := (y 2).isLt; omega⟩)

/-- One cut of the columns, stored through every eighth row from row `j`, is that part of the rows. -/
theorem cut_eq (v : Memref sig .tc .vmem S256x1024 .f32) (hv : v.IsWhole) (x0 : Vec F S256x1024 .f32) (j k : ℕ) (hk : k = 128 * j) (hj : j < 8)
    (h0 : ∀ a, (![0, k] : Fin 2 → ℕ) a + S256x128.size a ≤ S256x1024.size a) (hc : S256x128.ShapeCasts S1x256x128)
    (x : S1x256x128.Idx) (z : S1x2048x128.Idx) (z1 : (z 1).val = j + 8 * (x 1).val) (z2 : (z 2).val = (x 2).val) :
    shapeCast S1x256x128 (View.readAt (Elt F) v.view (Rect.unit (s := S256x1024) ![0, k] S256x128.size h0).toLoadRect (hv.unread x0)) hc x = rowsOf x0 z := by
  have hx : x = ix3 (x 0) (x 1) (x 2) := by funext a; fin_cases a <;> rfl
  rw [hx]
  refine (ValueIdx.shapeCast_ab_1ab_apply _ hc (x 0) (x 1) (x 2)).trans ?_
  refine (hv.readAt_unread x0 _ _).trans ?_
  unfold rowsOf
  have h2 : (x 2).val < 128 := (x 2).isLt
  congr 1
  funext a
  refine Fin.ext ?_
  fin_cases a
  · show 0 + 1 * (x 1).val = (z 1).val / 8
    rw [z1]; omega
  · show k + 1 * (x 2).val = (z 1).val % 8 * 128 + (z 2).val
    rw [z1, z2]; omega

/-- A place of the block lies in the store through every eighth row from its own row's remainder. -/
theorem mem_cut (j : ℕ) (y : S1x2048x128.Idx) (h : (y 1).val % 8 = j) (hi) (hp) :
    y ∈ ({ off := ![0, j, 0], size := ![1, 256, 128], stride := ![1, 8, 1], inb := hi, stride_pos := hp } : Rect S1x2048x128).set := by
  rw [LoadRect.mem_set]
  have h1 : (y 1).val < 2048 := (y 1).isLt
  intro a
  fin_cases a
  · exact ⟨0, Nat.zero_lt_one, by show (y 0).val = 0 + 1 * 0; have : (y 0).val < 1 := (y 0).isLt; omega⟩
  · exact ⟨(y 1).val / 8, by show (y 1).val / 8 < 256; omega, by show (y 1).val = j + 8 * ((y 1).val / 8); omega⟩
  · exact ⟨(y 2).val, (y 2).isLt, by show (y 2).val = 0 + 1 * (y 2).val; omega⟩

set_option maxHeartbeats 2000000 in
/-- What the eight stores leave of the first output's block. -/
theorem left2 (c : Dev nD) (i : grid0.Coords) (arg1 : Memref sig .tc .vmem S256x1024 .f32) (harg1 : arg1.IsWhole) (arg2 : Memref sig .tc .vmem S256x1024 .f32) (harg2 : arg2.IsWhole) (arg3 : Memref sig .tc .hbm S2x67584x128 .f32) (harg3 : arg3.IsWhole) (arg4 : Memref sig .tc .hbm S2x67584x128 .f32) (harg4 : arg4.IsWhole) (arg5 : Memref sig .tc .vmem S1x2048x128 .f32) (harg5 : arg5.IsWhole) (arg6 : Memref sig .tc .vmem S1x2048x128 .f32) (harg6 : arg6.IsWhole) (x0 x1 : Vec F S256x1024 .f32) (f : arg5.view.ty.Contents (Elt F)) :
    arg5.view.read (Elt F) (arg5.view.writes (Elt F) f (run c i arg1 harg1 arg2 harg2 arg3 harg3 arg4 harg4 arg5 harg5 arg6 harg6 x0 x1).1) = rowsOf x0 := by
  unfold run
  dsimp only
  funext y
  refine View.read_writes_apply_of_pieces _ _ (rowsOf x0) _ ?_ y ?_
  · refine List.forall_mem_cons.2 ⟨?_, List.forall_mem_cons.2 ⟨?_, List.forall_mem_cons.2 ⟨?_, List.forall_mem_cons.2 ⟨?_, List.forall_mem_cons.2 ⟨?_,
      List.forall_mem_cons.2 ⟨?_, List.forall_mem_cons.2 ⟨?_, List.forall_mem_cons.2 ⟨?_, fun _ h => absurd h List.not_mem_nil⟩⟩⟩⟩⟩⟩⟩⟩
    · intro x; exact cut_eq arg1 harg1 x0 7 896 rfl (by decide) _ _ x _ rfl (by show 0 + 1 * (x 2).val = (x 2).val; omega)
    · intro x; exact cut_eq arg1 harg1 x0 6 768 rfl (by decide) _ _ x _ rfl (by show 0 + 1 * (x 2).val = (x 2).val; omega)
    · intro x; exact cut_eq arg1 harg1 x0 5 640 rfl (by decide) _ _ x _ rfl (by show 0 + 1 * (x 2).val = (x 2).val; omega)
    · intro x; exact cut_eq arg1 harg1 x0 4 512 rfl (by decide) _ _ x _ rfl (by show 0 + 1 * (x 2).val = (x 2).val; omega)
    · intro x; exact cut_eq arg1 harg1 x0 3 384 rfl (by decide) _ _ x _ rfl (by show 0 + 1 * (x 2).val = (x 2).val; omega)
    · intro x; exact cut_eq arg1 harg1 x0 2 256 rfl (by decide) _ _ x _ rfl (by show 0 + 1 * (x 2).val = (x 2).val; omega)
    · intro x; exact cut_eq arg1 harg1 x0 1 128 rfl (by decide) _ _ x _ rfl (by show 0 + 1 * (x 2).val = (x 2).val; omega)
    · intro x; exact cut_eq arg1 harg1 x0 0 0 rfl (by decide) _ _ x _ rfl (by show 0 + 1 * (x 2).val = (x 2).val; omega)
  · have hy : (y 1).val % 8 < 8 := Nat.mod_lt _ (by decide)
    obtain h | h | h | h | h | h | h | h : (y 1).val % 8 = 7 ∨ (y 1).val % 8 = 6 ∨ (y 1).val % 8 = 5 ∨ (y 1).val % 8 = 4 ∨ (y 1).val % 8 = 3 ∨ (y 1).val % 8 = 2 ∨ (y 1).val % 8 = 1 ∨ (y 1).val % 8 = 0 := by omega
    · exact ⟨_, List.Mem.head _, mem_cut 7 y h _ _⟩
    · exact ⟨_, List.Mem.tail _ (List.Mem.head _), mem_cut 6 y h _ _⟩
    · exact ⟨_, List.Mem.tail _ (List.Mem.tail _ (List.Mem.head _)), mem_cut 5 y h _ _⟩
    · exact ⟨_, List.Mem.tail _ (List.Mem.tail _ (List.Mem.tail _ (List.Mem.head _))), mem_cut 4 y h _ _⟩
    · exact ⟨_, List.Mem.tail _ (List.Mem.tail _ (List.Mem.tail _ (List.Mem.tail _ (List.Mem.head _)))), mem_cut 3 y h _ _⟩
    · exact ⟨_, List.Mem.tail _ (List.Mem.tail _ (List.Mem.tail _ (List.Mem.tail _ (List.Mem.tail _ (List.Mem.head _))))), mem_cut 2 y h _ _⟩
    · exact ⟨_, List.Mem.tail _ (List.Mem.tail _ (List.Mem.tail _ (List.Mem.tail _ (List.Mem.tail _ (List.Mem.tail _ (List.Mem.head _)))))), mem_cut 1 y h _ _⟩
    · exact ⟨_, List.Mem.tail _ (List.Mem.tail _ (List.Mem.tail _ (List.Mem.tail _ (List.Mem.tail _ (List.Mem.tail _ (List.Mem.tail _ (List.Mem.head _))))))), mem_cut 0 y h _ _⟩

set_option maxHeartbeats 2000000 in
/-- What the eight stores leave of the second output's block. -/
theorem left3 (c : Dev nD) (i : grid0.Coords) (arg1 : Memref sig .tc .vmem S256x1024 .f32) (harg1 : arg1.IsWhole) (arg2 : Memref sig .tc .vmem S256x1024 .f32) (harg2 : arg2.IsWhole) (arg3 : Memref sig .tc .hbm S2x67584x128 .f32) (harg3 : arg3.IsWhole) (arg4 : Memref sig .tc .hbm S2x67584x128 .f32) (harg4 : arg4.IsWhole) (arg5 : Memref sig .tc .vmem S1x2048x128 .f32) (harg5 : arg5.IsWhole) (arg6 : Memref sig .tc .vmem S1x2048x128 .f32) (harg6 : arg6.IsWhole) (x0 x1 : Vec F S256x1024 .f32) (f : arg6.view.ty.Contents (Elt F)) :
    arg6.view.read (Elt F) (arg6.view.writes (Elt F) f (run c i arg1 harg1 arg2 harg2 arg3 harg3 arg4 harg4 arg5 harg5 arg6 harg6 x0 x1).2.1) = rowsOf x1 := by
  unfold run
  dsimp only
  funext y
  refine View.read_writes_apply_of_pieces _ _ (rowsOf x1) _ ?_ y ?_
  · refine List.forall_mem_cons.2 ⟨?_, List.forall_mem_cons.2 ⟨?_, List.forall_mem_cons.2 ⟨?_, List.forall_mem_cons.2 ⟨?_, List.forall_mem_cons.2 ⟨?_,
      List.forall_mem_cons.2 ⟨?_, List.forall_mem_cons.2 ⟨?_, List.forall_mem_cons.2 ⟨?_, fun _ h => absurd h List.not_mem_nil⟩⟩⟩⟩⟩⟩⟩⟩
    · intro x; exact cut_eq arg2 harg2 x1 7 896 rfl (by decide) _ _ x _ rfl (by show 0 + 1 * (x 2).val = (x 2).val; omega)
    · intro x; exact cut_eq arg2 harg2 x1 6 768 rfl (by decide) _ _ x _ rfl (by show 0 + 1 * (x 2).val = (x 2).val; omega)
    · intro x; exact cut_eq arg2 harg2 x1 5 640 rfl (by decide) _ _ x _ rfl (by show 0 + 1 * (x 2).val = (x 2).val; omega)
    · intro x; exact cut_eq arg2 harg2 x1 4 512 rfl (by decide) _ _ x _ rfl (by show 0 + 1 * (x 2).val = (x 2).val; omega)
    · intro x; exact cut_eq arg2 harg2 x1 3 384 rfl (by decide) _ _ x _ rfl (by show 0 + 1 * (x 2).val = (x 2).val; omega)
    · intro x; exact cut_eq arg2 harg2 x1 2 256 rfl (by decide) _ _ x _ rfl (by show 0 + 1 * (x 2).val = (x 2).val; omega)
    · intro x; exact cut_eq arg2 harg2 x1 1 128 rfl (by decide) _ _ x _ rfl (by show 0 + 1 * (x 2).val = (x 2).val; omega)
    · intro x; exact cut_eq arg2 harg2 x1 0 0 rfl (by decide) _ _ x _ rfl (by show 0 + 1 * (x 2).val = (x 2).val; omega)
  · have hy : (y 1).val % 8 < 8 := Nat.mod_lt _ (by decide)
    obtain h | h | h | h | h | h | h | h : (y 1).val % 8 = 7 ∨ (y 1).val % 8 = 6 ∨ (y 1).val % 8 = 5 ∨ (y 1).val % 8 = 4 ∨ (y 1).val % 8 = 3 ∨ (y 1).val % 8 = 2 ∨ (y 1).val % 8 = 1 ∨ (y 1).val % 8 = 0 := by omega
    · exact ⟨_, List.Mem.head _, mem_cut 7 y h _ _⟩
    · exact ⟨_, List.Mem.tail _ (List.Mem.head _), mem_cut 6 y h _ _⟩
    · exact ⟨_, List.Mem.tail _ (List.Mem.tail _ (List.Mem.head _)), mem_cut 5 y h _ _⟩
    · exact ⟨_, List.Mem.tail _ (List.Mem.tail _ (List.Mem.tail _ (List.Mem.head _))), mem_cut 4 y h _ _⟩
    · exact ⟨_, List.Mem.tail _ (List.Mem.tail _ (List.Mem.tail _ (List.Mem.tail _ (List.Mem.head _)))), mem_cut 3 y h _ _⟩
    · exact ⟨_, List.Mem.tail _ (List.Mem.tail _ (List.Mem.tail _ (List.Mem.tail _ (List.Mem.tail _ (List.Mem.head _))))), mem_cut 2 y h _ _⟩
    · exact ⟨_, List.Mem.tail _ (List.Mem.tail _ (List.Mem.tail _ (List.Mem.tail _ (List.Mem.tail _ (List.Mem.tail _ (List.Mem.head _)))))), mem_cut 1 y h _ _⟩
    · exact ⟨_, List.Mem.tail _ (List.Mem.tail _ (List.Mem.tail _ (List.Mem.tail _ (List.Mem.tail _ (List.Mem.tail _ (List.Mem.tail _ (List.Mem.head _))))))), mem_cut 0 y h _ _⟩

/-! ## The proof data -/

/-- The arrays as the region finds them; a point leaves the inputs' blocks in place and the outputs' at their rows. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => rowsOf (X0_0 m c t)
    | ⟨3, _⟩ => rowsOf (X0_1 m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = rowsOf (X0_0 m c t) := by dsimp only [dats]
theorem after0_3 (c : Dev nD) (t : Fin cfg0.N) : (dats m 0 c).after 3 t = rowsOf (X0_1 m c t) := by dsimp only [dats]
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d

/-- What the body is handed at a point, and what it gives back. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1600000 in
/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl,
    show (dats m 0 c).Φ t.succ = (dats m 0 c).Φ t.castSucc from rfl,
    after0_0, after0_1, after0_2, after0_3]
  iintro ⟨HΦ, Ho, ⟨%d0, H0⟩, ⟨%d1, H1⟩, ⟨%d2, H2⟩, ⟨%d3, H3⟩⟩
  iapply ((run c (grid0.coords t) _ _ _ _ _ _ _ _ _ _ _ _ (X0_0 m c t) (X0_1 m c t)).2.2 Set.univ _)
  isplitl [H0]; · iexact H0
  isplitl [H1]; · iexact H1
  isplitl [H2]; · iexists _; iexact H2
  isplitl [H3]; · iexists _; iexact H3
  iintro ⟨H0, H1, ⟨%e2, H2⟩, ⟨%e3, H3⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact left2 c _ _ _ _ _ _ _ _ _ _ _ _ _ _ _ _
  · unfold owns; iexists _; isplitr
    swap; · iexact H3
    ipureintro; exact left3 c _ _ _ _ _ _ _ _ _ _ _ _ _ _ _ _

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every final state has the pipeline's arrays at what the proof data computes, the rest as the host code
    around the region leaves it, and every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl) (howed := fun _ _ => rfl) (V₀ := V0 m)
    (opss := [hostOps1]) (hsub := sfx_sub) (hfresh := sfx_fresh) (hkeep := sfx_keeps) (hmain := hmain m Variants.none)
    (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.RowsIdeal.Body

end
-- ==== Proof.RowsTail.lean ====
/- The window rows and the convolution's rows that the host code after the row kernel cuts off the projected rows. -/
module

public import proofs.«01_k».proof.Proof.RowsIdealBody
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.RowsTail

open Cert.RowsIdeal Cert.RowsIdeal.Gen Cert.RowsIdeal.Body Idealize.ShloMosaic.StableHlo

variable (m : (ℓ : Loc nD τ sig) → Buf (Elt Ideal) ℓ)

/-- The projected rows, as the kernel's arguments hold them. -/
abbrev aU (c : Dev nD) : FVec Ideal S8448x6400 .f32 := m ((c.tc : Thread nD τ).loc main_arg0)

/-- The host code reads the projected rows as launched: the region leaves them. -/
theorem with0 (c : Dev nD) : Pipeline.withArrays spec0 c (V0 m c) (fun w => (dats m 0 c).arrAt w cfg0.N) (Proc.devRef .tc main_arg0) = aU m c :=
  (Pipeline.withArrays_arr_shared spec0 c (V0 m c) _ ((dats m 0 c).arrAt_sharedIn sharedIn0 (V0 m c) (A_eq m c) cfg0.N) 1).trans
    (((dats m 0 c).arrAt_in 1 rfl _).trans ((A_eq m c 1).trans (V_main_arg0 m c)))

theorem with3 (c : Dev nD) : Pipeline.withArrays spec0 c (V0 m c) (fun w => (dats m 0 c).arrAt w cfg0.N) (Proc.devRef .tc main_arg3) = m ((c.tc : Thread nD τ).loc main_arg3) :=
  (Pipeline.withArrays_of_ne spec0 c (V0 m c) _ main_arg3 (by exact (by decide : ∀ w, Pipeline.arrRef spec0 w ≠ main_arg3))).trans (V_main_arg3 m c)

set_option maxHeartbeats 2000000 in
theorem tail8 (c : Dev nD) : Pipeline.afterTail₀ cfgs (dats m) 0 (V0 m) [hostOps1] c main_v8
    = shapeCast _ (extractStridedSlice S2x512x512 ![0, 3584, 0] (shapeCast _ (extractStridedSlice S8192x512 ![0, 2048] (aU m c) slices_S8448x6400_S8192x512_0_2048) shapeCasts_S8192x512_S2x4096x512) slices_S2x4096x512_S2x512x512_0_3584_0) shapeCasts_S2x512x512_S2x512x2x2x128 := by
  unfold Pipeline.afterTail₀
  rw [← with0 m c]
  simp only [List.flatten_cons, List.flatten_nil, List.append_nil]
  after_results <;> rfl

set_option maxHeartbeats 2000000 in
theorem tail11 (c : Dev nD) : Pipeline.afterTail₀ cfgs (dats m) 0 (V0 m) [hostOps1] c main_v11
    = concatenate S32x512x2x2x128 1 [⟨S32x504x2x2x128, (extractStridedSlice S32x504x2x2x128 ![0, 8, 0, 0, 0] (m ((c.tc : Thread nD τ).loc main_arg3)) slices_S32x512x2x2x128_S32x504x2x2x128_0_8_0_0_0)⟩, ⟨S32x8x2x2x128, (shapeCast _ (shapeCast _ (extractStridedSlice S256x512 ![8192, 2048] (aU m c) slices_S8448x6400_S256x512_8192_2048) shapeCasts_S256x512_S32x8x512) shapeCasts_S32x8x512_S32x8x2x2x128)⟩] concatenates_S32x504x2x2x128_S32x8x2x2x128_S32x512x2x2x128_d1 := by
  unfold Pipeline.afterTail₀
  rw [← with0 m c, ← with3 m c]
  simp only [List.flatten_cons, List.flatten_nil, List.append_nil]
  after_results <;> rfl

set_option maxHeartbeats 2000000 in
theorem tail14 (c : Dev nD) : Pipeline.afterTail₀ cfgs (dats m) 0 (V0 m) [hostOps1] c main_v14
    = extractStridedSlice S2x3x1024 ![0, 4093, 0] (shapeCast _ (extractStridedSlice S8192x1024 ![0, 4096] (aU m c) slices_S8448x6400_S8192x1024_0_4096) shapeCasts_S8192x1024_S2x4096x1024) slices_S2x4096x1024_S2x3x1024_0_4093_0 := by
  unfold Pipeline.afterTail₀
  rw [← with0 m c]
  simp only [List.flatten_cons, List.flatten_nil, List.append_nil]
  after_results <;> rfl

set_option maxHeartbeats 2000000 in
theorem tail17 (c : Dev nD) : Pipeline.afterTail₀ cfgs (dats m) 0 (V0 m) [hostOps1] c main_v17
    = extractStridedSlice S32x3x1024 ![0, 5, 0] (shapeCast _ (extractStridedSlice S256x1024 ![8192, 4096] (aU m c) slices_S8448x6400_S256x1024_8192_4096) shapeCasts_S256x1024_S32x8x1024) slices_S32x8x1024_S32x3x1024_0_5_0 := by
  unfold Pipeline.afterTail₀
  rw [← with0 m c]
  simp only [List.flatten_cons, List.flatten_nil, List.append_nil]
  after_results <;> rfl

end Cert.RowsTail

end
-- ==== Proof.RowsValue.lean ====
/- The row kernel's results: the second layer's rows are its columns cut a head's width at a time, the first layer's as
   given; and the window and convolution rows the host code cuts off are the last rows of each sequence's columns. -/
module

public import proofs.«01_k».proof.Proof.RowsTail
public import proofs.«01_k».proof.Proof.Gen.RowsRefIdeal.Run

@[expose] public section

set_option maxRecDepth 16384

noncomputable section

open Idealize.ShloMosaic Idealize.ShloMosaic.TcCoe Idealize.SL.Sem

namespace Cert.RowsValue

/-- The rows cut from the 1024 columns from column `o` on: row `k` of width 128 is row `k / 8` of the array. -/
def cutRows (o : ℕ) (ho : o + 1024 ≤ 6400) (u : FVec Ideal ⟨2, ![8448, 6400]⟩ .f32) (k : Fin 67584) (l : Fin 128) : EReal :=
  u (ix2 ⟨k.val / 8, by have := k.isLt; omega⟩ ⟨o + (k.val % 8 * 128 + l.val), by have := l.isLt; omega⟩)

/-- Two layers' rows: the first as given, the second cut. -/
def both (o : ℕ) (ho : o + 1024 ≤ 6400) (u : FVec Ideal ⟨2, ![8448, 6400]⟩ .f32) (p : FVec Ideal ⟨3, ![2, 67584, 128]⟩ .f32) :
    FVec Ideal ⟨3, ![2, 67584, 128]⟩ .f32 :=
  fun i => if 1 ≤ (i 0).val then cutRows o ho u (i 1) (i 2) else p i

section Reference
open Cert.RowsRefIdeal Cert.RowsRefIdeal.Gen

theorem ref_rows (o : ℕ) (ho : o + 1024 ≤ 6400) (u : FVec Ideal S8448x6400 .f32) (p : FVec Ideal S2x67584x128 .f32) (hs : S8448x6400.Slices ![0, o] S8448x1024) :
    concatenate S2x67584x128 0 [⟨S1x67584x128, (extractStridedSlice S1x67584x128 ![0, 0, 0] p slices_S2x67584x128_S1x67584x128_0_0_0)⟩, ⟨S1x67584x128, (shapeCast _ (extractStridedSlice S8448x1024 ![0, o] u hs) shapeCasts_S8448x1024_S1x67584x128)⟩] concatenates_S1x67584x128_S1x67584x128_S2x67584x128_d0
      = both o ho u p := by
  funext i
  obtain ⟨a, k, l, rfl⟩ : ∃ (a : Fin 2) (k : Fin 67584) (l : Fin 128), i = ix3 a k l := ⟨i 0, i 1, i 2, eq_ix3 i⟩
  unfold both cutRows
  fin_cases a
  · pointwise
  · pointwise

end Reference

open Cert.RowsIdeal Cert.RowsIdeal.Gen Cert.RowsIdeal.Body Cert.RowsTail

variable (m : (ℓ : Loc nD τ sig) → Buf (Elt Ideal) ℓ)

abbrev aN (c : Dev nD) : FVec Ideal S2x67584x128 .f32 := m ((c.tc : Thread nD τ).loc main_arg1)
abbrev aD (c : Dev nD) : FVec Ideal S2x67584x128 .f32 := m ((c.tc : Thread nD τ).loc main_arg2)

theorem entry2 (c : Dev nD) : V m c main_v0_0 = aN m c := by
  unfold V V0
  simp only [List.flatten_cons, List.flatten_nil, List.append_nil]
  after_results; try rfl
theorem entry3 (c : Dev nD) : V m c main_v0_1 = aD m c := by
  unfold V V0
  simp only [List.flatten_cons, List.flatten_nil, List.append_nil]
  after_results; try rfl

/-- The windows' block indices at a point. -/
theorem idx (t : Fin cfg0.N) : (win0_0.index t 0 = t.val ∧ win0_0.index t 1 = 1) ∧ (win0_1.index t 0 = t.val ∧ win0_1.index t 1 = 3)
    ∧ (win0_2.index t 1 = t.val ∧ win0_2.index t 2 = 0) ∧ (win0_3.index t 1 = t.val ∧ win0_3.index t 2 = 0) := by
  revert t; decide +kernel

theorem x0_at (c : Dev nD) (t : Fin cfg0.N) (r : Fin 256) (q : Fin 1024) : (X0_0 m c t : Vec Ideal S256x1024 .f32) (ix2 r q)
    = aU m c (ix2 ⟨t.val * 256 + r.val, by have := Nat.lt_of_lt_of_eq t.isLt N_0; omega⟩ ⟨1024 + q.val, by omega⟩) := by
  unfold X0_0 Pipeline.Window.fill
  rw [dif_pos (moved0_0 t _)]
  refine Eq.trans ?_ (congrFun (V_main_arg0 m c) _)
  blk_ext [iblk, idx t]

theorem x1_at (c : Dev nD) (t : Fin cfg0.N) (r : Fin 256) (q : Fin 1024) : (X0_1 m c t : Vec Ideal S256x1024 .f32) (ix2 r q)
    = aU m c (ix2 ⟨t.val * 256 + r.val, by have := Nat.lt_of_lt_of_eq t.isLt N_0; omega⟩ ⟨3072 + q.val, by omega⟩) := by
  unfold X0_1 Pipeline.Window.fill
  rw [dif_pos (moved0_1 t _)]
  refine Eq.trans ?_ (congrFun (V_main_arg0 m c) _)
  blk_ext [iblk, idx t]

theorem final2 (c : Dev nD) : (dats m 0 c).arrAt 2 cfg0.N = both 1024 (by decide) (aU m c) (aN m c) := by
  rw [← entry2 m c]
  refine (dats m 0 c).arrAt_eq_of_coversWhere 2 _ (fun β => 1 ≤ β 0) (by decide +kernel) (fun t hf y => ?_)
    (fun j => by blk_simp [Pipeline.Window.cell_apply]; omega)
  blk_simp
  rw [after0_2]
  obtain ⟨a, k, l, rfl⟩ : ∃ (a : Fin 1) (k : Fin 2048) (l : Fin 128), y = ix3 a k l := ⟨y 0, y 1, y 2, eq_ix3 y⟩
  unfold rowsOf cutRows
  refine (x0_at m c t ⟨k.val / 8, by omega⟩ ⟨k.val % 8 * 128 + l.val, by omega⟩).trans ?_
  have e1 : ((win0_2.blk t).view.emb (ix3 a k l) 1).val = t.val * 2048 + k.val := by blk_simp [idx t]
  have e2 : ((win0_2.blk t).view.emb (ix3 a k l) 2).val = l.val := by blk_simp [idx t]
  refine congrArg (aU m c) ((ix2_inj _ _ _ _).2 ⟨Fin.ext ?_, Fin.ext ?_⟩)
  · show t.val * 256 + k.val / 8 = ((win0_2.blk t).view.emb (ix3 a k l) 1).val / 8
    rw [e1]; omega
  · show 1024 + (k.val % 8 * 128 + l.val) = 1024 + (((win0_2.blk t).view.emb (ix3 a k l) 1).val % 8 * 128 + ((win0_2.blk t).view.emb (ix3 a k l) 2).val)
    rw [e1, e2]; omega

theorem final3 (c : Dev nD) : (dats m 0 c).arrAt 3 cfg0.N = both 3072 (by decide) (aU m c) (aD m c) := by
  rw [← entry3 m c]
  refine (dats m 0 c).arrAt_eq_of_coversWhere 3 _ (fun β => 1 ≤ β 0) (by decide +kernel) (fun t hf y => ?_)
    (fun j => by blk_simp [Pipeline.Window.cell_apply]; omega)
  blk_simp
  rw [after0_3]
  obtain ⟨a, k, l, rfl⟩ : ∃ (a : Fin 1) (k : Fin 2048) (l : Fin 128), y = ix3 a k l := ⟨y 0, y 1, y 2, eq_ix3 y⟩
  unfold rowsOf cutRows
  refine (x1_at m c t ⟨k.val / 8, by omega⟩ ⟨k.val % 8 * 128 + l.val, by omega⟩).trans ?_
  have e1 : ((win0_3.blk t).view.emb (ix3 a k l) 1).val = t.val * 2048 + k.val := by blk_simp [idx t]
  have e2 : ((win0_3.blk t).view.emb (ix3 a k l) 2).val = l.val := by blk_simp [idx t]
  refine congrArg (aU m c) ((ix2_inj _ _ _ _).2 ⟨Fin.ext ?_, Fin.ext ?_⟩)
  · show t.val * 256 + k.val / 8 = ((win0_3.blk t).view.emb (ix3 a k l) 1).val / 8
    rw [e1]; omega
  · show 3072 + (k.val % 8 * 128 + l.val) = 3072 + (((win0_3.blk t).view.emb (ix3 a k l) 1).val % 8 * 128 + ((win0_3.blk t).view.emb (ix3 a k l) 2).val)
    rw [e1, e2]; omega

end Cert.RowsValue

end
-- ==== Proof.RowsClaim.lean ====
/- The row kernel's value claim from the two runs. -/
module

public import proofs.«01_k».proof.Defs
public import proofs.«01_k».proof.Proof.RowsValue
public import Idealize.ShloMosaic.Lib.Claim

@[expose] public section

set_option maxRecDepth 16384

noncomputable section

open Idealize.ShloMosaic Idealize.ShloMosaic.TcCoe Idealize.SL.Sem

namespace Cert.RowsClaim

section Tails
open Cert.RowsIdeal Cert.RowsIdeal.Gen

/-- Cutting a sequence's last rows and then shaping each row is shaping and then cutting. -/
theorem win_p (u : FVec Ideal S8448x6400 .f32) :
    shapeCast _ (extractStridedSlice S2x512x512 ![0, 3584, 0] (shapeCast _ (extractStridedSlice S8192x512 ![0, 2048] u slices_S8448x6400_S8192x512_0_2048) shapeCasts_S8192x512_S2x4096x512) slices_S2x4096x512_S2x512x512_0_3584_0) shapeCasts_S2x512x512_S2x512x2x2x128
    = extractStridedSlice Cert.RowsRefIdeal.S2x512x2x2x128 ![0, 3584, 0, 0, 0] (concatenate Cert.RowsRefIdeal.S2x4096x2x2x128 1 [⟨Cert.RowsRefIdeal.S2x0x2x2x128, (broadcastInDim Cert.RowsRefIdeal.S2x0x2x2x128 ![] Cert.RowsRefIdeal.Gen.bcast_S_S2x0x2x2x128 (constant (F := Ideal) Cert.RowsRefIdeal.S_ .f32 0x00000000#32))⟩, ⟨Cert.RowsRefIdeal.S2x4096x2x2x128, (shapeCast _ (extractStridedSlice Cert.RowsRefIdeal.S8192x512 ![0, 2048] u Cert.RowsRefIdeal.Gen.slices_S8448x6400_S8192x512_0_2048) Cert.RowsRefIdeal.Gen.shapeCasts_S8192x512_S2x4096x2x2x128)⟩] Cert.RowsRefIdeal.Gen.concatenates_S2x0x2x2x128_S2x4096x2x2x128_S2x4096x2x2x128_d1) Cert.RowsRefIdeal.Gen.slices_S2x4096x2x2x128_S2x512x2x2x128_0_3584_0_0_0 := by
  funext i
  obtain ⟨a, b, c, d, e, rfl⟩ : ∃ (a : Fin 2) (b : Fin 512) (c : Fin 2) (d : Fin 2) (e : Fin 128), i = ix5 a b c d e := ⟨i 0, i 1, i 2, i 3, i 4, eq_ix5 i⟩
  pointwise
  rw [dif_neg (by omega)]

theorem win_s (u : FVec Ideal S8448x6400 .f32) (w : FVec Ideal S32x512x2x2x128 .f32) :
    concatenate S32x512x2x2x128 1 [⟨S32x504x2x2x128, (extractStridedSlice S32x504x2x2x128 ![0, 8, 0, 0, 0] w slices_S32x512x2x2x128_S32x504x2x2x128_0_8_0_0_0)⟩, ⟨S32x8x2x2x128, (shapeCast _ (shapeCast _ (extractStridedSlice S256x512 ![8192, 2048] u slices_S8448x6400_S256x512_8192_2048) shapeCasts_S256x512_S32x8x512) shapeCasts_S32x8x512_S32x8x2x2x128)⟩] concatenates_S32x504x2x2x128_S32x8x2x2x128_S32x512x2x2x128_d1
    = extractStridedSlice Cert.RowsRefIdeal.S32x512x2x2x128 ![0, 8, 0, 0, 0] (concatenate Cert.RowsRefIdeal.S32x520x2x2x128 1 [⟨Cert.RowsRefIdeal.S32x512x2x2x128, w⟩, ⟨Cert.RowsRefIdeal.S32x8x2x2x128, (shapeCast _ (extractStridedSlice Cert.RowsRefIdeal.S256x512 ![8192, 2048] u Cert.RowsRefIdeal.Gen.slices_S8448x6400_S256x512_8192_2048) Cert.RowsRefIdeal.Gen.shapeCasts_S256x512_S32x8x2x2x128)⟩] Cert.RowsRefIdeal.Gen.concatenates_S32x512x2x2x128_S32x8x2x2x128_S32x520x2x2x128_d1) Cert.RowsRefIdeal.Gen.slices_S32x520x2x2x128_S32x512x2x2x128_0_8_0_0_0 := by
  funext i
  obtain ⟨a, b, c, d, e, rfl⟩ : ∃ (a : Fin 32) (b : Fin 512) (c : Fin 2) (d : Fin 2) (e : Fin 128), i = ix5 a b c d e := ⟨i 0, i 1, i 2, i 3, i 4, eq_ix5 i⟩
  pointwise
  by_cases h : b.val < 504
  · rw [dif_pos h, dif_pos (by omega)]
  · rw [dif_neg h, dif_neg (by omega)]
    exact congrArg u ((ix2_inj _ _ _ _).2 ⟨Fin.ext (by dsimp only; omega), rfl⟩)

theorem conv_p (u : FVec Ideal S8448x6400 .f32) :
    extractStridedSlice S2x3x1024 ![0, 4093, 0] (shapeCast _ (extractStridedSlice S8192x1024 ![0, 4096] u slices_S8448x6400_S8192x1024_0_4096) shapeCasts_S8192x1024_S2x4096x1024) slices_S2x4096x1024_S2x3x1024_0_4093_0
    = extractStridedSlice Cert.RowsRefIdeal.S2x3x1024 ![0, 4096, 0] (concatenate Cert.RowsRefIdeal.S2x4099x1024 1 [⟨Cert.RowsRefIdeal.S2x3x1024, (broadcastInDim Cert.RowsRefIdeal.S2x3x1024 ![] Cert.RowsRefIdeal.Gen.bcast_S_S2x3x1024 (constant (F := Ideal) Cert.RowsRefIdeal.S_ .f32 0x00000000#32))⟩, ⟨Cert.RowsRefIdeal.S2x4096x1024, (shapeCast _ (extractStridedSlice Cert.RowsRefIdeal.S8192x1024 ![0, 4096] u Cert.RowsRefIdeal.Gen.slices_S8448x6400_S8192x1024_0_4096) Cert.RowsRefIdeal.Gen.shapeCasts_S8192x1024_S2x4096x1024)⟩] Cert.RowsRefIdeal.Gen.concatenates_S2x3x1024_S2x4096x1024_S2x4099x1024_d1) Cert.RowsRefIdeal.Gen.slices_S2x4099x1024_S2x3x1024_0_4096_0 := by
  funext i
  obtain ⟨a, b, c, rfl⟩ : ∃ (a : Fin 2) (b : Fin 3) (c : Fin 1024), i = ix3 a b c := ⟨i 0, i 1, i 2, eq_ix3 i⟩
  pointwise
  rw [dif_neg (by omega)]
  exact congrArg u ((ix2_inj _ _ _ _).2 ⟨Fin.ext (by dsimp only; omega), rfl⟩)

theorem conv_s (u : FVec Ideal S8448x6400 .f32) (w : FVec Ideal S32x3x1024 .f32) :
    extractStridedSlice S32x3x1024 ![0, 5, 0] (shapeCast _ (extractStridedSlice S256x1024 ![8192, 4096] u slices_S8448x6400_S256x1024_8192_4096) shapeCasts_S256x1024_S32x8x1024) slices_S32x8x1024_S32x3x1024_0_5_0
    = extractStridedSlice Cert.RowsRefIdeal.S32x3x1024 ![0, 8, 0] (concatenate Cert.RowsRefIdeal.S32x11x1024 1 [⟨Cert.RowsRefIdeal.S32x3x1024, w⟩, ⟨Cert.RowsRefIdeal.S32x8x1024, (shapeCast _ (extractStridedSlice Cert.RowsRefIdeal.S256x1024 ![8192, 4096] u Cert.RowsRefIdeal.Gen.slices_S8448x6400_S256x1024_8192_4096) Cert.RowsRefIdeal.Gen.shapeCasts_S256x1024_S32x8x1024)⟩] Cert.RowsRefIdeal.Gen.concatenates_S32x3x1024_S32x8x1024_S32x11x1024_d1) Cert.RowsRefIdeal.Gen.slices_S32x11x1024_S32x3x1024_0_8_0 := by
  funext i
  obtain ⟨a, b, c, rfl⟩ : ∃ (a : Fin 32) (b : Fin 3) (c : Fin 1024), i = ix3 a b c := ⟨i 0, i 1, i 2, eq_ix3 i⟩
  pointwise
  rw [dif_neg (by omega)]
  exact congrArg u ((ix2_inj _ _ _ _).2 ⟨Fin.ext (by dsimp only; omega), rfl⟩)

end Tails

section Run
open Cert.RowsIdeal Cert.RowsIdeal.Gen Cert.RowsIdeal.Body Cert.RowsValue Cert.RowsTail

variable (m : (ℓ : Loc nD τ sig) → Buf (Elt Ideal) ℓ) (ρ : Dev nD → PrngReg)

/-- The kernel's run, its six results as closed terms of its arguments. -/
theorem run : θ_run defs (onTc (τ := τ) (main (F := Ideal))) ⟨m, fun _ => 0, ρ⟩ fun r => ∀ c : Dev nD,
      r.2.mem ((c.tc : Thread nD τ).loc main_v0_0) = both 1024 (by decide) (aU m c) (aN m c)
      ∧ r.2.mem ((c.tc : Thread nD τ).loc main_v0_1) = both 3072 (by decide) (aU m c) (aD m c)
      ∧ r.2.mem ((c.tc : Thread nD τ).loc main_v8) = Pipeline.afterTail₀ cfgs (dats m) 0 (V0 m) [hostOps1] c main_v8
      ∧ r.2.mem ((c.tc : Thread nD τ).loc main_v11) = Pipeline.afterTail₀ cfgs (dats m) 0 (V0 m) [hostOps1] c main_v11
      ∧ r.2.mem ((c.tc : Thread nD τ).loc main_v14) = Pipeline.afterTail₀ cfgs (dats m) 0 (V0 m) [hostOps1] c main_v14
      ∧ r.2.mem ((c.tc : Thread nD τ).loc main_v17) = Pipeline.afterTail₀ cfgs (dats m) 0 (V0 m) [hostOps1] c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 2).trans (final2 m c), ((h.1 c).1 3).trans (final3 m c),
      (h.1 c).2 main_v8 (Pipeline.mem_restRefs_of main_v8 (by decide) (by decide)),
      (h.1 c).2 main_v11 (Pipeline.mem_restRefs_of main_v11 (by decide) (by decide)),
      (h.1 c).2 main_v14 (Pipeline.mem_restRefs_of main_v14 (by decide) (by decide)),
      (h.1 c).2 main_v17 (Pipeline.mem_restRefs_of main_v17 (by decide) (by decide)), h.2 c⟩)
    (θ_run_and (run_main m ρ) (frame_of m ρ (dats m) (A_eq m) (run_main m ρ)))

end Run

theorem algebraic : Cert.algebraic_RowsIdeal_RowsRefIdeal := by
  pair_intro
  · run_from Cert.RowsClaim.run m g
  · run_from Cert.RowsRefIdeal.Value.run m' g'
    all_goals obtain ⟨e0, e1, e2, e3, e4⟩ := hagree c
    · try rw [e1]
      exact Cert.RowsValue.ref_rows 1024 (by decide) _ _ _
    · try rw [e2]
      exact Cert.RowsValue.ref_rows 3072 (by decide) _ _ _
    · exact ((Cert.RowsTail.tail8 m c).trans (win_p _)).symm
    · try rw [e3]
      exact ((Cert.RowsTail.tail11 m c).trans (win_s _ _)).symm
    · exact ((Cert.RowsTail.tail14 m c).trans (conv_p _)).symm
    · try rw [e4]
      exact ((Cert.RowsTail.tail17 m c).trans (conv_s _ _)).symm

end Cert.RowsClaim

end
-- ==== Proof.lean ====
/- The certificate: each program's frame, each idealized program's agreement with the printed one, and the value claims. -/
module

public import proofs.«01_k».proof.Defs
public import proofs.«01_k».proof.Proof.Gen.Prompt.Frame
public import proofs.«01_k».proof.Proof.Gen.PromptIdeal.Frame
public import proofs.«01_k».proof.Proof.Gen.PromptRefIdeal.Run
public import proofs.«01_k».proof.Proof.Gen.Sample.Frame
public import proofs.«01_k».proof.Proof.Gen.SampleIdeal.Frame
public import proofs.«01_k».proof.Proof.Gen.SampleRefIdeal.Run
public import proofs.«01_k».proof.Proof.Gen.Ffn.Frame
public import proofs.«01_k».proof.Proof.Gen.FfnIdeal.Frame
public import proofs.«01_k».proof.Proof.Gen.FfnRefIdeal.Run
public import proofs.«01_k».proof.Proof.Gen.InprojRefIdeal.Run
public import proofs.«01_k».proof.Proof.Gen.Outproj.Frame
public import proofs.«01_k».proof.Proof.Gen.OutprojIdeal.Frame
public import proofs.«01_k».proof.Proof.Gen.OutprojRefIdeal.Run
public import proofs.«01_k».proof.Proof.SampleClaim
public import proofs.«01_k».proof.Proof.PromptClaim
public import proofs.«01_k».proof.Proof.FfnClaim
public import proofs.«01_k».proof.Proof.InprojClaim
public import proofs.«01_k».proof.Proof.InprojBody
public import proofs.«01_k».proof.Proof.OutprojClaim
public import proofs.«01_k».proof.Proof.RowsBody
public import proofs.«01_k».proof.Proof.RowsClaim
public import Idealize.ShloMosaic.Lib.Claim

@[expose] public section

noncomputable section

open Idealize.ShloMosaic Idealize.ShloMosaic.TcCoe Idealize.SL.Sem

namespace Cert.Proof

theorem frame_promptRef : Cert.quiescent_PromptRefIdeal := fun m ρ _ =>
  (θ_run Cert.PromptRefIdeal.defs _ _).mono (fun r h => ⟨fun c => (h c).2.2.2.2, sem_eq_zero_of_no_sems (by decide) r.2⟩)
    (Cert.PromptRefIdeal.Value.run (F := Ideal) m ρ)

theorem frame_sampleRef : Cert.quiescent_SampleRefIdeal := fun m ρ _ =>
  (θ_run Cert.SampleRefIdeal.defs _ _).mono (fun r h => ⟨fun c => (h c).2.2.2.2, sem_eq_zero_of_no_sems (by decide) r.2⟩)
    (Cert.SampleRefIdeal.Value.run (F := Ideal) m ρ)

theorem frame_ffnRef : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem frame_inprojRef : Cert.quiescent_InprojRefIdeal := fun m ρ _ =>
  (θ_run Cert.InprojRefIdeal.defs _ _).mono (fun r h => ⟨fun c => (h c).2, sem_eq_zero_of_no_sems (by decide) r.2⟩)
    (Cert.InprojRefIdeal.Value.run (F := Ideal) m ρ)

theorem frame_outprojRef : Cert.quiescent_OutprojRefIdeal := fun m ρ _ =>
  (θ_run Cert.OutprojRefIdeal.defs _ _).mono (fun r h => ⟨fun c => (h c).2, sem_eq_zero_of_no_sems (by decide) r.2⟩)
    (Cert.OutprojRefIdeal.Value.run (F := Ideal) m ρ)

theorem frame_rowsRef : Cert.quiescent_RowsRefIdeal := fun m ρ _ =>
  (θ_run Cert.RowsRefIdeal.defs _ _).mono (fun r h => ⟨fun c => (h c).2.2.2.2.2.2, sem_eq_zero_of_no_sems (by decide) r.2⟩)
    (Cert.RowsRefIdeal.Value.run (F := Ideal) m ρ)

theorem claim : Cert.Claim :=
  ⟨Cert.Prompt.Gen.facts, Cert.PromptIdeal.Gen.facts, Cert.PromptRefIdeal.Gen.facts, Cert.Sample.Gen.facts,
    Cert.SampleIdeal.Gen.facts, Cert.SampleRefIdeal.Gen.facts, Cert.Ffn.Gen.facts, Cert.FfnIdeal.Gen.facts,
    Cert.FfnRefIdeal.Gen.facts, Cert.Inproj.Gen.facts, Cert.InprojIdeal.Gen.facts, Cert.InprojRefIdeal.Gen.facts,
    Cert.Outproj.Gen.facts, Cert.OutprojIdeal.Gen.facts, Cert.OutprojRefIdeal.Gen.facts,
    Cert.Rows.Gen.facts, Cert.RowsIdeal.Gen.facts, Cert.RowsRefIdeal.Gen.facts,
    fun m ρ _ => Cert.Prompt.Gen.frame m ρ, fun m ρ _ => Cert.PromptIdeal.Gen.frame m ρ, frame_promptRef,
    fun m ρ _ => Cert.Sample.Gen.frame m ρ, fun m ρ _ => Cert.SampleIdeal.Gen.frame m ρ, frame_sampleRef,
    fun m ρ _ => Cert.Ffn.Gen.frame m ρ, fun m ρ _ => Cert.FfnIdeal.Gen.frame m ρ, frame_ffnRef,
    fun m ρ _ => Cert.Inproj.Body.frame m ρ, fun m ρ _ => Cert.InprojIdeal.Body.frame m ρ, frame_inprojRef,
    fun m ρ _ => Cert.Outproj.Gen.frame m ρ, fun m ρ _ => Cert.OutprojIdeal.Gen.frame m ρ, frame_outprojRef,
    fun m ρ _ => Cert.Rows.Body.frame m ρ, fun m ρ _ => Cert.RowsIdeal.Body.frame m ρ, frame_rowsRef,
    trivial, Cert.PromptClaim.algebraic, trivial, Cert.SampleClaim.algebraic, trivial, Cert.FfnClaim.algebraic,
    trivial, Cert.InprojClaim.algebraic, trivial, Cert.OutprojClaim.algebraic,
    trivial, Cert.RowsClaim.algebraic⟩

end Cert.Proof
